-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v26_0)) (v1 : (c : Dev Cert.Kernel5Ideal.nD) → Buf (Elt Ideal) ((c.tc : Thread Cert.Kernel5Ideal.nD Cert.Kernel5Ideal.τ).loc Cert.Kernel5Ideal.main_v26_1)) (v2 : (c : Dev Cert.Kernel5Ideal.nD) → Buf (Elt Ideal) ((c.tc : Thread Cert.Kernel5Ideal.nD Cert.Kernel5Ideal.τ).loc Cert.Kernel5Ideal.main_v26_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26_0) = v0 c
          ∧ r.2.mem ((c.tc : Thread Cert.Kernel5Ideal.nD Cert.Kernel5Ideal.τ).loc Cert.Kernel5Ideal.main_v26_1) = v1 c
          ∧ r.2.mem ((c.tc : Thread Cert.Kernel5Ideal.nD Cert.Kernel5Ideal.τ).loc Cert.Kernel5Ideal.main_v26_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_inputs.lean ====
abbrev S2x4096x1024 : Shape := ⟨3, ![2, 4096, 1024]⟩
abbrev S4x64 : Shape := ⟨2, ![4, 64]⟩
abbrev S128 : Shape := ⟨1, ![128]⟩
abbrev S32x24 : Shape := ⟨2, ![32, 24]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_
  bcast_S_S32x24 : S_.BroadcastsInDim S32x24 (![] : Fin 0 → Fin S32x24.rank)
  reducesTo_S32x24_S_d0_1 : S32x24.ReducesTo [0, 1] S_

variable [Facts]

def fn_part1 {F : FTy → Type} [FloatOps F] (main_arg5 : FVec F S32x24 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S32x24 .f32 := Host.absf main_arg5
  let main_cst_6 : FVec F S_ .f32 := constant S_ .f32 0x7F800000#32
  let main_v20 : FVec F S32x24 .f32 := broadcastInDim S32x24 ![] bcast_S_S32x24 main_cst_6
  let main_v21 : IVec S32x24 1 := cmpf .olt main_v19 main_v20
  let main_c_7 : IVec S_ 1 := constantI S_ 1 1#1
  let main_v22 : IVec S_ 1 := (fun x v => Host.reduce IntOp.andi x v reducesTo_S32x24_S_d0_1 h_S_) main_v21 main_c_7
  let main_v23 : IVec S_ 1 := andi main_v18 main_v22
  main_v23

def fn {F : FTy → Type} [FloatOps F] (main_arg0 : FVec F S2x4096x1024 .f32) (main_arg1 : FVec F S2x4096x1024 .f32) (main_arg2 : FVec F S2x4096x1024 .f32) (main_arg3 : FVec F S4x64 .f32) (main_arg4 : FVec F S128 .f32) (main_arg5 : FVec F S32x24 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S2x4096x1024 .f32 := Host.absf main_arg2
  let main_cst_2 : FVec F S_ .f32 := constant S_ .f32 0x7F800000#32
  let main_v10 : FVec F S2x4096x1024 .f32 := broadcastInDim S2x4096x1024 ![] bcast_S_S2x4096x1024 main_cst_2
  let main_v11 : IVec S2x4096x1024 1 := cmpf .olt main_v9 main_v10
  let main_c_3 : IVec S_ 1 := constantI S_ 1 1#1
  let main_v12 : IVec S_ 1 := (fun x v => Host.reduce IntOp.andi x v reducesTo_S2x4096x1024_S_d0_1_2 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg5 main_v13 main_v16
-- ==== Kernel.lean ====
abbrev S2x4096x1024 : Shape := ⟨3, ![2, 4096, 1024]⟩
abbrev S4x64 : Shape := ⟨2, ![4, 64]⟩
abbrev S128 : Shape := ⟨1, ![128]⟩
abbrev S32x24 : Shape := ⟨2, ![32, 24]⟩
abbrev S7x512 : Shape := ⟨2, ![7, 512]⟩
abbrev S7x1x512 : Shape := ⟨3, ![7, 1, 512]⟩
abbrev S_ : Shape := ⟨0, ![]⟩
abbrev S2x4096x2560 : Shape := ⟨3, ![2, 4096, 2560]⟩
abbrev S2x4096x6656 : Shape := ⟨3, ![2, 4096, 6656]⟩
abbrev S4096 : Shape := ⟨1, ![4096]⟩
abbrev S4096x1 : Shape := ⟨2, ![4096, 1]⟩
abbrev S4096x24 : Shape := ⟨2, ![4096, 24]⟩
abbrev S24x4096 : Shape := ⟨2, ![24, 4096]⟩
abbrev S8x4096 : Shape := ⟨2, ![8, 4096]⟩
abbrev S4096x8 : Shape := ⟨2, ![4096, 8]⟩
abbrev S7x512x1 : Shape := ⟨3, ![7, 512, 1]⟩
abbrev S7x512x8 : Shape := ⟨3, ![7, 512, 8]⟩
abbrev S7x8x512 : Shape := ⟨3, ![7, 8, 512]⟩
abbrev S7x8x1x512 : Shape := ⟨4, ![7, 8, 1, 512]⟩
abbrev S7x8x256x256 : Shape := ⟨4, ![7, 8, 256, 256]⟩
abbrev S1x8x1x512 : Shape := ⟨4, ![1, 8, 1, 512]⟩
abbrev S1x8x256x256 : Shape := ⟨4, ![1, 8, 256, 256]⟩
abbrev S1x1x1x512 : Shape := ⟨4, ![1, 1, 1, 512]⟩
abbrev S1x512 : Shape := ⟨2, ![1, 512]⟩
abbrev S256x512 : Shape := ⟨2, ![256, 512]⟩
abbrev S256x256 : Shape := ⟨2, ![256, 256]⟩
abbrev S1x1x256x256 : Shape := ⟨4, ![1, 1, 256, 256]⟩
abbrev S2x4096x8x128 : Shape := ⟨4, ![2, 4096, 8, 128]⟩
abbrev S2x16x256x8x128 : Shape := ⟨5, ![2, 16, 256, 8, 128]⟩
abbrev S2x8x16x128x256 : Shape := ⟨5, ![2, 8, 16, 128, 256]⟩
abbrev S128x1 : Shape := ⟨2, ![128, 1]⟩
abbrev S128x128 : Shape := ⟨2, ![128, 128]⟩
abbrev S1x512x128 : Shape := ⟨3, ![1, 512, 128]⟩
abbrev S1x4096x128 : Shape := ⟨3, ![1, 4096, 128]⟩
abbrev S1x1x16x128x256 : Shape := ⟨5, ![1, 1, 16, 128, 256]⟩
abbrev S7x1x256x256 : Shape := ⟨4, ![7, 1, 256, 256]⟩
abbrev S8x1024 : Shape := ⟨2, ![8, 1024]⟩
abbrev S144x1024 : Shape := ⟨2, ![144, 1024]⟩
abbrev S2x256x1024 : Shape := ⟨3, ![2, 256, 1024]⟩
abbrev S2x8x1024 : Shape := ⟨3, ![2, 8, 1024]⟩
abbrev S512x128 : Shape := ⟨2, ![512, 128]⟩
abbrev S128x512 : Shape := ⟨2, ![128, 512]⟩
abbrev S64x512 : Shape := ⟨2, ![64, 512]⟩
abbrev S128x1024 : Shape := ⟨2, ![128, 1024]⟩
abbrev S16x256 : Shape := ⟨2, ![16, 256]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩
abbrev S1024 : Shape := ⟨1, ![1024]⟩
abbrev S1x1024 : Shape := ⟨2, ![1, 1024]⟩
abbrev S1x8x1024 : Shape := ⟨3, ![1, 8, 1024]⟩
abbrev S1x1x1x128x256 : Shape := ⟨5, ![1, 1, 1, 128, 256]⟩
abbrev S128x256 : Shape := ⟨2, ![128, 256]⟩
abbrev S144x256 : Shape := ⟨2, ![144, 256]⟩
abbrev S1x64 : Shape := ⟨2, ![1, 64]⟩
abbrev S1 : Shape := ⟨1, ![1]⟩
abbrev S1x1 : Shape := ⟨2, ![1, 1]⟩
abbrev S512 : Shape := ⟨1, ![512]⟩

abbrev nBuf : Space → Nat
  | .hbm => 86
  | .vmem => 20
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x1024, .f32⟩
  | .hbm, ⟨3, _⟩ => ⟨S4x64, .f32⟩
  | .hbm, ⟨4, _⟩ => ⟨S128, .f32⟩
  | .hbm, ⟨5, _⟩ => ⟨S32x24, .f32⟩
  | .hbm, ⟨6, _⟩ => ⟨S7x512, .i32⟩
  | .hbm, ⟨7, _⟩ => ⟨S7x512, .i1⟩
  | .hbm, ⟨8, _⟩ => ⟨S7x512, .i1⟩
  | .hbm, ⟨9, _⟩ => ⟨S7x1x512, .i1⟩
  | .hbm, ⟨10, _⟩ => ⟨S_, .bf16⟩
  | .hbm, ⟨11, _⟩ => ⟨S2x4096x1024, .bf16⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x4096x1024, .f32⟩
  | .hbm, ⟨17, _⟩ => ⟨S2x4096x1024, .f32⟩
  | .hbm, ⟨18, _⟩ => ⟨S2x4096x1024, .bf16⟩
  | .hbm, ⟨19, _⟩ => ⟨S2x4096x1024, .bf16⟩
  | .hbm, ⟨20, _⟩ => ⟨S2x4096x1024, .bf16⟩
  | .hbm, ⟨21, _⟩ => ⟨S_, .bf16⟩
  | .hbm, ⟨22, _⟩ => ⟨S2x4096x2560, .bf16⟩
  | .hbm, ⟨23, _⟩ => ⟨S2x4096x6656, .bf16⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096x24, .f32⟩
  | .hbm, ⟨62, _⟩ => ⟨S24x4096, .f32⟩
  | .hbm, ⟨63, _⟩ => ⟨S8x4096, .f32⟩
  | .hbm, ⟨64, _⟩ => ⟨S4096x8, .f32⟩
  | .hbm, ⟨65, _⟩ => ⟨S_, .i32⟩
  | .hbm, ⟨66, _⟩ => ⟨S7x512, .i32⟩
  | .hbm, ⟨67, _⟩ => ⟨S7x512, .i32⟩
  | .hbm, ⟨68, _⟩ => ⟨S7x512, .i32⟩
  | .hbm, ⟨69, _⟩ => ⟨S7x512x1, .i32⟩
  | .hbm, ⟨70, _⟩ => ⟨S7x512x8, .f32⟩
  | .hbm, ⟨71, _⟩ => ⟨S7x8x512, .f32⟩
  | .hbm, ⟨72, _⟩ => ⟨S_, .f32⟩
  | .hbm, ⟨73, _⟩ => ⟨S_, .f32⟩
  | .hbm, ⟨74, _⟩ => ⟨S7x8x512, .i1⟩
  | .hbm, ⟨75, _⟩ => ⟨S7x8x512, .f32⟩
  | .hbm, ⟨76, _⟩ => ⟨S7x8x512, .f32⟩
  | .hbm, ⟨77, _⟩ => ⟨S7x8x1x512, .f32⟩
  | .hbm, ⟨78, _⟩ => ⟨S7x8x256x256, .f32⟩
  | .hbm, ⟨79, _⟩ => ⟨S2x4096x1024, .bf16⟩
  | .hbm, ⟨80, _⟩ => ⟨S2x4096x8x128, .bf16⟩
  | .hbm, ⟨81, _⟩ => ⟨S2x16x256x8x128, .bf16⟩
  | .hbm, ⟨82, _⟩ => ⟨S2x8x16x128x256, .bf16⟩
  | .hbm, ⟨83, _⟩ => ⟨S128x1, .f32⟩
  | .hbm, ⟨84, _⟩ => ⟨S128x128, .f32⟩
  | .hbm, ⟨85, _⟩ => ⟨S2x4096x1024, .bf16⟩
  | .local _ .vmem, ⟨0, _⟩ => ⟨S1x8x1x512, .f32⟩
  | .local _ .vmem, ⟨1, _⟩ => ⟨S1x8x1x512, .f32⟩
  | .local _ .vmem, ⟨2, _⟩ => ⟨S1x8x256x256, .f32⟩
  | .local _ .vmem, ⟨3, _⟩ => ⟨S1x8x256x256, .f32⟩
  | .local _ .vmem, ⟨4, _⟩ => ⟨S1x512x128, .bf16⟩
  | .local _ .vmem, ⟨5, _⟩ => ⟨S1x512x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x1x16x128x256, .bf16⟩
  | .local _ .vmem, ⟨9, _⟩ => ⟨S1x1x16x128x256, .bf16⟩
  | .local _ .vmem, ⟨10, _⟩ => ⟨S7x1x256x256, .f32⟩
  | .local _ .vmem, ⟨11, _⟩ => ⟨S7x1x256x256, .f32⟩
  | .local _ .vmem, ⟨12, _⟩ => ⟨S4x64, .f32⟩
  | .local _ .vmem, ⟨13, _⟩ => ⟨S128x128, .f32⟩
  | .local _ .vmem, ⟨14, _⟩ => ⟨S1x512x128, .bf16⟩
  | .local _ .vmem, ⟨15, _⟩ => ⟨S1x512x128, .bf16⟩
  | .local _ .vmem, ⟨16, _⟩ => ⟨S8x1024, .f32⟩
  | .local _ .vmem, ⟨17, _⟩ => ⟨S144x1024, .f32⟩
  | .local _ .vmem, ⟨18, _⟩ => ⟨S2x256x1024, .f32⟩
  | .local _ .vmem, ⟨19, _⟩ => ⟨S2x8x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_2 : Ref sig .tc := ⟨.hbm, 12, rfl⟩
abbrev main_v2 : Ref sig .tc := ⟨.hbm, 13, rfl⟩
abbrev main_cst_3 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_5 : Ref sig .tc := ⟨.hbm, 25, rfl⟩
abbrev main_v12 : Ref sig .tc := ⟨.hbm, 26, rfl⟩
abbrev main_v13 : Ref sig .tc := ⟨.hbm, 27, rfl⟩
abbrev main_c_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_8 : Ref sig .tc := ⟨.hbm, 36, rfl⟩
abbrev main_v20 : Ref sig .tc := ⟨.hbm, 37, rfl⟩
abbrev main_v21 : Ref sig .tc := ⟨.hbm, 38, rfl⟩
abbrev main_cst_9 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_10 : Ref sig .tc := ⟨.hbm, 43, rfl⟩
abbrev main_v25 : Ref sig .tc := ⟨.hbm, 44, rfl⟩
abbrev main_v26 : Ref sig .tc := ⟨.hbm, 45, rfl⟩
abbrev main_c_11 : Ref sig .tc := ⟨.hbm, 46, rfl⟩
abbrev main_v27 : Ref sig .tc := ⟨.hbm, 47, rfl⟩
abbrev main_v28 : Ref sig .tc := ⟨.hbm, 48, rfl⟩
abbrev main_c_12 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_13 : Ref sig .tc := ⟨.hbm, 53, rfl⟩
abbrev main_v32 : Ref sig .tc := ⟨.hbm, 54, rfl⟩
abbrev main_v33 : Ref sig .tc := ⟨.hbm, 55, rfl⟩
abbrev main_c_14 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_15 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_16 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![7], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![2, 8, 8], ![false, false, false]⟩

def k1_cond1 (i : grid1.Coords) : BitVec 1 :=
  let arg2 : BitVec 32 := BitVec.ofNat 32 (i 2).val
  let c0_i32 : BitVec 32 := 0#32
  let v20 : BitVec 32 := Scalar.maxsi arg2 c0_i32
  let c7_i32 : BitVec 32 := 7#32
  let v21 : BitVec 32 := Scalar.minsi v20 c7_i32
  let c0_i32_9 : BitVec 32 := 0#32
  let v22 : BitVec 1 := Scalar.cmpi .ne v21 c0_i32_9
  v22

def k1_cond2 (i : grid1.Coords) : BitVec 1 :=
  let arg2 : BitVec 32 := BitVec.ofNat 32 (i 2).val
  let c0_i32 : BitVec 32 := 0#32
  let v20 : BitVec 32 := Scalar.maxsi arg2 c0_i32
  let c7_i32 : BitVec 32 := 7#32
  let v21 : BitVec 32 := Scalar.minsi v20 c7_i32
  let c1_i32 : BitVec 32 := 1#32
  let v76 : BitVec 32 := Scalar.subi v21 c1_i32
  let c0_i32_28 : BitVec 32 := 0#32
  let v77 : BitVec 1 := Scalar.cmpi .ne v76 c0_i32_28
  v77

def k1_cond3 (i : grid1.Coords) : BitVec 1 :=
  let arg2 : BitVec 32 := BitVec.ofNat 32 (i 2).val
  let c0_i32 : BitVec 32 := 0#32
  let v20 : BitVec 32 := Scalar.maxsi arg2 c0_i32
  let c7_i32 : BitVec 32 := 7#32
  let v21 : BitVec 32 := Scalar.minsi v20 c7_i32
  let c1_i32 : BitVec 32 := 1#32
  let v76 : BitVec 32 := Scalar.subi v21 c1_i32
  let c1_i32_29 : BitVec 32 := 1#32
  let v78 : BitVec 32 := Scalar.subi v76 c1_i32_29
  let c0_i32_30 : BitVec 32 := 0#32
  let v79 : BitVec 1 := Scalar.cmpi .ne v78 c0_i32_30
  v79

def k1_cond4 (i : grid1.Coords) : BitVec 1 :=
  let arg2 : BitVec 32 := BitVec.ofNat 32 (i 2).val
  let c0_i32 : BitVec 32 := 0#32
  let v20 : BitVec 32 := Scalar.maxsi arg2 c0_i32
  let c7_i32 : BitVec 32 := 7#32
  let v21 : BitVec 32 := Scalar.minsi v20 c7_i32
  let c1_i32 : BitVec 32 := 1#32
  let v76 : BitVec 32 := Scalar.subi v21 c1_i32
  let c1_i32_29 : BitVec 32 := 1#32
  let v78 : BitVec 32 := Scalar.subi v76 c1_i32_29
  let c1_i32_31 : BitVec 32 := 1#32
  let v80 : BitVec 32 := Scalar.subi v78 c1_i32_31
  let c0_i32_32 : BitVec 32 := 0#32
  let v81 : BitVec 1 := Scalar.cmpi .ne v80 c0_i32_32
  v81

def k1_cond5 (i : grid1.Coords) : BitVec 1 :=
  let arg2 : BitVec 32 := BitVec.ofNat 32 (i 2).val
  let c0_i32 : BitVec 32 := 0#32
  let v20 : BitVec 32 := Scalar.maxsi arg2 c0_i32
  let c7_i32 : BitVec 32 := 7#32
  let v21 : BitVec 32 := Scalar.minsi v20 c7_i32
  let c1_i32 : BitVec 32 := 1#32
  let v76 : BitVec 32 := Scalar.subi v21 c1_i32
  let c1_i32_29 : BitVec 32 := 1#32
  let v78 : BitVec 32 := Scalar.subi v76 c1_i32_29
  let c1_i32_31 : BitVec 32 := 1#32
  let v80 : BitVec 32 := Scalar.subi v78 c1_i32_31
  let c1_i32_33 : BitVec 32 := 1#32
  let v82 : BitVec 32 := Scalar.subi v80 c1_i32_33
  let c0_i32_34 : BitVec 32 := 0#32
  let v83 : BitVec 1 := Scalar.cmpi .ne v82 c0_i32_34
  v83

def k1_cond6 (i : grid1.Coords) : BitVec 1 :=
  let arg2 : BitVec 32 := BitVec.ofNat 32 (i 2).val
  let c0_i32 : BitVec 32 := 0#32
  let v20 : BitVec 32 := Scalar.maxsi arg2 c0_i32
  let c7_i32 : BitVec 32 := 7#32
  let v21 : BitVec 32 := Scalar.minsi v20 c7_i32
  let c1_i32 : BitVec 32 := 1#32
  let v76 : BitVec 32 := Scalar.subi v21 c1_i32
  let c1_i32_29 : BitVec 32 := 1#32
  let v78 : BitVec 32 := Scalar.subi v76 c1_i32_29
  let c1_i32_31 : BitVec 32 := 1#32
  let v80 : BitVec 32 := Scalar.subi v78 c1_i32_31
  let c1_i32_33 : BitVec 32 := 1#32
  let v82 : BitVec 32 := Scalar.subi v80 c1_i32_33
  let c1_i32_35 : BitVec 32 := 1#32
  let v84 : BitVec 32 := Scalar.subi v82 c1_i32_35
  let c0_i32_36 : BitVec 32 := 0#32
  let v85 : BitVec 1 := Scalar.cmpi .ne v84 c0_i32_36
  v85

def k1_cond7 (i : grid1.Coords) : BitVec 1 :=
  let arg2 : BitVec 32 := BitVec.ofNat 32 (i 2).val
  let c0_i32 : BitVec 32 := 0#32
  let v20 : BitVec 32 := Scalar.maxsi arg2 c0_i32
  let c7_i32 : BitVec 32 := 7#32
  let v21 : BitVec 32 := Scalar.minsi v20 c7_i32
  let c1_i32 : BitVec 32 := 1#32
  let v76 : BitVec 32 := Scalar.subi v21 c1_i32
  let c1_i32_29 : BitVec 32 := 1#32
  let v78 : BitVec 32 := Scalar.subi v76 c1_i32_29
  let c1_i32_31 : BitVec 32 := 1#32
  let v80 : BitVec 32 := Scalar.subi v78 c1_i32_31
  let c1_i32_33 : BitVec 32 := 1#32
  let v82 : BitVec 32 := Scalar.subi v80 c1_i32_33
  let c1_i32_35 : BitVec 32 := 1#32
  let v84 : BitVec 32 := Scalar.subi v82 c1_i32_35
  let c1_i32_37 : BitVec 32 := 1#32
  let v86 : BitVec 32 := Scalar.subi v84 c1_i32_37
  let c0_i32_38 : BitVec 32 := 0#32
  let v87 : BitVec 1 := Scalar.cmpi .ne v86 c0_i32_38
  v87

def k1_mult1 : BitVec 32 :=
  let c0_i32_39 : BitVec 32 := 0#32
  let c15_i32 : BitVec 32 := 15#32
  let v88 : BitVec 32 := Scalar.minsi c0_i32_39 c15_i32
  let c256_i32 : BitVec 32 := 256#32
  let v89 : BitVec 32 := Scalar.muli v88 c256_i32
  v89
def k1_off1 (c0_i32_39 : BitVec 32) : Fin 3 → Nat :=
  let c0_40 : Index := 0#32
  let c15_i32 : BitVec 32 := 15#32
  let v88 : BitVec 32 := Scalar.minsi c0_i32_39 c15_i32
  let c256_i32 : BitVec 32 := 256#32
  let v89 : BitVec 32 := Scalar.muli v88 c256_i32
  let v90 : BitVec 32 := v89
  let v91 : Index := Scalar.indexCast v90
  let c0_41 : Index := 0#32
  ![0, v91.toNat, 0]
def k1_off2 (i : grid1.Coords) (c0_i32_42 : BitVec 32) (c1_i32_43 : BitVec 32) : Fin 4 → Nat :=
  let c6_i32 : BitVec 32 := 6#32
  let c0_i32_44 : BitVec 32 := 0#32
  let c2_i32 : BitVec 32 := 2#32
  let arg2 : BitVec 32 := BitVec.ofNat 32 (i 2).val
  let v94 : BitVec 32 := Scalar.muli c2_i32 arg2
  let v95 : BitVec 32 := Scalar.subi v94 c0_i32_42
  let v96 : BitVec 32 := Scalar.addi v95 c1_i32_43
  let v97 : BitVec 32 := Scalar.maxsi c0_i32_44 v96
  let v98 : BitVec 32 := Scalar.minsi c6_i32 v97
  let v99 : Index := Scalar.indexCast v98
  let c0_45 : Index := 0#32
  let c0_46 : Index := 0#32
  let c0_47 : Index := 0#32
  ![v99.toNat, 0, 0, 0]
def k1_mult2 : BitVec 32 :=
  let c1_i32_62 : BitVec 32 := 1#32
  let c15_i32_63 : BitVec 32 := 15#32
  let v125 : BitVec 32 := Scalar.minsi c1_i32_62 c15_i32_63
  let c256_i32_64 : BitVec 32 := 256#32
  let v126 : BitVec 32 := Scalar.muli v125 c256_i32_64
  v126
def k1_off3 (c0_i32_98 : BitVec 32) : Fin 5 → Nat :=
  let c0_100 : Index := 0#32
  let c0_101 : Index := 0#32
  let c15_i32_99 : BitVec 32 := 15#32
  let v178 : BitVec 32 := Scalar.minsi c0_i32_98 c15_i32_99
  let v179 : Index := Scalar.indexCast v178
  let c0_102 : Index := 0#32
  let c0_103 : Index := 0#32
  ![0, 0, v179.toNat, 0, 0]
def k1_mult3 : BitVec 32 :=
  let c2_i32_109 : BitVec 32 := 2#32
  let c15_i32_110 : BitVec 32 := 15#32
  let v192 : BitVec 32 := Scalar.minsi c2_i32_109 c15_i32_110
  let c256_i32_111 : BitVec 32 := 256#32
  let v193 : BitVec 32 := Scalar.muli v192 c256_i32_111
  v193
def k1_mult4 : BitVec 32 :=
  let c3_i32 : BitVec 32 := 3#32
  let c15_i32_157 : BitVec 32 := 15#32
  let v259 : BitVec 32 := Scalar.minsi c3_i32 c15_i32_157
  let c256_i32_158 : BitVec 32 := 256#32
  let v260 : BitVec 32 := Scalar.muli v259 c256_i32_158
  v260
def k1_mult5 : BitVec 32 :=
  let c4_i32 : BitVec 32 := 4#32
  let c15_i32_204 : BitVec 32 := 15#32
  let v326 : BitVec 32 := Scalar.minsi c4_i32 c15_i32_204
  let c256_i32_205 : BitVec 32 := 256#32
  let v327 : BitVec 32 := Scalar.muli v326 c256_i32_205
  v327
def k1_mult6 : BitVec 32 :=
  let c5_i32 : BitVec 32 := 5#32
  let c15_i32_251 : BitVec 32 := 15#32
  let v393 : BitVec 32 := Scalar.minsi c5_i32 c15_i32_251
  let c256_i32_252 : BitVec 32 := 256#32
  let v394 : BitVec 32 := Scalar.muli v393 c256_i32_252
  v394
def k1_mult7 : BitVec 32 :=
  let c6_i32_298 : BitVec 32 := 6#32
  let c15_i32_299 : BitVec 32 := 15#32
  let v460 : BitVec 32 := Scalar.minsi c6_i32_298 c15_i32_299
  let c256_i32_300 : BitVec 32 := 256#32
  let v461 : BitVec 32 := Scalar.muli v460 c256_i32_300
  v461
def k1_mult8 : BitVec 32 :=
  let c7_i32_346 : BitVec 32 := 7#32
  let c15_i32_347 : BitVec 32 := 15#32
  let v527 : BitVec 32 := Scalar.minsi c7_i32_346 c15_i32_347
  let c256_i32_348 : BitVec 32 := 256#32
  let v528 : BitVec 32 := Scalar.muli v527 c256_i32_348
  v528
def k1_mult9 : BitVec 32 :=
  let c8_i32 : BitVec 32 := 8#32
  let c15_i32_394 : BitVec 32 := 15#32
  let v594 : BitVec 32 := Scalar.minsi c8_i32 c15_i32_394
  let c256_i32_395 : BitVec 32 := 256#32
  let v595 : BitVec 32 := Scalar.muli v594 c256_i32_395
  v595
def k1_mult10 : BitVec 32 :=
  let c9_i32 : BitVec 32 := 9#32
  let c15_i32_441 : BitVec 32 := 15#32
  let v661 : BitVec 32 := Scalar.minsi c9_i32 c15_i32_441
  let c256_i32_442 : BitVec 32 := 256#32
  let v662 : BitVec 32 := Scalar.muli v661 c256_i32_442
  v662
def k1_mult11 : BitVec 32 :=
  let c10_i32 : BitVec 32 := 10#32
  let c15_i32_488 : BitVec 32 := 15#32
  let v728 : BitVec 32 := Scalar.minsi c10_i32 c15_i32_488
  let c256_i32_489 : BitVec 32 := 256#32
  let v729 : BitVec 32 := Scalar.muli v728 c256_i32_489
  v729
def k1_mult12 : BitVec 32 :=
  let c11_i32 : BitVec 32 := 11#32
  let c15_i32_535 : BitVec 32 := 15#32
  let v795 : BitVec 32 := Scalar.minsi c11_i32 c15_i32_535
  let c256_i32_536 : BitVec 32 := 256#32
  let v796 : BitVec 32 := Scalar.muli v795 c256_i32_536
  v796
def k1_mult13 : BitVec 32 :=
  let c12_i32 : BitVec 32 := 12#32
  let c15_i32_582 : BitVec 32 := 15#32
  let v862 : BitVec 32 := Scalar.minsi c12_i32 c15_i32_582
  let c256_i32_583 : BitVec 32 := 256#32
  let v863 : BitVec 32 := Scalar.muli v862 c256_i32_583
  v863
def k1_mult14 : BitVec 32 :=
  let c13_i32 : BitVec 32 := 13#32
  let c15_i32_629 : BitVec 32 := 15#32
  let v929 : BitVec 32 := Scalar.minsi c13_i32 c15_i32_629
  let c256_i32_630 : BitVec 32 := 256#32
  let v930 : BitVec 32 := Scalar.muli v929 c256_i32_630
  v930
def k1_mult15 : BitVec 32 :=
  let c14_i32 : BitVec 32 := 14#32
  let c15_i32_676 : BitVec 32 := 15#32
  let v996 : BitVec 32 := Scalar.minsi c14_i32 c15_i32_676
  let c256_i32_677 : BitVec 32 := 256#32
  let v997 : BitVec 32 := Scalar.muli v996 c256_i32_677
  v997
def k1_mult16 : BitVec 32 :=
  let c15_i32_723 : BitVec 32 := 15#32
  let c15_i32_724 : BitVec 32 := 15#32
  let v1063 : BitVec 32 := Scalar.minsi c15_i32_723 c15_i32_724
  let c256_i32_725 : BitVec 32 := 256#32
  let v1064 : BitVec 32 := Scalar.muli v1063 c256_i32_725
  v1064
def k1_mult17 : BitVec 32 :=
  let c0_i32_39 : BitVec 32 := 0#32
  let c15_i32 : BitVec 32 := 15#32
  let v88 : BitVec 32 := Scalar.minsi c0_i32_39 c15_i32
  let c256_i32 : BitVec 32 := 256#32
  let v89 : BitVec 32 := Scalar.muli v88 c256_i32
  v89
def k1_off4 (c0_i32_39 : BitVec 32) : Fin 3 → Nat :=
  let c0_40 : Index := 0#32
  let c15_i32 : BitVec 32 := 15#32
  let v88 : BitVec 32 := Scalar.minsi c0_i32_39 c15_i32
  let c256_i32 : BitVec 32 := 256#32
  let v89 : BitVec 32 := Scalar.muli v88 c256_i32
  let v90 : BitVec 32 := v89
  let v91 : Index := Scalar.indexCast v90
  let c0_41 : Index := 0#32
  ![0, v91.toNat, 0]
def k1_off5 (i : grid1.Coords) (c0_i32_42 : BitVec 32) (c1_i32_43 : BitVec 32) : Fin 4 → Nat :=
  let c6_i32 : BitVec 32 := 6#32
  let c0_i32_44 : BitVec 32 := 0#32
  let c2_i32 : BitVec 32 := 2#32
  let arg2 : BitVec 32 := BitVec.ofNat 32 (i 2).val
  let v94 : BitVec 32 := Scalar.muli c2_i32 arg2
  let v95 : BitVec 32 := Scalar.subi v94 c0_i32_42
  let v96 : BitVec 32 := Scalar.addi v95 c1_i32_43
  let v97 : BitVec 32 := Scalar.maxsi c0_i32_44 v96
  let v98 : BitVec 32 := Scalar.minsi c6_i32 v97
  let v99 : Index := Scalar.indexCast v98
  let c0_45 : Index := 0#32
  let c0_46 : Index := 0#32
  let c0_47 : Index := 0#32
  ![v99.toNat, 0, 0, 0]
def k1_mult18 : BitVec 32 :=
  let c1_i32_62 : BitVec 32 := 1#32
  let c15_i32_63 : BitVec 32 := 15#32
  let v125 : BitVec 32 := Scalar.minsi c1_i32_62 c15_i32_63
  let c256_i32_64 : BitVec 32 := 256#32
  let v126 : BitVec 32 := Scalar.muli v125 c256_i32_64
  v126
def k1_off6 (c0_i32_98 : BitVec 32) : Fin 5 → Nat :=
  let c0_100 : Index := 0#32
  let c0_101 : Index := 0#32
  let c15_i32_99 : BitVec 32 := 15#32
  let v178 : BitVec 32 := Scalar.minsi c0_i32_98 c15_i32_99
  let v179 : Index := Scalar.indexCast v178
  let c0_102 : Index := 0#32
  let c0_103 : Index := 0#32
  ![0, 0, v179.toNat, 0, 0]
def k1_mult19 : BitVec 32 :=
  let c2_i32_109 : BitVec 32 := 2#32
  let c15_i32_110 : BitVec 32 := 15#32
  let v192 : BitVec 32 := Scalar.minsi c2_i32_109 c15_i32_110
  let c256_i32_111 : BitVec 32 := 256#32
  let v193 : BitVec 32 := Scalar.muli v192 c256_i32_111
  v193
def k1_mult20 : BitVec 32 :=
  let c3_i32 : BitVec 32 := 3#32
  let c15_i32_157 : BitVec 32 := 15#32
  let v259 : BitVec 32 := Scalar.minsi c3_i32 c15_i32_157
  let c256_i32_158 : BitVec 32 := 256#32
  let v260 : BitVec 32 := Scalar.muli v259 c256_i32_158
  v260
def k1_mult21 : BitVec 32 :=
  let c4_i32 : BitVec 32 := 4#32
  let c15_i32_204 : BitVec 32 := 15#32
  let v326 : BitVec 32 := Scalar.minsi c4_i32 c15_i32_204
  let c256_i32_205 : BitVec 32 := 256#32
  let v327 : BitVec 32 := Scalar.muli v326 c256_i32_205
  v327
def k1_mult22 : BitVec 32 :=
  let c5_i32 : BitVec 32 := 5#32
  let c15_i32_251 : BitVec 32 := 15#32
  let v393 : BitVec 32 := Scalar.minsi c5_i32 c15_i32_251
  let c256_i32_252 : BitVec 32 := 256#32
  let v394 : BitVec 32 := Scalar.muli v393 c256_i32_252
  v394
def k1_mult23 : BitVec 32 :=
  let c6_i32_298 : BitVec 32 := 6#32
  let c15_i32_299 : BitVec 32 := 15#32
  let v460 : BitVec 32 := Scalar.minsi c6_i32_298 c15_i32_299
  let c256_i32_300 : BitVec 32 := 256#32
  let v461 : BitVec 32 := Scalar.muli v460 c256_i32_300
  v461
def k1_mult24 : BitVec 32 :=
  let c7_i32_346 : BitVec 32 := 7#32
  let c15_i32_347 : BitVec 32 := 15#32
  let v527 : BitVec 32 := Scalar.minsi c7_i32_346 c15_i32_347
  let c256_i32_348 : BitVec 32 := 256#32
  let v528 : BitVec 32 := Scalar.muli v527 c256_i32_348
  v528
def k1_mult25 : BitVec 32 :=
  let c8_i32 : BitVec 32 := 8#32
  let c15_i32_394 : BitVec 32 := 15#32
  let v594 : BitVec 32 := Scalar.minsi c8_i32 c15_i32_394
  let c256_i32_395 : BitVec 32 := 256#32
  let v595 : BitVec 32 := Scalar.muli v594 c256_i32_395
  v595
def k1_mult26 : BitVec 32 :=
  let c9_i32 : BitVec 32 := 9#32
  let c15_i32_441 : BitVec 32 := 15#32
  let v661 : BitVec 32 := Scalar.minsi c9_i32 c15_i32_441
  let c256_i32_442 : BitVec 32 := 256#32
  let v662 : BitVec 32 := Scalar.muli v661 c256_i32_442
  v662
def k1_mult27 : BitVec 32 :=
  let c10_i32 : BitVec 32 := 10#32
  let c15_i32_488 : BitVec 32 := 15#32
  let v728 : BitVec 32 := Scalar.minsi c10_i32 c15_i32_488
  let c256_i32_489 : BitVec 32 := 256#32
  let v729 : BitVec 32 := Scalar.muli v728 c256_i32_489
  v729
def k1_mult28 : BitVec 32 :=
  let c11_i32 : BitVec 32 := 11#32
  let c15_i32_535 : BitVec 32 := 15#32
  let v795 : BitVec 32 := Scalar.minsi c11_i32 c15_i32_535
  let c256_i32_536 : BitVec 32 := 256#32
  let v796 : BitVec 32 := Scalar.muli v795 c256_i32_536
  v796
def k1_mult29 : BitVec 32 :=
  let c12_i32 : BitVec 32 := 12#32
  let c15_i32_582 : BitVec 32 := 15#32
  let v862 : BitVec 32 := Scalar.minsi c12_i32 c15_i32_582
  let c256_i32_583 : BitVec 32 := 256#32
  let v863 : BitVec 32 := Scalar.muli v862 c256_i32_583
  v863
def k1_mult30 : BitVec 32 :=
  let c13_i32 : BitVec 32 := 13#32
  let c15_i32_629 : BitVec 32 := 15#32
  let v929 : BitVec 32 := Scalar.minsi c13_i32 c15_i32_629
  let c256_i32_630 : BitVec 32 := 256#32
  let v930 : BitVec 32 := Scalar.muli v929 c256_i32_630
  v930
def k1_mult31 : BitVec 32 :=
  let c0_i32_37 : BitVec 32 := 0#32
  let c15_i32 : BitVec 32 := 15#32
  let v86 : BitVec 32 := Scalar.minsi c0_i32_37 c15_i32
  let c256_i32 : BitVec 32 := 256#32
  let v87 : BitVec 32 := Scalar.muli v86 c256_i32
  v87
def k1_off7 (c0_i32_37 : BitVec 32) : Fin 3 → Nat :=
  let c0_38 : Index := 0#32
  let c15_i32 : BitVec 32 := 15#32
  let v86 : BitVec 32 := Scalar.minsi c0_i32_37 c15_i32
  let c256_i32 : BitVec 32 := 256#32
  let v87 : BitVec 32 := Scalar.muli v86 c256_i32
  let v88 : BitVec 32 := v87
  let v89 : Index := Scalar.indexCast v88
  let c0_39 : Index := 0#32
  ![0, v89.toNat, 0]
def k1_off8 (i : grid1.Coords) (c0_i32_40 : BitVec 32) (c1_i32_41 : BitVec 32) : Fin 4 → Nat :=
  let c6_i32 : BitVec 32 := 6#32
  let c0_i32_42 : BitVec 32 := 0#32
  let c2_i32 : BitVec 32 := 2#32
  let arg2 : BitVec 32 := BitVec.ofNat 32 (i 2).val
  let v92 : BitVec 32 := Scalar.muli c2_i32 arg2
  let v93 : BitVec 32 := Scalar.subi v92 c0_i32_40
  let v94 : BitVec 32 := Scalar.addi v93 c1_i32_41
  let v95 : BitVec 32 := Scalar.maxsi c0_i32_42 v94
  let v96 : BitVec 32 := Scalar.minsi c6_i32 v95
  let v97 : Index := Scalar.indexCast v96
  let c0_43 : Index := 0#32
  let c0_44 : Index := 0#32
  let c0_45 : Index := 0#32
  ![v97.toNat, 0, 0, 0]
def k1_mult32 : BitVec 32 :=
  let c1_i32_60 : BitVec 32 := 1#32
  let c15_i32_61 : BitVec 32 := 15#32
  let v123 : BitVec 32 := Scalar.minsi c1_i32_60 c15_i32_61
  let c256_i32_62 : BitVec 32 := 256#32
  let v124 : BitVec 32 := Scalar.muli v123 c256_i32_62
  v124
def k1_off9 (c0_i32_96 : BitVec 32) : Fin 5 → Nat :=
  let c0_98 : Index := 0#32
  let c0_99 : Index := 0#32
  let c15_i32_97 : BitVec 32 := 15#32
  let v176 : BitVec 32 := Scalar.minsi c0_i32_96 c15_i32_97
  let v177 : Index := Scalar.indexCast v176
  let c0_100 : Index := 0#32
  let c0_101 : Index := 0#32
  ![0, 0, v177.toNat, 0, 0]
def k1_mult33 : BitVec 32 :=
  let c2_i32_107 : BitVec 32 := 2#32
  let c15_i32_108 : BitVec 32 := 15#32
  let v190 : BitVec 32 := Scalar.minsi c2_i32_107 c15_i32_108
  let c256_i32_109 : BitVec 32 := 256#32
  let v191 : BitVec 32 := Scalar.muli v190 c256_i32_109
  v191
def k1_mult34 : BitVec 32 :=
  let c3_i32 : BitVec 32 := 3#32
  let c15_i32_155 : BitVec 32 := 15#32
  let v257 : BitVec 32 := Scalar.minsi c3_i32 c15_i32_155
  let c256_i32_156 : BitVec 32 := 256#32
  let v258 : BitVec 32 := Scalar.muli v257 c256_i32_156
  v258
def k1_mult35 : BitVec 32 :=
  let c4_i32 : BitVec 32 := 4#32
  let c15_i32_202 : BitVec 32 := 15#32
  let v324 : BitVec 32 := Scalar.minsi c4_i32 c15_i32_202
  let c256_i32_203 : BitVec 32 := 256#32
  let v325 : BitVec 32 := Scalar.muli v324 c256_i32_203
  v325
def k1_mult36 : BitVec 32 :=
  let c5_i32 : BitVec 32 := 5#32
  let c15_i32_249 : BitVec 32 := 15#32
  let v391 : BitVec 32 := Scalar.minsi c5_i32 c15_i32_249
  let c256_i32_250 : BitVec 32 := 256#32
  let v392 : BitVec 32 := Scalar.muli v391 c256_i32_250
  v392
def k1_mult37 : BitVec 32 :=
  let c6_i32_296 : BitVec 32 := 6#32
  let c15_i32_297 : BitVec 32 := 15#32
  let v458 : BitVec 32 := Scalar.minsi c6_i32_296 c15_i32_297
  let c256_i32_298 : BitVec 32 := 256#32
  let v459 : BitVec 32 := Scalar.muli v458 c256_i32_298
  v459
def k1_mult38 : BitVec 32 :=
  let c7_i32_344 : BitVec 32 := 7#32
  let c15_i32_345 : BitVec 32 := 15#32
  let v525 : BitVec 32 := Scalar.minsi c7_i32_344 c15_i32_345
  let c256_i32_346 : BitVec 32 := 256#32
  let v526 : BitVec 32 := Scalar.muli v525 c256_i32_346
  v526
def k1_mult39 : BitVec 32 :=
  let c8_i32 : BitVec 32 := 8#32
  let c15_i32_392 : BitVec 32 := 15#32
  let v592 : BitVec 32 := Scalar.minsi c8_i32 c15_i32_392
  let c256_i32_393 : BitVec 32 := 256#32
  let v593 : BitVec 32 := Scalar.muli v592 c256_i32_393
  v593
def k1_mult40 : BitVec 32 :=
  let c9_i32 : BitVec 32 := 9#32
  let c15_i32_439 : BitVec 32 := 15#32
  let v659 : BitVec 32 := Scalar.minsi c9_i32 c15_i32_439
  let c256_i32_440 : BitVec 32 := 256#32
  let v660 : BitVec 32 := Scalar.muli v659 c256_i32_440
  v660
def k1_mult41 : BitVec 32 :=
  let c10_i32 : BitVec 32 := 10#32
  let c15_i32_486 : BitVec 32 := 15#32
  let v726 : BitVec 32 := Scalar.minsi c10_i32 c15_i32_486
  let c256_i32_487 : BitVec 32 := 256#32
  let v727 : BitVec 32 := Scalar.muli v726 c256_i32_487
  v727
def k1_mult42 : BitVec 32 :=
  let c11_i32 : BitVec 32 := 11#32
  let c15_i32_533 : BitVec 32 := 15#32
  let v793 : BitVec 32 := Scalar.minsi c11_i32 c15_i32_533
  let c256_i32_534 : BitVec 32 := 256#32
  let v794 : BitVec 32 := Scalar.muli v793 c256_i32_534
  v794
def k1_mult43 : BitVec 32 :=
  let c0_i32_35 : BitVec 32 := 0#32
  let c15_i32 : BitVec 32 := 15#32
  let v84 : BitVec 32 := Scalar.minsi c0_i32_35 c15_i32
  let c256_i32 : BitVec 32 := 256#32
  let v85 : BitVec 32 := Scalar.muli v84 c256_i32
  v85
def k1_off10 (c0_i32_35 : BitVec 32) : Fin 3 → Nat :=
  let c0_36 : Index := 0#32
  let c15_i32 : BitVec 32 := 15#32
  let v84 : BitVec 32 := Scalar.minsi c0_i32_35 c15_i32
  let c256_i32 : BitVec 32 := 256#32
  let v85 : BitVec 32 := Scalar.muli v84 c256_i32
  let v86 : BitVec 32 := v85
  let v87 : Index := Scalar.indexCast v86
  let c0_37 : Index := 0#32
  ![0, v87.toNat, 0]
def k1_off11 (i : grid1.Coords) (c0_i32_38 : BitVec 32) (c1_i32_39 : BitVec 32) : Fin 4 → Nat :=
  let c6_i32 : BitVec 32 := 6#32
  let c0_i32_40 : BitVec 32 := 0#32
  let c2_i32 : BitVec 32 := 2#32
  let arg2 : BitVec 32 := BitVec.ofNat 32 (i 2).val
  let v90 : BitVec 32 := Scalar.muli c2_i32 arg2
  let v91 : BitVec 32 := Scalar.subi v90 c0_i32_38
  let v92 : BitVec 32 := Scalar.addi v91 c1_i32_39
  let v93 : BitVec 32 := Scalar.maxsi c0_i32_40 v92
  let v94 : BitVec 32 := Scalar.minsi c6_i32 v93
  let v95 : Index := Scalar.indexCast v94
  let c0_41 : Index := 0#32
  let c0_42 : Index := 0#32
  let c0_43 : Index := 0#32
  ![v95.toNat, 0, 0, 0]
def k1_mult44 : BitVec 32 :=
  let c1_i32_58 : BitVec 32 := 1#32
  let c15_i32_59 : BitVec 32 := 15#32
  let v121 : BitVec 32 := Scalar.minsi c1_i32_58 c15_i32_59
  let c256_i32_60 : BitVec 32 := 256#32
  let v122 : BitVec 32 := Scalar.muli v121 c256_i32_60
  v122
def k1_off12 (c0_i32_94 : BitVec 32) : Fin 5 → Nat :=
  let c0_96 : Index := 0#32
  let c0_97 : Index := 0#32
  let c15_i32_95 : BitVec 32 := 15#32
  let v174 : BitVec 32 := Scalar.minsi c0_i32_94 c15_i32_95
  let v175 : Index := Scalar.indexCast v174
  let c0_98 : Index := 0#32
  let c0_99 : Index := 0#32
  ![0, 0, v175.toNat, 0, 0]
def k1_mult45 : BitVec 32 :=
  let c2_i32_105 : BitVec 32 := 2#32
  let c15_i32_106 : BitVec 32 := 15#32
  let v188 : BitVec 32 := Scalar.minsi c2_i32_105 c15_i32_106
  let c256_i32_107 : BitVec 32 := 256#32
  let v189 : BitVec 32 := Scalar.muli v188 c256_i32_107
  v189
def k1_mult46 : BitVec 32 :=
  let c3_i32 : BitVec 32 := 3#32
  let c15_i32_153 : BitVec 32 := 15#32
  let v255 : BitVec 32 := Scalar.minsi c3_i32 c15_i32_153
  let c256_i32_154 : BitVec 32 := 256#32
  let v256 : BitVec 32 := Scalar.muli v255 c256_i32_154
  v256
def k1_mult47 : BitVec 32 :=
  let c4_i32 : BitVec 32 := 4#32
  let c15_i32_200 : BitVec 32 := 15#32
  let v322 : BitVec 32 := Scalar.minsi c4_i32 c15_i32_200
  let c256_i32_201 : BitVec 32 := 256#32
  let v323 : BitVec 32 := Scalar.muli v322 c256_i32_201
  v323
def k1_mult48 : BitVec 32 :=
  let c5_i32 : BitVec 32 := 5#32
  let c15_i32_247 : BitVec 32 := 15#32
  let v389 : BitVec 32 := Scalar.minsi c5_i32 c15_i32_247
  let c256_i32_248 : BitVec 32 := 256#32
  let v390 : BitVec 32 := Scalar.muli v389 c256_i32_248
  v390
def k1_mult49 : BitVec 32 :=
  let c6_i32_294 : BitVec 32 := 6#32
  let c15_i32_295 : BitVec 32 := 15#32
  let v456 : BitVec 32 := Scalar.minsi c6_i32_294 c15_i32_295
  let c256_i32_296 : BitVec 32 := 256#32
  let v457 : BitVec 32 := Scalar.muli v456 c256_i32_296
  v457
def k1_mult50 : BitVec 32 :=
  let c7_i32_342 : BitVec 32 := 7#32
  let c15_i32_343 : BitVec 32 := 15#32
  let v523 : BitVec 32 := Scalar.minsi c7_i32_342 c15_i32_343
  let c256_i32_344 : BitVec 32 := 256#32
  let v524 : BitVec 32 := Scalar.muli v523 c256_i32_344
  v524
def k1_mult51 : BitVec 32 :=
  let c8_i32 : BitVec 32 := 8#32
  let c15_i32_390 : BitVec 32 := 15#32
  let v590 : BitVec 32 := Scalar.minsi c8_i32 c15_i32_390
  let c256_i32_391 : BitVec 32 := 256#32
  let v591 : BitVec 32 := Scalar.muli v590 c256_i32_391
  v591
def k1_mult52 : BitVec 32 :=
  let c9_i32 : BitVec 32 := 9#32
  let c15_i32_437 : BitVec 32 := 15#32
  let v657 : BitVec 32 := Scalar.minsi c9_i32 c15_i32_437
  let c256_i32_438 : BitVec 32 := 256#32
  let v658 : BitVec 32 := Scalar.muli v657 c256_i32_438
  v658
def k1_mult53 : BitVec 32 :=
  let c0_i32_33 : BitVec 32 := 0#32
  let c15_i32 : BitVec 32 := 15#32
  let v82 : BitVec 32 := Scalar.minsi c0_i32_33 c15_i32
  let c256_i32 : BitVec 32 := 256#32
  let v83 : BitVec 32 := Scalar.muli v82 c256_i32
  v83
def k1_off13 (c0_i32_33 : BitVec 32) : Fin 3 → Nat :=
  let c0_34 : Index := 0#32
  let c15_i32 : BitVec 32 := 15#32
  let v82 : BitVec 32 := Scalar.minsi c0_i32_33 c15_i32
  let c256_i32 : BitVec 32 := 256#32
  let v83 : BitVec 32 := Scalar.muli v82 c256_i32
  let v84 : BitVec 32 := v83
  let v85 : Index := Scalar.indexCast v84
  let c0_35 : Index := 0#32
  ![0, v85.toNat, 0]
def k1_off14 (i : grid1.Coords) (c0_i32_36 : BitVec 32) (c1_i32_37 : BitVec 32) : Fin 4 → Nat :=
  let c6_i32 : BitVec 32 := 6#32
  let c0_i32_38 : BitVec 32 := 0#32
  let c2_i32 : BitVec 32 := 2#32
  let arg2 : BitVec 32 := BitVec.ofNat 32 (i 2).val
  let v88 : BitVec 32 := Scalar.muli c2_i32 arg2
  let v89 : BitVec 32 := Scalar.subi v88 c0_i32_36
  let v90 : BitVec 32 := Scalar.addi v89 c1_i32_37
  let v91 : BitVec 32 := Scalar.maxsi c0_i32_38 v90
  let v92 : BitVec 32 := Scalar.minsi c6_i32 v91
  let v93 : Index := Scalar.indexCast v92
  let c0_39 : Index := 0#32
  let c0_40 : Index := 0#32
  let c0_41 : Index := 0#32
  ![v93.toNat, 0, 0, 0]
def k1_mult54 : BitVec 32 :=
  let c1_i32_56 : BitVec 32 := 1#32
  let c15_i32_57 : BitVec 32 := 15#32
  let v119 : BitVec 32 := Scalar.minsi c1_i32_56 c15_i32_57
  let c256_i32_58 : BitVec 32 := 256#32
  let v120 : BitVec 32 := Scalar.muli v119 c256_i32_58
  v120
def k1_off15 (c0_i32_92 : BitVec 32) : Fin 5 → Nat :=
  let c0_94 : Index := 0#32
  let c0_95 : Index := 0#32
  let c15_i32_93 : BitVec 32 := 15#32
  let v172 : BitVec 32 := Scalar.minsi c0_i32_92 c15_i32_93
  let v173 : Index := Scalar.indexCast v172
  let c0_96 : Index := 0#32
  let c0_97 : Index := 0#32
  ![0, 0, v173.toNat, 0, 0]
def k1_mult55 : BitVec 32 :=
  let c2_i32_103 : BitVec 32 := 2#32
  let c15_i32_104 : BitVec 32 := 15#32
  let v186 : BitVec 32 := Scalar.minsi c2_i32_103 c15_i32_104
  let c256_i32_105 : BitVec 32 := 256#32
  let v187 : BitVec 32 := Scalar.muli v186 c256_i32_105
  v187
def k1_mult56 : BitVec 32 :=
  let c3_i32 : BitVec 32 := 3#32
  let c15_i32_151 : BitVec 32 := 15#32
  let v253 : BitVec 32 := Scalar.minsi c3_i32 c15_i32_151
  let c256_i32_152 : BitVec 32 := 256#32
  let v254 : BitVec 32 := Scalar.muli v253 c256_i32_152
  v254
def k1_mult57 : BitVec 32 :=
  let c4_i32 : BitVec 32 := 4#32
  let c15_i32_198 : BitVec 32 := 15#32
  let v320 : BitVec 32 := Scalar.minsi c4_i32 c15_i32_198
  let c256_i32_199 : BitVec 32 := 256#32
  let v321 : BitVec 32 := Scalar.muli v320 c256_i32_199
  v321
def k1_mult58 : BitVec 32 :=
  let c5_i32 : BitVec 32 := 5#32
  let c15_i32_245 : BitVec 32 := 15#32
  let v387 : BitVec 32 := Scalar.minsi c5_i32 c15_i32_245
  let c256_i32_246 : BitVec 32 := 256#32
  let v388 : BitVec 32 := Scalar.muli v387 c256_i32_246
  v388
def k1_mult59 : BitVec 32 :=
  let c6_i32_292 : BitVec 32 := 6#32
  let c15_i32_293 : BitVec 32 := 15#32
  let v454 : BitVec 32 := Scalar.minsi c6_i32_292 c15_i32_293
  let c256_i32_294 : BitVec 32 := 256#32
  let v455 : BitVec 32 := Scalar.muli v454 c256_i32_294
  v455
def k1_mult60 : BitVec 32 :=
  let c7_i32_340 : BitVec 32 := 7#32
  let c15_i32_341 : BitVec 32 := 15#32
  let v521 : BitVec 32 := Scalar.minsi c7_i32_340 c15_i32_341
  let c256_i32_342 : BitVec 32 := 256#32
  let v522 : BitVec 32 := Scalar.muli v521 c256_i32_342
  v522
def k1_mult61 : BitVec 32 :=
  let c0_i32_31 : BitVec 32 := 0#32
  let c15_i32 : BitVec 32 := 15#32
  let v80 : BitVec 32 := Scalar.minsi c0_i32_31 c15_i32
  let c256_i32 : BitVec 32 := 256#32
  let v81 : BitVec 32 := Scalar.muli v80 c256_i32
  v81
def k1_off16 (c0_i32_31 : BitVec 32) : Fin 3 → Nat :=
  let c0_32 : Index := 0#32
  let c15_i32 : BitVec 32 := 15#32
  let v80 : BitVec 32 := Scalar.minsi c0_i32_31 c15_i32
  let c256_i32 : BitVec 32 := 256#32
  let v81 : BitVec 32 := Scalar.muli v80 c256_i32
  let v82 : BitVec 32 := v81
  let v83 : Index := Scalar.indexCast v82
  let c0_33 : Index := 0#32
  ![0, v83.toNat, 0]
def k1_off17 (i : grid1.Coords) (c0_i32_34 : BitVec 32) (c1_i32_35 : BitVec 32) : Fin 4 → Nat :=
  let c6_i32 : BitVec 32 := 6#32
  let c0_i32_36 : BitVec 32 := 0#32
  let c2_i32 : BitVec 32 := 2#32
  let arg2 : BitVec 32 := BitVec.ofNat 32 (i 2).val
  let v86 : BitVec 32 := Scalar.muli c2_i32 arg2
  let v87 : BitVec 32 := Scalar.subi v86 c0_i32_34
  let v88 : BitVec 32 := Scalar.addi v87 c1_i32_35
  let v89 : BitVec 32 := Scalar.maxsi c0_i32_36 v88
  let v90 : BitVec 32 := Scalar.minsi c6_i32 v89
  let v91 : Index := Scalar.indexCast v90
  let c0_37 : Index := 0#32
  let c0_38 : Index := 0#32
  let c0_39 : Index := 0#32
  ![v91.toNat, 0, 0, 0]
def k1_mult62 : BitVec 32 :=
  let c1_i32_54 : BitVec 32 := 1#32
  let c15_i32_55 : BitVec 32 := 15#32
  let v117 : BitVec 32 := Scalar.minsi c1_i32_54 c15_i32_55
  let c256_i32_56 : BitVec 32 := 256#32
  let v118 : BitVec 32 := Scalar.muli v117 c256_i32_56
  v118
def k1_off18 (c0_i32_90 : BitVec 32) : Fin 5 → Nat :=
  let c0_92 : Index := 0#32
  let c0_93 : Index := 0#32
  let c15_i32_91 : BitVec 32 := 15#32
  let v170 : BitVec 32 := Scalar.minsi c0_i32_90 c15_i32_91
  let v171 : Index := Scalar.indexCast v170
  let c0_94 : Index := 0#32
  let c0_95 : Index := 0#32
  ![0, 0, v171.toNat, 0, 0]
def k1_mult63 : BitVec 32 :=
  let c2_i32_101 : BitVec 32 := 2#32
  let c15_i32_102 : BitVec 32 := 15#32
  let v184 : BitVec 32 := Scalar.minsi c2_i32_101 c15_i32_102
  let c256_i32_103 : BitVec 32 := 256#32
  let v185 : BitVec 32 := Scalar.muli v184 c256_i32_103
  v185
def k1_mult64 : BitVec 32 :=
  let c3_i32 : BitVec 32 := 3#32
  let c15_i32_149 : BitVec 32 := 15#32
  let v251 : BitVec 32 := Scalar.minsi c3_i32 c15_i32_149
  let c256_i32_150 : BitVec 32 := 256#32
  let v252 : BitVec 32 := Scalar.muli v251 c256_i32_150
  v252
def k1_mult65 : BitVec 32 :=
  let c4_i32 : BitVec 32 := 4#32
  let c15_i32_196 : BitVec 32 := 15#32
  let v318 : BitVec 32 := Scalar.minsi c4_i32 c15_i32_196
  let c256_i32_197 : BitVec 32 := 256#32
  let v319 : BitVec 32 := Scalar.muli v318 c256_i32_197
  v319
def k1_mult66 : BitVec 32 :=
  let c5_i32 : BitVec 32 := 5#32
  let c15_i32_243 : BitVec 32 := 15#32
  let v385 : BitVec 32 := Scalar.minsi c5_i32 c15_i32_243
  let c256_i32_244 : BitVec 32 := 256#32
  let v386 : BitVec 32 := Scalar.muli v385 c256_i32_244
  v386
def k1_mult67 : BitVec 32 :=
  let c0_i32_29 : BitVec 32 := 0#32
  let c15_i32 : BitVec 32 := 15#32
  let v78 : BitVec 32 := Scalar.minsi c0_i32_29 c15_i32
  let c256_i32 : BitVec 32 := 256#32
  let v79 : BitVec 32 := Scalar.muli v78 c256_i32
  v79
def k1_off19 (c0_i32_29 : BitVec 32) : Fin 3 → Nat :=
  let c0_30 : Index := 0#32
  let c15_i32 : BitVec 32 := 15#32
  let v78 : BitVec 32 := Scalar.minsi c0_i32_29 c15_i32
  let c256_i32 : BitVec 32 := 256#32
  let v79 : BitVec 32 := Scalar.muli v78 c256_i32
  let v80 : BitVec 32 := v79
  let v81 : Index := Scalar.indexCast v80
  let c0_31 : Index := 0#32
  ![0, v81.toNat, 0]
def k1_off20 (i : grid1.Coords) (c0_i32_32 : BitVec 32) (c1_i32_33 : BitVec 32) : Fin 4 → Nat :=
  let c6_i32 : BitVec 32 := 6#32
  let c0_i32_34 : BitVec 32 := 0#32
  let c2_i32 : BitVec 32 := 2#32
  let arg2 : BitVec 32 := BitVec.ofNat 32 (i 2).val
  let v84 : BitVec 32 := Scalar.muli c2_i32 arg2
  let v85 : BitVec 32 := Scalar.subi v84 c0_i32_32
  let v86 : BitVec 32 := Scalar.addi v85 c1_i32_33
  let v87 : BitVec 32 := Scalar.maxsi c0_i32_34 v86
  let v88 : BitVec 32 := Scalar.minsi c6_i32 v87
  let v89 : Index := Scalar.indexCast v88
  let c0_35 : Index := 0#32
  let c0_36 : Index := 0#32
  let c0_37 : Index := 0#32
  ![v89.toNat, 0, 0, 0]
def k1_mult68 : BitVec 32 :=
  let c1_i32_52 : BitVec 32 := 1#32
  let c15_i32_53 : BitVec 32 := 15#32
  let v115 : BitVec 32 := Scalar.minsi c1_i32_52 c15_i32_53
  let c256_i32_54 : BitVec 32 := 256#32
  let v116 : BitVec 32 := Scalar.muli v115 c256_i32_54
  v116
def k1_off21 (c0_i32_88 : BitVec 32) : Fin 5 → Nat :=
  let c0_90 : Index := 0#32
  let c0_91 : Index := 0#32
  let c15_i32_89 : BitVec 32 := 15#32
  let v168 : BitVec 32 := Scalar.minsi c0_i32_88 c15_i32_89
  let v169 : Index := Scalar.indexCast v168
  let c0_92 : Index := 0#32
  let c0_93 : Index := 0#32
  ![0, 0, v169.toNat, 0, 0]
def k1_mult69 : BitVec 32 :=
  let c2_i32_99 : BitVec 32 := 2#32
  let c15_i32_100 : BitVec 32 := 15#32
  let v182 : BitVec 32 := Scalar.minsi c2_i32_99 c15_i32_100
  let c256_i32_101 : BitVec 32 := 256#32
  let v183 : BitVec 32 := Scalar.muli v182 c256_i32_101
  v183
def k1_mult70 : BitVec 32 :=
  let c3_i32 : BitVec 32 := 3#32
  let c15_i32_147 : BitVec 32 := 15#32
  let v249 : BitVec 32 := Scalar.minsi c3_i32 c15_i32_147
  let c256_i32_148 : BitVec 32 := 256#32
  let v250 : BitVec 32 := Scalar.muli v249 c256_i32_148
  v250
def k1_mult71 : BitVec 32 :=
  let c0_i32_28 : BitVec 32 := 0#32
  let c15_i32 : BitVec 32 := 15#32
  let v76 : BitVec 32 := Scalar.minsi c0_i32_28 c15_i32
  let c256_i32 : BitVec 32 := 256#32
  let v77 : BitVec 32 := Scalar.muli v76 c256_i32
  v77
def k1_off22 (c0_i32_28 : BitVec 32) : Fin 3 → Nat :=
  let c0_29 : Index := 0#32
  let c15_i32 : BitVec 32 := 15#32
  let v76 : BitVec 32 := Scalar.minsi c0_i32_28 c15_i32
  let c256_i32 : BitVec 32 := 256#32
  let v77 : BitVec 32 := Scalar.muli v76 c256_i32
  let v78 : BitVec 32 := v77
  let v79 : Index := Scalar.indexCast v78
  let c0_30 : Index := 0#32
  ![0, v79.toNat, 0]
def k1_off23 (i : grid1.Coords) (c0_i32_31 : BitVec 32) (c1_i32 : BitVec 32) : Fin 4 → Nat :=
  let c6_i32 : BitVec 32 := 6#32
  let c0_i32_32 : BitVec 32 := 0#32
  let c2_i32 : BitVec 32 := 2#32
  let arg2 : BitVec 32 := BitVec.ofNat 32 (i 2).val
  let v82 : BitVec 32 := Scalar.muli c2_i32 arg2
  let v83 : BitVec 32 := Scalar.subi v82 c0_i32_31
  let v84 : BitVec 32 := Scalar.addi v83 c1_i32
  let v85 : BitVec 32 := Scalar.maxsi c0_i32_32 v84
  let v86 : BitVec 32 := Scalar.minsi c6_i32 v85
  let v87 : Index := Scalar.indexCast v86
  let c0_33 : Index := 0#32
  let c0_34 : Index := 0#32
  let c0_35 : Index := 0#32
  ![v87.toNat, 0, 0, 0]
def k1_mult72 : BitVec 32 :=
  let c1_i32_50 : BitVec 32 := 1#32
  let c15_i32_51 : BitVec 32 := 15#32
  let v113 : BitVec 32 := Scalar.minsi c1_i32_50 c15_i32_51
  let c256_i32_52 : BitVec 32 := 256#32
  let v114 : BitVec 32 := Scalar.muli v113 c256_i32_52
  v114
def k1_off24 (c0_i32_86 : BitVec 32) : Fin 5 → Nat :=
  let c0_88 : Index := 0#32
  let c0_89 : Index := 0#32
  let c15_i32_87 : BitVec 32 := 15#32
  let v166 : BitVec 32 := Scalar.minsi c0_i32_86 c15_i32_87
  let v167 : Index := Scalar.indexCast v166
  let c0_90 : Index := 0#32
  let c0_91 : Index := 0#32
  ![0, 0, v167.toNat, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x16x128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S7x1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 1 → Memref sig .tc .vmem S4x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S2x4096x1024 : Shape := ⟨3, ![2, 4096, 1024]⟩
abbrev S4x64 : Shape := ⟨2, ![4, 64]⟩
abbrev S128 : Shape := ⟨1, ![128]⟩
abbrev S32x24 : Shape := ⟨2, ![32, 24]⟩
abbrev S2x4096x8x2x64 : Shape := ⟨5, ![2, 4096, 8, 2, 64]⟩
abbrev S2x4096x8x128 : Shape := ⟨4, ![2, 4096, 8, 128]⟩
abbrev S1x64 : Shape := ⟨2, ![1, 64]⟩
abbrev S64 : Shape := ⟨1, ![64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S32x8 : Shape := ⟨2, ![32, 8]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S2x8x2x4096x4096 : Shape := ⟨5, ![2, 8, 2, 4096, 4096]⟩
abbrev S8x1x4096x4096 : Shape := ⟨4, ![8, 1, 4096, 4096]⟩
abbrev S1x8x1x4096x4096 : Shape := ⟨5, ![1, 8, 1, 4096, 4096]⟩
abbrev S2x8x2x4096 : Shape := ⟨4, ![2, 8, 2, 4096]⟩
abbrev S2x8x2x4096x1 : Shape := ⟨5, ![2, 8, 2, 4096, 1]⟩
abbrev S2x8x1x4096x4096 : Shape := ⟨5, ![2, 8, 1, 4096, 4096]⟩
abbrev S2x8x4096x4096 : Shape := ⟨4, ![2, 8, 4096, 4096]⟩
abbrev S2x8x128x4096 : Shape := ⟨4, ![2, 8, 128, 4096]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩

abbrev nBuf : Space → Nat
  | .hbm => 147
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x4096x1024, .f32⟩
  | 3 => ⟨S4x64, .f32⟩
  | 4 => ⟨S128, .f32⟩
  | 5 => ⟨S32x24, .f32⟩
  | 6 => ⟨S2x4096x8x2x64, .f32⟩
  | 7 => ⟨S2x4096x8x2x64, .f32⟩
  | 8 => ⟨S2x4096x8x128, .f32⟩
  | 9 => ⟨S1x64, .f32⟩
  | 10 => ⟨S64, .f32⟩
  | 11 => ⟨S1x64, .f32⟩
  | 12 => ⟨S64, .f32⟩
  | 13 => ⟨S64, .f32⟩
  | 14 => ⟨S_, .f32⟩
  | 15 => ⟨S_, .f32⟩
  | 16 => ⟨S_, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S4096, .i32⟩
  | 29 => ⟨S4096x1, .i32⟩
  | 30 => ⟨S4096, .i32⟩
  | 31 => ⟨S1x4096, .i32⟩
  | 32 => ⟨S4096x4096, .i32⟩
  | 33 => ⟨S4096x4096, .i32⟩
  | 34 => ⟨S4096x4096, .i32⟩
  | 35 => ⟨S32x8, .f32⟩
  | 36 => ⟨S_, .i32⟩
  | 37 => ⟨S4096x4096, .i32⟩
  | 38 => ⟨S4096x4096, .i32⟩
  | 39 => ⟨S_, .i32⟩
  | 40 => ⟨S4096x4096, .i32⟩
  | 41 => ⟨S4096x4096, .i32⟩
  | 42 => ⟨S4096x4096, .f32⟩
  | 43 => ⟨S_, .f32⟩
  | 44 => ⟨S4096x4096, .f32⟩
  | 45 => ⟨S4096x4096, .f32⟩
  | 46 => ⟨S4096x4096, .f32⟩
  | 47 => ⟨S_, .f32⟩
  | 48 => ⟨S4096x4096, .f32⟩
  | 49 => ⟨S4096x4096, .f32⟩
  | 50 => ⟨S_, .f32⟩
  | 51 => ⟨S4096x4096, .f32⟩
  | 52 => ⟨S4096x4096, .f32⟩
  | 53 => ⟨S4096x4096, .i32⟩
  | 54 => ⟨S_, .i32⟩
  | 55 => ⟨S4096x4096, .i32⟩
  | 56 => ⟨S4096x4096, .i32⟩
  | 57 => ⟨S_, .i32⟩
  | 58 => ⟨S4096x4096, .i32⟩
  | 59 => ⟨S4096x4096, .i32⟩
  | 60 => ⟨S_, .i32⟩
  | 61 => ⟨S4096x4096, .i32⟩
  | 62 => ⟨S4096x4096, .i1⟩
  | 63 => ⟨S4096x4096, .i32⟩
  | 64 => ⟨S_, .i32⟩
  | 65 => ⟨S4096x4096, .i32⟩
  | 66 => ⟨S4096x4096, .i1⟩
  | 67 => ⟨S_, .i32⟩
  | 68 => ⟨S4096x4096, .i32⟩
  | 69 => ⟨S4096x4096, .i32⟩
  | 70 => ⟨S4096x4096, .i32⟩
  | 71 => ⟨S4096x4096x1, .i32⟩
  | 72 => ⟨S4096x4096x8, .f32⟩
  | 73 => ⟨S8x4096x4096, .f32⟩
  | 74 => ⟨S2x8x2x4096x4096, .f32⟩
  | 75 => ⟨S_, .f32⟩
  | 76 => ⟨S2x8x2x4096x4096, .f32⟩
  | 77 => ⟨S2x8x2x4096x4096, .f32⟩
  | 78 => ⟨S8x1x4096x4096, .f32⟩
  | 79 => ⟨S1x8x1x4096x4096, .f32⟩
  | 80 => ⟨S2x8x2x4096x4096, .f32⟩
  | 81 => ⟨S2x8x2x4096x4096, .f32⟩
  | 82 => ⟨S_, .i32⟩
  | 83 => ⟨S4096x4096, .i32⟩
  | 84 => ⟨S4096x4096, .i1⟩
  | 85 => ⟨S_, .f32⟩
  | 86 => ⟨S_, .f32⟩
  | 87 => ⟨S2x8x2x4096x4096, .i1⟩
  | 88 => ⟨S2x8x2x4096x4096, .f32⟩
  | 89 => ⟨S2x8x2x4096x4096, .f32⟩
  | 90 => ⟨S_, .f32⟩
  | 91 => ⟨S2x8x2x4096, .f32⟩
  | 92 => ⟨S2x8x2x4096x1, .f32⟩
  | 93 => ⟨S2x8x2x4096x1, .f32⟩
  | 94 => ⟨S_, .f32⟩
  | 95 => ⟨S2x8x2x4096x1, .f32⟩
  | 96 => ⟨S2x8x2x4096x1, .i1⟩
  | 97 => ⟨S_, .f32⟩
  | 98 => ⟨S_, .f32⟩
  | 99 => ⟨S2x8x2x4096x1, .f32⟩
  | 100 => ⟨S2x8x2x4096x1, .f32⟩
  | 101 => ⟨S2x8x2x4096x4096, .f32⟩
  | 102 => ⟨S2x8x2x4096x4096, .f32⟩
  | 103 => ⟨S2x8x2x4096x4096, .f32⟩
  | 104 => ⟨S_, .f32⟩
  | 105 => ⟨S_, .f32⟩
  | 106 => ⟨S2x8x2x4096x4096, .i1⟩
  | 107 => ⟨S2x8x2x4096x4096, .f32⟩
  | 108 => ⟨S2x8x2x4096x4096, .f32⟩
  | 109 => ⟨S_, .f32⟩
  | 110 => ⟨S2x8x2x4096, .f32⟩
  | 111 => ⟨S2x8x2x4096x1, .f32⟩
  | 112 => ⟨S_, .f32⟩
  | 113 => ⟨S2x8x2x4096x1, .f32⟩
  | 114 => ⟨S2x8x2x4096x1, .f32⟩
  | 115 => ⟨S2x8x2x4096x4096, .f32⟩
  | 116 => ⟨S2x8x2x4096x4096, .f32⟩
  | 117 => ⟨S2x8x1x4096x4096, .f32⟩
  | 118 => ⟨S2x8x4096x4096, .f32⟩
  | 119 => ⟨S2x8x1x4096x4096, .f32⟩
  | 120 => ⟨S2x8x4096x4096, .f32⟩
  | 121 => ⟨S2x8x4096x4096, .f32⟩
  | 122 => ⟨S2x8x4096x4096, .f32⟩
  | 123 => ⟨S2x8x4096x4096, .f32⟩
  | 124 => ⟨S2x8x128x4096, .f32⟩
  | 125 => ⟨S2x4096x8x128, .f32⟩
  | 126 => ⟨S2x4096x8x128, .f32⟩
  | 127 => ⟨S_, .f32⟩
  | _ => ⟨S2x4096x1024, .f32⟩

abbrev hbmTy0_1 (i : Nat) : BufTy := match i % 128 with
  | 0 => ⟨S2x4096x8, .f32⟩
  | 1 => ⟨S2x4096x8x1, .f32⟩
  | 2 => ⟨S_, .f32⟩
  | 3 => ⟨S2x4096x8x1, .f32⟩
  | 4 => ⟨S2x4096x8x1, .f32⟩
  | 5 => ⟨S_, .f32⟩
  | 6 => ⟨S2x4096x8x1, .f32⟩
  | 7 => ⟨S2x4096x8x1, .f32⟩
  | 8 => ⟨S2x4096x8x1, .f32⟩
  | 9 => ⟨S2x4096x8x128, .f32⟩
  | 10 => ⟨S2x4096x8x128, .f32⟩
  | 11 => ⟨S1x1x1x128, .f32⟩
  | 12 => ⟨S2x4096x8x128, .f32⟩
  | 13 => ⟨S2x4096x8x128, .f32⟩
  | 14 => ⟨S_, .f32⟩
  | 15 => ⟨S2x4096x8x128, .f32⟩
  | 16 => ⟨S2x4096x8x128, .f32⟩
  | 17 => ⟨S2x4096x1024, .f32⟩
  | 18 => ⟨S2x4096x1024, .bf16⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_12 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_call2_v0 : Ref sig .tc := ⟨.hbm, 98, rfl⟩
abbrev main_call2_v1 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_17 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v74 : Ref sig .tc := ⟨.hbm, 108, rfl⟩
abbrev main_cst_18 : Ref sig .tc := ⟨.hbm, 109, rfl⟩
abbrev main_v75 : Ref sig .tc := ⟨.hbm, 110, rfl⟩
abbrev main_v76 : Ref sig .tc := ⟨.hbm, 111, rfl⟩
abbrev main_cst_19 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩
abbrev main_v94 : Ref sig .tc := ⟨.hbm, 132, rfl⟩
abbrev main_cst_22 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048x12848 : Shape := ⟨2, ![2048, 12848]⟩
abbrev S2x4096x1024 : Shape := ⟨3, ![2, 4096, 1024]⟩
abbrev S3x1024x2048 : Shape := ⟨3, ![3, 1024, 2048]⟩
abbrev S8192x2048 : Shape := ⟨2, ![8192, 2048]⟩
abbrev S12848x2048 : Shape := ⟨2, ![12848, 2048]⟩
abbrev S6144x2048 : Shape := ⟨2, ![6144, 2048]⟩
abbrev S8192x1024 : Shape := ⟨2, ![8192, 1024]⟩
abbrev S512x2048 : Shape := ⟨2, ![512, 2048]⟩
abbrev S2048x2048 : Shape := ⟨2, ![2048, 2048]⟩
abbrev S512x1024 : Shape := ⟨2, ![512, 1024]⟩
abbrev S1x1024x2048 : Shape := ⟨3, ![1, 1024, 2048]⟩
abbrev S1024x2048 : Shape := ⟨2, ![1024, 2048]⟩

abbrev nBuf : Space → Nat
  | .hbm => 19
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S2048x12848, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S3x1024x2048, .f32⟩
  | .hbm, ⟨6, _⟩ => ⟨S8192x2048, .f32⟩
  | .hbm, ⟨7, _⟩ => ⟨S8192x2048, .bf16⟩
  | .hbm, ⟨8, _⟩ => ⟨S12848x2048, .f32⟩
  | .hbm, ⟨9, _⟩ => ⟨S6144x2048, .f32⟩
  | .hbm, ⟨10, _⟩ => ⟨S6144x2048, .bf16⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S3x1024x2048, .bf16⟩
  | .hbm, ⟨18, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x2048, .bf16⟩
  | .local _ .vmem, ⟨11, _⟩ => ⟨S1x1024x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x4096x2048 : Shape := ⟨3, ![2, 4096, 2048]⟩
abbrev S2048x12848 : Shape := ⟨2, ![2048, 12848]⟩
abbrev S2x4096x1024 : Shape := ⟨3, ![2, 4096, 1024]⟩
abbrev S3x1024x2048 : Shape := ⟨3, ![3, 1024, 2048]⟩
abbrev S2048x6144 : Shape := ⟨2, ![2048, 6144]⟩
abbrev S2x4096x6144 : Shape := ⟨3, ![2, 4096, 6144]⟩
abbrev S2x4096x1x1024 : Shape := ⟨4, ![2, 4096, 1, 1024]⟩
abbrev S2x4096x3x1024 : Shape := ⟨4, ![2, 4096, 3, 1024]⟩
abbrev S3x2048x2x4096 : Shape := ⟨4, ![3, 2048, 2, 4096]⟩
abbrev S2x4096x3x2048 : Shape := ⟨4, ![2, 4096, 3, 2048]⟩
abbrev S_ : Shape := ⟨0, ![]⟩
abbrev S8192x2048 : Shape := ⟨2, ![8192, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x12848, .f32⟩
  | .hbm, ⟨2, _⟩ => ⟨S2x4096x1024, .f32⟩
  | .hbm, ⟨3, _⟩ => ⟨S2x4096x1024, .f32⟩
  | .hbm, ⟨4, _⟩ => ⟨S2x4096x1024, .f32⟩
  | .hbm, ⟨5, _⟩ => ⟨S3x1024x2048, .f32⟩
  | .hbm, ⟨6, _⟩ => ⟨S2048x6144, .f32⟩
  | .hbm, ⟨7, _⟩ => ⟨S2x4096x6144, .f32⟩
  | .hbm, ⟨8, _⟩ => ⟨S2x4096x1x1024, .f32⟩
  | .hbm, ⟨9, _⟩ => ⟨S2x4096x1x1024, .f32⟩
  | .hbm, ⟨10, _⟩ => ⟨S2x4096x1x1024, .f32⟩
  | .hbm, ⟨11, _⟩ => ⟨S2x4096x3x1024, .f32⟩
  | .hbm, ⟨12, _⟩ => ⟨S3x2048x2x4096, .f32⟩
  | .hbm, ⟨13, _⟩ => ⟨S2x4096x3x2048, .f32⟩
  | .hbm, ⟨14, _⟩ => ⟨S2x4096x6144, .f32⟩
  | .hbm, ⟨15, _⟩ => ⟨S2x4096x6144, .f32⟩
  | .hbm, ⟨16, _⟩ => ⟨S_, .f32⟩
  | .hbm, ⟨17, _⟩ => ⟨S2x4096x6144, .f32⟩
  | .hbm, ⟨18, _⟩ => ⟨S2x4096x6144, .f32⟩
  | .hbm, ⟨19, _⟩ => ⟨S_, .f32⟩
  | .hbm, ⟨20, _⟩ => ⟨S2x4096x6144, .f32⟩
  | .hbm, ⟨21, _⟩ => ⟨S2x4096x6144, .f32⟩
  | .hbm, ⟨22, _⟩ => ⟨S2x4096x3x2048, .f32⟩
  | .hbm, ⟨23, _⟩ => ⟨S2x4096x3x2048, .f32⟩
  | .hbm, ⟨24, _⟩ => ⟨S_, .f32⟩
  | .hbm, ⟨25, _⟩ => ⟨S2x4096x2048, .f32⟩
  | .hbm, ⟨26, _⟩ => ⟨S8192x2048, .f32⟩
  | .hbm, ⟨27, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel3.lean ====
abbrev S2x4096x2048 : Shape := ⟨3, ![2, 4096, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2x4096x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S8192x2048, .f32⟩
  | .hbm, ⟨7, _⟩ => ⟨S8192x2048, .bf16⟩
  | .hbm, ⟨8, _⟩ => ⟨S2048x2048, .bf16⟩
  | .hbm, ⟨9, _⟩ => ⟨S8192x2048, .f32⟩
  | .hbm, ⟨10, _⟩ => ⟨S1x2048, .f32⟩
  | .hbm, ⟨11, _⟩ => ⟨S1x2048, .f32⟩
  | .hbm, ⟨12, _⟩ => ⟨S2048x2048, .bf16⟩
  | .hbm, ⟨13, _⟩ => ⟨S8192x2048, .f32⟩
  | .hbm, ⟨14, _⟩ => ⟨S8192x2048, .bf16⟩
  | .hbm, ⟨15, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2x4096x2048 : Shape := ⟨3, ![2, 4096, 2048]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x2048, .f32⟩
  | .hbm, ⟨2, _⟩ => ⟨S2x4096x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2x4096x2048, .f32⟩
  | .hbm, ⟨7, _⟩ => ⟨S_, .f32⟩
  | .hbm, ⟨8, _⟩ => ⟨S2x4096x2048, .f32⟩
  | .hbm, ⟨9, _⟩ => ⟨S2x4096x2048, .f32⟩
  | .hbm, ⟨10, _⟩ => ⟨S2x4096x2048, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x2048, .f32⟩
  | .hbm, ⟨33, _⟩ => ⟨S2x4096x2048, .f32⟩
  | .hbm, ⟨34, _⟩ => ⟨S1x1x2048, .f32⟩
  | .hbm, ⟨35, _⟩ => ⟨S2x4096x2048, .f32⟩
  | .hbm, ⟨36, _⟩ => ⟨S2x4096x2048, .f32⟩
  | .hbm, ⟨37, _⟩ => ⟨S1x1x2048, .f32⟩
  | .hbm, ⟨38, _⟩ => ⟨S2x4096x2048, .f32⟩
  | .hbm, ⟨39, _⟩ => ⟨S2x4096x2048, .f32⟩
  | .hbm, ⟨40, _⟩ => ⟨S8192x2048, .f32⟩
  | .hbm, ⟨41, _⟩ => ⟨S8192x2048, .bf16⟩
  | .hbm, ⟨42, _⟩ => ⟨S8192x2048, .f32⟩
  | .hbm, ⟨43, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel4.lean ====
abbrev S2x4096x2048 : Shape := ⟨3, ![2, 4096, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x2048, .f32⟩
  | .hbm, ⟨24, _⟩ => ⟨S2x4096x2048, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x2048, .f32⟩
  | .hbm, ⟨30, _⟩ => ⟨S2x4096x2048, .f32⟩
  | .hbm, ⟨31, _⟩ => ⟨S1x1x2048, .f32⟩
  | .hbm, ⟨32, _⟩ => ⟨S2x4096x2048, .f32⟩
  | .hbm, ⟨33, _⟩ => ⟨S2x4096x2048, .f32⟩
  | .hbm, ⟨34, _⟩ => ⟨S1x1x2048, .f32⟩
  | .hbm, ⟨35, _⟩ => ⟨S2x4096x2048, .f32⟩
  | .hbm, ⟨36, _⟩ => ⟨S2x4096x2048, .f32⟩
  | .hbm, ⟨37, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel5.lean ====
abbrev S2x4096x2048 : Shape := ⟨3, ![2, 4096, 2048]⟩
abbrev S2048x12848 : Shape := ⟨2, ![2048, 12848]⟩
abbrev S12848x2048 : Shape := ⟨2, ![12848, 2048]⟩
abbrev S_ : Shape := ⟨0, ![]⟩
abbrev S1536x2048 : Shape := ⟨2, ![1536, 2048]⟩
abbrev S3x2x4x64x2048 : Shape := ⟨5, ![3, 2, 4, 64, 2048]⟩
abbrev S3x4x2x64x2048 : Shape := ⟨5, ![3, 4, 2, 64, 2048]⟩
abbrev S1024x2048 : Shape := ⟨2, ![1024, 2048]⟩
abbrev S2048x2048 : Shape := ⟨2, ![2048, 2048]⟩
abbrev S6656x2048 : Shape := ⟨2, ![6656, 2048]⟩
abbrev S48x2048 : Shape := ⟨2, ![48, 2048]⟩
abbrev S80x2048 : Shape := ⟨2, ![80, 2048]⟩
abbrev S128x2048 : Shape := ⟨2, ![128, 2048]⟩
abbrev S8192x2048 : Shape := ⟨2, ![8192, 2048]⟩
abbrev S8192x6656 : Shape := ⟨2, ![8192, 6656]⟩
abbrev S8192x128 : Shape := ⟨2, ![8192, 128]⟩
abbrev S512x2048 : Shape := ⟨2, ![512, 2048]⟩
abbrev S1664x2048 : Shape := ⟨2, ![1664, 2048]⟩
abbrev S512x1664 : Shape := ⟨2, ![512, 1664]⟩
abbrev S512x128 : Shape := ⟨2, ![512, 128]⟩

abbrev nBuf : Space → Nat
  | .hbm => 36
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2048x12848, .f32⟩
  | .hbm, ⟨2, _⟩ => ⟨S12848x2048, .f32⟩
  | .hbm, ⟨3, _⟩ => ⟨S_, .f32⟩
  | .hbm, ⟨4, _⟩ => ⟨S_, .f32⟩
  | .hbm, ⟨5, _⟩ => ⟨S1536x2048, .f32⟩
  | .hbm, ⟨6, _⟩ => ⟨S3x2x4x64x2048, .f32⟩
  | .hbm, ⟨7, _⟩ => ⟨S3x4x2x64x2048, .f32⟩
  | .hbm, ⟨8, _⟩ => ⟨S1536x2048, .f32⟩
  | .hbm, ⟨9, _⟩ => ⟨S1024x2048, .f32⟩
  | .hbm, ⟨10, _⟩ => ⟨S_, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S_, .f32⟩
  | .hbm, ⟨17, _⟩ => ⟨S1024x2048, .f32⟩
  | .hbm, ⟨18, _⟩ => ⟨S1024x2048, .f32⟩
  | .hbm, ⟨19, _⟩ => ⟨S2048x2048, .f32⟩
  | .hbm, ⟨20, _⟩ => ⟨S1024x2048, .f32⟩
  | .hbm, ⟨21, _⟩ => ⟨S_, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S6656x2048, .f32⟩
  | .hbm, ⟨26, _⟩ => ⟨S6656x2048, .bf16⟩
  | .hbm, ⟨27, _⟩ => ⟨S48x2048, .f32⟩
  | .hbm, ⟨28, _⟩ => ⟨S_, .f32⟩
  | .hbm, ⟨29, _⟩ => ⟨S80x2048, .f32⟩
  | .hbm, ⟨30, _⟩ => ⟨S128x2048, .f32⟩
  | .hbm, ⟨31, _⟩ => ⟨S128x2048, .bf16⟩
  | .hbm, ⟨32, _⟩ => ⟨S8192x2048, .f32⟩
  | .hbm, ⟨33, _⟩ => ⟨S8192x6656, .bf16⟩
  | .hbm, ⟨34, _⟩ => ⟨S8192x128, .f32⟩
  | .hbm, ⟨35, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1664x2048, .bf16⟩
  | .local _ .vmem, ⟨3, _⟩ => ⟨S1664x2048, .bf16⟩
  | .local _ .vmem, ⟨4, _⟩ => ⟨S128x2048, .bf16⟩
  | .local _ .vmem, ⟨5, _⟩ => ⟨S512x1664, .bf16⟩
  | .local _ .vmem, ⟨6, _⟩ => ⟨S512x1664, .bf16⟩
  | .local _ .vmem, ⟨7, _⟩ => ⟨S512x128, .f32⟩
  | .local _ .vmem, ⟨8, _⟩ => ⟨S512x128, .f32⟩
  | .local _ .vmem, ⟨9, _⟩ => ⟨S512x2048, .bf16⟩
  | .local _ .vmem, ⟨10, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev main_v26_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S2x4096x2048 : Shape := ⟨3, ![2, 4096, 2048]⟩
abbrev S2048x12848 : Shape := ⟨2, ![2048, 12848]⟩
abbrev S2x4096x12848 : Shape := ⟨3, ![2, 4096, 12848]⟩
abbrev S8192x12848 : Shape := ⟨2, ![8192, 12848]⟩
abbrev S8192x1024 : Shape := ⟨2, ![8192, 1024]⟩
abbrev S8192x1536 : Shape := ⟨2, ![8192, 1536]⟩
abbrev S8192x48 : Shape := ⟨2, ![8192, 48]⟩
abbrev S8192x6144 : Shape := ⟨2, ![8192, 6144]⟩
abbrev S8192x3x2x4x64 : Shape := ⟨5, ![8192, 3, 2, 4, 64]⟩
abbrev S8192x3x4x2x64 : Shape := ⟨5, ![8192, 3, 4, 2, 64]⟩
abbrev S_ : Shape := ⟨0, ![]⟩
abbrev S8192x6656 : Shape := ⟨2, ![8192, 6656]⟩
abbrev S8192x80 : Shape := ⟨2, ![8192, 80]⟩
abbrev S8192x128 : Shape := ⟨2, ![8192, 128]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x12848, .f32⟩
  | .hbm, ⟨2, _⟩ => ⟨S2x4096x12848, .f32⟩
  | .hbm, ⟨3, _⟩ => ⟨S8192x12848, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1536, .f32⟩
  | .hbm, ⟨9, _⟩ => ⟨S8192x48, .f32⟩
  | .hbm, ⟨10, _⟩ => ⟨S8192x1024, .f32⟩
  | .hbm, ⟨11, _⟩ => ⟨S8192x6144, .f32⟩
  | .hbm, ⟨12, _⟩ => ⟨S8192x3x2x4x64, .f32⟩
  | .hbm, ⟨13, _⟩ => ⟨S8192x3x4x2x64, .f32⟩
  | .hbm, ⟨14, _⟩ => ⟨S8192x1536, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x6656, .f32⟩
  | .hbm, ⟨30, _⟩ => ⟨S8192x6656, .bf16⟩
  | .hbm, ⟨31, _⟩ => ⟨S_, .f32⟩
  | .hbm, ⟨32, _⟩ => ⟨S8192x80, .f32⟩
  | .hbm, ⟨33, _⟩ => ⟨S8192x128, .f32⟩
  | .hbm, ⟨34, _⟩ => ⟨S8192x2048, .f32⟩
  | .hbm, ⟨35, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel6.lean ====
abbrev S2x4096x1024 : Shape := ⟨3, ![2, 4096, 1024]⟩
abbrev S2x256x2048 : Shape := ⟨3, ![2, 256, 2048]⟩
abbrev S_ : Shape := ⟨0, ![]⟩
abbrev S2x4096x5632 : Shape := ⟨3, ![2, 4096, 5632]⟩
abbrev S2x4096x6656 : Shape := ⟨3, ![2, 4096, 6656]⟩
abbrev S512x2048 : Shape := ⟨2, ![512, 2048]⟩
abbrev S1x512x1024 : Shape := ⟨3, ![1, 512, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S2x256x2048, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2x4096x1024, .f32⟩
  | .hbm, ⟨7, _⟩ => ⟨S2x4096x1024, .f32⟩
  | .hbm, ⟨8, _⟩ => ⟨S2x4096x1024, .bf16⟩
  | .hbm, ⟨9, _⟩ => ⟨S_, .bf16⟩
  | .hbm, ⟨10, _⟩ => ⟨S2x4096x5632, .bf16⟩
  | .hbm, ⟨11, _⟩ => ⟨S2x4096x6656, .bf16⟩
  | .hbm, ⟨12, _⟩ => ⟨S512x2048, .f32⟩
  | .hbm, ⟨13, _⟩ => ⟨S512x2048, .bf16⟩
  | .hbm, ⟨14, _⟩ => ⟨S2x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x512x1024, .bf16⟩
  | .local _ .vmem, ⟨7, _⟩ => ⟨S1x512x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x4096x1024 : Shape := ⟨3, ![2, 4096, 1024]⟩
abbrev S2x256x2048 : Shape := ⟨3, ![2, 256, 2048]⟩
abbrev S2x4096x4x256 : Shape := ⟨4, ![2, 4096, 4, 256]⟩
abbrev S2x256x2x4x256 : Shape := ⟨5, ![2, 256, 2, 4, 256]⟩
abbrev S2x256x1x4x256 : Shape := ⟨5, ![2, 256, 1, 4, 256]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x256x2048, .f32⟩
  | .hbm, ⟨2, _⟩ => ⟨S2x4096x4x256, .f32⟩
  | .hbm, ⟨3, _⟩ => ⟨S2x256x2x4x256, .f32⟩
  | .hbm, ⟨4, _⟩ => ⟨S2x256x1x4x256, .f32⟩
  | .hbm, ⟨5, _⟩ => ⟨S2x256x4x256, .f32⟩
  | .hbm, ⟨6, _⟩ => ⟨S2x4x4096x256, .f32⟩
  | .hbm, ⟨7, _⟩ => ⟨S_, .f32⟩
  | .hbm, ⟨8, _⟩ => ⟨S2x4x4096x256, .f32⟩
  | .hbm, ⟨9, _⟩ => ⟨S2x4x4096x256, .f32⟩
  | .hbm, ⟨10, _⟩ => ⟨S_, .f32⟩
  | .hbm, ⟨11, _⟩ => ⟨S2x4x4096, .f32⟩
  | .hbm, ⟨12, _⟩ => ⟨S_, .f32⟩
  | .hbm, ⟨13, _⟩ => ⟨S2x4x4096, .f32⟩
  | .hbm, ⟨14, _⟩ => ⟨S2x4x4096, .f32⟩
  | .hbm, ⟨15, _⟩ => ⟨S2x4x4096x1, .f32⟩
  | .hbm, ⟨16, _⟩ => ⟨S2x4x4096x256, .f32⟩
  | .hbm, ⟨17, _⟩ => ⟨S2x4x4096x256, .f32⟩
  | .hbm, ⟨18, _⟩ => ⟨S2x4x4096x256, .f32⟩
  | .hbm, ⟨19, _⟩ => ⟨S_, .f32⟩
  | .hbm, ⟨20, _⟩ => ⟨S2x4x4096, .f32⟩
  | .hbm, ⟨21, _⟩ => ⟨S2x4x4096x1, .f32⟩
  | .hbm, ⟨22, _⟩ => ⟨S2x4x4096x256, .f32⟩
  | .hbm, ⟨23, _⟩ => ⟨S2x4x4096x256, .f32⟩
  | .hbm, ⟨24, _⟩ => ⟨S2x256x1x4x256, .f32⟩
  | .hbm, ⟨25, _⟩ => ⟨S2x256x4x256, .f32⟩
  | .hbm, ⟨26, _⟩ => ⟨S2x4x256x4096, .f32⟩
  | .hbm, ⟨27, _⟩ => ⟨S2x4096x4x256, .f32⟩
  | .hbm, ⟨28, _⟩ => ⟨S2x4096x1024, .f32⟩
  | .hbm, ⟨29, _⟩ => ⟨S2x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel7.lean ====
abbrev S2x256x2048 : Shape := ⟨3, ![2, 256, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S2048x2048, .f32⟩
  | .hbm, ⟨2, _⟩ => ⟨S512x2048, .f32⟩
  | .hbm, ⟨3, _⟩ => ⟨S512x2048, .bf16⟩
  | .hbm, ⟨4, _⟩ => ⟨S2048x2048, .bf16⟩
  | .hbm, ⟨5, _⟩ => ⟨S512x2048, .bf16⟩
  | .local _ .vmem, ⟨0, _⟩ => ⟨S512x2048, .bf16⟩
  | .local _ .vmem, ⟨1, _⟩ => ⟨S2048x1024, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x256x2048 : Shape := ⟨3, ![2, 256, 2048]⟩
abbrev S2048x2048 : Shape := ⟨2, ![2048, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048x2048, .f32⟩
  | .hbm, ⟨2, _⟩ => ⟨S2x256x2048, .f32⟩
  | .hbm, ⟨3, _⟩ => ⟨S512x2048, .f32⟩
  | .hbm, ⟨4, _⟩ => ⟨S512x2048, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

/-! # The claims without values

The three programs run and leave their arguments, the two named constants are what their table says, and the precondition's
side conditions hold. -/

namespace Cert.Proof.Claims

open Idealize.ShloMosaic Idealize.SL.Sem

/-- The side conditions of the precondition's own operations. -/
theorem pre_facts : Cert.Pre_finite_inputs.Facts where
  bcast_S_S2x4096x1024 := by decide
  reducesTo_S2x4096x1024_S_d0_1_2 := by decide
  h_S_ := by decide
  bcast_S_S4x64 := by decide
  reducesTo_S4x64_S_d0_1 := by decide
  bcast_S_S32x24 := by decide
  reducesTo_S32x24_S_d0_1 := by decide

theorem frame_p : Cert.quiescent_Kernel (hKernel := Cert.Kernel.Gen.facts) := fun m ρ _ =>
  Cert.Kernel.Gen.frame (F := Bits) m ρ

theorem frame_pi : Cert.quiescent_KernelIdeal (hKernelIdeal := Cert.KernelIdeal.Gen.facts) := fun m ρ _ =>
  Cert.KernelIdeal.Gen.frame (F := Ideal) m ρ

theorem frame_pi' : Cert.quiescent_KernelIdeal_pre_finite_inputs (hKernelIdeal := Cert.KernelIdeal.Gen.facts)
    (hPre_finite_inputs := pre_facts) := fun m ρ _ =>
  Cert.KernelIdeal.Gen.frame (F := Ideal) m ρ

theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri' : Cert.quiescent_ReferenceIdeal_pre_finite_inputs (hReferenceIdeal := Cert.ReferenceIdeal.Gen.facts)
    (hPre_finite_inputs := pre_facts) := fun m ρ _ => frame_ri m ρ trivial

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

end Cert.Proof.Claims

end
-- ==== Proof.KRun.lean ====
module

public import proofs.«01_k».proof.Proof.Gen.KernelIdeal.Frame

@[expose] public section

set_option maxRecDepth 16384

noncomputable section

/-! # The kernel's run, read

Every execution ends with the result array at what the second region leaves there and with the arguments unchanged. -/

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v57) = (dat1 (V7 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨(h c _ (mem_uc main_v57 (by decide))).trans (W8_arr m ρ c 6),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Val

end
-- ==== Proof.Flash.lean ====
module

public import proofs.«01_k».proof.Proof.Gen.KernelIdeal.Frame
public import Idealize.ShloMosaic.Lib.Pipeline.ReadBack
public import Idealize.ShloMosaic.Lib.Pipeline.ValueKit
public import Idealize.ShloMosaic.Lib.Pointwise

@[expose] public section

set_option maxRecDepth 16384

noncomputable section

/-! # One grid point of the attention as a recursion over key tiles

A point reads a block of queries `x0`, all keys `x1`, all value tiles `x2` and all bias tiles `x3` of its head, and runs over the
key tiles `0, 1, 2, …`. Here are the running maximum `M` and the running sums `A` after `n` tiles, and the loads that feed them. -/

namespace Cert.KernelIdeal.Val

open Idealize.ShloMosaic Idealize.ShloMosaic.TcCoe Idealize.SL.Sem Cert.KernelIdeal Cert.KernelIdeal.Gen

/-- Key tile `n`: rows `256 n … 256 n + 255`. -/
def kT (x1 : Vec Ideal S1x4096x128 .bf16) (n : ℕ) : Vec Ideal S1x256x128 .bf16 := fun j =>
  x1 (ix3 (0 : Fin 1) (⟨(256 * n + (j 1).val) % 4096, Nat.mod_lt _ (by decide)⟩ : Fin 4096) (⟨(j 2).val, (j 2).isLt⟩ : Fin 128))

/-- Value tile `n`. -/
def vT (x2 : Vec Ideal S1x1x16x128x256 .bf16) (n : ℕ) : Vec Ideal S1x1x1x128x256 .bf16 := fun j =>
  x2 (ix5 (0 : Fin 1) (0 : Fin 1) (⟨n % 16, Nat.mod_lt _ (by decide)⟩ : Fin 16) (⟨(j 3).val, (j 3).isLt⟩ : Fin 128) (⟨(j 4).val, (j 4).isLt⟩ : Fin 256))

/-- The bias tile of query half `b` (1 or 2) of query tile `qi` against key tile `n`. -/
def bT (x3 : Vec Ideal S7x1x256x256 .f32) (qi n b : ℕ) : Vec Ideal S1x1x256x256 .f32 := fun j =>
  x3 (ix4 (⟨min 6 (2 * qi + b - n), by omega⟩ : Fin 7) (0 : Fin 1) (⟨(j 2).val, (j 2).isLt⟩ : Fin 256) (⟨(j 3).val, (j 3).isLt⟩ : Fin 256))

section
variable (x0 : Vec Ideal S1x512x128 .bf16) (x1 : Vec Ideal S1x4096x128 .bf16) (x2 : Vec Ideal S1x1x16x128x256 .bf16) (x3 : Vec Ideal S7x1x256x256 .f32) (qi : ℕ)

/-- The scores of key tile `n`. -/
def Sc (n : ℕ) : Vec Ideal S1x256x1024 .f32 := k1_pay3 (k1_pay483 x0) (kT x1 n) (bT x3 qi n 1) (bT x3 qi n 2)

/-- The column maxima of key tile `n`'s scores. -/
def Mx (n : ℕ) : Vec Ideal S1x8x1024 .f32 := k1_pay5 (k1_pay4 (k1_pay483 x0) (kT x1 n) (bT x3 qi n 1) (bT x3 qi n 2))

/-- The running maximum after `n` key tiles. -/
def M : ℕ → Vec Ideal S8x1024 .f32
  | 0 => k1_pay481 (F := Ideal)
  | n + 1 => k1_pay11 (k1_pay9 (M n) (Mx x0 x1 x3 qi n))

/-- The running sums after `n` key tiles: 128 rows of weighted values, 16 of weights. -/
def A : ℕ → Vec Ideal S144x1024 .f32
  | 0 => k1_pay482 (F := Ideal)
  | n + 1 => k1_pay10 (k1_pay484 (F := Ideal)) (M x0 x1 x3 qi n) (Mx x0 x1 x3 qi n) (Sc x0 x1 x3 qi n) (A n) (vT x2 n)
end

/-! ## Loads -/

theorem ldQ (m : Memref sig .tc .vmem S1x512x128 .bf16) (h : m.IsWhole) (x0 : Vec Ideal S1x512x128 .bf16) (inb) :
    View.readAt (Elt Ideal) m.view (Rect.unit (s := S1x512x128) ![0, 0, 0] S1x512x128.size inb).toLoadRect (h.unread x0) = x0 := by
  refine (View.readAt_eq_ld _ _ _).trans ?_
  rw [h.read_unread]
  funext j
  refine congrArg x0 (funext fun a => Fin.ext ?_)
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

theorem ldK (m : Memref sig .tc .vmem S1x4096x128 .bf16) (h : m.IsWhole) (x1 : Vec Ideal S1x4096x128 .bf16) (n : ℕ) (hn : n < 16) (o : ℕ) (ho : o = 256 * n) (inb) :
    View.readAt (Elt Ideal) m.view (Rect.unit (s := S1x4096x128) ![0, o, 0] S1x256x128.size inb).toLoadRect (h.unread x1) = kT x1 n := by
  subst ho
  refine (View.readAt_eq_ld _ _ _).trans ?_
  rw [h.read_unread]
  funext j
  have h1 : (j 1).val < 256 := (j 1).isLt
  refine congrArg x1 (funext fun a => Fin.ext ?_)
  match a with
  | ⟨0, _⟩ =>
    have h0 : (j 0).val < 1 := (j 0).isLt
    show 0 + 1 * (j 0).val = 0
    omega
  | ⟨1, _⟩ =>
    show 256 * n + 1 * (j 1).val = (256 * n + (j 1).val) % 4096
    omega
  | ⟨2, _⟩ => exact (Nat.zero_add _).trans (Nat.one_mul _)

theorem ldV (m : Memref sig .tc .vmem S1x1x16x128x256 .bf16) (h : m.IsWhole) (x2 : Vec Ideal S1x1x16x128x256 .bf16) (n : ℕ) (hn : n < 16) (inb) :
    View.readAt (Elt Ideal) m.view (Rect.unit (s := S1x1x16x128x256) ![0, 0, n, 0, 0] S1x1x1x128x256.size inb).toLoadRect (h.unread x2) = vT x2 n := by
  refine (View.readAt_eq_ld _ _ _).trans ?_
  rw [h.read_unread]
  funext j
  refine congrArg x2 (funext fun a => Fin.ext ?_)
  have h0 : (j 0).val < 1 := (j 0).isLt
  have h1 : (j 1).val < 1 := (j 1).isLt
  have h2 : (j 2).val < 1 := (j 2).isLt
  match a with
  | ⟨0, _⟩ =>
    show 0 + 1 * (j 0).val = 0
    omega
  | ⟨1, _⟩ =>
    show 0 + 1 * (j 1).val = 0
    omega
  | ⟨2, _⟩ =>
    show n + 1 * (j 2).val = n % 16
    omega
  | ⟨3, _⟩ => exact (Nat.zero_add _).trans (Nat.one_mul _)
  | ⟨4, _⟩ => exact (Nat.zero_add _).trans (Nat.one_mul _)

theorem ldB (m : Memref sig .tc .vmem S7x1x256x256 .f32) (h : m.IsWhole) (x3 : Vec Ideal S7x1x256x256 .f32) (qi n b : ℕ) (off : Fin 4 → ℕ)
    (ho : off = ![min 6 (2 * qi + b - n), 0, 0, 0]) (inb) :
    View.readAt (Elt Ideal) m.view (Rect.unit (s := S7x1x256x256) off S1x1x256x256.size inb).toLoadRect (h.unread x3) = bT x3 qi n b := by
  subst ho
  refine (View.readAt_eq_ld _ _ _).trans ?_
  rw [h.read_unread]
  funext j
  refine congrArg x3 (funext fun a => Fin.ext ?_)
  have h0 : (j 0).val < 1 := (j 0).isLt
  have h1 : (j 1).val < 1 := (j 1).isLt
  match a with
  | ⟨0, _⟩ =>
    show min 6 (2 * qi + b - n) + 1 * (j 0).val = min 6 (2 * qi + b - n)
    omega
  | ⟨1, _⟩ =>
    show 0 + 1 * (j 1).val = 0
    omega
  | ⟨2, _⟩ => exact (Nat.zero_add _).trans (Nat.one_mul _)
  | ⟨3, _⟩ => exact (Nat.zero_add _).trans (Nat.one_mul _)

/-- The offset of a bias tile. -/
theorem offB (i : grid1.Coords) (n : Fin 16) (b : Fin 3) :
    k1_off23 i (BitVec.ofNat 32 n.val) (BitVec.ofNat 32 b.val) = ![min 6 (2 * (i 2).val + b.val - n.val), 0, 0, 0] := by
  have h : ∀ q : Fin 8, ∀ n : Fin 16, ∀ b : Fin 3,
      (Scalar.indexCast (Scalar.minsi (6#32) (Scalar.maxsi (0#32) (Scalar.addi (Scalar.subi (Scalar.muli (2#32) (BitVec.ofNat 32 q.val)) (BitVec.ofNat 32 n.val))
        (BitVec.ofNat 32 b.val))))).toNat = min 6 (2 * q.val + b.val - n.val) := by decide +kernel
  have h8 := h ⟨(i 2).val, (i 2).isLt⟩ n b
  unfold k1_off23
  exact congrArg (fun x => ![x, 0, 0, 0]) h8

/-! ## The stored values, from the loads -/

theorem scC {q q' : Vec Ideal S1x512x128 .bf16} {k k' : Vec Ideal S1x256x128 .bf16} {b1 b1' b2 b2' : Vec Ideal S1x1x256x256 .f32}
    (hq : q = q') (hk : k = k') (h1 : b1 = b1') (h2 : b2 = b2') :
    k1_pay3 (k1_pay483 q) k b1 b2 = k1_pay3 (k1_pay483 q') k' b1' b2' := by subst hq hk h1 h2; rfl

theorem mxC {q q' : Vec Ideal S1x512x128 .bf16} {k k' : Vec Ideal S1x256x128 .bf16} {b1 b1' b2 b2' : Vec Ideal S1x1x256x256 .f32}
    (hq : q = q') (hk : k = k') (h1 : b1 = b1') (h2 : b2 = b2') :
    k1_pay5 (k1_pay4 (k1_pay483 q) k b1 b2) = k1_pay5 (k1_pay4 (k1_pay483 q') k' b1' b2') := by subst hq hk h1 h2; rfl

theorem mC {m m' : Vec Ideal S8x1024 .f32} {mx mx' : Vec Ideal S1x8x1024 .f32} (hm : m = m') (hx : mx = mx') :
    k1_pay11 (k1_pay9 m mx) = k1_pay11 (k1_pay9 m' mx') := by subst hm hx; rfl

theorem aC {m m' : Vec Ideal S8x1024 .f32} {mx mx' : Vec Ideal S1x8x1024 .f32} {s s' : Vec Ideal S1x256x1024 .f32} {a a' : Vec Ideal S144x1024 .f32}
    {v v' : Vec Ideal S1x1x1x128x256 .bf16} (hm : m = m') (hx : mx = mx') (hs : s = s') (ha : a = a') (hv : v = v') :
    k1_pay10 k1_pay484 m mx s a v = k1_pay10 k1_pay484 m' mx' s' a' v' := by subst hm hx hs ha hv; rfl

end Cert.KernelIdeal.Val

end
-- ==== Proof.Softmax.lean ====
module

public import Idealize.ShloMosaic.Lib.Pointwise

@[expose] public section

noncomputable section

/-! # The running softmax on one column of scores

A column's scores arrive in tiles. A score is a real number, or `⊥` where the key lies after the query. The running
maximum `m`, and each row's accumulator, are kept as the kernel keeps them; this file says what they are after every
tile: the maximum is a real `M`, and the accumulator of a row of values `v` is `2 ^ (-M) · ∑ v · w` over the scores seen,
`w = 2 ^ t` for a real score `t` and `0` for `⊥`. -/

namespace Cert.Softmax

open Idealize.ShloMosaic

/-- A masked score: the real `t` where `p`, else `⊥`. -/
def sc (p : Prop) [Decidable p] (t : ℝ) : EReal := if p then (t : EReal) else ⊥

/-- A masked weight: `2 ^ t` where `p`, else `0`. -/
def wt (p : Prop) [Decidable p] (t : ℝ) : ℝ := if p then (2 : ℝ) ^ t else 0

theorem wt_nonneg (p : Prop) [Decidable p] (t : ℝ) : 0 ≤ wt p t := by
  unfold wt; split
  · positivity
  · exact le_rfl

theorem exp2_real (r : ℝ) : Ideal.exp2 (r : EReal) = (((2 : ℝ) ^ r : ℝ) : EReal) := rfl

theorem exp2_sc (p : Prop) [Decidable p] (t M : ℝ) :
    Ideal.exp2 (sc p t - (M : EReal)) = ((wt p t * (2 : ℝ) ^ (-M) : ℝ) : EReal) := by
  unfold sc wt
  split
  · rw [← EReal.coe_sub, exp2_real, sub_eq_add_neg, Real.rpow_add (by norm_num)]
  · rw [EReal.bot_sub, Ideal.exp2_bot, zero_mul, EReal.coe_zero]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : ((max a b : ℝ) : EReal) = max (a : EReal) (b : EReal) :=
  EReal.coe_strictMono.monotone.map_max

variable {R : ℕ}

/-- The greatest of a tile's masked scores is `⊥` with nothing allowed, or the score of an allowed row. -/
theorem fold_max_sc (p : Fin R → Prop) [∀ r, Decidable (p r)] (t : Fin R → ℝ) :
    ((Finset.univ.fold max (⊥ : EReal) fun r => sc (p r) (t r)) = ⊥ ∧ ∀ r, ¬ p r)
      ∨ ∃ r, p r ∧ (Finset.univ.fold max (⊥ : EReal) fun r => sc (p r) (t r)) = (t r : EReal) := by
  set m := Finset.univ.fold max (⊥ : EReal) fun r => sc (p r) (t r) with hm
  by_cases h : ∃ r, p r
  · right
    obtain ⟨r₀, hr₀⟩ := h
    have hge : (t r₀ : EReal) ≤ m := by
      rw [hm, Finset.le_fold_max]
      right; exact ⟨r₀, Finset.mem_univ _, by simp [sc, hr₀]⟩
    have hpos : ⊥ < m := lt_of_lt_of_le (EReal.bot_lt_coe _) hge
    have := (Finset.le_fold_max (s := Finset.univ) (b := (⊥ : EReal)) (f := fun r => sc (p r) (t r)) m).1 (hm ▸ le_rfl)
    rcases this with h0 | ⟨r, -, hr⟩
    · exact absurd h0 (not_le.2 hpos)
    · have hle : sc (p r) (t r) ≤ m := by
        rw [hm, Finset.le_fold_max]; exact Or.inr ⟨r, Finset.mem_univ _, le_rfl⟩
      have he : m = sc (p r) (t r) := le_antisymm hr hle
      by_cases hp : p r
      · exact ⟨r, hp, by rw [he]; simp [sc, hp]⟩
      · rw [he] at hpos; simp [sc, hp] at hpos
  · left
    have hn : ∀ r, ¬ p r := fun r hr => h ⟨r, hr⟩
    refine ⟨?_, hn⟩
    rw [eq_bot_iff, hm, Finset.fold_max_le]
    exact ⟨le_rfl, fun r _ => by simp [sc, hn r]⟩

/-- The state after some tiles: the maximum is a real `M`, the weights seen sum to `S ≥ 2 ^ M`, and row `i`'s accumulator
    is `2 ^ (-M) · A i`. -/
def Inv {ι : Type} (m : EReal) (a : ι → EReal) (S : ℝ) (A : ι → ℝ) : Prop :=
  ∃ M : ℝ, m = (M : EReal) ∧ (2 : ℝ) ^ M ≤ S ∧ ∀ i, a i = (((2 : ℝ) ^ (-M) * A i : ℝ) : EReal)

variable {ι : Type} (p : Fin R → Prop) [∀ r, Decidable (p r)] (t : Fin R → ℝ) (v : ι → Fin R → ℝ)

/-- A tile's contribution to a row, at the new maximum. -/
theorem tile_sum (M : ℝ) (i : ι) :
    (∑ r, (v i r : EReal) * Ideal.exp2 (sc (p r) (t r) - (M : EReal)))
      = (((2 : ℝ) ^ (-M) * ∑ r, v i r * wt (p r) (t r) : ℝ) : EReal) := by
  rw [Finset.mul_sum, ← coe_sum]
  refine Finset.sum_congr rfl fun r _ => ?_
  rw [exp2_sc, ← EReal.coe_mul]
  congr 1; ring

/-- The first tile, from the start state `⊥`, `0`: some row of it is allowed. -/
theorem inv_first (h : ∃ r, p r) (mx : EReal) (hmx : mx = Finset.univ.fold max (⊥ : EReal) fun r => sc (p r) (t r)) :
    Inv (max ⊥ mx)
      (fun i => Ideal.exp2 (⊥ - max ⊥ mx) * 0 + ∑ r, (v i r : EReal) * Ideal.exp2 (sc (p r) (t r) - max ⊥ mx))
      (∑ r, wt (p r) (t r)) (fun i => ∑ r, v i r * wt (p r) (t r)) := by
  subst hmx
  rcases fold_max_sc p t with ⟨-, hn⟩ | ⟨r, hr, he⟩
  · obtain ⟨r, hr⟩ := h; exact absurd hr (hn r)
  · rw [he]
    refine ⟨t r, by simp, ?_, fun i => ?_⟩
    · calc (2 : ℝ) ^ t r = wt (p r) (t r) := by simp [wt, hr]
        _ ≤ _ := Finset.single_le_sum (f := fun r => wt (p r) (t r)) (fun r _ => wt_nonneg _ _) (Finset.mem_univ r)
    · simp only [max_eq_right bot_le, mul_zero, zero_add, tile_sum]

/-- A further tile. -/
theorem inv_step {m : EReal} {a : ι → EReal} {S : ℝ} {A : ι → ℝ} (H : Inv m a S A) (mx : EReal)
    (hmx : mx = Finset.univ.fold max (⊥ : EReal) fun r => sc (p r) (t r)) :
    Inv (max m mx)
      (fun i => Ideal.exp2 (m - max m mx) * a i + ∑ r, (v i r : EReal) * Ideal.exp2 (sc (p r) (t r) - max m mx))
      (S + ∑ r, wt (p r) (t r)) (fun i => A i + ∑ r, v i r * wt (p r) (t r)) := by
  subst hmx
  obtain ⟨M, rfl, hS, ha⟩ := H
  have key : ∀ M' : ℝ, ∀ i, Ideal.exp2 ((M : EReal) - (M' : EReal)) * a i
      + ∑ r, (v i r : EReal) * Ideal.exp2 (sc (p r) (t r) - (M' : EReal))
      = (((2 : ℝ) ^ (-M') * (A i + ∑ r, v i r * wt (p r) (t r)) : ℝ) : EReal) := fun M' i => by
    rw [tile_sum, ha, ← EReal.coe_sub, exp2_real, ← EReal.coe_mul, ← EReal.coe_add]
    congr 1
    rw [← mul_assoc, ← Real.rpow_add (by norm_num), mul_add]
    congr 3; ring
  have hW : 0 ≤ ∑ r, wt (p r) (t r) := Finset.sum_nonneg fun r _ => wt_nonneg _ _
  rcases fold_max_sc p t with ⟨he, -⟩ | ⟨r, hr, he⟩
  · rw [he, max_eq_left bot_le]
    exact ⟨M, rfl, by linarith, fun i => key M i⟩
  · rw [he]
    have hmax : max (M : EReal) (t r : EReal) = ((max M (t r) : ℝ) : EReal) := (coe_max _ _).symm
    rw [hmax]
    refine ⟨max M (t r), rfl, ?_, fun i => key _ i⟩
    have h1 : (2 : ℝ) ^ t r ≤ ∑ r, wt (p r) (t r) := by
      calc (2 : ℝ) ^ t r = wt (p r) (t r) := by simp [wt, hr]
        _ ≤ _ := Finset.single_le_sum (f := fun r => wt (p r) (t r)) (fun r _ => wt_nonneg _ _) (Finset.mem_univ r)
    have hS0 : 0 ≤ S := le_trans (by positivity) hS
    rcases max_cases M (t r) with ⟨e, -⟩ | ⟨e, -⟩ <;> rw [e] <;> linarith

/-- After the last tile a row over the row of ones is the weighted mean. -/
theorem inv_div {m : EReal} {a : ι → EReal} {S : ℝ} {A : ι → ℝ} (H : Inv m a S A) (i j : ι) (hj : A j = S) (ε : ℝ)
    (hε : ε ≤ 1) :
    Ideal.div (a i) (max (a j) (ε : EReal)) = ((A i / S : ℝ) : EReal) := by
  obtain ⟨M, -, hS, ha⟩ := H
  have hp : (0 : ℝ) < (2 : ℝ) ^ (-M) := by positivity
  have h1 : 1 ≤ (2 : ℝ) ^ (-M) * A j := by
    rw [hj]
    calc (1 : ℝ) = (2 : ℝ) ^ (-M) * (2 : ℝ) ^ M := by rw [← Real.rpow_add (by norm_num)]; simp
      _ ≤ _ := mul_le_mul_of_nonneg_left hS hp.le
  rw [ha, ha, ← coe_max, max_eq_left (hε.trans h1), Ideal.div_coe (by linarith), ← EReal.coe_mul]
  congr 1
  rw [hj] at h1 ⊢
  have hS0 : S ≠ 0 := by rintro rfl; simp at h1; linarith
  field_simp

end Cert.Softmax

end
-- ==== Proof.Bucket.lean ====
module

public import Idealize.ShloMosaic.Lib.Pointwise
public import Idealize.ShloMosaic.Lib.WordCmp

@[expose] public section

noncomputable section

/-! # The relative-position bucket of a distance, and the literals of both programs -/

namespace Cert.Bucket

open Idealize.ShloMosaic Idealize.ShloMosaic.WordCmp

/-! ## Literals -/

theorem lit_top : Ideal.ofBits .f32 0x7F800000#32 = ⊤ := by simp [Ideal.ofBits, Ideal.ieee]
theorem lit_bot : Ideal.ofBits .f32 0xFF800000#32 = ⊥ := by simp [Ideal.ofBits, Ideal.ieee]

theorem lit_eighth : Ideal.ofBits .f32 0x3E000000#32 = ((1 / 8 : ℝ) : EReal) := by
  simp [Ideal.ofBits, Ideal.ieee]
  norm_num [← EReal.coe_mul]

theorem lit_two : Ideal.ofBits .f32 0x40000000#32 = ((2 : ℝ) : EReal) := by
  simp [Ideal.ofBits, Ideal.ieee]
  norm_num [← EReal.coe_mul]

theorem lit_sixteen : Ideal.ofBits .f32 0x41800000#32 = ((16 : ℝ) : EReal) := by
  simp [Ideal.ofBits, Ideal.ieee]
  norm_num [← EReal.coe_mul]

/-- The literal the programs divide the logarithm by, `log 64` in single precision. -/
def logLit : ℝ := 8721810 / 2097152

theorem lit_log : Ideal.ofBits .f32 0x40851592#32 = (logLit : EReal) := by
  simp [Ideal.ofBits, Ideal.ieee, logLit]
  norm_num [← EReal.coe_mul]

/-- The least denominator. -/
def tiny : ℝ := 10633824 * (2 : ℝ) ^ (-123 : ℤ)

theorem lit_tiny : Ideal.ofBits .f32 0x0DA24260#32 = (tiny : EReal) := by
  simp [Ideal.ofBits, Ideal.ieee, tiny]

theorem tiny_le_one : tiny ≤ 1 := by unfold tiny; norm_num

/-- The additive part of the differential weight. -/
def lamInit : ℝ := 13421773 * (2 : ℝ) ^ (-26 : ℤ)

theorem lit_lamInit : Ideal.ofBits .f32 0x3E4CCCCD#32 = (lamInit : EReal) := by
  simp [Ideal.ofBits, Ideal.ieee, lamInit]

/-! ## The bucket -/

/-- The bucket word both programs compute from a distance word. -/
def bk (w : BitVec 32) : BitVec 32 :=
  Scalar.select (IntOp.cmpi CmpIPredicate.slt (IntOp.maxsi w 0#32) 16#32) (IntOp.maxsi w 0#32)
    (IntOp.minsi
      (IntOp.addi (16#32)
        (FloatOps.fptosi (F := Ideal) (φ := .f32) 32
          (Ideal.div
              (Ideal.log
                (Ideal.div (FloatOps.sitofp (F := Ideal) FTy.f32 (IntOp.maxsi (IntOp.maxsi w 0#32) 1#32))
                  (Ideal.ofBits FTy.f32 0x41800000#32)))
              (Ideal.ofBits FTy.f32 0x40851592#32) *
            Ideal.ofBits FTy.f32 0x41800000#32)))
      31#32)

/-- The row of the table that the gather reads at a distance word: the bucket, wrapped where negative, clamped. -/
def row (w : BitVec 32) : Fin 32 :=
  ⟨min (Scalar.select (IntOp.cmpi CmpIPredicate.slt (bk w) 0#32) (IntOp.addi (bk w) 32#32) (bk w)).toInt.toNat 31,
    by omega⟩

theorem toInt_small {d : ℕ} (h : d < 2 ^ 31) : (BitVec.ofNat 32 d).toInt = (d : ℤ) := toInt_ofNat_of_lt h

theorem maxsi_zero {d : ℕ} (h : d < 2 ^ 31) : IntOp.maxsi (BitVec.ofNat 32 d) 0#32 = BitVec.ofNat 32 d := by
  unfold IntOp.maxsi
  by_cases hd : d = 0
  · subst hd; rfl
  · rw [if_pos]
    rw [BitVec.slt_eq_decide, toInt_small h]
    simp; omega

theorem maxsi_one {d : ℕ} (h : d < 2 ^ 31) (h1 : 2 ≤ d) : IntOp.maxsi (BitVec.ofNat 32 d) 1#32 = BitVec.ofNat 32 d := by
  unfold IntOp.maxsi
  rw [if_pos]
  rw [BitVec.slt_eq_decide, toInt_small h]
  simp; omega

theorem log_two_ge : (13 / 20 : ℝ) ≤ Real.log 2 := by
  have h1 : Real.log ((160 / 147 : ℝ) ^ (8 : ℕ)) ≤ Real.log 2 := Real.log_le_log (by positivity) (by norm_num)
  have h2 : 1 - (160 / 147 : ℝ)⁻¹ ≤ Real.log (160 / 147) := Real.one_sub_inv_le_log_of_pos (by norm_num)
  rw [Real.log_pow] at h1
  norm_num at h1 h2
  linarith

/-- From distance 1025 on, up to 4095, every distance is in the last bucket. -/
theorem bk_far {d : ℕ} (h0 : 1025 ≤ d) (h1 : d ≤ 4095) : bk (BitVec.ofNat 32 d) = 31#32 := by
  have hd : d < 2 ^ 31 := by omega
  unfold bk
  rw [maxsi_zero hd, maxsi_one hd (by omega), lit_sixteen, lit_log]
  have hsi : FloatOps.sitofp (F := Ideal) FTy.f32 (BitVec.ofNat 32 d) = ((d : ℝ) : EReal) := by
    show (((BitVec.ofNat 32 d).toInt : ℝ) : EReal) = _
    rw [toInt_small hd]; norm_cast
  have hdpos : (0 : ℝ) < d := by exact_mod_cast (by omega : 0 < d)
  have hlt : (0 : ℝ) < d * (1 / 16) := by positivity
  have hne : logLit ≠ 0 := by unfold logLit; norm_num
  have h16 : (16 : ℝ) ≠ 0 := by norm_num
  rw [hsi, Ideal.div_coe h16, ← EReal.coe_mul, Ideal.log_coe, if_neg (not_le.2 hlt),
    Ideal.div_coe hne, ← EReal.coe_mul, ← EReal.coe_mul]
  set x : ℝ := Real.log (d * (1 / 16)) * (1 / logLit) * 16 with hx
  have hlog : 6 * Real.log 2 ≤ Real.log (d * (1 / 16)) := by
    rw [show (6 : ℝ) * Real.log 2 = Real.log ((2 : ℝ) ^ (6 : ℕ)) by rw [Real.log_pow]; norm_num]
    apply Real.log_le_log (by norm_num)
    have : (1025 : ℝ) ≤ d := by exact_mod_cast h0
    norm_num; linarith
  have hlog2 : Real.log (d * (1 / 16)) ≤ 256 := by
    have h := Real.log_le_sub_one_of_pos hlt
    have : (d : ℝ) ≤ 4095 := by exact_mod_cast h1
    linarith
  have hx15 : (15 : ℝ) ≤ x := by
    have := log_two_ge
    rw [hx]; unfold logLit; norm_num; linarith
  have hxle : x ≤ 1000 := by
    rw [hx]; unfold logLit; norm_num; linarith
  have hfl : FloatOps.fptosi (F := Ideal) (φ := .f32) 32 (x : EReal) = BitVec.ofInt 32 ⌊x⌋ := by
    show Ideal.fptosi 32 (x : EReal) = _
    unfold Ideal.fptosi
    rw [Ideal.toIntClamped_coe, if_pos (by linarith)]
    have a1 : (15 : ℤ) ≤ ⌊x⌋ := Int.le_floor.2 (by exact_mod_cast hx15)
    have a2 : ⌊x⌋ ≤ (1000 : ℤ) := by
      have := Int.floor_le x
      have : (⌊x⌋ : ℝ) ≤ 1000 := by linarith
      exact_mod_cast this
    congr 1
    rw [min_eq_right (by norm_num; omega), max_eq_right (by norm_num; omega)]
  rw [hfl]
  obtain ⟨n, hn⟩ : ∃ n : ℕ, ⌊x⌋ = (n : ℤ) := ⟨⌊x⌋.toNat, by
    have : (0 : ℤ) ≤ ⌊x⌋ := Int.floor_nonneg.2 (by linarith)
    omega⟩
  have a1 : 15 ≤ n := by
    have : (15 : ℤ) ≤ ⌊x⌋ := Int.le_floor.2 (by exact_mod_cast hx15)
    omega
  have a2 : n ≤ 1000 := by
    have := Int.floor_le x
    have h3 : (⌊x⌋ : ℝ) ≤ 1000 := by linarith
    have h4 : ⌊x⌋ ≤ (1000 : ℤ) := by exact_mod_cast h3
    omega
  rw [hn, BitVec.ofInt_natCast]
  have hc : IntOp.cmpi CmpIPredicate.slt (BitVec.ofNat 32 d) 16#32 = 0#1 := by
    rw [cmpi_slt_eq, toInt_small hd]
    have h3 : ¬ ((d : ℤ) < (16#32 : BitVec 32).toInt) := by
      have : (16#32 : BitVec 32).toInt = 16 := by decide
      omega
    rw [decide_eq_false h3]
    rfl
  rw [hc]
  show IntOp.minsi (IntOp.addi 16#32 (BitVec.ofNat 32 n)) 31#32 = 31#32
  have hadd : IntOp.addi 16#32 (BitVec.ofNat 32 n) = BitVec.ofNat 32 (16 + n) := by
    unfold IntOp.addi; rw [← BitVec.ofNat_add]
  rw [hadd]
  unfold IntOp.minsi
  rw [if_neg]
  rw [BitVec.slt_eq_decide, toInt_small (by omega)]
  simp; omega

theorem row_far {d : ℕ} (h0 : 1025 ≤ d) (h1 : d ≤ 4095) : row (BitVec.ofNat 32 d) = 31 := by
  unfold row
  rw [Fin.ext_iff]
  simp only [bk_far h0 h1]
  decide

theorem sub_word {i j : ℕ} (h : j ≤ i) : IntOp.subi (BitVec.ofNat 32 i) (BitVec.ofNat 32 j) = BitVec.ofNat 32 (i - j) := by
  unfold IntOp.subi
  refine (BitVec.eq_sub_iff_add_eq.2 ?_).symm
  rw [← BitVec.ofNat_add, Nat.sub_add_cancel h]

theorem sge_word {i j : ℕ} (hi : i < 4096) (hj : j < 4096) :
    IntOp.cmpi CmpIPredicate.sge (IntOp.subi (BitVec.ofNat 32 i) (BitVec.ofNat 32 j)) 0#32 = BitVec.ofBool (decide (j ≤ i)) := by
  by_cases h : j ≤ i
  · rw [sub_word h, cmpi_sge_eq, toInt_small (show i - j < 2 ^ 31 by omega)]
    have h2 : (0#32 : BitVec 32).toInt ≤ ((i - j : ℕ) : ℤ) := by simp
    rw [decide_eq_true h2, decide_eq_true h]
  · rw [cmpi_sge_eq]
    congr 1
    have hs : (IntOp.subi (BitVec.ofNat 32 i) (BitVec.ofNat 32 j)).toInt = (i : ℤ) - j := by
      unfold IntOp.subi
      rw [BitVec.toInt_sub, toInt_small (by omega), toInt_small (by omega)]
      rw [Int.bmod_eq_of_le] <;> omega
    rw [hs]
    simp

end Cert.Bucket

end
-- ==== Proof.Lane.lean ====
module

public import proofs.«01_k».proof.Proof.Flash
public import proofs.«01_k».proof.Proof.Softmax
public import proofs.«01_k».proof.Proof.Bucket

@[expose] public section

set_option maxRecDepth 16384

noncomputable section

/-! # One lane of the attention

A lane is one query of the block under one of the two score maps. Given real blocks, this file says what the lane's running
maximum and running sums are after every key tile: the weights `2 ^ t` of the keys at or before the query, and their weighted
values, up to the common factor of the running maximum. -/

namespace Cert.KernelIdeal.Val

open Idealize.ShloMosaic Idealize.ShloMosaic.TcCoe Idealize.SL.Sem Cert.KernelIdeal Cert.KernelIdeal.Gen Cert.Softmax

theorem pay483_at (x0 : Vec Ideal S1x512x128 .bf16) (x : Fin 128) (l : Fin 1024) :
    k1_pay483 x0 (ix2 x l) = (if h : l.val < 512 then if x.val < 64 then x0 (ix3 0 ⟨l.val, h⟩ x) else 0
      else if x.val < 64 then 0 else x0 (ix3 0 ⟨l.val - 512, by omega⟩ x) : EReal) := by
  pointwise [k1_pay483]
  by_cases h : l.val < 512
  · simp only [h, dif_pos]
    by_cases h' : x.val < 64 <;> simp [h']
  · simp only [h, dif_neg, not_false_eq_true]
    by_cases h' : x.val < 64
    · simp [h']
    · simp only [h', dif_neg, if_neg, not_false_eq_true]
      exact congrArg (fun e => x0 (ix3 0 _ e)) (Fin.ext (by show 64 + (x.val - 64) = x.val; omega))

theorem pay484_at (i : Fin 16) (x : Fin 256) : k1_pay484 (F := Ideal) (ix2 i x) = (1 : EReal) := by
  pointwise [k1_pay484]

theorem pay481_at (i : Fin 8) (x : Fin 1024) : k1_pay481 (F := Ideal) (ix2 i x) = (⊥ : EReal) := by
  pointwise [k1_pay481]
  rfl

theorem pay482_at (i : Fin 144) (x : Fin 1024) : k1_pay482 (F := Ideal) (ix2 i x) = (0 : EReal) := by
  pointwise [k1_pay482]

theorem pay3_at (q : FVec Ideal S128x1024 .bf16) (k b1 b2) (r : Fin 256) (l : Fin 1024) :
    k1_pay3 q k b1 b2 (ix3 0 r l) = k1_pay2 q k b1 b2 (ix2 r l) := by
  pointwise [k1_pay3]

theorem pay5_at (x : FVec Ideal S8x1024 .f32) (i : Fin 8) (l : Fin 1024) : k1_pay5 x (ix3 0 i l) = x (ix2 i l) := by
  pointwise [k1_pay5]

theorem pay11_at (x : FVec Ideal S8x1024 .f32) (i : Fin 8) (l : Fin 1024) : k1_pay11 x (ix2 i l) = x (ix2 i l) := by
  pointwise [k1_pay11]

theorem pay9_at (x : Vec Ideal S8x1024 .f32) (y) (i : Fin 8) (l : Fin 1024) :
    k1_pay9 x y (ix2 i l) = (max (x (ix2 i l)) (y (ix3 0 i l)) : EReal) := by
  pointwise [k1_pay9]

theorem pay2_at (q : FVec Ideal S128x1024 .bf16) (k b1 b2) (r : Fin 256) (l : Fin 1024) :
    k1_pay2 q k b1 b2 (ix2 r l) = ((∑ x : Fin 128, k (ix3 0 r x) * q (ix2 x l))
      + (if l.val % 512 < 256 then b1 (ix4 0 0 r ⟨l.val % 256, by omega⟩) else b2 (ix4 0 0 r ⟨l.val % 256, by omega⟩)) : EReal) := by
  rcases (by omega : (l.val < 512 ∧ l.val < 256 ∧ l.val % 512 < 256 ∧ l.val = l.val % 256)
    ∨ (l.val < 512 ∧ ¬ l.val < 256 ∧ ¬ l.val % 512 < 256 ∧ l.val - 256 = l.val % 256)
    ∨ (¬ l.val < 512 ∧ l.val - 512 < 256 ∧ l.val % 512 < 256 ∧ l.val - 512 = l.val % 256)
    ∨ (¬ l.val < 512 ∧ ¬ l.val - 512 < 256 ∧ ¬ l.val % 512 < 256 ∧ l.val - 512 - 256 = l.val % 256)) with
    ⟨h, h', h'', e⟩ | ⟨h, h', h'', e⟩ | ⟨h, h', h'', e⟩ | ⟨h, h', h'', e⟩
  · rw [if_pos h'']
    pointwise [k1_pay2]
    simp only [h, h', dif_pos]
    exact congrArg (fun e => _ + b1 (ix4 0 0 r e)) (Fin.ext e)
  · rw [if_neg h'']
    pointwise [k1_pay2]
    simp only [h, h', dif_pos, dif_neg, not_false_eq_true]
    exact congrArg (fun e => _ + b2 (ix4 0 0 r e)) (Fin.ext e)
  · rw [if_pos h'']
    pointwise [k1_pay2]
    simp only [h, h', dif_pos, dif_neg, not_false_eq_true]
    exact congr (congrArg (fun x y : EReal => x + y) (Finset.sum_congr rfl fun x _ => congrArg (fun e => _ * q (ix2 x e)) (Fin.ext (by show 512 + (l.val - 512) = l.val; omega))))
      (congrArg (fun e => b1 (ix4 0 0 r e)) (Fin.ext e))
  · rw [if_neg h'']
    pointwise [k1_pay2]
    simp only [h, h', dif_neg, not_false_eq_true]
    exact congr (congrArg (fun x y : EReal => x + y) (Finset.sum_congr rfl fun x _ => congrArg (fun e => _ * q (ix2 x e)) (Fin.ext (by show 512 + (l.val - 512) = l.val; omega))))
      (congrArg (fun e => b2 (ix4 0 0 r e)) (Fin.ext e))

theorem pay4_at (q : FVec Ideal S128x1024 .bf16) (k b1 b2) (i : Fin 8) (l : Fin 1024) :
    k1_pay4 q k b1 b2 (ix2 i l)
      = Finset.univ.fold max (⊥ : EReal) fun r : Fin 256 => (k1_pay2 q k b1 b2 (ix2 r l) : EReal) := by
  have hb : Ideal.ofBits .f32 0xFF800000#32 = ⊥ := Cert.Bucket.lit_bot
  pointwise [k1_pay4]
  first | rw [hb] | skip

theorem pay10_at (o : FVec Ideal S16x256 .bf16) (m : Vec Ideal S8x1024 .f32) (mx : Vec Ideal S1x8x1024 .f32)
    (s : Vec Ideal S1x256x1024 .f32) (a : Vec Ideal S144x1024 .f32) (v : Vec Ideal S1x1x1x128x256 .bf16) (i : Fin 144) (l : Fin 1024) :
    k1_pay10 o m mx s a v (ix2 i l)
      = (Ideal.exp2 (m (ix2 0 l) - max (m (ix2 0 l)) (mx (ix3 0 0 l))) * a (ix2 i l)
        + ∑ r : Fin 256, (if h : i.val < 128 then v (ix5 0 0 0 ⟨i.val, h⟩ r) else o (ix2 ⟨i.val - 128, by omega⟩ r))
            * Ideal.exp2 (s (ix3 0 r l) - max (m (ix2 0 l)) (mx (ix3 0 0 l))) : EReal) := by
  pointwise [k1_pay10, k1_pay9]
  rfl

/-- A real sum and a masked bias make a masked score. -/
theorem add_sc (p : Prop) [Decidable p] (a t : ℝ) : (a : EReal) + sc p t = sc p (a + t) := by
  unfold sc; split
  · rw [EReal.coe_add]
  · rw [EReal.add_bot]

section
variable (q : Fin 512 → Fin 128 → ℝ) (k v : ℕ → Fin 128 → ℝ) (β : ℕ → ℝ) (qi : ℕ)

/-- The queries of a lane, zero outside the half of the width its map uses. -/
def Qm (l : Fin 1024) (x : Fin 128) : ℝ :=
  if h : l.val < 512 then if x.val < 64 then q ⟨l.val, h⟩ x else 0
    else if x.val < 64 then 0 else q ⟨l.val - 512, by omega⟩ x

/-- The tile of biases for key tile `n` and half `b` of a query tile. -/
def bI (qi b n : ℕ) : Fin 7 := ⟨min 6 (2 * qi + b - n), by omega⟩

/-- The position of a lane's query. -/
def pos (l : Fin 1024) : ℕ := 512 * qi + l.val % 512

/-- A lane's score of key `n`, before the mask, in powers of two. -/
def tt (l : Fin 1024) (n : ℕ) : ℝ := (∑ x, k n x * Qm q l x) + β (pos qi l - n)

/-- A lane's weight of key `n`. -/
def ww (l : Fin 1024) (n : ℕ) : ℝ := wt (n ≤ pos qi l) (tt q k β qi l n)

/-- Row `i` of the values with the rows of ones below them. -/
def vv (i : Fin 144) (n : ℕ) : ℝ := if h : i.val < 128 then v n ⟨i.val, h⟩ else 1

variable {x0 : Vec Ideal S1x512x128 .bf16} {x1 : Vec Ideal S1x4096x128 .bf16} {x2 : Vec Ideal S1x1x16x128x256 .bf16}
  {x3 : Vec Ideal S7x1x256x256 .f32}
  (hq : ∀ r x, x0 (ix3 0 r x) = ((q r x : ℝ) : EReal))
  (hk : ∀ (n : Fin 4096) x, x1 (ix3 0 n x) = ((k n.val x : ℝ) : EReal))
  (hv : ∀ (n : Fin 16) (d : Fin 128) (r : Fin 256), x2 (ix5 0 0 n d r) = ((v (256 * n.val + r.val) d : ℝ) : EReal))
  (hb : ∀ n, n ≤ 2 * qi + 1 → ∀ b, b = 1 ∨ b = 2 → ∀ r col : Fin 256,
    x3 (ix4 (bI qi b n) 0 r col)
      = sc (256 * n + r.val ≤ 256 * (2 * qi + b - 1) + col.val) (β (256 * (2 * qi + b - 1) + col.val - (256 * n + r.val))))
  (hqi : qi < 8)

include hq hk hb hqi in
theorem Sc_at (n : ℕ) (hn : n ≤ 2 * qi + 1) (r : Fin 256) (l : Fin 1024) :
    k1_pay2 (k1_pay483 x0) (kT x1 n) (bT x3 qi n 1) (bT x3 qi n 2) (ix2 r l)
      = sc (256 * n + r.val ≤ pos qi l) (tt q k β qi l (256 * n + r.val)) := by
  rw [pay2_at]
  have h1 : (∑ x : Fin 128, (kT x1 n (ix3 0 r x) : EReal) * k1_pay483 x0 (ix2 x l))
      = ((∑ x, k (256 * n + r.val) x * Qm q l x : ℝ) : EReal) := by
    rw [← coe_sum]
    refine Finset.sum_congr rfl fun x _ => ?_
    rw [EReal.coe_mul]
    congr 1
    · refine (hk _ x).trans ?_
      show ((k ((256 * n + r.val) % 4096) x : ℝ) : EReal) = _
      rw [Nat.mod_eq_of_lt (by omega)]
    · rw [pay483_at]
      unfold Qm
      split <;> split <;> first | rfl | exact hq _ _
  rw [h1]
  have h2 : (if l.val % 512 < 256 then bT x3 qi n 1 (ix4 0 0 r ⟨l.val % 256, by omega⟩)
      else bT x3 qi n 2 (ix4 0 0 r ⟨l.val % 256, by omega⟩) : EReal)
      = sc (256 * n + r.val ≤ pos qi l) (β (pos qi l - (256 * n + r.val))) := by
    split
    · refine (hb n hn 1 (Or.inl rfl) r ⟨l.val % 256, by omega⟩).trans ?_
      have e : 256 * (2 * qi + 1 - 1) + l.val % 256 = pos qi l := by unfold pos; omega
      show sc (256 * n + r.val ≤ 256 * (2 * qi + 1 - 1) + l.val % 256) (β (256 * (2 * qi + 1 - 1) + l.val % 256 - (256 * n + r.val))) = _
      simp only [e]
    · refine (hb n hn 2 (Or.inr rfl) r ⟨l.val % 256, by omega⟩).trans ?_
      have e : 256 * (2 * qi + 2 - 1) + l.val % 256 = pos qi l := by unfold pos; omega
      show sc (256 * n + r.val ≤ 256 * (2 * qi + 2 - 1) + l.val % 256) (β (256 * (2 * qi + 2 - 1) + l.val % 256 - (256 * n + r.val))) = _
      simp only [e]
  rw [h2, add_sc]
  rfl

include hq hk hb hqi in
theorem Mx_at (n : ℕ) (hn : n ≤ 2 * qi + 1) (l : Fin 1024) :
    (Mx x0 x1 x3 qi n (ix3 0 0 l) : EReal) = Finset.univ.fold max (⊥ : EReal) fun r : Fin 256 =>
      sc (256 * n + r.val ≤ pos qi l) (tt q k β qi l (256 * n + r.val)) := by
  unfold Mx
  rw [pay5_at, pay4_at]
  exact Finset.fold_congr fun r _ => Sc_at q k β qi hq hk hb hqi n hn r l

theorem M_succ (n : ℕ) (l : Fin 1024) :
    (M x0 x1 x3 qi (n + 1) (ix2 0 l) : EReal) = max (M x0 x1 x3 qi n (ix2 0 l)) (Mx x0 x1 x3 qi n (ix3 0 0 l)) := by
  show k1_pay11 (k1_pay9 (M x0 x1 x3 qi n) (Mx x0 x1 x3 qi n)) (ix2 0 l) = _
  rw [pay11_at, pay9_at]

include hq hk hv hb hqi in
theorem A_succ (n : ℕ) (hn : n ≤ 2 * qi + 1) (i : Fin 144) (l : Fin 1024) :
    (A x0 x1 x2 x3 qi (n + 1) (ix2 i l) : EReal)
      = Ideal.exp2 (M x0 x1 x3 qi n (ix2 0 l) - max (M x0 x1 x3 qi n (ix2 0 l)) (Mx x0 x1 x3 qi n (ix3 0 0 l)))
          * A x0 x1 x2 x3 qi n (ix2 i l)
        + ∑ r : Fin 256, ((vv v i (256 * n + r.val) : ℝ) : EReal)
            * Ideal.exp2 (sc (256 * n + r.val ≤ pos qi l) (tt q k β qi l (256 * n + r.val))
                - max (M x0 x1 x3 qi n (ix2 0 l)) (Mx x0 x1 x3 qi n (ix3 0 0 l))) := by
  show k1_pay10 (k1_pay484 (F := Ideal)) (M x0 x1 x3 qi n) (Mx x0 x1 x3 qi n) (Sc x0 x1 x3 qi n) (A x0 x1 x2 x3 qi n) (vT x2 n) (ix2 i l) = _
  rw [pay10_at]
  refine congrArg _ (Finset.sum_congr rfl fun r _ => ?_)
  have hs : (Sc x0 x1 x3 qi n (ix3 0 r l) : EReal)
      = sc (256 * n + r.val ≤ pos qi l) (tt q k β qi l (256 * n + r.val)) := by
    unfold Sc
    rw [pay3_at]
    exact Sc_at q k β qi hq hk hb hqi n hn r l
  rw [hs]
  refine congrArg (· * _) ?_
  unfold vv
  split
  · refine (hv _ _ r).trans ?_
    show ((v (256 * (n % 16) + r.val) _ : ℝ) : EReal) = _
    rw [Nat.mod_eq_of_lt (by omega)]
    rfl
  · rw [pay484_at]; rfl

include hq hk hv hb hqi in
/-- A lane after `n + 1` tiles. -/
theorem lane (l : Fin 1024) : ∀ n, n ≤ 2 * qi + 1 →
    Inv (M x0 x1 x3 qi (n + 1) (ix2 0 l)) (fun i : Fin 144 => A x0 x1 x2 x3 qi (n + 1) (ix2 i l))
      (∑ j ∈ Finset.range (256 * (n + 1)), ww q k β qi l j)
      (fun i => ∑ j ∈ Finset.range (256 * (n + 1)), vv v i j * ww q k β qi l j)
  | 0, hn => by
    have := inv_first (fun r : Fin 256 => 256 * 0 + r.val ≤ pos qi l) (fun r => tt q k β qi l (256 * 0 + r.val))
      (fun (i : Fin 144) r => vv v i (256 * 0 + r.val)) ⟨⟨0, by decide⟩, Nat.zero_le _⟩ _
      (Mx_at q k β qi hq hk hb hqi 0 hn l)
    have em : (M x0 x1 x3 qi 0 (ix2 0 l) : EReal) = ⊥ := pay481_at 0 l
    have ea : ∀ i : Fin 144, (A x0 x1 x2 x3 qi 0 (ix2 i l) : EReal) = 0 := fun i => pay482_at i l
    rw [M_succ, em]
    simp only [A_succ q k v β qi hq hk hv hb hqi 0 hn, em, ea]
    simpa only [Finset.sum_range, Nat.mul_zero, Nat.zero_add, Nat.mul_one, ww] using this
  | n + 1, hn => by
    have ih := lane l n (by omega)
    have := inv_step (fun r : Fin 256 => 256 * (n + 1) + r.val ≤ pos qi l) (fun r => tt q k β qi l (256 * (n + 1) + r.val))
      (fun (i : Fin 144) r => vv v i (256 * (n + 1) + r.val)) ih _
      (Mx_at q k β qi hq hk hb hqi (n + 1) hn l)
    rw [M_succ]
    simp only [A_succ q k v β qi hq hk hv hb hqi (n + 1) hn]
    have e : 256 * (n + 1 + 1) = 256 * (n + 1) + 256 := by omega
    rw [e]
    simp only [Finset.sum_range_add, Finset.sum_range (n := 256)]
    exact this

end

end Cert.KernelIdeal.Val

end
-- ==== Proof.Spec.lean ====
module

public import proofs.«01_k».proof.Proof.Bucket
public import proofs.«01_k».proof.Proof.Softmax

@[expose] public section

noncomputable section

/-! # Differential attention in real numbers

What both programs compute when their inputs are reals. -/

namespace Cert.Spec

open Idealize.ShloMosaic

/-- Real inputs: queries, keys and values, the vectors of the subtraction's weight, and the table of biases. -/
structure In where
  q : Fin 2 → Fin 4096 → Fin 1024 → ℝ
  k : Fin 2 → Fin 4096 → Fin 1024 → ℝ
  v : Fin 2 → Fin 4096 → Fin 1024 → ℝ
  lam : Fin 4 → Fin 64 → ℝ
  rb : Fin 32 → Fin 24 → ℝ

variable (I : In)

/-- Feature `x` of half `m` of head `h`. -/
abbrev col (h : Fin 8) (m : Fin 2) (x : Fin 64) : Fin 1024 := ⟨h.val * 128 + m.val * 64 + x.val, by omega⟩

/-- Feature `d` of head `h`. -/
abbrev feat (h : Fin 8) (d : Fin 128) : Fin 1024 := ⟨h.val * 128 + d.val, by omega⟩

/-- The bias of a distance. -/
def bias (h : Fin 8) (d : ℕ) : ℝ := I.rb (Cert.Bucket.row (BitVec.ofNat 32 d)) ⟨h.val, by omega⟩

/-- The score of query `i` and key `j` in half `m` of head `h`. -/
def s (b : Fin 2) (h : Fin 8) (m : Fin 2) (i j : Fin 4096) : ℝ :=
  (∑ x : Fin 64, I.q b i (col h m x) * I.k b j (col h m x)) * (1 / 8) + bias I h (i.val - j.val)

/-- Its weight, nothing for a later key. -/
def w (b : Fin 2) (h : Fin 8) (m : Fin 2) (i j : Fin 4096) : ℝ := if j.val ≤ i.val then Real.exp (s I b h m i j) else 0

/-- The weighted mean of a head's values. -/
def mean (b : Fin 2) (h : Fin 8) (m : Fin 2) (i : Fin 4096) (d : Fin 128) : ℝ :=
  (∑ j : Fin 4096, I.v b j (feat h d) * w I b h m i j) / ∑ j : Fin 4096, w I b h m i j

/-- The weight of the second half. -/
def lamb : ℝ :=
  Real.exp (∑ x : Fin 64, I.lam 0 x * I.lam 1 x) - Real.exp (∑ x : Fin 64, I.lam 2 x * I.lam 3 x) + Cert.Bucket.lamInit

/-- The difference of the two halves. -/
def o (b : Fin 2) (h : Fin 8) (i : Fin 4096) (d : Fin 128) : ℝ := mean I b h 0 i d - lamb I * mean I b h 1 i d

/-- A row divided by its root mean square, times the gain, times a constant. -/
def normed (r : Fin 128 → EReal) (g : Fin 128 → EReal) (d : Fin 128) : EReal :=
  r d * Ideal.rsqrt (Ideal.div (∑ x : Fin 128, r x * r x) (Ideal.ofBits .f32 1124073472#32) + Ideal.ofBits .f32 925353388#32)
    * g d * Ideal.ofBits .f32 1061997773#32

theorem exp_real (r : ℝ) : Ideal.exp (r : EReal) = ((Real.exp r : ℝ) : EReal) := rfl

/-- A dot product of reals, read in the extended reals. -/
theorem coe_dot {n : ℕ} (f g : Fin n → ℝ) : ∑ x, ((f x : ℝ) : EReal) * ((g x : ℝ) : EReal) = ((∑ x, f x * g x : ℝ) : EReal) := by
  rw [← Cert.Softmax.coe_sum]
  exact Finset.sum_congr rfl fun x _ => (EReal.coe_mul _ _).symm

theorem lamb_coe :
    Ideal.exp (∑ x : Fin 64, ((I.lam 0 x : ℝ) : EReal) * ((I.lam 1 x : ℝ) : EReal))
        - Ideal.exp (∑ x : Fin 64, ((I.lam 2 x : ℝ) : EReal) * ((I.lam 3 x : ℝ) : EReal)) + Ideal.ofBits .f32 0x3E4CCCCD#32
      = ((lamb I : ℝ) : EReal) := by
  rw [coe_dot, coe_dot, exp_real, exp_real, Cert.Bucket.lit_lamInit, ← EReal.coe_sub, ← EReal.coe_add]
  rfl

end Cert.Spec

end
-- ==== Proof.Norm.lean ====
module

public import proofs.«01_k».proof.Proof.Lane
public import proofs.«01_k».proof.Proof.Spec

@[expose] public section

set_option maxRecDepth 16384

noncomputable section

/-! # What the body does with the accumulators: the difference of the halves, normalised -/

namespace Cert.KernelIdeal.Val

open Idealize.ShloMosaic Idealize.ShloMosaic.TcCoe Idealize.SL.Sem Cert.KernelIdeal Cert.KernelIdeal.Gen

theorem pay496_at (a : Vec Ideal S4x64 .f32) : (k1_pay496 a (ix2 0 0) : EReal) = Ideal.exp (∑ x : Fin 64, @HMul.hMul EReal EReal EReal _ (a (ix2 0 x)) (a (ix2 1 x))) := by
  pointwise [k1_pay496]

theorem pay497_at (a : Vec Ideal S4x64 .f32) : (k1_pay497 a (ix2 0 0) : EReal) = Ideal.exp (∑ x : Fin 64, @HMul.hMul EReal EReal EReal _ (a (ix2 2 x)) (a (ix2 3 x))) := by
  pointwise [k1_pay497]

/-- An accumulator's row over its row of ones. -/
def ratio (c : Vec Ideal S144x1024 .f32) (l : Fin 1024) (j : Fin 128) : EReal :=
  Ideal.div (c (ix2 ⟨j.val, by omega⟩ l)) (max (c (ix2 128 l)) (Ideal.ofBits .f32 228737632#32) : EReal)

theorem pay1_at (a b : Vec Ideal S1x1 .f32) (c : Vec Ideal S144x1024 .f32) (d : Vec Ideal S128x128 .f32) (g : Fin 128 → EReal)
    (hd : ∀ i j, (d (ix2 i j) : EReal) = g i) (i : Fin 512) (j : Fin 128) :
    (k1_pay1 a b c d (ix3 0 i j) : EReal)
      = Cert.Spec.normed (fun x => ratio c ⟨i.val, by omega⟩ x
          - @HMul.hMul EReal EReal EReal _ (@HAdd.hAdd EReal EReal EReal _ (@HSub.hSub EReal EReal EReal _ (a (ix2 0 0)) (b (ix2 0 0))) (Ideal.ofBits .f32 0x3E4CCCCD#32)) (ratio c ⟨512 + i.val, by omega⟩ x)) g j := by
  unfold Cert.Spec.normed ratio
  pointwise [k1_pay1]
  simp only [hd, dite_eq_ite, ite_self, dite_true]

end Cert.KernelIdeal.Val

end
-- ==== Proof.KHost.lean ====
module

public import proofs.«01_k».proof.Proof.Gen.KernelIdeal.Frame
public import Idealize.ShloMosaic.Lib.StableHlo.RunRead
public import Idealize.ShloMosaic.Lib.Pointwise
public import Idealize.ShloMosaic.Lib.Tactic.CleanTypes
public import proofs.«01_k».proof.Proof.Bucket

@[expose] public section

set_option maxRecDepth 16384

noncomputable section

/-! # What the host code hands the two calls -/

namespace Cert.KernelIdeal.Val

open Idealize.ShloMosaic Idealize.ShloMosaic.TcCoe Idealize.SL.Sem Cert.KernelIdeal Cert.KernelIdeal.Gen

variable (W : Valuation τ sig (Elt Ideal))

theorem v10_q (b : Fin 2) (n : Fin 4096) (x : Fin 1024) :
    ((StableHlo.after (hostOps0 (F := Ideal)) W (Proc.devRef .tc main_v10) : Vec Ideal S2x4096x6656 .bf16) (ix3 b n ⟨1024 + x.val, by omega⟩) : EReal)
      = @HMul.hMul EReal EReal EReal _ ((W (Proc.devRef .tc main_arg0) : Vec Ideal S2x4096x1024 .f32) (ix3 b n x)) (Ideal.div (Ideal.ofBits .f32 0x3E000000#32) (Ideal.log (Ideal.ofBits .f32 0x40000000#32))) := by
  unfold hostOps0
  after_reads_simp
  clean_types
  pointwise
  after_reads_simp
  clean_types
  pointwise

theorem v10_k (b : Fin 2) (n : Fin 4096) (x : Fin 1024) :
    ((StableHlo.after (hostOps0 (F := Ideal)) W (Proc.devRef .tc main_v10) : Vec Ideal S2x4096x6656 .bf16) (ix3 b n ⟨2048 + x.val, by omega⟩) : EReal)
      = ((W (Proc.devRef .tc main_arg1) : Vec Ideal S2x4096x1024 .f32) (ix3 b n x) : EReal) := by
  unfold hostOps0
  after_reads_simp
  clean_types
  pointwise
  after_reads_simp
  clean_types
  pointwise
  refine (dif_neg (by omega)).trans ?_
  refine (dif_neg (by omega)).trans ?_
  refine (dif_pos (by omega)).trans ?_
  exact congrArg (fun e => (W (Proc.devRef .tc main_arg1) : Vec Ideal S2x4096x1024 .f32) (ix3 b n e)) (Fin.ext (by show 2048 + x.val - 1024 - 1024 = x.val; omega))

theorem v10_v (b : Fin 2) (n : Fin 4096) (x : Fin 1024) :
    ((StableHlo.after (hostOps0 (F := Ideal)) W (Proc.devRef .tc main_v10) : Vec Ideal S2x4096x6656 .bf16) (ix3 b n ⟨3072 + x.val, by omega⟩) : EReal)
      = ((W (Proc.devRef .tc main_arg2) : Vec Ideal S2x4096x1024 .f32) (ix3 b n x) : EReal) := by
  unfold hostOps0
  after_reads_simp
  clean_types
  pointwise
  after_reads_simp
  clean_types
  pointwise
  refine (dif_neg (by omega)).trans ?_
  refine (dif_neg (by omega)).trans ?_
  refine (dif_neg (by omega)).trans ?_
  refine (dif_pos (by omega)).trans ?_
  exact congrArg (fun e => (W (Proc.devRef .tc main_arg2) : Vec Ideal S2x4096x1024 .f32) (ix3 b n e)) (Fin.ext (by show 3072 + x.val - 1024 - 1024 - 1024 = x.val; omega))

theorem v31_at (i : Fin 4096) :
    (StableHlo.after (hostOps0_1 (F := Ideal)) W (Proc.devRef .tc main_v31) : IVec S4096 32) (ix1 i)
      = Scalar.select ((W (Proc.devRef .tc main_v30) : IVec S4096 1) (ix1 i)) ((W (Proc.devRef .tc main_v13) : IVec S4096 32) (ix1 i))
        ((W (Proc.devRef .tc main_v28) : IVec S4096 32) (ix1 i)) := by
  unfold hostOps0_1
  after_reads_simp
  rfl

theorem v48_at (i : Fin 7) (h : Fin 8) (j : Fin 512) :
    (StableHlo.after (hostOps0_3 (F := Ideal)) W (Proc.devRef .tc main_v48) : Vec Ideal S7x8x512 .f32) (ix3 i h j)
      = Scalar.select ((W (Proc.devRef .tc main_v0) : IVec S7x1x512 1) (ix3 i 0 j)) ((W (Proc.devRef .tc main_v47) : Vec Ideal S7x8x512 .f32) (ix3 i h j))
        ((W (Proc.devRef .tc main_cst_16) : Vec Ideal S_ .f32) ix0) := by
  unfold hostOps0_3
  after_reads_simp
  show select (broadcastInDim S7x8x512 ![0, 1, 2] bcast_S7x1x512_S7x8x512_0_1_2 (W (Proc.devRef .tc main_v0) : IVec S7x1x512 1))
    (W (Proc.devRef .tc main_v47) : Vec Ideal S7x8x512 .f32)
    (broadcastInDim S7x8x512 ![] bcast_S_S7x8x512 (W (Proc.devRef .tc main_cst_16) : Vec Ideal S_ .f32)) (ix3 i h j) = _
  pointwise

theorem v49_at (i : Fin 7) (h : Fin 8) (j : Fin 512) :
    (StableHlo.after (hostOps0_4 (F := Ideal)) W (Proc.devRef .tc main_v49) : Vec Ideal S7x8x1x512 .f32) (ix4 i h 0 j)
      = (W (Proc.devRef .tc main_v48) : Vec Ideal S7x8x512 .f32) (ix3 i h j) := by
  unfold hostOps0_4
  after_reads_simp
  clean_types
  pointwise

theorem v54_at (b : Fin 2) (h : Fin 8) (n : Fin 16) (d : Fin 128) (r : Fin 256) :
    (StableHlo.after (hostOps1 (F := Ideal)) W (Proc.devRef .tc main_v54) : Vec Ideal S2x8x16x128x256 .bf16) (ix5 b h n d r)
      = (W (Proc.devRef .tc main_v10) : Vec Ideal S2x4096x6656 .bf16)
          (ix3 b ⟨n.val * 256 + r.val, by omega⟩ ⟨3072 + (h.val * 128 + d.val), by omega⟩) := by
  unfold hostOps1
  after_reads_simp
  clean_types
  pointwise

theorem v56_at (i j : Fin 128) :
    (StableHlo.after (hostOps1 (F := Ideal)) W (Proc.devRef .tc main_v56) : Vec Ideal S128x128 .f32) (ix2 i j)
      = (W (Proc.devRef .tc main_arg4) : Vec Ideal S128 .f32) (ix1 i) := by
  unfold hostOps1
  after_reads_simp
  clean_types
  pointwise

theorem v0_at (i : Fin 7) (j : Fin 512) :
    (StableHlo.after (hostOps0 (F := Ideal)) W (Proc.devRef .tc main_v0) : IVec S7x1x512 1) (ix3 i 0 j)
      = lit1 (S7x512.rowMajor (ix2 i j)) := by
  unfold hostOps0
  after_reads_simp
  clean_types
  pointwise

theorem c_at (i : Fin 7) (j : Fin 512) :
    (StableHlo.after (hostOps0 (F := Ideal)) W (Proc.devRef .tc main_c) : IVec S7x512 32) (ix2 i j)
      = lit0 (S7x512.rowMajor (ix2 i j)) := by
  unfold hostOps0
  after_reads_simp

theorem c0_at (i : Fin 7) (j : Fin 512) :
    (StableHlo.after (hostOps0 (F := Ideal)) W (Proc.devRef .tc main_c_0) : IVec S7x512 1) (ix2 i j) = 0#1 := by
  unfold hostOps0
  after_reads_simp
  rfl

theorem v13_at (i : Fin 4096) :
    (StableHlo.after (hostOps0 (F := Ideal)) W (Proc.devRef .tc main_v13) : IVec S4096 32) (ix1 i)
      = IntOp.maxsi (BitVec.ofNat 32 i.val) 0#32 := by
  unfold hostOps0
  after_reads_simp
  clean_types
  pointwise

theorem v30_at (i : Fin 4096) :
    (StableHlo.after (hostOps0 (F := Ideal)) W (Proc.devRef .tc main_v30) : IVec S4096 1) (ix1 i)
      = IntOp.cmpi .slt (IntOp.maxsi (BitVec.ofNat 32 i.val) 0#32) 16#32 := by
  unfold hostOps0
  after_reads_simp
  clean_types
  pointwise

theorem v28_at (i : Fin 4096) :
    (StableHlo.after (hostOps0 (F := Ideal)) W (Proc.devRef .tc main_v28) : IVec S4096 32) (ix1 i)
      = IntOp.minsi (IntOp.addi 16#32 (Ideal.fptosi 32 (Ideal.div (Ideal.log (Ideal.div
          (FloatOps.sitofp (F := Ideal) FTy.f32 (IntOp.maxsi (IntOp.maxsi (BitVec.ofNat 32 i.val) 0#32) 1#32)) (Ideal.ofBits FTy.f32 0x41800000#32)))
            (Ideal.ofBits FTy.f32 0x40851592#32) * Ideal.ofBits FTy.f32 0x41800000#32))) 31#32 := by
  unfold hostOps0
  after_reads_simp
  clean_types
  pointwise
  rfl

theorem gat24 (x : Vec Ideal S32x24 .f32) (idx : IVec S4096x1 32) (i : Fin 4096) (h : Fin 24) :
    Host.gather gather_S32x24_S4096x1_S4096x24_1_0_n_n_0_1_124 x idx (ix2 i h)
      = x (ix2 ⟨min (idx (ix2 i 0)).toInt.toNat 31, by omega⟩ h) := by
  unfold Host.gather
  refine congrArg x (funext fun a => Fin.ext ?_)
  have h01 : a = 0 ∨ a = 1 := by
    match a with
    | ⟨0, _⟩ => exact Or.inl rfl
    | ⟨1, _⟩ => exact Or.inr rfl
  rcases h01 with rfl | rfl
  · show (gather_S32x24_S4096x1_S4096x24_1_0_n_n_0_1_124).start _ idx 0 + GatherDims.batchCoord _ _ _ + GatherDims.offCoord _ _ _ = _
    rw [GatherDims.batchCoord_eq_zero _ _ _ List.not_mem_nil,
      GatherDims.offCoord_eq_zero _ _ _ (by decide)]
    unfold GatherDims.start
    rw [dif_pos (by decide)]
    rw [show GatherDims.siIdx _ _ _ = ix2 i 0 from by
      funext b; refine Fin.ext ?_
      match b with
      | ⟨0, _⟩ => rfl
      | ⟨1, _⟩ => rfl]
    rfl
  · show (gather_S32x24_S4096x1_S4096x24_1_0_n_n_0_1_124).start _ idx 1 + GatherDims.batchCoord _ _ _ + GatherDims.offCoord _ _ _ = _
    rw [GatherDims.batchCoord_eq_zero _ _ _ List.not_mem_nil]
    unfold GatherDims.start GatherDims.offCoord
    rw [dif_neg (by decide), dif_pos (by decide)]
    simp only [Nat.zero_add]
    rfl

theorem gat8 (x : Vec Ideal S4096x8 .f32) (idx : IVec S7x512x1 32) (i : Fin 7) (j : Fin 512) (h : Fin 8) :
    Host.gather gather_S4096x8_S7x512x1_S7x512x8_2_0_n_n_0_2_18 x idx (ix3 i j h)
      = x (ix2 ⟨min (idx (ix3 i j 0)).toInt.toNat 4095, by omega⟩ h) := by
  unfold Host.gather
  refine congrArg x (funext fun a => Fin.ext ?_)
  have h01 : a = 0 ∨ a = 1 := by
    match a with
    | ⟨0, _⟩ => exact Or.inl rfl
    | ⟨1, _⟩ => exact Or.inr rfl
  rcases h01 with rfl | rfl
  · show (gather_S4096x8_S7x512x1_S7x512x8_2_0_n_n_0_2_18).start _ idx 0 + GatherDims.batchCoord _ _ _ + GatherDims.offCoord _ _ _ = _
    rw [GatherDims.batchCoord_eq_zero _ _ _ List.not_mem_nil,
      GatherDims.offCoord_eq_zero _ _ _ (by decide)]
    unfold GatherDims.start
    rw [dif_pos (by decide)]
    rw [show GatherDims.siIdx _ _ _ = ix3 i j 0 from by
      funext b; refine Fin.ext ?_
      match b with
      | ⟨0, _⟩ => rfl
      | ⟨1, _⟩ => rfl
      | ⟨2, _⟩ => rfl]
    rfl
  · show (gather_S4096x8_S7x512x1_S7x512x8_2_0_n_n_0_2_18).start _ idx 1 + GatherDims.batchCoord _ _ _ + GatherDims.offCoord _ _ _ = _
    rw [GatherDims.batchCoord_eq_zero _ _ _ List.not_mem_nil]
    unfold GatherDims.start GatherDims.offCoord
    rw [dif_neg (by decide), dif_pos (by decide)]
    simp only [Nat.zero_add]
    rfl

theorem v47_at (i : Fin 7) (h : Fin 8) (j : Fin 512)
    (hc : (W (Proc.devRef .tc main_c_0) : IVec S7x512 1) (ix2 i j) = 0#1) (p : Fin 4096)
    (hp : p.val = min ((W (Proc.devRef .tc main_c) : IVec S7x512 32) (ix2 i j)).toInt.toNat 4095) (w : BitVec 32)
    (hw : (W (Proc.devRef .tc main_v31) : IVec S4096 32) (ix1 p) = Cert.Bucket.bk w) :
    (StableHlo.after (hostOps0_2 (F := Ideal)) W (Proc.devRef .tc main_v47) : Vec Ideal S7x8x512 .f32) (ix3 i h j)
      = (W (Proc.devRef .tc main_arg5) : Vec Ideal S32x24 .f32) (ix2 (Cert.Bucket.row w) ⟨h.val, by omega⟩) := by
  unfold hostOps0_2
  after_reads_simp
  clean_types
  pointwise
  rw [gat8]
  pointwise
  rw [gat24]
  pointwise
  refine congrArg (fun e => (W (Proc.devRef .tc main_arg5) : Vec Ideal S32x24 .f32) (ix2 e ⟨h.val, by omega⟩)) (Fin.ext ?_)
  have e : ∀ q : Fin 4096, q.val = min (Scalar.select ((W (Proc.devRef .tc main_c_0) : IVec S7x512 1) (ix2 i j))
      (IntOp.addi ((W (Proc.devRef .tc main_c) : IVec S7x512 32) (ix2 i j)) 4096#32)
      ((W (Proc.devRef .tc main_c) : IVec S7x512 32) (ix2 i j))).toInt.toNat 4095 →
      (W (Proc.devRef .tc main_v31) : IVec S4096 32) (ix1 q) = Cert.Bucket.bk w := fun q hq => by
    rw [hc] at hq
    have : q = p := Fin.ext (hq.trans hp.symm)
    rw [this, hw]
  have e' := e ⟨min (Scalar.select ((W (Proc.devRef .tc main_c_0) : IVec S7x512 1) (ix2 i j))
      (IntOp.addi ((W (Proc.devRef .tc main_c) : IVec S7x512 32) (ix2 i j)) 4096#32)
      ((W (Proc.devRef .tc main_c) : IVec S7x512 32) (ix2 i j))).toInt.toNat 4095, by omega⟩ rfl
  have g : ∀ a : BitVec 32, a = Cert.Bucket.bk w →
      min (Scalar.select (IntOp.cmpi CmpIPredicate.slt a 0#32) (IntOp.addi a 32#32) a).toInt.toNat 31 = (Cert.Bucket.row w).val :=
    fun a ha => by subst ha; rfl
  exact g _ e'

theorem cst16_at : (StableHlo.after (hostOps0_2 (F := Ideal)) W (Proc.devRef .tc main_cst_16) : Vec Ideal S_ .f32) ix0
    = Ideal.ofBits .f32 0xFF800000#32 := by
  unfold hostOps0_2
  after_reads_simp
  rfl

end Cert.KernelIdeal.Val

end
-- ==== Proof.Tables.lean ====
module

public import proofs.«01_k».proof.KernelIdeal

@[expose] public section

set_option maxRecDepth 65536

/-! # The two literal tables of the bias tiles

Entry `(c, j)` stands for the distance `256 (c - 1) + j`, or `512` less past the middle; here, to stay in the naturals, all distances
are `768` too large. One table holds the distance clipped at zero, the other whether it was not negative. -/

namespace Cert.KernelIdeal.Val

open Cert.KernelIdeal

/-- The distance of entry `(c, j)`, plus `768`. -/
def far (c j : ℕ) : ℕ := c * 256 + (if j ≤ 256 then j + 512 else j)

theorem lit0_eq : ∀ k : Fin 3584, lit0 k = BitVec.ofNat 32 (far (k.val / 512) (k.val % 512) - 768) := by
  decide +kernel

theorem lit1_eq : ∀ k : Fin 3584, lit1 k = BitVec.ofBool (decide (768 ≤ far (k.val / 512) (k.val % 512))) := by
  decide +kernel

end Cert.KernelIdeal.Val

end
-- ==== Proof.KArr.lean ====
module

public import proofs.«01_k».proof.Proof.KHost
public import proofs.«01_k».proof.Proof.Tables

@[expose] public section

set_option maxRecDepth 16384

noncomputable section

/-! # The arrays the two calls read, in the arguments -/

namespace Cert.KernelIdeal.Val

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The arguments, as arrays. -/
abbrev arg0 : Vec Ideal S2x4096x1024 .f32 := m ((c : Thread nD τ).loc main_arg0)
abbrev arg1 : Vec Ideal S2x4096x1024 .f32 := m ((c : Thread nD τ).loc main_arg1)
abbrev arg2 : Vec Ideal S2x4096x1024 .f32 := m ((c : Thread nD τ).loc main_arg2)
abbrev arg3 : Vec Ideal S4x64 .f32 := m ((c : Thread nD τ).loc main_arg3)
abbrev arg4 : Vec Ideal S128 .f32 := m ((c : Thread nD τ).loc main_arg4)
abbrev arg5 : Vec Ideal S32x24 .f32 := m ((c : Thread nD τ).loc main_arg5)

theorem W6_v10 : W6 m ρ c (Proc.devRef .tc main_v10) = W1 m ρ c (Proc.devRef .tc main_v10) :=
  (W6_of m ρ c main_v10 (by decide)).trans <| (W5_of m ρ c main_v10 (by decide)).trans <| (W4_of m ρ c main_v10 (by decide)).trans <|
    (W3_of m ρ c main_v10 (by decide)).trans (W2_of m ρ c main_v10 (by decide))

theorem q_at (b : Fin 2) (n : Fin 4096) (x : Fin 1024) :
    ((V7 m ρ c main_v10 : Vec Ideal S2x4096x6656 .bf16) (ix3 b n ⟨1024 + x.val, by omega⟩) : EReal)
      = @HMul.hMul EReal EReal EReal _ (arg0 m c (ix3 b n x))
          (Ideal.div (Ideal.ofBits .f32 0x3E000000#32) (Ideal.log (Ideal.ofBits .f32 0x40000000#32))) :=
  (congrFun ((W7_of m ρ c main_v10 (by decide)).trans (W6_v10 m ρ c)) _).trans (v10_q (W0 m ρ c) b n x)

theorem k_at (b : Fin 2) (n : Fin 4096) (x : Fin 1024) :
    ((V7 m ρ c main_v10 : Vec Ideal S2x4096x6656 .bf16) (ix3 b n ⟨2048 + x.val, by omega⟩) : EReal) = arg1 m c (ix3 b n x) :=
  (congrFun ((W7_of m ρ c main_v10 (by decide)).trans (W6_v10 m ρ c)) _).trans (v10_k (W0 m ρ c) b n x)

theorem v_at (b : Fin 2) (h : Fin 8) (n : Fin 16) (d : Fin 128) (r : Fin 256) :
    ((V7 m ρ c main_v54 : Vec Ideal S2x8x16x128x256 .bf16) (ix5 b h n d r) : EReal)
      = arg2 m c (ix3 b ⟨n.val * 256 + r.val, by omega⟩ ⟨h.val * 128 + d.val, by omega⟩) :=
  (v54_at (W6 m ρ c) b h n d r).trans <| (congrFun (W6_v10 m ρ c) _).trans
    (v10_v (W0 m ρ c) b ⟨n.val * 256 + r.val, by omega⟩ ⟨h.val * 128 + d.val, by omega⟩)

theorem g_at (i j : Fin 128) : (V7 m ρ c main_v56 : Vec Ideal S128x128 .f32) (ix2 i j) = arg4 m c (ix1 i) :=
  (v56_at (W6 m ρ c) i j).trans (congrFun (W6_args m ρ c main_arg4 (by decide)) _)

theorem rowMajor_at (i : Fin 7) (j : Fin 512) : (S7x512.rowMajor (ix2 i j)).val = i.val * 512 + j.val := by
  show (Shape.rowMajorPi S7x512.size (ix2 i j)).val = _
  rw [Shape.rowMajorPi_succ_val, Shape.rowMajorPi_succ_val]
  simp [Fin.prod_univ_succ, Shape.rowMajorPi_zero]

theorem lit0_at (i : Fin 7) (j : Fin 512) : lit0 (S7x512.rowMajor (ix2 i j)) = BitVec.ofNat 32 (far i.val j.val - 768) := by
  refine (lit0_eq _).trans ?_
  rw [rowMajor_at, show (i.val * 512 + j.val) / 512 = i.val by omega, show (i.val * 512 + j.val) % 512 = j.val by omega]

theorem lit1_at (i : Fin 7) (j : Fin 512) : lit1 (S7x512.rowMajor (ix2 i j)) = BitVec.ofBool (decide (768 ≤ far i.val j.val)) := by
  refine (lit1_eq _).trans ?_
  rw [rowMajor_at, show (i.val * 512 + j.val) / 512 = i.val by omega, show (i.val * 512 + j.val) % 512 = j.val by omega]

theorem far_lt (i : Fin 7) (j : Fin 512) : far i.val j.val - 768 < 4096 := by
  unfold far; split <;> omega

theorem v31_bk (d : Fin 4096) : (W2 m ρ c (Proc.devRef .tc main_v31) : IVec S4096 32) (ix1 d) = Cert.Bucket.bk (BitVec.ofNat 32 d.val) := by
  refine (v31_at (W1 m ρ c) d).trans ?_
  have e1 : (W1 m ρ c (Proc.devRef .tc main_v30) : IVec S4096 1) (ix1 d) = _ := v30_at (W0 m ρ c) d
  have e2 : (W1 m ρ c (Proc.devRef .tc main_v13) : IVec S4096 32) (ix1 d) = _ := v13_at (W0 m ρ c) d
  have e3 : (W1 m ρ c (Proc.devRef .tc main_v28) : IVec S4096 32) (ix1 d) = _ := v28_at (W0 m ρ c) d
  rw [e1, e2, e3]
  rfl

theorem v49_val (i : Fin 7) (h : Fin 8) (j : Fin 512) :
    ((V5 m ρ c main_v49 : Vec Ideal S7x8x1x512 .f32) (ix4 i h 0 j) : EReal)
      = if 768 ≤ far i.val j.val then arg5 m c (ix2 (Cert.Bucket.row (BitVec.ofNat 32 (far i.val j.val - 768))) ⟨h.val, by omega⟩) else ⊥ := by
  refine (v49_at (W4 m ρ c) i h j).trans ((v48_at (W3 m ρ c) i h j).trans ?_)
  have e0 : (W3 m ρ c (Proc.devRef .tc main_v0) : IVec S7x1x512 1) (ix3 i 0 j) = BitVec.ofBool (decide (768 ≤ far i.val j.val)) :=
    (congrFun ((W3_of m ρ c main_v0 (by decide)).trans (W2_of m ρ c main_v0 (by decide))) _).trans
      ((v0_at (W0 m ρ c) i j).trans (lit1_at i j))
  have ec : (W2 m ρ c (Proc.devRef .tc main_c) : IVec S7x512 32) (ix2 i j) = BitVec.ofNat 32 (far i.val j.val - 768) :=
    (congrFun (W2_of m ρ c main_c (by decide)) _).trans ((c_at (W0 m ρ c) i j).trans (lit0_at i j))
  have ec0 : (W2 m ρ c (Proc.devRef .tc main_c_0) : IVec S7x512 1) (ix2 i j) = 0#1 :=
    (congrFun (W2_of m ρ c main_c_0 (by decide)) _).trans (c0_at (W0 m ρ c) i j)
  have hlt := far_lt i j
  have e47 := v47_at (W2 m ρ c) i h j ec0 ⟨far i.val j.val - 768, hlt⟩
    (by
      rw [ec, Cert.Bucket.toInt_small (by omega)]
      show far i.val j.val - 768 = min ((far i.val j.val - 768 : ℕ) : ℤ).toNat 4095
      rw [Int.toNat_natCast]
      omega) _ (v31_bk m ρ c _)
  have e16 : (W3 m ρ c (Proc.devRef .tc main_cst_16) : Vec Ideal S_ .f32) ix0 = (⊥ : EReal) :=
    (cst16_at (W2 m ρ c)).trans Cert.Bucket.lit_bot
  rw [e0, e16]
  refine (congrArg (fun e => Scalar.select _ e _) (e47.trans (congrFun (W2_args m ρ c main_arg5 (by decide)) _))).trans ?_
  by_cases hf : 768 ≤ far i.val j.val
  · rw [decide_eq_true hf, if_pos hf]; rfl
  · rw [decide_eq_false hf, if_neg hf]; rfl

end Cert.KernelIdeal.Val

end
-- ==== Proof.Tiles.lean ====
module

public import proofs.«01_k».proof.Proof.KArr
public import Idealize.ShloMosaic.Lib.Pipeline.ValueKit

@[expose] public section

set_option maxRecDepth 16384

noncomputable section

/-! # The tiles of biases the first call makes -/

namespace Cert.KernelIdeal.Val

open Idealize.ShloMosaic Idealize.ShloMosaic.TcCoe Idealize.SL.Sem Cert.KernelIdeal Cert.KernelIdeal.Gen

/-- The factor the biases carry. -/
abbrev lg : EReal := Named.named (F := Ideal) (φ := .f32) κ "log2e" 1069066811#32

theorem tile_0 (a : Vec Ideal S1x1x1x512 .f32) (i j : Fin 256) : (k0_pay3 a (ix4 0 0 i j) : EReal)
    = @HMul.hMul EReal EReal EReal _ (a (ix4 0 0 0 ⟨(j.val + 512 - i.val % 512) % 512, Nat.mod_lt _ (by omega)⟩)) lg := by
  pointwise [k0_pay3]
theorem tile_1 (a : Vec Ideal S1x1x1x512 .f32) (i j : Fin 256) : (k0_pay2 a (ix4 0 0 i j) : EReal)
    = @HMul.hMul EReal EReal EReal _ (a (ix4 0 0 0 ⟨(j.val + 512 - i.val % 512) % 512, Nat.mod_lt _ (by omega)⟩)) lg := by
  pointwise [k0_pay2]
theorem tile_2 (a : Vec Ideal S1x1x1x512 .f32) (i j : Fin 256) : (k0_pay1 (k0_pay10 a) (ix4 0 0 i j) : EReal)
    = @HMul.hMul EReal EReal EReal _ (a (ix4 0 0 0 ⟨(j.val + 512 - i.val % 512) % 512, Nat.mod_lt _ (by omega)⟩)) lg := by
  pointwise [k0_pay1, k0_pay10]
theorem tile_3 (a : Vec Ideal S1x1x1x512 .f32) (i j : Fin 256) : (k0_pay9 a (ix4 0 0 i j) : EReal)
    = @HMul.hMul EReal EReal EReal _ (a (ix4 0 0 0 ⟨(j.val + 512 - i.val % 512) % 512, Nat.mod_lt _ (by omega)⟩)) lg := by
  pointwise [k0_pay9]
theorem tile_4 (a : Vec Ideal S1x1x1x512 .f32) (i j : Fin 256) : (k0_pay8 a (ix4 0 0 i j) : EReal)
    = @HMul.hMul EReal EReal EReal _ (a (ix4 0 0 0 ⟨(j.val + 512 - i.val % 512) % 512, Nat.mod_lt _ (by omega)⟩)) lg := by
  pointwise [k0_pay8]
theorem tile_5 (a : Vec Ideal S1x1x1x512 .f32) (i j : Fin 256) : (k0_pay7 (k0_pay6 a) (ix4 0 0 i j) : EReal)
    = @HMul.hMul EReal EReal EReal _ (a (ix4 0 0 0 ⟨(j.val + 512 - i.val % 512) % 512, Nat.mod_lt _ (by omega)⟩)) lg := by
  pointwise [k0_pay7, k0_pay6]
theorem tile_6 (a : Vec Ideal S1x1x1x512 .f32) (i j : Fin 256) : (k0_pay5 a (ix4 0 0 i j) : EReal)
    = @HMul.hMul EReal EReal EReal _ (a (ix4 0 0 0 ⟨(j.val + 512 - i.val % 512) % 512, Nat.mod_lt _ (by omega)⟩)) lg := by
  pointwise [k0_pay5]
theorem tile_7 (a : Vec Ideal S1x1x1x512 .f32) (i j : Fin 256) : (k0_pay4 a (ix4 0 0 i j) : EReal)
    = @HMul.hMul EReal EReal EReal _ (a (ix4 0 0 0 ⟨(j.val + 512 - i.val % 512) % 512, Nat.mod_lt _ (by omega)⟩)) lg := by
  pointwise [k0_pay4]

theorem ld_at (x0 : Vec Ideal S1x8x1x512 .f32) (h : Fin 8) (inb) (q : Fin 512) :
    View.ld x0 (Rect.unit (s := S1x8x1x512) ![0, h.val, 0, 0] S1x1x1x512.size inb) (ix4 0 0 0 q) = x0 (ix4 0 h 0 q) := by
  rw [View.ld_apply]
  refine congrArg x0 (funext fun a => Fin.ext ?_)
  match a with
  | ⟨0, _⟩ => rfl
  | ⟨1, _⟩ => show h.val + 1 * 0 = h.val; omega
  | ⟨2, _⟩ => rfl
  | ⟨3, _⟩ => show 0 + 1 * q.val = q.val; omega

theorem at_eq (x : S1x1x256x256.Idx) (i j : Fin 256) (g2 : i.val = (x 2).val) (g3 : j.val = (x 3).val) : x = ix4 0 0 i j := by
  refine funext fun a => Fin.ext ?_
  match a with
  | ⟨0, _⟩ => have h : (x 0).val < 1 := (x 0).isLt; show (x 0).val = 0; omega
  | ⟨1, _⟩ => have h : (x 1).val < 1 := (x 1).isLt; show (x 1).val = 0; omega
  | ⟨2, _⟩ => exact g2.symm
  | ⟨3, _⟩ => exact g3.symm

theorem tile_out (x0 : Vec Ideal S1x8x1x512 .f32) (h : Fin 8) (i j : Fin 256) :
    (out0_1 x0 (ix4 0 h i j) : EReal)
      = @HMul.hMul EReal EReal EReal _ (x0 (ix4 0 h 0 ⟨(j.val + 512 - i.val % 512) % 512, Nat.mod_lt _ (by omega)⟩)) lg := by
  unfold out0_1
  canon_tiles x g
  · obtain rfl : h = 7 := Fin.ext (by change h.val = 7; change h.val = _ at g1; omega)
    obtain rfl : x = ix4 0 0 i j := at_eq x i j g2 g3
    exact (tile_0 _ i j).trans (congrArg (fun e => @HMul.hMul EReal EReal EReal _ e lg) (ld_at x0 7 _ _))
  · obtain rfl : h = 6 := Fin.ext (by change h.val = 6; change h.val = _ at g1; omega)
    obtain rfl : x = ix4 0 0 i j := at_eq x i j g2 g3
    exact (tile_1 _ i j).trans (congrArg (fun e => @HMul.hMul EReal EReal EReal _ e lg) (ld_at x0 6 _ _))
  · obtain rfl : h = 5 := Fin.ext (by change h.val = 5; change h.val = _ at g1; omega)
    obtain rfl : x = ix4 0 0 i j := at_eq x i j g2 g3
    exact (tile_2 _ i j).trans (congrArg (fun e => @HMul.hMul EReal EReal EReal _ e lg) (ld_at x0 5 _ _))
  · obtain rfl : h = 4 := Fin.ext (by change h.val = 4; change h.val = _ at g1; omega)
    obtain rfl : x = ix4 0 0 i j := at_eq x i j g2 g3
    exact (tile_3 _ i j).trans (congrArg (fun e => @HMul.hMul EReal EReal EReal _ e lg) (ld_at x0 4 _ _))
  · obtain rfl : h = 3 := Fin.ext (by change h.val = 3; change h.val = _ at g1; omega)
    obtain rfl : x = ix4 0 0 i j := at_eq x i j g2 g3
    exact (tile_4 _ i j).trans (congrArg (fun e => @HMul.hMul EReal EReal EReal _ e lg) (ld_at x0 3 _ _))
  · obtain rfl : h = 2 := Fin.ext (by change h.val = 2; change h.val = _ at g1; omega)
    obtain rfl : x = ix4 0 0 i j := at_eq x i j g2 g3
    exact (tile_5 _ i j).trans (congrArg (fun e => @HMul.hMul EReal EReal EReal _ e lg) (ld_at x0 2 _ _))
  · obtain rfl : h = 1 := Fin.ext (by change h.val = 1; change h.val = _ at g1; omega)
    obtain rfl : x = ix4 0 0 i j := at_eq x i j g2 g3
    exact (tile_6 _ i j).trans (congrArg (fun e => @HMul.hMul EReal EReal EReal _ e lg) (ld_at x0 1 _ _))
  · obtain rfl : h = 0 := Fin.ext (by change h.val = 0; change h.val = _ at g1; omega)
    obtain rfl : x = ix4 0 0 i j := at_eq x i j g2 g3
    exact (tile_7 _ i j).trans (congrArg (fun e => @HMul.hMul EReal EReal EReal _ e lg) (ld_at x0 0 _ _))

theorem idx0 : ∀ t : Fin grid0.N, win0_0.index t = ![t.val, 0, 0, 0] ∧ win0_1.index t = ![t.val, 0, 0, 0] := by decide +kernel

/-- The tiles, element by element. -/
def tiles (v : Vec Ideal S7x8x1x512 .f32) : Vec Ideal S7x8x256x256 .f32 := fun x =>
  @HMul.hMul EReal EReal EReal _
    (v (ix4 (x 0) (x 1) 0 ⟨((x 3).val + 512 - (x 2).val % 512) % 512, Nat.mod_lt _ (by omega)⟩)) lg

variable (V : (c : Dev nD) → (ref : Ref sig .tc) → Buf (Elt Ideal) ((c : Thread nD τ).loc ref))

theorem blk0_at (c : Dev nD) (t : Fin cfg0.N) (h : Fin 8) (q : Fin 512) :
    (iblk0 V c 0 t : Vec Ideal S1x8x1x512 .f32) (ix4 0 h 0 q) = (V c main_v49 : Vec Ideal S7x8x1x512 .f32) (ix4 ⟨t.val, t.isLt⟩ h 0 q) := by
  have e0 := (idx0 t).1
  blk_ext [iblk0, e0]

theorem emb0_at (t : Fin cfg0.N) (h : Fin 8) (i j : Fin 256) :
    ((View.whole main_v50).slice (win0_1.rect t)).emb (ix4 0 h i j) = ix4 (⟨t.val, t.isLt⟩ : Fin 7) h i j := by
  have e1 := (idx0 t).2
  blk_ext [e1]

theorem tiles_out (c : Dev nD) : (dat0 V c).arrAt 1 cfg0.N = tiles (V c main_v49) := by
  refine (dat0 V c).arrAt_eq_of_covers 1 _ (by decide +kernel) fun t hf y => ?_
  blk_simp
  rw [after0_1]
  idx_vars y
  obtain rfl : y0 = 0 := Subsingleton.elim _ _
  refine (tile_out _ y1 y2 y3).trans ?_
  rw [blk0_at]
  exact (congrArg (tiles (V c main_v49)) (emb0_at t y1 y2 y3)).symm

theorem v50_at (m : (ℓ : Loc nD τ sig) → Buf (Elt Ideal) ℓ) (ρ : Dev nD → PrngReg) (c : Dev nD) :
    V7 m ρ c main_v50 = tiles (V5 m ρ c main_v49) :=
  (W7_of m ρ c main_v50 (by decide)).trans ((W6_arr m ρ c 1).trans (tiles_out (V5 m ρ) c))

end Cert.KernelIdeal.Val

end
-- ==== Proof.Blocks.lean ====
module

public import proofs.«01_k».proof.Proof.Tiles

@[expose] public section

set_option maxRecDepth 16384

noncomputable section

/-! # The blocks each grid point of the attention reads and writes -/

namespace Cert.KernelIdeal.Val

open Idealize.ShloMosaic Idealize.ShloMosaic.TcCoe Idealize.SL.Sem Cert.KernelIdeal Cert.KernelIdeal.Gen

theorem idx1_q : ∀ t : Fin grid1.N, win1_0.index t = ![t.val / 64, t.val % 8, 8 + t.val / 8 % 8]
    ∧ win1_1.index t = ![t.val / 64, 0, 16 + t.val / 8 % 8] ∧ win1_2.index t = ![t.val / 64, t.val / 8 % 8, 0, 0, 0] := by decide +kernel

theorem idx1_b : ∀ t : Fin grid1.N, win1_3.index t = ![0, t.val / 8 % 8, 0, 0]
    ∧ win1_4.index t = ![0, 0] ∧ win1_5.index t = ![0, 0] ∧ win1_6.index t = ![t.val / 64, t.val % 8, t.val / 8 % 8] := by decide +kernel

theorem lt1 (t : Fin cfg1.N) : t.val < 128 := t.isLt

/-- The batch entry, the head and the query tile of a grid point. -/
abbrev tb (t : Fin cfg1.N) : Fin 2 := ⟨t.val / 64, by have := lt1 t; omega⟩
abbrev th (t : Fin cfg1.N) : Fin 8 := ⟨t.val / 8 % 8, by omega⟩
abbrev tq (t : Fin cfg1.N) : Fin 8 := ⟨t.val % 8, by omega⟩

variable (V : (c : Dev nD) → (ref : Ref sig .tc) → Buf (Elt Ideal) ((c : Thread nD τ).loc ref)) (c : Dev nD) (t : Fin cfg1.N)

theorem blk_q (r : Fin 512) (x : Fin 128) :
    (iblk1 V c 0 t : Vec Ideal S1x512x128 .bf16) (ix3 0 r x)
      = (V c main_v10 : Vec Ideal S2x4096x6656 .bf16) (ix3 (tb t) ⟨512 * (tq t).val + r.val, by omega⟩ ⟨1024 + ((th t).val * 128 + x.val), by omega⟩) := by
  have e := (idx1_q t).1
  have := lt1 t
  blk_ext [iblk1, e]

theorem blk_k (n : Fin 4096) (x : Fin 128) :
    (iblk1 V c 1 t : Vec Ideal S1x4096x128 .bf16) (ix3 0 n x)
      = (V c main_v10 : Vec Ideal S2x4096x6656 .bf16) (ix3 (tb t) n ⟨2048 + ((th t).val * 128 + x.val), by omega⟩) := by
  have e := (idx1_q t).2.1
  have := lt1 t
  blk_ext [iblk1, e]

theorem blk_v (n : Fin 16) (d : Fin 128) (r : Fin 256) :
    (iblk1 V c 2 t : Vec Ideal S1x1x16x128x256 .bf16) (ix5 0 0 n d r)
      = (V c main_v54 : Vec Ideal S2x8x16x128x256 .bf16) (ix5 (tb t) (th t) n d r) := by
  have e := (idx1_q t).2.2
  have := lt1 t
  blk_ext [iblk1, e]

theorem blk_b (i : Fin 7) (r s : Fin 256) :
    (iblk1 V c 3 t : Vec Ideal S7x1x256x256 .f32) (ix4 i 0 r s) = (V c main_v50 : Vec Ideal S7x8x256x256 .f32) (ix4 i (th t) r s) := by
  have e := (idx1_b t).1
  have := lt1 t
  blk_ext [iblk1, e]

theorem blk_l (i : Fin 4) (j : Fin 64) :
    (iblk1 V c 4 t : Vec Ideal S4x64 .f32) (ix2 i j) = (V c main_arg3 : Vec Ideal S4x64 .f32) (ix2 i j) := by
  have e := (idx1_b t).2.1
  blk_ext [iblk1, e]

theorem blk_g (i j : Fin 128) :
    (iblk1 V c 5 t : Vec Ideal S128x128 .f32) (ix2 i j) = (V c main_v56 : Vec Ideal S128x128 .f32) (ix2 i j) := by
  have e := (idx1_b t).2.2.1
  blk_ext [iblk1, e]

theorem emb1_at (r : Fin 512) (x : Fin 128) :
    ((View.whole main_v57).slice (win1_6.rect t)).emb (ix3 0 r x)
      = ix3 (tb t) (⟨512 * (tq t).val + r.val, by omega⟩ : Fin 4096) (⟨(th t).val * 128 + x.val, by omega⟩ : Fin 1024) := by
  have e := (idx1_b t).2.2.2
  have := lt1 t
  blk_ext [e]

/-- The array of the call's results is any array that each grid point's block agrees with. -/
theorem out_arr (G : Vec Ideal S2x4096x1024 .bf16)
    (hG : ∀ (t : Fin cfg1.N) (r : Fin 512) (x : Fin 128), (outsAt1 V c t.val t.isLt : Vec Ideal S1x512x128 .bf16) (ix3 0 r x)
      = G (ix3 (tb t) ⟨512 * (tq t).val + r.val, by omega⟩ ⟨(th t).val * 128 + x.val, by omega⟩)) :
    (dat1 V c).arrAt 6 cfg1.N = G := by
  refine (dat1 V c).arrAt_eq_of_covers 6 _ (by decide +kernel) fun t hf y => ?_
  blk_simp
  rw [after1_6]
  idx_vars y
  obtain rfl : y0 = 0 := Subsingleton.elim _ _
  exact (hG t y1 y2).trans (congrArg G (emb1_at t y1 y2)).symm

end Cert.KernelIdeal.Val

end
-- ==== Proof.CaseA.lean ====
module

public import proofs.«01_k».proof.Proof.Flash

@[expose] public section

set_option maxRecDepth 16384

noncomputable section

/-! # The points of query tile 0: 2 key tiles, tile by tile, are the recursion -/

namespace Cert.KernelIdeal.Val.CaseA

open Idealize.ShloMosaic Idealize.ShloMosaic.TcCoe Idealize.SL.Sem Cert.KernelIdeal Cert.KernelIdeal.Gen

variable (c : Dev nD) (i : grid1.Coords) (arg3 : Memref sig .tc .vmem S1x512x128 .bf16) (harg3 : arg3.IsWhole) (arg4 : Memref sig .tc .vmem S1x4096x128 .bf16) (harg4 : arg4.IsWhole)
  (arg5 : Memref sig .tc .vmem S1x1x16x128x256 .bf16) (harg5 : arg5.IsWhole) (arg6 : Memref sig .tc .vmem S7x1x256x256 .f32) (harg6 : arg6.IsWhole)
  (arg10 : Memref sig .tc .vmem S8x1024 .f32) (arg11 : Memref sig .tc .vmem S144x1024 .f32) (arg12 : Memref sig .tc .vmem S2x256x1024 .f32) (arg13 : Memref sig .tc .vmem S2x8x1024 .f32)
  (hc0 : ¬cond1_0 i)
  (x0 : Vec Ideal S1x512x128 .bf16) (x1 : Vec Ideal S1x4096x128 .bf16) (x2 : Vec Ideal S1x1x16x128x256 .bf16) (x3 : Vec Ideal S7x1x256x256 .f32)

theorem s_0 : arg12.view.readCov (kernelRun1_A.sl.HS2_2 (F := Ideal) c i arg3 harg3 arg4 harg4 arg6 harg6 hc0 x0 x1 x3) (Rect.unit (s := S2x256x1024) ![0, 0, 0] S1x256x1024.size (by decide)).toLoadRect
    = Sc x0 x1 x3 (i 2).val 0 := by
  refine (View.readCov_skip _ _ _ _ _ (by decide)).trans ?_
  refine (View.readCov_cons_toLoadRect _ _ _ _).trans ?_
  exact scC (ldQ ..) (ldK (n := 0) (hn := by decide) (ho := rfl) ..) (ldB (n := 0) (b := 1) (ho := offB i 0 1) ..) (ldB (n := 0) (b := 2) (ho := offB i 0 2) ..)

theorem x_0 : arg13.view.readCov (kernelRun1_A.sl.HS3_2 (F := Ideal) c i arg3 harg3 arg4 harg4 arg6 harg6 hc0 x0 x1 x3) (Rect.unit (s := S2x8x1024) ![0, 0, 0] S1x8x1024.size (by decide)).toLoadRect
    = Mx x0 x1 x3 (i 2).val 0 := by
  refine (View.readCov_skip _ _ _ _ _ (by decide)).trans ?_
  refine (View.readCov_cons_toLoadRect _ _ _ _).trans ?_
  exact mxC (ldQ ..) (ldK (n := 0) (hn := by decide) (ho := rfl) ..) (ldB (n := 0) (b := 1) (ho := offB i 0 1) ..) (ldB (n := 0) (b := 2) (ho := offB i 0 2) ..)

theorem s_1 : arg12.view.readCov (kernelRun1_A.sl.HS2_2 (F := Ideal) c i arg3 harg3 arg4 harg4 arg6 harg6 hc0 x0 x1 x3) (Rect.unit (s := S2x256x1024) ![1, 0, 0] S1x256x1024.size (by decide)).toLoadRect
    = Sc x0 x1 x3 (i 2).val 1 := by
  refine (View.readCov_cons_toLoadRect _ _ _ _).trans ?_
  exact scC (ldQ ..) (ldK (n := 1) (hn := by decide) (ho := rfl) ..) (ldB (n := 1) (b := 1) (ho := offB i 1 1) ..) (ldB (n := 1) (b := 2) (ho := offB i 1 2) ..)

theorem x_1 : arg13.view.readCov (kernelRun1_A.sl.HS3_2 (F := Ideal) c i arg3 harg3 arg4 harg4 arg6 harg6 hc0 x0 x1 x3) (Rect.unit (s := S2x8x1024) ![1, 0, 0] S1x8x1024.size (by decide)).toLoadRect
    = Mx x0 x1 x3 (i 2).val 1 := by
  refine (View.readCov_cons_toLoadRect _ _ _ _).trans ?_
  exact mxC (ldQ ..) (ldK (n := 1) (hn := by decide) (ho := rfl) ..) (ldB (n := 1) (b := 1) (ho := offB i 1 1) ..) (ldB (n := 1) (b := 2) (ho := offB i 1 2) ..)

theorem m_0 : arg10.view.readCov (kernelRun1_A.sl.HS0_1 (F := Ideal) ) (Rect.unit (s := S8x1024) ![0, 0] S8x1024.size (by decide)).toLoadRect
    = M x0 x1 x3 (i 2).val 0 := by
  refine (View.readCov_cons_toLoadRect _ _ _ _).trans ?_
  rfl

theorem a_0 : arg11.view.readCov (kernelRun1_A.sl.HS1_1 (F := Ideal) ) (Rect.unit (s := S144x1024) ![0, 0] S144x1024.size (by decide)).toLoadRect
    = A x0 x1 x2 x3 (i 2).val 0 := by
  refine (View.readCov_cons_toLoadRect _ _ _ _).trans ?_
  rfl

theorem m_1 : arg10.view.readCov (kernelRun1_A.sl.HS0_2 (F := Ideal) c i arg3 harg3 arg4 harg4 arg6 harg6 arg10 arg13 hc0 x0 x1 x3) (Rect.unit (s := S8x1024) ![0, 0] S8x1024.size (by decide)).toLoadRect
    = M x0 x1 x3 (i 2).val 1 := by
  refine (View.readCov_cons_toLoadRect _ _ _ _).trans ?_
  exact mC (m_0 ..) (x_0 ..)

theorem a_1 : arg11.view.readCov (kernelRun1_A.sl.HS1_2 (F := Ideal) c i arg3 harg3 arg4 harg4 arg5 harg5 arg6 harg6 arg10 arg11 arg12 arg13 hc0 x0 x1 x2 x3) (Rect.unit (s := S144x1024) ![0, 0] S144x1024.size (by decide)).toLoadRect
    = A x0 x1 x2 x3 (i 2).val 1 := by
  refine (View.readCov_cons_toLoadRect _ _ _ _).trans ?_
  exact aC (m_0 ..) (x_0 ..) (s_0 ..) (a_0 ..) (ldV (n := 0) (hn := by decide) ..)

theorem a_2 : arg11.view.readCov (kernelRun1_A.sl.HS1_3 (F := Ideal) c i arg3 harg3 arg4 harg4 arg5 harg5 arg6 harg6 arg10 arg11 arg12 arg13 hc0 x0 x1 x2 x3) (Rect.unit (s := S144x1024) ![0, 0] S144x1024.size (by decide)).toLoadRect
    = A x0 x1 x2 x3 (i 2).val 2 := by
  refine (View.readCov_cons_toLoadRect _ _ _ _).trans ?_
  exact aC (m_1 ..) (x_1 ..) (s_1 ..) (a_1 ..) (ldV (n := 1) (hn := by decide) ..)

end Cert.KernelIdeal.Val.CaseA

end
-- ==== Proof.CaseB.lean ====
module

public import proofs.«01_k».proof.Proof.Flash

@[expose] public section

set_option maxRecDepth 16384

noncomputable section

/-! # The points of query tile 1: 4 key tiles, tile by tile, are the recursion -/

namespace Cert.KernelIdeal.Val.CaseB

open Idealize.ShloMosaic Idealize.ShloMosaic.TcCoe Idealize.SL.Sem Cert.KernelIdeal Cert.KernelIdeal.Gen

variable (c : Dev nD) (i : grid1.Coords) (arg3 : Memref sig .tc .vmem S1x512x128 .bf16) (harg3 : arg3.IsWhole) (arg4 : Memref sig .tc .vmem S1x4096x128 .bf16) (harg4 : arg4.IsWhole)
  (arg5 : Memref sig .tc .vmem S1x1x16x128x256 .bf16) (harg5 : arg5.IsWhole) (arg6 : Memref sig .tc .vmem S7x1x256x256 .f32) (harg6 : arg6.IsWhole)
  (arg10 : Memref sig .tc .vmem S8x1024 .f32) (arg11 : Memref sig .tc .vmem S144x1024 .f32) (arg12 : Memref sig .tc .vmem S2x256x1024 .f32) (arg13 : Memref sig .tc .vmem S2x8x1024 .f32)
  (hc0 : cond1_0 i) (hc1 : ¬cond1_1 i)
  (x0 : Vec Ideal S1x512x128 .bf16) (x1 : Vec Ideal S1x4096x128 .bf16) (x2 : Vec Ideal S1x1x16x128x256 .bf16) (x3 : Vec Ideal S7x1x256x256 .f32)

theorem s_0 : arg12.view.readCov (kernelRun1_B.sl.HS2_2 (F := Ideal) c i arg3 harg3 arg4 harg4 arg6 harg6 hc0 hc1 x0 x1 x3) (Rect.unit (s := S2x256x1024) ![0, 0, 0] S1x256x1024.size (by decide)).toLoadRect
    = Sc x0 x1 x3 (i 2).val 0 := by
  refine (View.readCov_skip _ _ _ _ _ (by decide)).trans ?_
  refine (View.readCov_cons_toLoadRect _ _ _ _).trans ?_
  exact scC (ldQ ..) (ldK (n := 0) (hn := by decide) (ho := rfl) ..) (ldB (n := 0) (b := 1) (ho := offB i 0 1) ..) (ldB (n := 0) (b := 2) (ho := offB i 0 2) ..)

theorem x_0 : arg13.view.readCov (kernelRun1_B.sl.HS3_2 (F := Ideal) c i arg3 harg3 arg4 harg4 arg6 harg6 hc0 hc1 x0 x1 x3) (Rect.unit (s := S2x8x1024) ![0, 0, 0] S1x8x1024.size (by decide)).toLoadRect
    = Mx x0 x1 x3 (i 2).val 0 := by
  refine (View.readCov_skip _ _ _ _ _ (by decide)).trans ?_
  refine (View.readCov_cons_toLoadRect _ _ _ _).trans ?_
  exact mxC (ldQ ..) (ldK (n := 0) (hn := by decide) (ho := rfl) ..) (ldB (n := 0) (b := 1) (ho := offB i 0 1) ..) (ldB (n := 0) (b := 2) (ho := offB i 0 2) ..)

theorem s_1 : arg12.view.readCov (kernelRun1_B.sl.HS2_3 (F := Ideal) c i arg3 harg3 arg4 harg4 arg6 harg6 hc0 hc1 x0 x1 x3) (Rect.unit (s := S2x256x1024) ![1, 0, 0] S1x256x1024.size (by decide)).toLoadRect
    = Sc x0 x1 x3 (i 2).val 1 := by
  refine (View.readCov_skip _ _ _ _ _ (by decide)).trans ?_
  refine (View.readCov_cons_toLoadRect _ _ _ _).trans ?_
  exact scC (ldQ ..) (ldK (n := 1) (hn := by decide) (ho := rfl) ..) (ldB (n := 1) (b := 1) (ho := offB i 1 1) ..) (ldB (n := 1) (b := 2) (ho := offB i 1 2) ..)

theorem x_1 : arg13.view.readCov (kernelRun1_B.sl.HS3_3 (F := Ideal) c i arg3 harg3 arg4 harg4 arg6 harg6 hc0 hc1 x0 x1 x3) (Rect.unit (s := S2x8x1024) ![1, 0, 0] S1x8x1024.size (by decide)).toLoadRect
    = Mx x0 x1 x3 (i 2).val 1 := by
  refine (View.readCov_skip _ _ _ _ _ (by decide)).trans ?_
  refine (View.readCov_cons_toLoadRect _ _ _ _).trans ?_
  exact mxC (ldQ ..) (ldK (n := 1) (hn := by decide) (ho := rfl) ..) (ldB (n := 1) (b := 1) (ho := offB i 1 1) ..) (ldB (n := 1) (b := 2) (ho := offB i 1 2) ..)

theorem s_2 : arg12.view.readCov (kernelRun1_B.sl.HS2_4 (F := Ideal) c i arg3 harg3 arg4 harg4 arg6 harg6 hc0 hc1 x0 x1 x3) (Rect.unit (s := S2x256x1024) ![0, 0, 0] S1x256x1024.size (by decide)).toLoadRect
    = Sc x0 x1 x3 (i 2).val 2 := by
  refine (View.readCov_skip _ _ _ _ _ (by decide)).trans ?_
  refine (View.readCov_cons_toLoadRect _ _ _ _).trans ?_
  exact scC (ldQ ..) (ldK (n := 2) (hn := by decide) (ho := rfl) ..) (ldB (n := 2) (b := 1) (ho := offB i 2 1) ..) (ldB (n := 2) (b := 2) (ho := offB i 2 2) ..)

theorem x_2 : arg13.view.readCov (kernelRun1_B.sl.HS3_4 (F := Ideal) c i arg3 harg3 arg4 harg4 arg6 harg6 hc0 hc1 x0 x1 x3) (Rect.unit (s := S2x8x1024) ![0, 0, 0] S1x8x1024.size (by decide)).toLoadRect
    = Mx x0 x1 x3 (i 2).val 2 := by
  refine (View.readCov_skip _ _ _ _ _ (by decide)).trans ?_
  refine (View.readCov_cons_toLoadRect _ _ _ _).trans ?_
  exact mxC (ldQ ..) (ldK (n := 2) (hn := by decide) (ho := rfl) ..) (ldB (n := 2) (b := 1) (ho := offB i 2 1) ..) (ldB (n := 2) (b := 2) (ho := offB i 2 2) ..)

theorem s_3 : arg12.view.readCov (kernelRun1_B.sl.HS2_4 (F := Ideal) c i arg3 harg3 arg4 harg4 arg6 harg6 hc0 hc1 x0 x1 x3) (Rect.unit (s := S2x256x1024) ![1, 0, 0] S1x256x1024.size (by decide)).toLoadRect
    = Sc x0 x1 x3 (i 2).val 3 := by
  refine (View.readCov_cons_toLoadRect _ _ _ _).trans ?_
  exact scC (ldQ ..) (ldK (n := 3) (hn := by decide) (ho := rfl) ..) (ldB (n := 3) (b := 1) (ho := offB i 3 1) ..) (ldB (n := 3) (b := 2) (ho := offB i 3 2) ..)

theorem x_3 : arg13.view.readCov (kernelRun1_B.sl.HS3_4 (F := Ideal) c i arg3 harg3 arg4 harg4 arg6 harg6 hc0 hc1 x0 x1 x3) (Rect.unit (s := S2x8x1024) ![1, 0, 0] S1x8x1024.size (by decide)).toLoadRect
    = Mx x0 x1 x3 (i 2).val 3 := by
  refine (View.readCov_cons_toLoadRect _ _ _ _).trans ?_
  exact mxC (ldQ ..) (ldK (n := 3) (hn := by decide) (ho := rfl) ..) (ldB (n := 3) (b := 1) (ho := offB i 3 1) ..) (ldB (n := 3) (b := 2) (ho := offB i 3 2) ..)

theorem m_0 : arg10.view.readCov (kernelRun1_B.sl.HS0_1 (F := Ideal) ) (Rect.unit (s := S8x1024) ![0, 0] S8x1024.size (by decide)).toLoadRect
    = M x0 x1 x3 (i 2).val 0 := by
  refine (View.readCov_cons_toLoadRect _ _ _ _).trans ?_
  rfl

theorem a_0 : arg11.view.readCov (kernelRun1_B.sl.HS1_1 (F := Ideal) ) (Rect.unit (s := S144x1024) ![0, 0] S144x1024.size (by decide)).toLoadRect
    = A x0 x1 x2 x3 (i 2).val 0 := by
  refine (View.readCov_cons_toLoadRect _ _ _ _).trans ?_
  rfl

theorem m_1 : arg10.view.readCov (kernelRun1_B.sl.HS0_2 (F := Ideal) c i arg3 harg3 arg4 harg4 arg6 harg6 arg10 arg13 hc0 hc1 x0 x1 x3) (Rect.unit (s := S8x1024) ![0, 0] S8x1024.size (by decide)).toLoadRect
    = M x0 x1 x3 (i 2).val 1 := by
  refine (View.readCov_cons_toLoadRect _ _ _ _).trans ?_
  exact mC (m_0 ..) (x_0 ..)

theorem a_1 : arg11.view.readCov (kernelRun1_B.sl.HS1_2 (F := Ideal) c i arg3 harg3 arg4 harg4 arg5 harg5 arg6 harg6 arg10 arg11 arg12 arg13 hc0 hc1 x0 x1 x2 x3) (Rect.unit (s := S144x1024) ![0, 0] S144x1024.size (by decide)).toLoadRect
    = A x0 x1 x2 x3 (i 2).val 1 := by
  refine (View.readCov_cons_toLoadRect _ _ _ _).trans ?_
  exact aC (m_0 ..) (x_0 ..) (s_0 ..) (a_0 ..) (ldV (n := 0) (hn := by decide) ..)

theorem m_2 : arg10.view.readCov (kernelRun1_B.sl.HS0_3 (F := Ideal) c i arg3 harg3 arg4 harg4 arg6 harg6 arg10 arg13 hc0 hc1 x0 x1 x3) (Rect.unit (s := S8x1024) ![0, 0] S8x1024.size (by decide)).toLoadRect
    = M x0 x1 x3 (i 2).val 2 := by
  refine (View.readCov_cons_toLoadRect _ _ _ _).trans ?_
  exact mC (m_1 ..) (x_1 ..)

theorem a_2 : arg11.view.readCov (kernelRun1_B.sl.HS1_3 (F := Ideal) c i arg3 harg3 arg4 harg4 arg5 harg5 arg6 harg6 arg10 arg11 arg12 arg13 hc0 hc1 x0 x1 x2 x3) (Rect.unit (s := S144x1024) ![0, 0] S144x1024.size (by decide)).toLoadRect
    = A x0 x1 x2 x3 (i 2).val 2 := by
  refine (View.readCov_cons_toLoadRect _ _ _ _).trans ?_
  exact aC (m_1 ..) (x_1 ..) (s_1 ..) (a_1 ..) (ldV (n := 1) (hn := by decide) ..)

theorem m_3 : arg10.view.readCov (kernelRun1_B.sl.HS0_4 (F := Ideal) c i arg3 harg3 arg4 harg4 arg6 harg6 arg10 arg13 hc0 hc1 x0 x1 x3) (Rect.unit (s := S8x1024) ![0, 0] S8x1024.size (by decide)).toLoadRect
    = M x0 x1 x3 (i 2).val 3 := by
  refine (View.readCov_cons_toLoadRect _ _ _ _).trans ?_
  exact mC (m_2 ..) (x_2 ..)

theorem a_3 : arg11.view.readCov (kernelRun1_B.sl.HS1_4 (F := Ideal) c i arg3 harg3 arg4 harg4 arg5 harg5 arg6 harg6 arg10 arg11 arg12 arg13 hc0 hc1 x0 x1 x2 x3) (Rect.unit (s := S144x1024) ![0, 0] S144x1024.size (by decide)).toLoadRect
    = A x0 x1 x2 x3 (i 2).val 3 := by
  refine (View.readCov_cons_toLoadRect _ _ _ _).trans ?_
  exact aC (m_2 ..) (x_2 ..) (s_2 ..) (a_2 ..) (ldV (n := 2) (hn := by decide) ..)

theorem a_4 : arg11.view.readCov (kernelRun1_B.sl.HS1_5 (F := Ideal) c i arg3 harg3 arg4 harg4 arg5 harg5 arg6 harg6 arg10 arg11 arg12 arg13 hc0 hc1 x0 x1 x2 x3) (Rect.unit (s := S144x1024) ![0, 0] S144x1024.size (by decide)).toLoadRect
    = A x0 x1 x2 x3 (i 2).val 4 := by
  refine (View.readCov_cons_toLoadRect _ _ _ _).trans ?_
  exact aC (m_3 ..) (x_3 ..) (s_3 ..) (a_3 ..) (ldV (n := 3) (hn := by decide) ..)

end Cert.KernelIdeal.Val.CaseB

end
-- ==== Proof.CaseC.lean ====
module

public import proofs.«01_k».proof.Proof.Flash

@[expose] public section

set_option maxRecDepth 16384

noncomputable section

/-! # The points of query tile 2: 6 key tiles, tile by tile, are the recursion -/

namespace Cert.KernelIdeal.Val.CaseC

open Idealize.ShloMosaic Idealize.ShloMosaic.TcCoe Idealize.SL.Sem Cert.KernelIdeal Cert.KernelIdeal.Gen

variable (c : Dev nD) (i : grid1.Coords) (arg3 : Memref sig .tc .vmem S1x512x128 .bf16) (harg3 : arg3.IsWhole) (arg4 : Memref sig .tc .vmem S1x4096x128 .bf16) (harg4 : arg4.IsWhole)
  (arg5 : Memref sig .tc .vmem S1x1x16x128x256 .bf16) (harg5 : arg5.IsWhole) (arg6 : Memref sig .tc .vmem S7x1x256x256 .f32) (harg6 : arg6.IsWhole)
  (arg10 : Memref sig .tc .vmem S8x1024 .f32) (arg11 : Memref sig .tc .vmem S144x1024 .f32) (arg12 : Memref sig .tc .vmem S2x256x1024 .f32) (arg13 : Memref sig .tc .vmem S2x8x1024 .f32)
  (hc0 : cond1_0 i) (hc1 : cond1_1 i) (hc2 : ¬cond1_2 i)
  (x0 : Vec Ideal S1x512x128 .bf16) (x1 : Vec Ideal S1x4096x128 .bf16) (x2 : Vec Ideal S1x1x16x128x256 .bf16) (x3 : Vec Ideal S7x1x256x256 .f32)

theorem s_0 : arg12.view.readCov (kernelRun1_C.sl.HS2_2 (F := Ideal) c i arg3 harg3 arg4 harg4 arg6 harg6 hc0 hc1 hc2 x0 x1 x3) (Rect.unit (s := S2x256x1024) ![0, 0, 0] S1x256x1024.size (by decide)).toLoadRect
    = Sc x0 x1 x3 (i 2).val 0 := by
  refine (View.readCov_skip _ _ _ _ _ (by decide)).trans ?_
  refine (View.readCov_cons_toLoadRect _ _ _ _).trans ?_
  exact scC (ldQ ..) (ldK (n := 0) (hn := by decide) (ho := rfl) ..) (ldB (n := 0) (b := 1) (ho := offB i 0 1) ..) (ldB (n := 0) (b := 2) (ho := offB i 0 2) ..)

theorem x_0 : arg13.view.readCov (kernelRun1_C.sl.HS3_2 (F := Ideal) c i arg3 harg3 arg4 harg4 arg6 harg6 hc0 hc1 hc2 x0 x1 x3) (Rect.unit (s := S2x8x1024) ![0, 0, 0] S1x8x1024.size (by decide)).toLoadRect
    = Mx x0 x1 x3 (i 2).val 0 := by
  refine (View.readCov_skip _ _ _ _ _ (by decide)).trans ?_
  refine (View.readCov_cons_toLoadRect _ _ _ _).trans ?_
  exact mxC (ldQ ..) (ldK (n := 0) (hn := by decide) (ho := rfl) ..) (ldB (n := 0) (b := 1) (ho := offB i 0 1) ..) (ldB (n := 0) (b := 2) (ho := offB i 0 2) ..)

theorem s_1 : arg12.view.readCov (kernelRun1_C.sl.HS2_3 (F := Ideal) c i arg3 harg3 arg4 harg4 arg6 harg6 hc0 hc1 hc2 x0 x1 x3) (Rect.unit (s := S2x256x1024) ![1, 0, 0] S1x256x1024.size (by decide)).toLoadRect
    = Sc x0 x1 x3 (i 2).val 1 := by
  refine (View.readCov_skip _ _ _ _ _ (by decide)).trans ?_
  refine (View.readCov_cons_toLoadRect _ _ _ _).trans ?_
  exact scC (ldQ ..) (ldK (n := 1) (hn := by decide) (ho := rfl) ..) (ldB (n := 1) (b := 1) (ho := offB i 1 1) ..) (ldB (n := 1) (b := 2) (ho := offB i 1 2) ..)

theorem x_1 : arg13.view.readCov (kernelRun1_C.sl.HS3_3 (F := Ideal) c i arg3 harg3 arg4 harg4 arg6 harg6 hc0 hc1 hc2 x0 x1 x3) (Rect.unit (s := S2x8x1024) ![1, 0, 0] S1x8x1024.size (by decide)).toLoadRect
    = Mx x0 x1 x3 (i 2).val 1 := by
  refine (View.readCov_skip _ _ _ _ _ (by decide)).trans ?_
  refine (View.readCov_cons_toLoadRect _ _ _ _).trans ?_
  exact mxC (ldQ ..) (ldK (n := 1) (hn := by decide) (ho := rfl) ..) (ldB (n := 1) (b := 1) (ho := offB i 1 1) ..) (ldB (n := 1) (b := 2) (ho := offB i 1 2) ..)

theorem s_2 : arg12.view.readCov (kernelRun1_C.sl.HS2_4 (F := Ideal) c i arg3 harg3 arg4 harg4 arg6 harg6 hc0 hc1 hc2 x0 x1 x3) (Rect.unit (s := S2x256x1024) ![0, 0, 0] S1x256x1024.size (by decide)).toLoadRect
    = Sc x0 x1 x3 (i 2).val 2 := by
  refine (View.readCov_skip _ _ _ _ _ (by decide)).trans ?_
  refine (View.readCov_cons_toLoadRect _ _ _ _).trans ?_
  exact scC (ldQ ..) (ldK (n := 2) (hn := by decide) (ho := rfl) ..) (ldB (n := 2) (b := 1) (ho := offB i 2 1) ..) (ldB (n := 2) (b := 2) (ho := offB i 2 2) ..)

theorem x_2 : arg13.view.readCov (kernelRun1_C.sl.HS3_4 (F := Ideal) c i arg3 harg3 arg4 harg4 arg6 harg6 hc0 hc1 hc2 x0 x1 x3) (Rect.unit (s := S2x8x1024) ![0, 0, 0] S1x8x1024.size (by decide)).toLoadRect
    = Mx x0 x1 x3 (i 2).val 2 := by
  refine (View.readCov_skip _ _ _ _ _ (by decide)).trans ?_
  refine (View.readCov_cons_toLoadRect _ _ _ _).trans ?_
  exact mxC (ldQ ..) (ldK (n := 2) (hn := by decide) (ho := rfl) ..) (ldB (n := 2) (b := 1) (ho := offB i 2 1) ..) (ldB (n := 2) (b := 2) (ho := offB i 2 2) ..)

theorem s_3 : arg12.view.readCov (kernelRun1_C.sl.HS2_5 (F := Ideal) c i arg3 harg3 arg4 harg4 arg6 harg6 hc0 hc1 hc2 x0 x1 x3) (Rect.unit (s := S2x256x1024) ![1, 0, 0] S1x256x1024.size (by decide)).toLoadRect
    = Sc x0 x1 x3 (i 2).val 3 := by
  refine (View.readCov_skip _ _ _ _ _ (by decide)).trans ?_
  refine (View.readCov_cons_toLoadRect _ _ _ _).trans ?_
  exact scC (ldQ ..) (ldK (n := 3) (hn := by decide) (ho := rfl) ..) (ldB (n := 3) (b := 1) (ho := offB i 3 1) ..) (ldB (n := 3) (b := 2) (ho := offB i 3 2) ..)

theorem x_3 : arg13.view.readCov (kernelRun1_C.sl.HS3_5 (F := Ideal) c i arg3 harg3 arg4 harg4 arg6 harg6 hc0 hc1 hc2 x0 x1 x3) (Rect.unit (s := S2x8x1024) ![1, 0, 0] S1x8x1024.size (by decide)).toLoadRect
    = Mx x0 x1 x3 (i 2).val 3 := by
  refine (View.readCov_skip _ _ _ _ _ (by decide)).trans ?_
  refine (View.readCov_cons_toLoadRect _ _ _ _).trans ?_
  exact mxC (ldQ ..) (ldK (n := 3) (hn := by decide) (ho := rfl) ..) (ldB (n := 3) (b := 1) (ho := offB i 3 1) ..) (ldB (n := 3) (b := 2) (ho := offB i 3 2) ..)

theorem s_4 : arg12.view.readCov (kernelRun1_C.sl.HS2_6 (F := Ideal) c i arg3 harg3 arg4 harg4 arg6 harg6 hc0 hc1 hc2 x0 x1 x3) (Rect.unit (s := S2x256x1024) ![0, 0, 0] S1x256x1024.size (by decide)).toLoadRect
    = Sc x0 x1 x3 (i 2).val 4 := by
  refine (View.readCov_skip _ _ _ _ _ (by decide)).trans ?_
  refine (View.readCov_cons_toLoadRect _ _ _ _).trans ?_
  exact scC (ldQ ..) (ldK (n := 4) (hn := by decide) (ho := rfl) ..) (ldB (n := 4) (b := 1) (ho := offB i 4 1) ..) (ldB (n := 4) (b := 2) (ho := offB i 4 2) ..)

theorem x_4 : arg13.view.readCov (kernelRun1_C.sl.HS3_6 (F := Ideal) c i arg3 harg3 arg4 harg4 arg6 harg6 hc0 hc1 hc2 x0 x1 x3) (Rect.unit (s := S2x8x1024) ![0, 0, 0] S1x8x1024.size (by decide)).toLoadRect
    = Mx x0 x1 x3 (i 2).val 4 := by
  refine (View.readCov_skip _ _ _ _ _ (by decide)).trans ?_
  refine (View.readCov_cons_toLoadRect _ _ _ _).trans ?_
  exact mxC (ldQ ..) (ldK (n := 4) (hn := by decide) (ho := rfl) ..) (ldB (n := 4) (b := 1) (ho := offB i 4 1) ..) (ldB (n := 4) (b := 2) (ho := offB i 4 2) ..)

theorem s_5 : arg12.view.readCov (kernelRun1_C.sl.HS2_6 (F := Ideal) c i arg3 harg3 arg4 harg4 arg6 harg6 hc0 hc1 hc2 x0 x1 x3) (Rect.unit (s := S2x256x1024) ![1, 0, 0] S1x256x1024.size (by decide)).toLoadRect
    = Sc x0 x1 x3 (i 2).val 5 := by
  refine (View.readCov_cons_toLoadRect _ _ _ _).trans ?_
  exact scC (ldQ ..) (ldK (n := 5) (hn := by decide) (ho := rfl) ..) (ldB (n := 5) (b := 1) (ho := offB i 5 1) ..) (ldB (n := 5) (b := 2) (ho := offB i 5 2) ..)

theorem x_5 : arg13.view.readCov (kernelRun1_C.sl.HS3_6 (F := Ideal) c i arg3 harg3 arg4 harg4 arg6 harg6 hc0 hc1 hc2 x0 x1 x3) (Rect.unit (s := S2x8x1024) ![1, 0, 0] S1x8x1024.size (by decide)).toLoadRect
    = Mx x0 x1 x3 (i 2).val 5 := by
  refine (View.readCov_cons_toLoadRect _ _ _ _).trans ?_
  exact mxC (ldQ ..) (ldK (n := 5) (hn := by decide) (ho := rfl) ..) (ldB (n := 5) (b := 1) (ho := offB i 5 1) ..) (ldB (n := 5) (b := 2) (ho := offB i 5 2) ..)

theorem m_0 : arg10.view.readCov (kernelRun1_C.sl.HS0_1 (F := Ideal) ) (Rect.unit (s := S8x1024) ![0, 0] S8x1024.size (by decide)).toLoadRect
    = M x0 x1 x3 (i 2).val 0 := by
  refine (View.readCov_cons_toLoadRect _ _ _ _).trans ?_
  rfl

theorem a_0 : arg11.view.readCov (kernelRun1_C.sl.HS1_1 (F := Ideal) ) (Rect.unit (s := S144x1024) ![0, 0] S144x1024.size (by decide)).toLoadRect
    = A x0 x1 x2 x3 (i 2).val 0 := by
  refine (View.readCov_cons_toLoadRect _ _ _ _).trans ?_
  rfl

theorem m_1 : arg10.view.readCov (kernelRun1_C.sl.HS0_2 (F := Ideal) c i arg3 harg3 arg4 harg4 arg6 harg6 arg10 arg13 hc0 hc1 hc2 x0 x1 x3) (Rect.unit (s := S8x1024) ![0, 0] S8x1024.size (by decide)).toLoadRect
    = M x0 x1 x3 (i 2).val 1 := by
  refine (View.readCov_cons_toLoadRect _ _ _ _).trans ?_
  exact mC (m_0 ..) (x_0 ..)

theorem a_1 : arg11.view.readCov (kernelRun1_C.sl.HS1_2 (F := Ideal) c i arg3 harg3 arg4 harg4 arg5 harg5 arg6 harg6 arg10 arg11 arg12 arg13 hc0 hc1 hc2 x0 x1 x2 x3) (Rect.unit (s := S144x1024) ![0, 0] S144x1024.size (by decide)).toLoadRect
    = A x0 x1 x2 x3 (i 2).val 1 := by
  refine (View.readCov_cons_toLoadRect _ _ _ _).trans ?_
  exact aC (m_0 ..) (x_0 ..) (s_0 ..) (a_0 ..) (ldV (n := 0) (hn := by decide) ..)

theorem m_2 : arg10.view.readCov (kernelRun1_C.sl.HS0_3 (F := Ideal) c i arg3 harg3 arg4 harg4 arg6 harg6 arg10 arg13 hc0 hc1 hc2 x0 x1 x3) (Rect.unit (s := S8x1024) ![0, 0] S8x1024.size (by decide)).toLoadRect
    = M x0 x1 x3 (i 2).val 2 := by
  refine (View.readCov_cons_toLoadRect _ _ _ _).trans ?_
  exact mC (m_1 ..) (x_1 ..)

theorem a_2 : arg11.view.readCov (kernelRun1_C.sl.HS1_3 (F := Ideal) c i arg3 harg3 arg4 harg4 arg5 harg5 arg6 harg6 arg10 arg11 arg12 arg13 hc0 hc1 hc2 x0 x1 x2 x3) (Rect.unit (s := S144x1024) ![0, 0] S144x1024.size (by decide)).toLoadRect
    = A x0 x1 x2 x3 (i 2).val 2 := by
  refine (View.readCov_cons_toLoadRect _ _ _ _).trans ?_
  exact aC (m_1 ..) (x_1 ..) (s_1 ..) (a_1 ..) (ldV (n := 1) (hn := by decide) ..)

theorem m_3 : arg10.view.readCov (kernelRun1_C.sl.HS0_4 (F := Ideal) c i arg3 harg3 arg4 harg4 arg6 harg6 arg10 arg13 hc0 hc1 hc2 x0 x1 x3) (Rect.unit (s := S8x1024) ![0, 0] S8x1024.size (by decide)).toLoadRect
    = M x0 x1 x3 (i 2).val 3 := by
  refine (View.readCov_cons_toLoadRect _ _ _ _).trans ?_
  exact mC (m_2 ..) (x_2 ..)

theorem a_3 : arg11.view.readCov (kernelRun1_C.sl.HS1_4 (F := Ideal) c i arg3 harg3 arg4 harg4 arg5 harg5 arg6 harg6 arg10 arg11 arg12 arg13 hc0 hc1 hc2 x0 x1 x2 x3) (Rect.unit (s := S144x1024) ![0, 0] S144x1024.size (by decide)).toLoadRect
    = A x0 x1 x2 x3 (i 2).val 3 := by
  refine (View.readCov_cons_toLoadRect _ _ _ _).trans ?_
  exact aC (m_2 ..) (x_2 ..) (s_2 ..) (a_2 ..) (ldV (n := 2) (hn := by decide) ..)

theorem m_4 : arg10.view.readCov (kernelRun1_C.sl.HS0_5 (F := Ideal) c i arg3 harg3 arg4 harg4 arg6 harg6 arg10 arg13 hc0 hc1 hc2 x0 x1 x3) (Rect.unit (s := S8x1024) ![0, 0] S8x1024.size (by decide)).toLoadRect
    = M x0 x1 x3 (i 2).val 4 := by
  refine (View.readCov_cons_toLoadRect _ _ _ _).trans ?_
  exact mC (m_3 ..) (x_3 ..)

theorem a_4 : arg11.view.readCov (kernelRun1_C.sl.HS1_5 (F := Ideal) c i arg3 harg3 arg4 harg4 arg5 harg5 arg6 harg6 arg10 arg11 arg12 arg13 hc0 hc1 hc2 x0 x1 x2 x3) (Rect.unit (s := S144x1024) ![0, 0] S144x1024.size (by decide)).toLoadRect
    = A x0 x1 x2 x3 (i 2).val 4 := by
  refine (View.readCov_cons_toLoadRect _ _ _ _).trans ?_
  exact aC (m_3 ..) (x_3 ..) (s_3 ..) (a_3 ..) (ldV (n := 3) (hn := by decide) ..)

theorem m_5 : arg10.view.readCov (kernelRun1_C.sl.HS0_6 (F := Ideal) c i arg3 harg3 arg4 harg4 arg6 harg6 arg10 arg13 hc0 hc1 hc2 x0 x1 x3) (Rect.unit (s := S8x1024) ![0, 0] S8x1024.size (by decide)).toLoadRect
    = M x0 x1 x3 (i 2).val 5 := by
  refine (View.readCov_cons_toLoadRect _ _ _ _).trans ?_
  exact mC (m_4 ..) (x_4 ..)

theorem a_5 : arg11.view.readCov (kernelRun1_C.sl.HS1_6 (F := Ideal) c i arg3 harg3 arg4 harg4 arg5 harg5 arg6 harg6 arg10 arg11 arg12 arg13 hc0 hc1 hc2 x0 x1 x2 x3) (Rect.unit (s := S144x1024) ![0, 0] S144x1024.size (by decide)).toLoadRect
    = A x0 x1 x2 x3 (i 2).val 5 := by
  refine (View.readCov_cons_toLoadRect _ _ _ _).trans ?_
  exact aC (m_4 ..) (x_4 ..) (s_4 ..) (a_4 ..) (ldV (n := 4) (hn := by decide) ..)

theorem a_6 : arg11.view.readCov (kernelRun1_C.sl.HS1_7 (F := Ideal) c i arg3 harg3 arg4 harg4 arg5 harg5 arg6 harg6 arg10 arg11 arg12 arg13 hc0 hc1 hc2 x0 x1 x2 x3) (Rect.unit (s := S144x1024) ![0, 0] S144x1024.size (by decide)).toLoadRect
    = A x0 x1 x2 x3 (i 2).val 6 := by
  refine (View.readCov_cons_toLoadRect _ _ _ _).trans ?_
  exact aC (m_5 ..) (x_5 ..) (s_5 ..) (a_5 ..) (ldV (n := 5) (hn := by decide) ..)

end Cert.KernelIdeal.Val.CaseC

end
-- ==== Proof.CaseD.lean ====
module

public import proofs.«01_k».proof.Proof.Flash

@[expose] public section

set_option maxRecDepth 16384

noncomputable section

/-! # The points of query tile 3: 8 key tiles, tile by tile, are the recursion -/

namespace Cert.KernelIdeal.Val.CaseD

open Idealize.ShloMosaic Idealize.ShloMosaic.TcCoe Idealize.SL.Sem Cert.KernelIdeal Cert.KernelIdeal.Gen

variable (c : Dev nD) (i : grid1.Coords) (arg3 : Memref sig .tc .vmem S1x512x128 .bf16) (harg3 : arg3.IsWhole) (arg4 : Memref sig .tc .vmem S1x4096x128 .bf16) (harg4 : arg4.IsWhole)
  (arg5 : Memref sig .tc .vmem S1x1x16x128x256 .bf16) (harg5 : arg5.IsWhole) (arg6 : Memref sig .tc .vmem S7x1x256x256 .f32) (harg6 : arg6.IsWhole)
  (arg10 : Memref sig .tc .vmem S8x1024 .f32) (arg11 : Memref sig .tc .vmem S144x1024 .f32) (arg12 : Memref sig .tc .vmem S2x256x1024 .f32) (arg13 : Memref sig .tc .vmem S2x8x1024 .f32)
  (hc0 : cond1_0 i) (hc1 : cond1_1 i) (hc2 : cond1_2 i) (hc3 : ¬cond1_3 i)
  (x0 : Vec Ideal S1x512x128 .bf16) (x1 : Vec Ideal S1x4096x128 .bf16) (x2 : Vec Ideal S1x1x16x128x256 .bf16) (x3 : Vec Ideal S7x1x256x256 .f32)

theorem s_0 : arg12.view.readCov (kernelRun1_D.sl.HS2_2 (F := Ideal) c i arg3 harg3 arg4 harg4 arg6 harg6 hc0 hc1 hc2 hc3 x0 x1 x3) (Rect.unit (s := S2x256x1024) ![0, 0, 0] S1x256x1024.size (by decide)).toLoadRect
    = Sc x0 x1 x3 (i 2).val 0 := by
  refine (View.readCov_skip _ _ _ _ _ (by decide)).trans ?_
  refine (View.readCov_cons_toLoadRect _ _ _ _).trans ?_
  exact scC (ldQ ..) (ldK (n := 0) (hn := by decide) (ho := rfl) ..) (ldB (n := 0) (b := 1) (ho := offB i 0 1) ..) (ldB (n := 0) (b := 2) (ho := offB i 0 2) ..)

theorem x_0 : arg13.view.readCov (kernelRun1_D.sl.HS3_2 (F := Ideal) c i arg3 harg3 arg4 harg4 arg6 harg6 hc0 hc1 hc2 hc3 x0 x1 x3) (Rect.unit (s := S2x8x1024) ![0, 0, 0] S1x8x1024.size (by decide)).toLoadRect
    = Mx x0 x1 x3 (i 2).val 0 := by
  refine (View.readCov_skip _ _ _ _ _ (by decide)).trans ?_
  refine (View.readCov_cons_toLoadRect _ _ _ _).trans ?_
  exact mxC (ldQ ..) (ldK (n := 0) (hn := by decide) (ho := rfl) ..) (ldB (n := 0) (b := 1) (ho := offB i 0 1) ..) (ldB (n := 0) (b := 2) (ho := offB i 0 2) ..)

theorem s_1 : arg12.view.readCov (kernelRun1_D.sl.HS2_3 (F := Ideal) c i arg3 harg3 arg4 harg4 arg6 harg6 hc0 hc1 hc2 hc3 x0 x1 x3) (Rect.unit (s := S2x256x1024) ![1, 0, 0] S1x256x1024.size (by decide)).toLoadRect
    = Sc x0 x1 x3 (i 2).val 1 := by
  refine (View.readCov_skip _ _ _ _ _ (by decide)).trans ?_
  refine (View.readCov_cons_toLoadRect _ _ _ _).trans ?_
  exact scC (ldQ ..) (ldK (n := 1) (hn := by decide) (ho := rfl) ..) (ldB (n := 1) (b := 1) (ho := offB i 1 1) ..) (ldB (n := 1) (b := 2) (ho := offB i 1 2) ..)

theorem x_1 : arg13.view.readCov (kernelRun1_D.sl.HS3_3 (F := Ideal) c i arg3 harg3 arg4 harg4 arg6 harg6 hc0 hc1 hc2 hc3 x0 x1 x3) (Rect.unit (s := S2x8x1024) ![1, 0, 0] S1x8x1024.size (by decide)).toLoadRect
    = Mx x0 x1 x3 (i 2).val 1 := by
  refine (View.readCov_skip _ _ _ _ _ (by decide)).trans ?_
  refine (View.readCov_cons_toLoadRect _ _ _ _).trans ?_
  exact mxC (ldQ ..) (ldK (n := 1) (hn := by decide) (ho := rfl) ..) (ldB (n := 1) (b := 1) (ho := offB i 1 1) ..) (ldB (n := 1) (b := 2) (ho := offB i 1 2) ..)

theorem s_2 : arg12.view.readCov (kernelRun1_D.sl.HS2_4 (F := Ideal) c i arg3 harg3 arg4 harg4 arg6 harg6 hc0 hc1 hc2 hc3 x0 x1 x3) (Rect.unit (s := S2x256x1024) ![0, 0, 0] S1x256x1024.size (by decide)).toLoadRect
    = Sc x0 x1 x3 (i 2).val 2 := by
  refine (View.readCov_skip _ _ _ _ _ (by decide)).trans ?_
  refine (View.readCov_cons_toLoadRect _ _ _ _).trans ?_
  exact scC (ldQ ..) (ldK (n := 2) (hn := by decide) (ho := rfl) ..) (ldB (n := 2) (b := 1) (ho := offB i 2 1) ..) (ldB (n := 2) (b := 2) (ho := offB i 2 2) ..)

theorem x_2 : arg13.view.readCov (kernelRun1_D.sl.HS3_4 (F := Ideal) c i arg3 harg3 arg4 harg4 arg6 harg6 hc0 hc1 hc2 hc3 x0 x1 x3) (Rect.unit (s := S2x8x1024) ![0, 0, 0] S1x8x1024.size (by decide)).toLoadRect
    = Mx x0 x1 x3 (i 2).val 2 := by
  refine (View.readCov_skip _ _ _ _ _ (by decide)).trans ?_
  refine (View.readCov_cons_toLoadRect _ _ _ _).trans ?_
  exact mxC (ldQ ..) (ldK (n := 2) (hn := by decide) (ho := rfl) ..) (ldB (n := 2) (b := 1) (ho := offB i 2 1) ..) (ldB (n := 2) (b := 2) (ho := offB i 2 2) ..)

theorem s_3 : arg12.view.readCov (kernelRun1_D.sl.HS2_5 (F := Ideal) c i arg3 harg3 arg4 harg4 arg6 harg6 hc0 hc1 hc2 hc3 x0 x1 x3) (Rect.unit (s := S2x256x1024) ![1, 0, 0] S1x256x1024.size (by decide)).toLoadRect
    = Sc x0 x1 x3 (i 2).val 3 := by
  refine (View.readCov_skip _ _ _ _ _ (by decide)).trans ?_
  refine (View.readCov_cons_toLoadRect _ _ _ _).trans ?_
  exact scC (ldQ ..) (ldK (n := 3) (hn := by decide) (ho := rfl) ..) (ldB (n := 3) (b := 1) (ho := offB i 3 1) ..) (ldB (n := 3) (b := 2) (ho := offB i 3 2) ..)

theorem x_3 : arg13.view.readCov (kernelRun1_D.sl.HS3_5 (F := Ideal) c i arg3 harg3 arg4 harg4 arg6 harg6 hc0 hc1 hc2 hc3 x0 x1 x3) (Rect.unit (s := S2x8x1024) ![1, 0, 0] S1x8x1024.size (by decide)).toLoadRect
    = Mx x0 x1 x3 (i 2).val 3 := by
  refine (View.readCov_skip _ _ _ _ _ (by decide)).trans ?_
  refine (View.readCov_cons_toLoadRect _ _ _ _).trans ?_
  exact mxC (ldQ ..) (ldK (n := 3) (hn := by decide) (ho := rfl) ..) (ldB (n := 3) (b := 1) (ho := offB i 3 1) ..) (ldB (n := 3) (b := 2) (ho := offB i 3 2) ..)

theorem s_4 : arg12.view.readCov (kernelRun1_D.sl.HS2_6 (F := Ideal) c i arg3 harg3 arg4 harg4 arg6 harg6 hc0 hc1 hc2 hc3 x0 x1 x3) (Rect.unit (s := S2x256x1024) ![0, 0, 0] S1x256x1024.size (by decide)).toLoadRect
    = Sc x0 x1 x3 (i 2).val 4 := by
  refine (View.readCov_skip _ _ _ _ _ (by decide)).trans ?_
  refine (View.readCov_cons_toLoadRect _ _ _ _).trans ?_
  exact scC (ldQ ..) (ldK (n := 4) (hn := by decide) (ho := rfl) ..) (ldB (n := 4) (b := 1) (ho := offB i 4 1) ..) (ldB (n := 4) (b := 2) (ho := offB i 4 2) ..)

theorem x_4 : arg13.view.readCov (kernelRun1_D.sl.HS3_6 (F := Ideal) c i arg3 harg3 arg4 harg4 arg6 harg6 hc0 hc1 hc2 hc3 x0 x1 x3) (Rect.unit (s := S2x8x1024) ![0, 0, 0] S1x8x1024.size (by decide)).toLoadRect
    = Mx x0 x1 x3 (i 2).val 4 := by
  refine (View.readCov_skip _ _ _ _ _ (by decide)).trans ?_
  refine (View.readCov_cons_toLoadRect _ _ _ _).trans ?_
  exact mxC (ldQ ..) (ldK (n := 4) (hn := by decide) (ho := rfl) ..) (ldB (n := 4) (b := 1) (ho := offB i 4 1) ..) (ldB (n := 4) (b := 2) (ho := offB i 4 2) ..)

theorem s_5 : arg12.view.readCov (kernelRun1_D.sl.HS2_7 (F := Ideal) c i arg3 harg3 arg4 harg4 arg6 harg6 hc0 hc1 hc2 hc3 x0 x1 x3) (Rect.unit (s := S2x256x1024) ![1, 0, 0] S1x256x1024.size (by decide)).toLoadRect
    = Sc x0 x1 x3 (i 2).val 5 := by
  refine (View.readCov_skip _ _ _ _ _ (by decide)).trans ?_
  refine (View.readCov_cons_toLoadRect _ _ _ _).trans ?_
  exact scC (ldQ ..) (ldK (n := 5) (hn := by decide) (ho := rfl) ..) (ldB (n := 5) (b := 1) (ho := offB i 5 1) ..) (ldB (n := 5) (b := 2) (ho := offB i 5 2) ..)

theorem x_5 : arg13.view.readCov (kernelRun1_D.sl.HS3_7 (F := Ideal) c i arg3 harg3 arg4 harg4 arg6 harg6 hc0 hc1 hc2 hc3 x0 x1 x3) (Rect.unit (s := S2x8x1024) ![1, 0, 0] S1x8x1024.size (by decide)).toLoadRect
    = Mx x0 x1 x3 (i 2).val 5 := by
  refine (View.readCov_skip _ _ _ _ _ (by decide)).trans ?_
  refine (View.readCov_cons_toLoadRect _ _ _ _).trans ?_
  exact mxC (ldQ ..) (ldK (n := 5) (hn := by decide) (ho := rfl) ..) (ldB (n := 5) (b := 1) (ho := offB i 5 1) ..) (ldB (n := 5) (b := 2) (ho := offB i 5 2) ..)

theorem s_6 : arg12.view.readCov (kernelRun1_D.sl.HS2_8 (F := Ideal) c i arg3 harg3 arg4 harg4 arg6 harg6 hc0 hc1 hc2 hc3 x0 x1 x3) (Rect.unit (s := S2x256x1024) ![0, 0, 0] S1x256x1024.size (by decide)).toLoadRect
    = Sc x0 x1 x3 (i 2).val 6 := by
  refine (View.readCov_skip _ _ _ _ _ (by decide)).trans ?_
  refine (View.readCov_cons_toLoadRect _ _ _ _).trans ?_
  exact scC (ldQ ..) (ldK (n := 6) (hn := by decide) (ho := rfl) ..) (ldB (n := 6) (b := 1) (ho := offB i 6 1) ..) (ldB (n := 6) (b := 2) (ho := offB i 6 2) ..)

theorem x_6 : arg13.view.readCov (kernelRun1_D.sl.HS3_8 (F := Ideal) c i arg3 harg3 arg4 harg4 arg6 harg6 hc0 hc1 hc2 hc3 x0 x1 x3) (Rect.unit (s := S2x8x1024) ![0, 0, 0] S1x8x1024.size (by decide)).toLoadRect
    = Mx x0 x1 x3 (i 2).val 6 := by
  refine (View.readCov_skip _ _ _ _ _ (by decide)).trans ?_
  refine (View.readCov_cons_toLoadRect _ _ _ _).trans ?_
  exact mxC (ldQ ..) (ldK (n := 6) (hn := by decide) (ho := rfl) ..) (ldB (n := 6) (b := 1) (ho := offB i 6 1) ..) (ldB (n := 6) (b := 2) (ho := offB i 6 2) ..)

theorem s_7 : arg12.view.readCov (kernelRun1_D.sl.HS2_8 (F := Ideal) c i arg3 harg3 arg4 harg4 arg6 harg6 hc0 hc1 hc2 hc3 x0 x1 x3) (Rect.unit (s := S2x256x1024) ![1, 0, 0] S1x256x1024.size (by decide)).toLoadRect
    = Sc x0 x1 x3 (i 2).val 7 := by
  refine (View.readCov_cons_toLoadRect _ _ _ _).trans ?_
  exact scC (ldQ ..) (ldK (n := 7) (hn := by decide) (ho := rfl) ..) (ldB (n := 7) (b := 1) (ho := offB i 7 1) ..) (ldB (n := 7) (b := 2) (ho := offB i 7 2) ..)

theorem x_7 : arg13.view.readCov (kernelRun1_D.sl.HS3_8 (F := Ideal) c i arg3 harg3 arg4 harg4 arg6 harg6 hc0 hc1 hc2 hc3 x0 x1 x3) (Rect.unit (s := S2x8x1024) ![1, 0, 0] S1x8x1024.size (by decide)).toLoadRect
    = Mx x0 x1 x3 (i 2).val 7 := by
  refine (View.readCov_cons_toLoadRect _ _ _ _).trans ?_
  exact mxC (ldQ ..) (ldK (n := 7) (hn := by decide) (ho := rfl) ..) (ldB (n := 7) (b := 1) (ho := offB i 7 1) ..) (ldB (n := 7) (b := 2) (ho := offB i 7 2) ..)

theorem m_0 : arg10.view.readCov (kernelRun1_D.sl.HS0_1 (F := Ideal) ) (Rect.unit (s := S8x1024) ![0, 0] S8x1024.size (by decide)).toLoadRect
    = M x0 x1 x3 (i 2).val 0 := by
  refine (View.readCov_cons_toLoadRect _ _ _ _).trans ?_
  rfl

theorem a_0 : arg11.view.readCov (kernelRun1_D.sl.HS1_1 (F := Ideal) ) (Rect.unit (s := S144x1024) ![0, 0] S144x1024.size (by decide)).toLoadRect
    = A x0 x1 x2 x3 (i 2).val 0 := by
  refine (View.readCov_cons_toLoadRect _ _ _ _).trans ?_
  rfl

theorem m_1 : arg10.view.readCov (kernelRun1_D.sl.HS0_2 (F := Ideal) c i arg3 harg3 arg4 harg4 arg6 harg6 arg10 arg13 hc0 hc1 hc2 hc3 x0 x1 x3) (Rect.unit (s := S8x1024) ![0, 0] S8x1024.size (by decide)).toLoadRect
    = M x0 x1 x3 (i 2).val 1 := by
  refine (View.readCov_cons_toLoadRect _ _ _ _).trans ?_
  exact mC (m_0 ..) (x_0 ..)

theorem a_1 : arg11.view.readCov (kernelRun1_D.sl.HS1_2 (F := Ideal) c i arg3 harg3 arg4 harg4 arg5 harg5 arg6 harg6 arg10 arg11 arg12 arg13 hc0 hc1 hc2 hc3 x0 x1 x2 x3) (Rect.unit (s := S144x1024) ![0, 0] S144x1024.size (by decide)).toLoadRect
    = A x0 x1 x2 x3 (i 2).val 1 := by
  refine (View.readCov_cons_toLoadRect _ _ _ _).trans ?_
  exact aC (m_0 ..) (x_0 ..) (s_0 ..) (a_0 ..) (ldV (n := 0) (hn := by decide) ..)

theorem m_2 : arg10.view.readCov (kernelRun1_D.sl.HS0_3 (F := Ideal) c i arg3 harg3 arg4 harg4 arg6 harg6 arg10 arg13 hc0 hc1 hc2 hc3 x0 x1 x3) (Rect.unit (s := S8x1024) ![0, 0] S8x1024.size (by decide)).toLoadRect
    = M x0 x1 x3 (i 2).val 2 := by
  refine (View.readCov_cons_toLoadRect _ _ _ _).trans ?_
  exact mC (m_1 ..) (x_1 ..)

theorem a_2 : arg11.view.readCov (kernelRun1_D.sl.HS1_3 (F := Ideal) c i arg3 harg3 arg4 harg4 arg5 harg5 arg6 harg6 arg10 arg11 arg12 arg13 hc0 hc1 hc2 hc3 x0 x1 x2 x3) (Rect.unit (s := S144x1024) ![0, 0] S144x1024.size (by decide)).toLoadRect
    = A x0 x1 x2 x3 (i 2).val 2 := by
  refine (View.readCov_cons_toLoadRect _ _ _ _).trans ?_
  exact aC (m_1 ..) (x_1 ..) (s_1 ..) (a_1 ..) (ldV (n := 1) (hn := by decide) ..)

theorem m_3 : arg10.view.readCov (kernelRun1_D.sl.HS0_4 (F := Ideal) c i arg3 harg3 arg4 harg4 arg6 harg6 arg10 arg13 hc0 hc1 hc2 hc3 x0 x1 x3) (Rect.unit (s := S8x1024) ![0, 0] S8x1024.size (by decide)).toLoadRect
    = M x0 x1 x3 (i 2).val 3 := by
  refine (View.readCov_cons_toLoadRect _ _ _ _).trans ?_
  exact mC (m_2 ..) (x_2 ..)

theorem a_3 : arg11.view.readCov (kernelRun1_D.sl.HS1_4 (F := Ideal) c i arg3 harg3 arg4 harg4 arg5 harg5 arg6 harg6 arg10 arg11 arg12 arg13 hc0 hc1 hc2 hc3 x0 x1 x2 x3) (Rect.unit (s := S144x1024) ![0, 0] S144x1024.size (by decide)).toLoadRect
    = A x0 x1 x2 x3 (i 2).val 3 := by
  refine (View.readCov_cons_toLoadRect _ _ _ _).trans ?_
  exact aC (m_2 ..) (x_2 ..) (s_2 ..) (a_2 ..) (ldV (n := 2) (hn := by decide) ..)

theorem m_4 : arg10.view.readCov (kernelRun1_D.sl.HS0_5 (F := Ideal) c i arg3 harg3 arg4 harg4 arg6 harg6 arg10 arg13 hc0 hc1 hc2 hc3 x0 x1 x3) (Rect.unit (s := S8x1024) ![0, 0] S8x1024.size (by decide)).toLoadRect
    = M x0 x1 x3 (i 2).val 4 := by
  refine (View.readCov_cons_toLoadRect _ _ _ _).trans ?_
  exact mC (m_3 ..) (x_3 ..)

theorem a_4 : arg11.view.readCov (kernelRun1_D.sl.HS1_5 (F := Ideal) c i arg3 harg3 arg4 harg4 arg5 harg5 arg6 harg6 arg10 arg11 arg12 arg13 hc0 hc1 hc2 hc3 x0 x1 x2 x3) (Rect.unit (s := S144x1024) ![0, 0] S144x1024.size (by decide)).toLoadRect
    = A x0 x1 x2 x3 (i 2).val 4 := by
  refine (View.readCov_cons_toLoadRect _ _ _ _).trans ?_
  exact aC (m_3 ..) (x_3 ..) (s_3 ..) (a_3 ..) (ldV (n := 3) (hn := by decide) ..)

theorem m_5 : arg10.view.readCov (kernelRun1_D.sl.HS0_6 (F := Ideal) c i arg3 harg3 arg4 harg4 arg6 harg6 arg10 arg13 hc0 hc1 hc2 hc3 x0 x1 x3) (Rect.unit (s := S8x1024) ![0, 0] S8x1024.size (by decide)).toLoadRect
    = M x0 x1 x3 (i 2).val 5 := by
  refine (View.readCov_cons_toLoadRect _ _ _ _).trans ?_
  exact mC (m_4 ..) (x_4 ..)

theorem a_5 : arg11.view.readCov (kernelRun1_D.sl.HS1_6 (F := Ideal) c i arg3 harg3 arg4 harg4 arg5 harg5 arg6 harg6 arg10 arg11 arg12 arg13 hc0 hc1 hc2 hc3 x0 x1 x2 x3) (Rect.unit (s := S144x1024) ![0, 0] S144x1024.size (by decide)).toLoadRect
    = A x0 x1 x2 x3 (i 2).val 5 := by
  refine (View.readCov_cons_toLoadRect _ _ _ _).trans ?_
  exact aC (m_4 ..) (x_4 ..) (s_4 ..) (a_4 ..) (ldV (n := 4) (hn := by decide) ..)

theorem m_6 : arg10.view.readCov (kernelRun1_D.sl.HS0_7 (F := Ideal) c i arg3 harg3 arg4 harg4 arg6 harg6 arg10 arg13 hc0 hc1 hc2 hc3 x0 x1 x3) (Rect.unit (s := S8x1024) ![0, 0] S8x1024.size (by decide)).toLoadRect
    = M x0 x1 x3 (i 2).val 6 := by
  refine (View.readCov_cons_toLoadRect _ _ _ _).trans ?_
  exact mC (m_5 ..) (x_5 ..)

theorem a_6 : arg11.view.readCov (kernelRun1_D.sl.HS1_7 (F := Ideal) c i arg3 harg3 arg4 harg4 arg5 harg5 arg6 harg6 arg10 arg11 arg12 arg13 hc0 hc1 hc2 hc3 x0 x1 x2 x3) (Rect.unit (s := S144x1024) ![0, 0] S144x1024.size (by decide)).toLoadRect
    = A x0 x1 x2 x3 (i 2).val 6 := by
  refine (View.readCov_cons_toLoadRect _ _ _ _).trans ?_
  exact aC (m_5 ..) (x_5 ..) (s_5 ..) (a_5 ..) (ldV (n := 5) (hn := by decide) ..)

theorem m_7 : arg10.view.readCov (kernelRun1_D.sl.HS0_8 (F := Ideal) c i arg3 harg3 arg4 harg4 arg6 harg6 arg10 arg13 hc0 hc1 hc2 hc3 x0 x1 x3) (Rect.unit (s := S8x1024) ![0, 0] S8x1024.size (by decide)).toLoadRect
    = M x0 x1 x3 (i 2).val 7 := by
  refine (View.readCov_cons_toLoadRect _ _ _ _).trans ?_
  exact mC (m_6 ..) (x_6 ..)

theorem a_7 : arg11.view.readCov (kernelRun1_D.sl.HS1_8 (F := Ideal) c i arg3 harg3 arg4 harg4 arg5 harg5 arg6 harg6 arg10 arg11 arg12 arg13 hc0 hc1 hc2 hc3 x0 x1 x2 x3) (Rect.unit (s := S144x1024) ![0, 0] S144x1024.size (by decide)).toLoadRect
    = A x0 x1 x2 x3 (i 2).val 7 := by
  refine (View.readCov_cons_toLoadRect _ _ _ _).trans ?_
  exact aC (m_6 ..) (x_6 ..) (s_6 ..) (a_6 ..) (ldV (n := 6) (hn := by decide) ..)

theorem a_8 : arg11.view.readCov (kernelRun1_D.sl.HS1_9 (F := Ideal) c i arg3 harg3 arg4 harg4 arg5 harg5 arg6 harg6 arg10 arg11 arg12 arg13 hc0 hc1 hc2 hc3 x0 x1 x2 x3) (Rect.unit (s := S144x1024) ![0, 0] S144x1024.size (by decide)).toLoadRect
    = A x0 x1 x2 x3 (i 2).val 8 := by
  refine (View.readCov_cons_toLoadRect _ _ _ _).trans ?_
  exact aC (m_7 ..) (x_7 ..) (s_7 ..) (a_7 ..) (ldV (n := 7) (hn := by decide) ..)

end Cert.KernelIdeal.Val.CaseD

end
-- ==== Proof.CaseE.lean ====
module

public import proofs.«01_k».proof.Proof.Flash

@[expose] public section

set_option maxRecDepth 16384

noncomputable section

/-! # The points of query tile 4: 10 key tiles, tile by tile, are the recursion -/

namespace Cert.KernelIdeal.Val.CaseE

open Idealize.ShloMosaic Idealize.ShloMosaic.TcCoe Idealize.SL.Sem Cert.KernelIdeal Cert.KernelIdeal.Gen

variable (c : Dev nD) (i : grid1.Coords) (arg3 : Memref sig .tc .vmem S1x512x128 .bf16) (harg3 : arg3.IsWhole) (arg4 : Memref sig .tc .vmem S1x4096x128 .bf16) (harg4 : arg4.IsWhole)
  (arg5 : Memref sig .tc .vmem S1x1x16x128x256 .bf16) (harg5 : arg5.IsWhole) (arg6 : Memref sig .tc .vmem S7x1x256x256 .f32) (harg6 : arg6.IsWhole)
  (arg10 : Memref sig .tc .vmem S8x1024 .f32) (arg11 : Memref sig .tc .vmem S144x1024 .f32) (arg12 : Memref sig .tc .vmem S2x256x1024 .f32) (arg13 : Memref sig .tc .vmem S2x8x1024 .f32)
  (hc0 : cond1_0 i) (hc1 : cond1_1 i) (hc2 : cond1_2 i) (hc3 : cond1_3 i) (hc4 : ¬cond1_4 i)
  (x0 : Vec Ideal S1x512x128 .bf16) (x1 : Vec Ideal S1x4096x128 .bf16) (x2 : Vec Ideal S1x1x16x128x256 .bf16) (x3 : Vec Ideal S7x1x256x256 .f32)

theorem s_0 : arg12.view.readCov (kernelRun1_E.sl.HS2_2 (F := Ideal) c i arg3 harg3 arg4 harg4 arg6 harg6 hc0 hc1 hc2 hc3 hc4 x0 x1 x3) (Rect.unit (s := S2x256x1024) ![0, 0, 0] S1x256x1024.size (by decide)).toLoadRect
    = Sc x0 x1 x3 (i 2).val 0 := by
  refine (View.readCov_skip _ _ _ _ _ (by decide)).trans ?_
  refine (View.readCov_cons_toLoadRect _ _ _ _).trans ?_
  exact scC (ldQ ..) (ldK (n := 0) (hn := by decide) (ho := rfl) ..) (ldB (n := 0) (b := 1) (ho := offB i 0 1) ..) (ldB (n := 0) (b := 2) (ho := offB i 0 2) ..)

theorem x_0 : arg13.view.readCov (kernelRun1_E.sl.HS3_2 (F := Ideal) c i arg3 harg3 arg4 harg4 arg6 harg6 hc0 hc1 hc2 hc3 hc4 x0 x1 x3) (Rect.unit (s := S2x8x1024) ![0, 0, 0] S1x8x1024.size (by decide)).toLoadRect
    = Mx x0 x1 x3 (i 2).val 0 := by
  refine (View.readCov_skip _ _ _ _ _ (by decide)).trans ?_
  refine (View.readCov_cons_toLoadRect _ _ _ _).trans ?_
  exact mxC (ldQ ..) (ldK (n := 0) (hn := by decide) (ho := rfl) ..) (ldB (n := 0) (b := 1) (ho := offB i 0 1) ..) (ldB (n := 0) (b := 2) (ho := offB i 0 2) ..)

theorem s_1 : arg12.view.readCov (kernelRun1_E.sl.HS2_3 (F := Ideal) c i arg3 harg3 arg4 harg4 arg6 harg6 hc0 hc1 hc2 hc3 hc4 x0 x1 x3) (Rect.unit (s := S2x256x1024) ![1, 0, 0] S1x256x1024.size (by decide)).toLoadRect
    = Sc x0 x1 x3 (i 2).val 1 := by
  refine (View.readCov_skip _ _ _ _ _ (by decide)).trans ?_
  refine (View.readCov_cons_toLoadRect _ _ _ _).trans ?_
  exact scC (ldQ ..) (ldK (n := 1) (hn := by decide) (ho := rfl) ..) (ldB (n := 1) (b := 1) (ho := offB i 1 1) ..) (ldB (n := 1) (b := 2) (ho := offB i 1 2) ..)

theorem x_1 : arg13.view.readCov (kernelRun1_E.sl.HS3_3 (F := Ideal) c i arg3 harg3 arg4 harg4 arg6 harg6 hc0 hc1 hc2 hc3 hc4 x0 x1 x3) (Rect.unit (s := S2x8x1024) ![1, 0, 0] S1x8x1024.size (by decide)).toLoadRect
    = Mx x0 x1 x3 (i 2).val 1 := by
  refine (View.readCov_skip _ _ _ _ _ (by decide)).trans ?_
  refine (View.readCov_cons_toLoadRect _ _ _ _).trans ?_
  exact mxC (ldQ ..) (ldK (n := 1) (hn := by decide) (ho := rfl) ..) (ldB (n := 1) (b := 1) (ho := offB i 1 1) ..) (ldB (n := 1) (b := 2) (ho := offB i 1 2) ..)

theorem s_2 : arg12.view.readCov (kernelRun1_E.sl.HS2_4 (F := Ideal) c i arg3 harg3 arg4 harg4 arg6 harg6 hc0 hc1 hc2 hc3 hc4 x0 x1 x3) (Rect.unit (s := S2x256x1024) ![0, 0, 0] S1x256x1024.size (by decide)).toLoadRect
    = Sc x0 x1 x3 (i 2).val 2 := by
  refine (View.readCov_skip _ _ _ _ _ (by decide)).trans ?_
  refine (View.readCov_cons_toLoadRect _ _ _ _).trans ?_
  exact scC (ldQ ..) (ldK (n := 2) (hn := by decide) (ho := rfl) ..) (ldB (n := 2) (b := 1) (ho := offB i 2 1) ..) (ldB (n := 2) (b := 2) (ho := offB i 2 2) ..)

theorem x_2 : arg13.view.readCov (kernelRun1_E.sl.HS3_4 (F := Ideal) c i arg3 harg3 arg4 harg4 arg6 harg6 hc0 hc1 hc2 hc3 hc4 x0 x1 x3) (Rect.unit (s := S2x8x1024) ![0, 0, 0] S1x8x1024.size (by decide)).toLoadRect
    = Mx x0 x1 x3 (i 2).val 2 := by
  refine (View.readCov_skip _ _ _ _ _ (by decide)).trans ?_
  refine (View.readCov_cons_toLoadRect _ _ _ _).trans ?_
  exact mxC (ldQ ..) (ldK (n := 2) (hn := by decide) (ho := rfl) ..) (ldB (n := 2) (b := 1) (ho := offB i 2 1) ..) (ldB (n := 2) (b := 2) (ho := offB i 2 2) ..)

theorem s_3 : arg12.view.readCov (kernelRun1_E.sl.HS2_5 (F := Ideal) c i arg3 harg3 arg4 harg4 arg6 harg6 hc0 hc1 hc2 hc3 hc4 x0 x1 x3) (Rect.unit (s := S2x256x1024) ![1, 0, 0] S1x256x1024.size (by decide)).toLoadRect
    = Sc x0 x1 x3 (i 2).val 3 := by
  refine (View.readCov_skip _ _ _ _ _ (by decide)).trans ?_
  refine (View.readCov_cons_toLoadRect _ _ _ _).trans ?_
  exact scC (ldQ ..) (ldK (n := 3) (hn := by decide) (ho := rfl) ..) (ldB (n := 3) (b := 1) (ho := offB i 3 1) ..) (ldB (n := 3) (b := 2) (ho := offB i 3 2) ..)

theorem x_3 : arg13.view.readCov (kernelRun1_E.sl.HS3_5 (F := Ideal) c i arg3 harg3 arg4 harg4 arg6 harg6 hc0 hc1 hc2 hc3 hc4 x0 x1 x3) (Rect.unit (s := S2x8x1024) ![1, 0, 0] S1x8x1024.size (by decide)).toLoadRect
    = Mx x0 x1 x3 (i 2).val 3 := by
  refine (View.readCov_skip _ _ _ _ _ (by decide)).trans ?_
  refine (View.readCov_cons_toLoadRect _ _ _ _).trans ?_
  exact mxC (ldQ ..) (ldK (n := 3) (hn := by decide) (ho := rfl) ..) (ldB (n := 3) (b := 1) (ho := offB i 3 1) ..) (ldB (n := 3) (b := 2) (ho := offB i 3 2) ..)

theorem s_4 : arg12.view.readCov (kernelRun1_E.sl.HS2_6 (F := Ideal) c i arg3 harg3 arg4 harg4 arg6 harg6 hc0 hc1 hc2 hc3 hc4 x0 x1 x3) (Rect.unit (s := S2x256x1024) ![0, 0, 0] S1x256x1024.size (by decide)).toLoadRect
    = Sc x0 x1 x3 (i 2).val 4 := by
  refine (View.readCov_skip _ _ _ _ _ (by decide)).trans ?_
  refine (View.readCov_cons_toLoadRect _ _ _ _).trans ?_
  exact scC (ldQ ..) (ldK (n := 4) (hn := by decide) (ho := rfl) ..) (ldB (n := 4) (b := 1) (ho := offB i 4 1) ..) (ldB (n := 4) (b := 2) (ho := offB i 4 2) ..)

theorem x_4 : arg13.view.readCov (kernelRun1_E.sl.HS3_6 (F := Ideal) c i arg3 harg3 arg4 harg4 arg6 harg6 hc0 hc1 hc2 hc3 hc4 x0 x1 x3) (Rect.unit (s := S2x8x1024) ![0, 0, 0] S1x8x1024.size (by decide)).toLoadRect
    = Mx x0 x1 x3 (i 2).val 4 := by
  refine (View.readCov_skip _ _ _ _ _ (by decide)).trans ?_
  refine (View.readCov_cons_toLoadRect _ _ _ _).trans ?_
  exact mxC (ldQ ..) (ldK (n := 4) (hn := by decide) (ho := rfl) ..) (ldB (n := 4) (b := 1) (ho := offB i 4 1) ..) (ldB (n := 4) (b := 2) (ho := offB i 4 2) ..)

theorem s_5 : arg12.view.readCov (kernelRun1_E.sl.HS2_7 (F := Ideal) c i arg3 harg3 arg4 harg4 arg6 harg6 hc0 hc1 hc2 hc3 hc4 x0 x1 x3) (Rect.unit (s := S2x256x1024) ![1, 0, 0] S1x256x1024.size (by decide)).toLoadRect
    = Sc x0 x1 x3 (i 2).val 5 := by
  refine (View.readCov_skip _ _ _ _ _ (by decide)).trans ?_
  refine (View.readCov_cons_toLoadRect _ _ _ _).trans ?_
  exact scC (ldQ ..) (ldK (n := 5) (hn := by decide) (ho := rfl) ..) (ldB (n := 5) (b := 1) (ho := offB i 5 1) ..) (ldB (n := 5) (b := 2) (ho := offB i 5 2) ..)

theorem x_5 : arg13.view.readCov (kernelRun1_E.sl.HS3_7 (F := Ideal) c i arg3 harg3 arg4 harg4 arg6 harg6 hc0 hc1 hc2 hc3 hc4 x0 x1 x3) (Rect.unit (s := S2x8x1024) ![1, 0, 0] S1x8x1024.size (by decide)).toLoadRect
    = Mx x0 x1 x3 (i 2).val 5 := by
  refine (View.readCov_skip _ _ _ _ _ (by decide)).trans ?_
  refine (View.readCov_cons_toLoadRect _ _ _ _).trans ?_
  exact mxC (ldQ ..) (ldK (n := 5) (hn := by decide) (ho := rfl) ..) (ldB (n := 5) (b := 1) (ho := offB i 5 1) ..) (ldB (n := 5) (b := 2) (ho := offB i 5 2) ..)

theorem s_6 : arg12.view.readCov (kernelRun1_E.sl.HS2_8 (F := Ideal) c i arg3 harg3 arg4 harg4 arg6 harg6 hc0 hc1 hc2 hc3 hc4 x0 x1 x3) (Rect.unit (s := S2x256x1024) ![0, 0, 0] S1x256x1024.size (by decide)).toLoadRect
    = Sc x0 x1 x3 (i 2).val 6 := by
  refine (View.readCov_skip _ _ _ _ _ (by decide)).trans ?_
  refine (View.readCov_cons_toLoadRect _ _ _ _).trans ?_
  exact scC (ldQ ..) (ldK (n := 6) (hn := by decide) (ho := rfl) ..) (ldB (n := 6) (b := 1) (ho := offB i 6 1) ..) (ldB (n := 6) (b := 2) (ho := offB i 6 2) ..)

theorem x_6 : arg13.view.readCov (kernelRun1_E.sl.HS3_8 (F := Ideal) c i arg3 harg3 arg4 harg4 arg6 harg6 hc0 hc1 hc2 hc3 hc4 x0 x1 x3) (Rect.unit (s := S2x8x1024) ![0, 0, 0] S1x8x1024.size (by decide)).toLoadRect
    = Mx x0 x1 x3 (i 2).val 6 := by
  refine (View.readCov_skip _ _ _ _ _ (by decide)).trans ?_
  refine (View.readCov_cons_toLoadRect _ _ _ _).trans ?_
  exact mxC (ldQ ..) (ldK (n := 6) (hn := by decide) (ho := rfl) ..) (ldB (n := 6) (b := 1) (ho := offB i 6 1) ..) (ldB (n := 6) (b := 2) (ho := offB i 6 2) ..)

theorem s_7 : arg12.view.readCov (kernelRun1_E.sl.HS2_9 (F := Ideal) c i arg3 harg3 arg4 harg4 arg6 harg6 hc0 hc1 hc2 hc3 hc4 x0 x1 x3) (Rect.unit (s := S2x256x1024) ![1, 0, 0] S1x256x1024.size (by decide)).toLoadRect
    = Sc x0 x1 x3 (i 2).val 7 := by
  refine (View.readCov_skip _ _ _ _ _ (by decide)).trans ?_
  refine (View.readCov_cons_toLoadRect _ _ _ _).trans ?_
  exact scC (ldQ ..) (ldK (n := 7) (hn := by decide) (ho := rfl) ..) (ldB (n := 7) (b := 1) (ho := offB i 7 1) ..) (ldB (n := 7) (b := 2) (ho := offB i 7 2) ..)

theorem x_7 : arg13.view.readCov (kernelRun1_E.sl.HS3_9 (F := Ideal) c i arg3 harg3 arg4 harg4 arg6 harg6 hc0 hc1 hc2 hc3 hc4 x0 x1 x3) (Rect.unit (s := S2x8x1024) ![1, 0, 0] S1x8x1024.size (by decide)).toLoadRect
    = Mx x0 x1 x3 (i 2).val 7 := by
  refine (View.readCov_skip _ _ _ _ _ (by decide)).trans ?_
  refine (View.readCov_cons_toLoadRect _ _ _ _).trans ?_
  exact mxC (ldQ ..) (ldK (n := 7) (hn := by decide) (ho := rfl) ..) (ldB (n := 7) (b := 1) (ho := offB i 7 1) ..) (ldB (n := 7) (b := 2) (ho := offB i 7 2) ..)

theorem s_8 : arg12.view.readCov (kernelRun1_E.sl.HS2_10 (F := Ideal) c i arg3 harg3 arg4 harg4 arg6 harg6 hc0 hc1 hc2 hc3 hc4 x0 x1 x3) (Rect.unit (s := S2x256x1024) ![0, 0, 0] S1x256x1024.size (by decide)).toLoadRect
    = Sc x0 x1 x3 (i 2).val 8 := by
  refine (View.readCov_skip _ _ _ _ _ (by decide)).trans ?_
  refine (View.readCov_cons_toLoadRect _ _ _ _).trans ?_
  exact scC (ldQ ..) (ldK (n := 8) (hn := by decide) (ho := rfl) ..) (ldB (n := 8) (b := 1) (ho := offB i 8 1) ..) (ldB (n := 8) (b := 2) (ho := offB i 8 2) ..)

theorem x_8 : arg13.view.readCov (kernelRun1_E.sl.HS3_10 (F := Ideal) c i arg3 harg3 arg4 harg4 arg6 harg6 hc0 hc1 hc2 hc3 hc4 x0 x1 x3) (Rect.unit (s := S2x8x1024) ![0, 0, 0] S1x8x1024.size (by decide)).toLoadRect
    = Mx x0 x1 x3 (i 2).val 8 := by
  refine (View.readCov_skip _ _ _ _ _ (by decide)).trans ?_
  refine (View.readCov_cons_toLoadRect _ _ _ _).trans ?_
  exact mxC (ldQ ..) (ldK (n := 8) (hn := by decide) (ho := rfl) ..) (ldB (n := 8) (b := 1) (ho := offB i 8 1) ..) (ldB (n := 8) (b := 2) (ho := offB i 8 2) ..)

theorem s_9 : arg12.view.readCov (kernelRun1_E.sl.HS2_10 (F := Ideal) c i arg3 harg3 arg4 harg4 arg6 harg6 hc0 hc1 hc2 hc3 hc4 x0 x1 x3) (Rect.unit (s := S2x256x1024) ![1, 0, 0] S1x256x1024.size (by decide)).toLoadRect
    = Sc x0 x1 x3 (i 2).val 9 := by
  refine (View.readCov_cons_toLoadRect _ _ _ _).trans ?_
  exact scC (ldQ ..) (ldK (n := 9) (hn := by decide) (ho := rfl) ..) (ldB (n := 9) (b := 1) (ho := offB i 9 1) ..) (ldB (n := 9) (b := 2) (ho := offB i 9 2) ..)

theorem x_9 : arg13.view.readCov (kernelRun1_E.sl.HS3_10 (F := Ideal) c i arg3 harg3 arg4 harg4 arg6 harg6 hc0 hc1 hc2 hc3 hc4 x0 x1 x3) (Rect.unit (s := S2x8x1024) ![1, 0, 0] S1x8x1024.size (by decide)).toLoadRect
    = Mx x0 x1 x3 (i 2).val 9 := by
  refine (View.readCov_cons_toLoadRect _ _ _ _).trans ?_
  exact mxC (ldQ ..) (ldK (n := 9) (hn := by decide) (ho := rfl) ..) (ldB (n := 9) (b := 1) (ho := offB i 9 1) ..) (ldB (n := 9) (b := 2) (ho := offB i 9 2) ..)

theorem m_0 : arg10.view.readCov (kernelRun1_E.sl.HS0_1 (F := Ideal) ) (Rect.unit (s := S8x1024) ![0, 0] S8x1024.size (by decide)).toLoadRect
    = M x0 x1 x3 (i 2).val 0 := by
  refine (View.readCov_cons_toLoadRect _ _ _ _).trans ?_
  rfl

theorem a_0 : arg11.view.readCov (kernelRun1_E.sl.HS1_1 (F := Ideal) ) (Rect.unit (s := S144x1024) ![0, 0] S144x1024.size (by decide)).toLoadRect
    = A x0 x1 x2 x3 (i 2).val 0 := by
  refine (View.readCov_cons_toLoadRect _ _ _ _).trans ?_
  rfl

theorem m_1 : arg10.view.readCov (kernelRun1_E.sl.HS0_2 (F := Ideal) c i arg3 harg3 arg4 harg4 arg6 harg6 arg10 arg13 hc0 hc1 hc2 hc3 hc4 x0 x1 x3) (Rect.unit (s := S8x1024) ![0, 0] S8x1024.size (by decide)).toLoadRect
    = M x0 x1 x3 (i 2).val 1 := by
  refine (View.readCov_cons_toLoadRect _ _ _ _).trans ?_
  exact mC (m_0 ..) (x_0 ..)

theorem a_1 : arg11.view.readCov (kernelRun1_E.sl.HS1_2 (F := Ideal) c i arg3 harg3 arg4 harg4 arg5 harg5 arg6 harg6 arg10 arg11 arg12 arg13 hc0 hc1 hc2 hc3 hc4 x0 x1 x2 x3) (Rect.unit (s := S144x1024) ![0, 0] S144x1024.size (by decide)).toLoadRect
    = A x0 x1 x2 x3 (i 2).val 1 := by
  refine (View.readCov_cons_toLoadRect _ _ _ _).trans ?_
  exact aC (m_0 ..) (x_0 ..) (s_0 ..) (a_0 ..) (ldV (n := 0) (hn := by decide) ..)

theorem m_2 : arg10.view.readCov (kernelRun1_E.sl.HS0_3 (F := Ideal) c i arg3 harg3 arg4 harg4 arg6 harg6 arg10 arg13 hc0 hc1 hc2 hc3 hc4 x0 x1 x3) (Rect.unit (s := S8x1024) ![0, 0] S8x1024.size (by decide)).toLoadRect
    = M x0 x1 x3 (i 2).val 2 := by
  refine (View.readCov_cons_toLoadRect _ _ _ _).trans ?_
  exact mC (m_1 ..) (x_1 ..)

theorem a_2 : arg11.view.readCov (kernelRun1_E.sl.HS1_3 (F := Ideal) c i arg3 harg3 arg4 harg4 arg5 harg5 arg6 harg6 arg10 arg11 arg12 arg13 hc0 hc1 hc2 hc3 hc4 x0 x1 x2 x3) (Rect.unit (s := S144x1024) ![0, 0] S144x1024.size (by decide)).toLoadRect
    = A x0 x1 x2 x3 (i 2).val 2 := by
  refine (View.readCov_cons_toLoadRect _ _ _ _).trans ?_
  exact aC (m_1 ..) (x_1 ..) (s_1 ..) (a_1 ..) (ldV (n := 1) (hn := by decide) ..)

theorem m_3 : arg10.view.readCov (kernelRun1_E.sl.HS0_4 (F := Ideal) c i arg3 harg3 arg4 harg4 arg6 harg6 arg10 arg13 hc0 hc1 hc2 hc3 hc4 x0 x1 x3) (Rect.unit (s := S8x1024) ![0, 0] S8x1024.size (by decide)).toLoadRect
    = M x0 x1 x3 (i 2).val 3 := by
  refine (View.readCov_cons_toLoadRect _ _ _ _).trans ?_
  exact mC (m_2 ..) (x_2 ..)

theorem a_3 : arg11.view.readCov (kernelRun1_E.sl.HS1_4 (F := Ideal) c i arg3 harg3 arg4 harg4 arg5 harg5 arg6 harg6 arg10 arg11 arg12 arg13 hc0 hc1 hc2 hc3 hc4 x0 x1 x2 x3) (Rect.unit (s := S144x1024) ![0, 0] S144x1024.size (by decide)).toLoadRect
    = A x0 x1 x2 x3 (i 2).val 3 := by
  refine (View.readCov_cons_toLoadRect _ _ _ _).trans ?_
  exact aC (m_2 ..) (x_2 ..) (s_2 ..) (a_2 ..) (ldV (n := 2) (hn := by decide) ..)

theorem m_4 : arg10.view.readCov (kernelRun1_E.sl.HS0_5 (F := Ideal) c i arg3 harg3 arg4 harg4 arg6 harg6 arg10 arg13 hc0 hc1 hc2 hc3 hc4 x0 x1 x3) (Rect.unit (s := S8x1024) ![0, 0] S8x1024.size (by decide)).toLoadRect
    = M x0 x1 x3 (i 2).val 4 := by
  refine (View.readCov_cons_toLoadRect _ _ _ _).trans ?_
  exact mC (m_3 ..) (x_3 ..)

theorem a_4 : arg11.view.readCov (kernelRun1_E.sl.HS1_5 (F := Ideal) c i arg3 harg3 arg4 harg4 arg5 harg5 arg6 harg6 arg10 arg11 arg12 arg13 hc0 hc1 hc2 hc3 hc4 x0 x1 x2 x3) (Rect.unit (s := S144x1024) ![0, 0] S144x1024.size (by decide)).toLoadRect
    = A x0 x1 x2 x3 (i 2).val 4 := by
  refine (View.readCov_cons_toLoadRect _ _ _ _).trans ?_
  exact aC (m_3 ..) (x_3 ..) (s_3 ..) (a_3 ..) (ldV (n := 3) (hn := by decide) ..)

theorem m_5 : arg10.view.readCov (kernelRun1_E.sl.HS0_6 (F := Ideal) c i arg3 harg3 arg4 harg4 arg6 harg6 arg10 arg13 hc0 hc1 hc2 hc3 hc4 x0 x1 x3) (Rect.unit (s := S8x1024) ![0, 0] S8x1024.size (by decide)).toLoadRect
    = M x0 x1 x3 (i 2).val 5 := by
  refine (View.readCov_cons_toLoadRect _ _ _ _).trans ?_
  exact mC (m_4 ..) (x_4 ..)

theorem a_5 : arg11.view.readCov (kernelRun1_E.sl.HS1_6 (F := Ideal) c i arg3 harg3 arg4 harg4 arg5 harg5 arg6 harg6 arg10 arg11 arg12 arg13 hc0 hc1 hc2 hc3 hc4 x0 x1 x2 x3) (Rect.unit (s := S144x1024) ![0, 0] S144x1024.size (by decide)).toLoadRect
    = A x0 x1 x2 x3 (i 2).val 5 := by
  refine (View.readCov_cons_toLoadRect _ _ _ _).trans ?_
  exact aC (m_4 ..) (x_4 ..) (s_4 ..) (a_4 ..) (ldV (n := 4) (hn := by decide) ..)

theorem m_6 : arg10.view.readCov (kernelRun1_E.sl.HS0_7 (F := Ideal) c i arg3 harg3 arg4 harg4 arg6 harg6 arg10 arg13 hc0 hc1 hc2 hc3 hc4 x0 x1 x3) (Rect.unit (s := S8x1024) ![0, 0] S8x1024.size (by decide)).toLoadRect
    = M x0 x1 x3 (i 2).val 6 := by
  refine (View.readCov_cons_toLoadRect _ _ _ _).trans ?_
  exact mC (m_5 ..) (x_5 ..)

theorem a_6 : arg11.view.readCov (kernelRun1_E.sl.HS1_7 (F := Ideal) c i arg3 harg3 arg4 harg4 arg5 harg5 arg6 harg6 arg10 arg11 arg12 arg13 hc0 hc1 hc2 hc3 hc4 x0 x1 x2 x3) (Rect.unit (s := S144x1024) ![0, 0] S144x1024.size (by decide)).toLoadRect
    = A x0 x1 x2 x3 (i 2).val 6 := by
  refine (View.readCov_cons_toLoadRect _ _ _ _).trans ?_
  exact aC (m_5 ..) (x_5 ..) (s_5 ..) (a_5 ..) (ldV (n := 5) (hn := by decide) ..)

theorem m_7 : arg10.view.readCov (kernelRun1_E.sl.HS0_8 (F := Ideal) c i arg3 harg3 arg4 harg4 arg6 harg6 arg10 arg13 hc0 hc1 hc2 hc3 hc4 x0 x1 x3) (Rect.unit (s := S8x1024) ![0, 0] S8x1024.size (by decide)).toLoadRect
    = M x0 x1 x3 (i 2).val 7 := by
  refine (View.readCov_cons_toLoadRect _ _ _ _).trans ?_
  exact mC (m_6 ..) (x_6 ..)

theorem a_7 : arg11.view.readCov (kernelRun1_E.sl.HS1_8 (F := Ideal) c i arg3 harg3 arg4 harg4 arg5 harg5 arg6 harg6 arg10 arg11 arg12 arg13 hc0 hc1 hc2 hc3 hc4 x0 x1 x2 x3) (Rect.unit (s := S144x1024) ![0, 0] S144x1024.size (by decide)).toLoadRect
    = A x0 x1 x2 x3 (i 2).val 7 := by
  refine (View.readCov_cons_toLoadRect _ _ _ _).trans ?_
  exact aC (m_6 ..) (x_6 ..) (s_6 ..) (a_6 ..) (ldV (n := 6) (hn := by decide) ..)

theorem m_8 : arg10.view.readCov (kernelRun1_E.sl.HS0_9 (F := Ideal) c i arg3 harg3 arg4 harg4 arg6 harg6 arg10 arg13 hc0 hc1 hc2 hc3 hc4 x0 x1 x3) (Rect.unit (s := S8x1024) ![0, 0] S8x1024.size (by decide)).toLoadRect
    = M x0 x1 x3 (i 2).val 8 := by
  refine (View.readCov_cons_toLoadRect _ _ _ _).trans ?_
  exact mC (m_7 ..) (x_7 ..)

theorem a_8 : arg11.view.readCov (kernelRun1_E.sl.HS1_9 (F := Ideal) c i arg3 harg3 arg4 harg4 arg5 harg5 arg6 harg6 arg10 arg11 arg12 arg13 hc0 hc1 hc2 hc3 hc4 x0 x1 x2 x3) (Rect.unit (s := S144x1024) ![0, 0] S144x1024.size (by decide)).toLoadRect
    = A x0 x1 x2 x3 (i 2).val 8 := by
  refine (View.readCov_cons_toLoadRect _ _ _ _).trans ?_
  exact aC (m_7 ..) (x_7 ..) (s_7 ..) (a_7 ..) (ldV (n := 7) (hn := by decide) ..)

theorem m_9 : arg10.view.readCov (kernelRun1_E.sl.HS0_10 (F := Ideal) c i arg3 harg3 arg4 harg4 arg6 harg6 arg10 arg13 hc0 hc1 hc2 hc3 hc4 x0 x1 x3) (Rect.unit (s := S8x1024) ![0, 0] S8x1024.size (by decide)).toLoadRect
    = M x0 x1 x3 (i 2).val 9 := by
  refine (View.readCov_cons_toLoadRect _ _ _ _).trans ?_
  exact mC (m_8 ..) (x_8 ..)

theorem a_9 : arg11.view.readCov (kernelRun1_E.sl.HS1_10 (F := Ideal) c i arg3 harg3 arg4 harg4 arg5 harg5 arg6 harg6 arg10 arg11 arg12 arg13 hc0 hc1 hc2 hc3 hc4 x0 x1 x2 x3) (Rect.unit (s := S144x1024) ![0, 0] S144x1024.size (by decide)).toLoadRect
    = A x0 x1 x2 x3 (i 2).val 9 := by
  refine (View.readCov_cons_toLoadRect _ _ _ _).trans ?_
  exact aC (m_8 ..) (x_8 ..) (s_8 ..) (a_8 ..) (ldV (n := 8) (hn := by decide) ..)

theorem a_10 : arg11.view.readCov (kernelRun1_E.sl.HS1_11 (F := Ideal) c i arg3 harg3 arg4 harg4 arg5 harg5 arg6 harg6 arg10 arg11 arg12 arg13 hc0 hc1 hc2 hc3 hc4 x0 x1 x2 x3) (Rect.unit (s := S144x1024) ![0, 0] S144x1024.size (by decide)).toLoadRect
    = A x0 x1 x2 x3 (i 2).val 10 := by
  refine (View.readCov_cons_toLoadRect _ _ _ _).trans ?_
  exact aC (m_9 ..) (x_9 ..) (s_9 ..) (a_9 ..) (ldV (n := 9) (hn := by decide) ..)

end Cert.KernelIdeal.Val.CaseE

end
-- ==== Proof.CaseF.lean ====
module

public import proofs.«01_k».proof.Proof.Flash

@[expose] public section

set_option maxRecDepth 16384

noncomputable section

/-! # The points of query tile 5: 12 key tiles, tile by tile, are the recursion -/

namespace Cert.KernelIdeal.Val.CaseF

open Idealize.ShloMosaic Idealize.ShloMosaic.TcCoe Idealize.SL.Sem Cert.KernelIdeal Cert.KernelIdeal.Gen

variable (c : Dev nD) (i : grid1.Coords) (arg3 : Memref sig .tc .vmem S1x512x128 .bf16) (harg3 : arg3.IsWhole) (arg4 : Memref sig .tc .vmem S1x4096x128 .bf16) (harg4 : arg4.IsWhole)
  (arg5 : Memref sig .tc .vmem S1x1x16x128x256 .bf16) (harg5 : arg5.IsWhole) (arg6 : Memref sig .tc .vmem S7x1x256x256 .f32) (harg6 : arg6.IsWhole)
  (arg10 : Memref sig .tc .vmem S8x1024 .f32) (arg11 : Memref sig .tc .vmem S144x1024 .f32) (arg12 : Memref sig .tc .vmem S2x256x1024 .f32) (arg13 : Memref sig .tc .vmem S2x8x1024 .f32)
  (hc0 : cond1_0 i) (hc1 : cond1_1 i) (hc2 : cond1_2 i) (hc3 : cond1_3 i) (hc4 : cond1_4 i) (hc5 : ¬cond1_5 i)
  (x0 : Vec Ideal S1x512x128 .bf16) (x1 : Vec Ideal S1x4096x128 .bf16) (x2 : Vec Ideal S1x1x16x128x256 .bf16) (x3 : Vec Ideal S7x1x256x256 .f32)

theorem s_0 : arg12.view.readCov (kernelRun1_F.sl.HS2_2 (F := Ideal) c i arg3 harg3 arg4 harg4 arg6 harg6 hc0 hc1 hc2 hc3 hc4 hc5 x0 x1 x3) (Rect.unit (s := S2x256x1024) ![0, 0, 0] S1x256x1024.size (by decide)).toLoadRect
    = Sc x0 x1 x3 (i 2).val 0 := by
  refine (View.readCov_skip _ _ _ _ _ (by decide)).trans ?_
  refine (View.readCov_cons_toLoadRect _ _ _ _).trans ?_
  exact scC (ldQ ..) (ldK (n := 0) (hn := by decide) (ho := rfl) ..) (ldB (n := 0) (b := 1) (ho := offB i 0 1) ..) (ldB (n := 0) (b := 2) (ho := offB i 0 2) ..)

theorem x_0 : arg13.view.readCov (kernelRun1_F.sl.HS3_2 (F := Ideal) c i arg3 harg3 arg4 harg4 arg6 harg6 hc0 hc1 hc2 hc3 hc4 hc5 x0 x1 x3) (Rect.unit (s := S2x8x1024) ![0, 0, 0] S1x8x1024.size (by decide)).toLoadRect
    = Mx x0 x1 x3 (i 2).val 0 := by
  refine (View.readCov_skip _ _ _ _ _ (by decide)).trans ?_
  refine (View.readCov_cons_toLoadRect _ _ _ _).trans ?_
  exact mxC (ldQ ..) (ldK (n := 0) (hn := by decide) (ho := rfl) ..) (ldB (n := 0) (b := 1) (ho := offB i 0 1) ..) (ldB (n := 0) (b := 2) (ho := offB i 0 2) ..)

theorem s_1 : arg12.view.readCov (kernelRun1_F.sl.HS2_3 (F := Ideal) c i arg3 harg3 arg4 harg4 arg6 harg6 hc0 hc1 hc2 hc3 hc4 hc5 x0 x1 x3) (Rect.unit (s := S2x256x1024) ![1, 0, 0] S1x256x1024.size (by decide)).toLoadRect
    = Sc x0 x1 x3 (i 2).val 1 := by
  refine (View.readCov_skip _ _ _ _ _ (by decide)).trans ?_
  refine (View.readCov_cons_toLoadRect _ _ _ _).trans ?_
  exact scC (ldQ ..) (ldK (n := 1) (hn := by decide) (ho := rfl) ..) (ldB (n := 1) (b := 1) (ho := offB i 1 1) ..) (ldB (n := 1) (b := 2) (ho := offB i 1 2) ..)

theorem x_1 : arg13.view.readCov (kernelRun1_F.sl.HS3_3 (F := Ideal) c i arg3 harg3 arg4 harg4 arg6 harg6 hc0 hc1 hc2 hc3 hc4 hc5 x0 x1 x3) (Rect.unit (s := S2x8x1024) ![1, 0, 0] S1x8x1024.size (by decide)).toLoadRect
    = Mx x0 x1 x3 (i 2).val 1 := by
  refine (View.readCov_skip _ _ _ _ _ (by decide)).trans ?_
  refine (View.readCov_cons_toLoadRect _ _ _ _).trans ?_
  exact mxC (ldQ ..) (ldK (n := 1) (hn := by decide) (ho := rfl) ..) (ldB (n := 1) (b := 1) (ho := offB i 1 1) ..) (ldB (n := 1) (b := 2) (ho := offB i 1 2) ..)

theorem s_2 : arg12.view.readCov (kernelRun1_F.sl.HS2_4 (F := Ideal) c i arg3 harg3 arg4 harg4 arg6 harg6 hc0 hc1 hc2 hc3 hc4 hc5 x0 x1 x3) (Rect.unit (s := S2x256x1024) ![0, 0, 0] S1x256x1024.size (by decide)).toLoadRect
    = Sc x0 x1 x3 (i 2).val 2 := by
  refine (View.readCov_skip _ _ _ _ _ (by decide)).trans ?_
  refine (View.readCov_cons_toLoadRect _ _ _ _).trans ?_
  exact scC (ldQ ..) (ldK (n := 2) (hn := by decide) (ho := rfl) ..) (ldB (n := 2) (b := 1) (ho := offB i 2 1) ..) (ldB (n := 2) (b := 2) (ho := offB i 2 2) ..)

theorem x_2 : arg13.view.readCov (kernelRun1_F.sl.HS3_4 (F := Ideal) c i arg3 harg3 arg4 harg4 arg6 harg6 hc0 hc1 hc2 hc3 hc4 hc5 x0 x1 x3) (Rect.unit (s := S2x8x1024) ![0, 0, 0] S1x8x1024.size (by decide)).toLoadRect
    = Mx x0 x1 x3 (i 2).val 2 := by
  refine (View.readCov_skip _ _ _ _ _ (by decide)).trans ?_
  refine (View.readCov_cons_toLoadRect _ _ _ _).trans ?_
  exact mxC (ldQ ..) (ldK (n := 2) (hn := by decide) (ho := rfl) ..) (ldB (n := 2) (b := 1) (ho := offB i 2 1) ..) (ldB (n := 2) (b := 2) (ho := offB i 2 2) ..)

theorem s_3 : arg12.view.readCov (kernelRun1_F.sl.HS2_5 (F := Ideal) c i arg3 harg3 arg4 harg4 arg6 harg6 hc0 hc1 hc2 hc3 hc4 hc5 x0 x1 x3) (Rect.unit (s := S2x256x1024) ![1, 0, 0] S1x256x1024.size (by decide)).toLoadRect
    = Sc x0 x1 x3 (i 2).val 3 := by
  refine (View.readCov_skip _ _ _ _ _ (by decide)).trans ?_
  refine (View.readCov_cons_toLoadRect _ _ _ _).trans ?_
  exact scC (ldQ ..) (ldK (n := 3) (hn := by decide) (ho := rfl) ..) (ldB (n := 3) (b := 1) (ho := offB i 3 1) ..) (ldB (n := 3) (b := 2) (ho := offB i 3 2) ..)

theorem x_3 : arg13.view.readCov (kernelRun1_F.sl.HS3_5 (F := Ideal) c i arg3 harg3 arg4 harg4 arg6 harg6 hc0 hc1 hc2 hc3 hc4 hc5 x0 x1 x3) (Rect.unit (s := S2x8x1024) ![1, 0, 0] S1x8x1024.size (by decide)).toLoadRect
    = Mx x0 x1 x3 (i 2).val 3 := by
  refine (View.readCov_skip _ _ _ _ _ (by decide)).trans ?_
  refine (View.readCov_cons_toLoadRect _ _ _ _).trans ?_
  exact mxC (ldQ ..) (ldK (n := 3) (hn := by decide) (ho := rfl) ..) (ldB (n := 3) (b := 1) (ho := offB i 3 1) ..) (ldB (n := 3) (b := 2) (ho := offB i 3 2) ..)

theorem s_4 : arg12.view.readCov (kernelRun1_F.sl.HS2_6 (F := Ideal) c i arg3 harg3 arg4 harg4 arg6 harg6 hc0 hc1 hc2 hc3 hc4 hc5 x0 x1 x3) (Rect.unit (s := S2x256x1024) ![0, 0, 0] S1x256x1024.size (by decide)).toLoadRect
    = Sc x0 x1 x3 (i 2).val 4 := by
  refine (View.readCov_skip _ _ _ _ _ (by decide)).trans ?_
  refine (View.readCov_cons_toLoadRect _ _ _ _).trans ?_
  exact scC (ldQ ..) (ldK (n := 4) (hn := by decide) (ho := rfl) ..) (ldB (n := 4) (b := 1) (ho := offB i 4 1) ..) (ldB (n := 4) (b := 2) (ho := offB i 4 2) ..)

theorem x_4 : arg13.view.readCov (kernelRun1_F.sl.HS3_6 (F := Ideal) c i arg3 harg3 arg4 harg4 arg6 harg6 hc0 hc1 hc2 hc3 hc4 hc5 x0 x1 x3) (Rect.unit (s := S2x8x1024) ![0, 0, 0] S1x8x1024.size (by decide)).toLoadRect
    = Mx x0 x1 x3 (i 2).val 4 := by
  refine (View.readCov_skip _ _ _ _ _ (by decide)).trans ?_
  refine (View.readCov_cons_toLoadRect _ _ _ _).trans ?_
  exact mxC (ldQ ..) (ldK (n := 4) (hn := by decide) (ho := rfl) ..) (ldB (n := 4) (b := 1) (ho := offB i 4 1) ..) (ldB (n := 4) (b := 2) (ho := offB i 4 2) ..)

theorem s_5 : arg12.view.readCov (kernelRun1_F.sl.HS2_7 (F := Ideal) c i arg3 harg3 arg4 harg4 arg6 harg6 hc0 hc1 hc2 hc3 hc4 hc5 x0 x1 x3) (Rect.unit (s := S2x256x1024) ![1, 0, 0] S1x256x1024.size (by decide)).toLoadRect
    = Sc x0 x1 x3 (i 2).val 5 := by
  refine (View.readCov_skip _ _ _ _ _ (by decide)).trans ?_
  refine (View.readCov_cons_toLoadRect _ _ _ _).trans ?_
  exact scC (ldQ ..) (ldK (n := 5) (hn := by decide) (ho := rfl) ..) (ldB (n := 5) (b := 1) (ho := offB i 5 1) ..) (ldB (n := 5) (b := 2) (ho := offB i 5 2) ..)

theorem x_5 : arg13.view.readCov (kernelRun1_F.sl.HS3_7 (F := Ideal) c i arg3 harg3 arg4 harg4 arg6 harg6 hc0 hc1 hc2 hc3 hc4 hc5 x0 x1 x3) (Rect.unit (s := S2x8x1024) ![1, 0, 0] S1x8x1024.size (by decide)).toLoadRect
    = Mx x0 x1 x3 (i 2).val 5 := by
  refine (View.readCov_skip _ _ _ _ _ (by decide)).trans ?_
  refine (View.readCov_cons_toLoadRect _ _ _ _).trans ?_
  exact mxC (ldQ ..) (ldK (n := 5) (hn := by decide) (ho := rfl) ..) (ldB (n := 5) (b := 1) (ho := offB i 5 1) ..) (ldB (n := 5) (b := 2) (ho := offB i 5 2) ..)

theorem s_6 : arg12.view.readCov (kernelRun1_F.sl.HS2_8 (F := Ideal) c i arg3 harg3 arg4 harg4 arg6 harg6 hc0 hc1 hc2 hc3 hc4 hc5 x0 x1 x3) (Rect.unit (s := S2x256x1024) ![0, 0, 0] S1x256x1024.size (by decide)).toLoadRect
    = Sc x0 x1 x3 (i 2).val 6 := by
  refine (View.readCov_skip _ _ _ _ _ (by decide)).trans ?_
  refine (View.readCov_cons_toLoadRect _ _ _ _).trans ?_
  exact scC (ldQ ..) (ldK (n := 6) (hn := by decide) (ho := rfl) ..) (ldB (n := 6) (b := 1) (ho := offB i 6 1) ..) (ldB (n := 6) (b := 2) (ho := offB i 6 2) ..)

theorem x_6 : arg13.view.readCov (kernelRun1_F.sl.HS3_8 (F := Ideal) c i arg3 harg3 arg4 harg4 arg6 harg6 hc0 hc1 hc2 hc3 hc4 hc5 x0 x1 x3) (Rect.unit (s := S2x8x1024) ![0, 0, 0] S1x8x1024.size (by decide)).toLoadRect
    = Mx x0 x1 x3 (i 2).val 6 := by
  refine (View.readCov_skip _ _ _ _ _ (by decide)).trans ?_
  refine (View.readCov_cons_toLoadRect _ _ _ _).trans ?_
  exact mxC (ldQ ..) (ldK (n := 6) (hn := by decide) (ho := rfl) ..) (ldB (n := 6) (b := 1) (ho := offB i 6 1) ..) (ldB (n := 6) (b := 2) (ho := offB i 6 2) ..)

theorem s_7 : arg12.view.readCov (kernelRun1_F.sl.HS2_9 (F := Ideal) c i arg3 harg3 arg4 harg4 arg6 harg6 hc0 hc1 hc2 hc3 hc4 hc5 x0 x1 x3) (Rect.unit (s := S2x256x1024) ![1, 0, 0] S1x256x1024.size (by decide)).toLoadRect
    = Sc x0 x1 x3 (i 2).val 7 := by
  refine (View.readCov_skip _ _ _ _ _ (by decide)).trans ?_
  refine (View.readCov_cons_toLoadRect _ _ _ _).trans ?_
  exact scC (ldQ ..) (ldK (n := 7) (hn := by decide) (ho := rfl) ..) (ldB (n := 7) (b := 1) (ho := offB i 7 1) ..) (ldB (n := 7) (b := 2) (ho := offB i 7 2) ..)

theorem x_7 : arg13.view.readCov (kernelRun1_F.sl.HS3_9 (F := Ideal) c i arg3 harg3 arg4 harg4 arg6 harg6 hc0 hc1 hc2 hc3 hc4 hc5 x0 x1 x3) (Rect.unit (s := S2x8x1024) ![1, 0, 0] S1x8x1024.size (by decide)).toLoadRect
    = Mx x0 x1 x3 (i 2).val 7 := by
  refine (View.readCov_skip _ _ _ _ _ (by decide)).trans ?_
  refine (View.readCov_cons_toLoadRect _ _ _ _).trans ?_
  exact mxC (ldQ ..) (ldK (n := 7) (hn := by decide) (ho := rfl) ..) (ldB (n := 7) (b := 1) (ho := offB i 7 1) ..) (ldB (n := 7) (b := 2) (ho := offB i 7 2) ..)

theorem s_8 : arg12.view.readCov (kernelRun1_F.sl.HS2_10 (F := Ideal) c i arg3 harg3 arg4 harg4 arg6 harg6 hc0 hc1 hc2 hc3 hc4 hc5 x0 x1 x3) (Rect.unit (s := S2x256x1024) ![0, 0, 0] S1x256x1024.size (by decide)).toLoadRect
    = Sc x0 x1 x3 (i 2).val 8 := by
  refine (View.readCov_skip _ _ _ _ _ (by decide)).trans ?_
  refine (View.readCov_cons_toLoadRect _ _ _ _).trans ?_
  exact scC (ldQ ..) (ldK (n := 8) (hn := by decide) (ho := rfl) ..) (ldB (n := 8) (b := 1) (ho := offB i 8 1) ..) (ldB (n := 8) (b := 2) (ho := offB i 8 2) ..)

theorem x_8 : arg13.view.readCov (kernelRun1_F.sl.HS3_10 (F := Ideal) c i arg3 harg3 arg4 harg4 arg6 harg6 hc0 hc1 hc2 hc3 hc4 hc5 x0 x1 x3) (Rect.unit (s := S2x8x1024) ![0, 0, 0] S1x8x1024.size (by decide)).toLoadRect
    = Mx x0 x1 x3 (i 2).val 8 := by
  refine (View.readCov_skip _ _ _ _ _ (by decide)).trans ?_
  refine (View.readCov_cons_toLoadRect _ _ _ _).trans ?_
  exact mxC (ldQ ..) (ldK (n := 8) (hn := by decide) (ho := rfl) ..) (ldB (n := 8) (b := 1) (ho := offB i 8 1) ..) (ldB (n := 8) (b := 2) (ho := offB i 8 2) ..)

theorem s_9 : arg12.view.readCov (kernelRun1_F.sl.HS2_11 (F := Ideal) c i arg3 harg3 arg4 harg4 arg6 harg6 hc0 hc1 hc2 hc3 hc4 hc5 x0 x1 x3) (Rect.unit (s := S2x256x1024) ![1, 0, 0] S1x256x1024.size (by decide)).toLoadRect
    = Sc x0 x1 x3 (i 2).val 9 := by
  refine (View.readCov_skip _ _ _ _ _ (by decide)).trans ?_
  refine (View.readCov_cons_toLoadRect _ _ _ _).trans ?_
  exact scC (ldQ ..) (ldK (n := 9) (hn := by decide) (ho := rfl) ..) (ldB (n := 9) (b := 1) (ho := offB i 9 1) ..) (ldB (n := 9) (b := 2) (ho := offB i 9 2) ..)

theorem x_9 : arg13.view.readCov (kernelRun1_F.sl.HS3_11 (F := Ideal) c i arg3 harg3 arg4 harg4 arg6 harg6 hc0 hc1 hc2 hc3 hc4 hc5 x0 x1 x3) (Rect.unit (s := S2x8x1024) ![1, 0, 0] S1x8x1024.size (by decide)).toLoadRect
    = Mx x0 x1 x3 (i 2).val 9 := by
  refine (View.readCov_skip _ _ _ _ _ (by decide)).trans ?_
  refine (View.readCov_cons_toLoadRect _ _ _ _).trans ?_
  exact mxC (ldQ ..) (ldK (n := 9) (hn := by decide) (ho := rfl) ..) (ldB (n := 9) (b := 1) (ho := offB i 9 1) ..) (ldB (n := 9) (b := 2) (ho := offB i 9 2) ..)

theorem s_10 : arg12.view.readCov (kernelRun1_F.sl.HS2_12 (F := Ideal) c i arg3 harg3 arg4 harg4 arg6 harg6 hc0 hc1 hc2 hc3 hc4 hc5 x0 x1 x3) (Rect.unit (s := S2x256x1024) ![0, 0, 0] S1x256x1024.size (by decide)).toLoadRect
    = Sc x0 x1 x3 (i 2).val 10 := by
  refine (View.readCov_skip _ _ _ _ _ (by decide)).trans ?_
  refine (View.readCov_cons_toLoadRect _ _ _ _).trans ?_
  exact scC (ldQ ..) (ldK (n := 10) (hn := by decide) (ho := rfl) ..) (ldB (n := 10) (b := 1) (ho := offB i 10 1) ..) (ldB (n := 10) (b := 2) (ho := offB i 10 2) ..)

theorem x_10 : arg13.view.readCov (kernelRun1_F.sl.HS3_12 (F := Ideal) c i arg3 harg3 arg4 harg4 arg6 harg6 hc0 hc1 hc2 hc3 hc4 hc5 x0 x1 x3) (Rect.unit (s := S2x8x1024) ![0, 0, 0] S1x8x1024.size (by decide)).toLoadRect
    = Mx x0 x1 x3 (i 2).val 10 := by
  refine (View.readCov_skip _ _ _ _ _ (by decide)).trans ?_
  refine (View.readCov_cons_toLoadRect _ _ _ _).trans ?_
  exact mxC (ldQ ..) (ldK (n := 10) (hn := by decide) (ho := rfl) ..) (ldB (n := 10) (b := 1) (ho := offB i 10 1) ..) (ldB (n := 10) (b := 2) (ho := offB i 10 2) ..)

theorem s_11 : arg12.view.readCov (kernelRun1_F.sl.HS2_12 (F := Ideal) c i arg3 harg3 arg4 harg4 arg6 harg6 hc0 hc1 hc2 hc3 hc4 hc5 x0 x1 x3) (Rect.unit (s := S2x256x1024) ![1, 0, 0] S1x256x1024.size (by decide)).toLoadRect
    = Sc x0 x1 x3 (i 2).val 11 := by
  refine (View.readCov_cons_toLoadRect _ _ _ _).trans ?_
  exact scC (ldQ ..) (ldK (n := 11) (hn := by decide) (ho := rfl) ..) (ldB (n := 11) (b := 1) (ho := offB i 11 1) ..) (ldB (n := 11) (b := 2) (ho := offB i 11 2) ..)

theorem x_11 : arg13.view.readCov (kernelRun1_F.sl.HS3_12 (F := Ideal) c i arg3 harg3 arg4 harg4 arg6 harg6 hc0 hc1 hc2 hc3 hc4 hc5 x0 x1 x3) (Rect.unit (s := S2x8x1024) ![1, 0, 0] S1x8x1024.size (by decide)).toLoadRect
    = Mx x0 x1 x3 (i 2).val 11 := by
  refine (View.readCov_cons_toLoadRect _ _ _ _).trans ?_
  exact mxC (ldQ ..) (ldK (n := 11) (hn := by decide) (ho := rfl) ..) (ldB (n := 11) (b := 1) (ho := offB i 11 1) ..) (ldB (n := 11) (b := 2) (ho := offB i 11 2) ..)

theorem m_0 : arg10.view.readCov (kernelRun1_F.sl.HS0_1 (F := Ideal) ) (Rect.unit (s := S8x1024) ![0, 0] S8x1024.size (by decide)).toLoadRect
    = M x0 x1 x3 (i 2).val 0 := by
  refine (View.readCov_cons_toLoadRect _ _ _ _).trans ?_
  rfl

theorem a_0 : arg11.view.readCov (kernelRun1_F.sl.HS1_1 (F := Ideal) ) (Rect.unit (s := S144x1024) ![0, 0] S144x1024.size (by decide)).toLoadRect
    = A x0 x1 x2 x3 (i 2).val 0 := by
  refine (View.readCov_cons_toLoadRect _ _ _ _).trans ?_
  rfl

theorem m_1 : arg10.view.readCov (kernelRun1_F.sl.HS0_2 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 1 := by
  refine (View.readCov_cons_toLoadRect _ _ _ _).trans ?_
  exact mC (m_0 ..) (x_0 ..)

theorem a_1 : arg11.view.readCov (kernelRun1_F.sl.HS1_2 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 1 := by
  refine (View.readCov_cons_toLoadRect _ _ _ _).trans ?_
  exact aC (m_0 ..) (x_0 ..) (s_0 ..) (a_0 ..) (ldV (n := 0) (hn := by decide) ..)

theorem m_2 : arg10.view.readCov (kernelRun1_F.sl.HS0_3 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 2 := by
  refine (View.readCov_cons_toLoadRect _ _ _ _).trans ?_
  exact mC (m_1 ..) (x_1 ..)

theorem a_2 : arg11.view.readCov (kernelRun1_F.sl.HS1_3 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 2 := by
  refine (View.readCov_cons_toLoadRect _ _ _ _).trans ?_
  exact aC (m_1 ..) (x_1 ..) (s_1 ..) (a_1 ..) (ldV (n := 1) (hn := by decide) ..)

theorem m_3 : arg10.view.readCov (kernelRun1_F.sl.HS0_4 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 3 := by
  refine (View.readCov_cons_toLoadRect _ _ _ _).trans ?_
  exact mC (m_2 ..) (x_2 ..)

theorem a_3 : arg11.view.readCov (kernelRun1_F.sl.HS1_4 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 3 := by
  refine (View.readCov_cons_toLoadRect _ _ _ _).trans ?_
  exact aC (m_2 ..) (x_2 ..) (s_2 ..) (a_2 ..) (ldV (n := 2) (hn := by decide) ..)

theorem m_4 : arg10.view.readCov (kernelRun1_F.sl.HS0_5 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 4 := by
  refine (View.readCov_cons_toLoadRect _ _ _ _).trans ?_
  exact mC (m_3 ..) (x_3 ..)

theorem a_4 : arg11.view.readCov (kernelRun1_F.sl.HS1_5 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 4 := by
  refine (View.readCov_cons_toLoadRect _ _ _ _).trans ?_
  exact aC (m_3 ..) (x_3 ..) (s_3 ..) (a_3 ..) (ldV (n := 3) (hn := by decide) ..)

theorem m_5 : arg10.view.readCov (kernelRun1_F.sl.HS0_6 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 5 := by
  refine (View.readCov_cons_toLoadRect _ _ _ _).trans ?_
  exact mC (m_4 ..) (x_4 ..)

theorem a_5 : arg11.view.readCov (kernelRun1_F.sl.HS1_6 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 5 := by
  refine (View.readCov_cons_toLoadRect _ _ _ _).trans ?_
  exact aC (m_4 ..) (x_4 ..) (s_4 ..) (a_4 ..) (ldV (n := 4) (hn := by decide) ..)

theorem m_6 : arg10.view.readCov (kernelRun1_F.sl.HS0_7 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 6 := by
  refine (View.readCov_cons_toLoadRect _ _ _ _).trans ?_
  exact mC (m_5 ..) (x_5 ..)

theorem a_6 : arg11.view.readCov (kernelRun1_F.sl.HS1_7 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 6 := by
  refine (View.readCov_cons_toLoadRect _ _ _ _).trans ?_
  exact aC (m_5 ..) (x_5 ..) (s_5 ..) (a_5 ..) (ldV (n := 5) (hn := by decide) ..)

theorem m_7 : arg10.view.readCov (kernelRun1_F.sl.HS0_8 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 7 := by
  refine (View.readCov_cons_toLoadRect _ _ _ _).trans ?_
  exact mC (m_6 ..) (x_6 ..)

theorem a_7 : arg11.view.readCov (kernelRun1_F.sl.HS1_8 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 7 := by
  refine (View.readCov_cons_toLoadRect _ _ _ _).trans ?_
  exact aC (m_6 ..) (x_6 ..) (s_6 ..) (a_6 ..) (ldV (n := 6) (hn := by decide) ..)

theorem m_8 : arg10.view.readCov (kernelRun1_F.sl.HS0_9 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 8 := by
  refine (View.readCov_cons_toLoadRect _ _ _ _).trans ?_
  exact mC (m_7 ..) (x_7 ..)

theorem a_8 : arg11.view.readCov (kernelRun1_F.sl.HS1_9 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 8 := by
  refine (View.readCov_cons_toLoadRect _ _ _ _).trans ?_
  exact aC (m_7 ..) (x_7 ..) (s_7 ..) (a_7 ..) (ldV (n := 7) (hn := by decide) ..)

theorem m_9 : arg10.view.readCov (kernelRun1_F.sl.HS0_10 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 9 := by
  refine (View.readCov_cons_toLoadRect _ _ _ _).trans ?_
  exact mC (m_8 ..) (x_8 ..)

theorem a_9 : arg11.view.readCov (kernelRun1_F.sl.HS1_10 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 9 := by
  refine (View.readCov_cons_toLoadRect _ _ _ _).trans ?_
  exact aC (m_8 ..) (x_8 ..) (s_8 ..) (a_8 ..) (ldV (n := 8) (hn := by decide) ..)

theorem m_10 : arg10.view.readCov (kernelRun1_F.sl.HS0_11 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 10 := by
  refine (View.readCov_cons_toLoadRect _ _ _ _).trans ?_
  exact mC (m_9 ..) (x_9 ..)

theorem a_10 : arg11.view.readCov (kernelRun1_F.sl.HS1_11 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 10 := by
  refine (View.readCov_cons_toLoadRect _ _ _ _).trans ?_
  exact aC (m_9 ..) (x_9 ..) (s_9 ..) (a_9 ..) (ldV (n := 9) (hn := by decide) ..)

theorem m_11 : arg10.view.readCov (kernelRun1_F.sl.HS0_12 (F := Ideal) c i arg3 harg3 arg4 harg4 arg6 harg6 arg10 arg13 hc0 hc1 hc2 hc3 hc4 hc5 x0 x1 x3) (Rect.unit (s := S8x1024) ![0, 0] S8x1024.size (by decide)).toLoadRect
    = M x0 x1 x3 (i 2).val 11 := by
  refine (View.readCov_cons_toLoadRect _ _ _ _).trans ?_
  exact mC (m_10 ..) (x_10 ..)

theorem a_11 : arg11.view.readCov (kernelRun1_F.sl.HS1_12 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 11 := by
  refine (View.readCov_cons_toLoadRect _ _ _ _).trans ?_
  exact aC (m_10 ..) (x_10 ..) (s_10 ..) (a_10 ..) (ldV (n := 10) (hn := by decide) ..)

theorem a_12 : arg11.view.readCov (kernelRun1_F.sl.HS1_13 (F := Ideal) c i arg3 harg3 arg4 harg4 arg5 harg5 arg6 harg6 arg10 arg11 arg12 arg13 hc0 hc1 hc2 hc3 hc4 hc5 x0 x1 x2 x3) (Rect.unit (s := S144x1024) ![0, 0] S144x1024.size (by decide)).toLoadRect
    = A x0 x1 x2 x3 (i 2).val 12 := by
  refine (View.readCov_cons_toLoadRect _ _ _ _).trans ?_
  exact aC (m_11 ..) (x_11 ..) (s_11 ..) (a_11 ..) (ldV (n := 11) (hn := by decide) ..)

end Cert.KernelIdeal.Val.CaseF

end
-- ==== Proof.CaseG.lean ====
module

public import proofs.«01_k».proof.Proof.Flash

@[expose] public section

set_option maxRecDepth 16384

noncomputable section

/-! # The points of query tile 6: 14 key tiles, tile by tile, are the recursion -/

namespace Cert.KernelIdeal.Val.CaseG

open Idealize.ShloMosaic Idealize.ShloMosaic.TcCoe Idealize.SL.Sem Cert.KernelIdeal Cert.KernelIdeal.Gen

variable (c : Dev nD) (i : grid1.Coords) (arg3 : Memref sig .tc .vmem S1x512x128 .bf16) (harg3 : arg3.IsWhole) (arg4 : Memref sig .tc .vmem S1x4096x128 .bf16) (harg4 : arg4.IsWhole)
  (arg5 : Memref sig .tc .vmem S1x1x16x128x256 .bf16) (harg5 : arg5.IsWhole) (arg6 : Memref sig .tc .vmem S7x1x256x256 .f32) (harg6 : arg6.IsWhole)
  (arg10 : Memref sig .tc .vmem S8x1024 .f32) (arg11 : Memref sig .tc .vmem S144x1024 .f32) (arg12 : Memref sig .tc .vmem S2x256x1024 .f32) (arg13 : Memref sig .tc .vmem S2x8x1024 .f32)
  (hc0 : cond1_0 i) (hc1 : cond1_1 i) (hc2 : cond1_2 i) (hc3 : cond1_3 i) (hc4 : cond1_4 i) (hc5 : cond1_5 i) (hc6 : ¬cond1_6 i)
  (x0 : Vec Ideal S1x512x128 .bf16) (x1 : Vec Ideal S1x4096x128 .bf16) (x2 : Vec Ideal S1x1x16x128x256 .bf16) (x3 : Vec Ideal S7x1x256x256 .f32)

theorem s_0 : arg12.view.readCov (kernelRun1_G.sl.HS2_2 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 0 := by
  refine (View.readCov_skip _ _ _ _ _ (by decide)).trans ?_
  refine (View.readCov_cons_toLoadRect _ _ _ _).trans ?_
  exact scC (ldQ ..) (ldK (n := 0) (hn := by decide) (ho := rfl) ..) (ldB (n := 0) (b := 1) (ho := offB i 0 1) ..) (ldB (n := 0) (b := 2) (ho := offB i 0 2) ..)

theorem x_0 : arg13.view.readCov (kernelRun1_G.sl.HS3_2 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 0 := by
  refine (View.readCov_skip _ _ _ _ _ (by decide)).trans ?_
  refine (View.readCov_cons_toLoadRect _ _ _ _).trans ?_
  exact mxC (ldQ ..) (ldK (n := 0) (hn := by decide) (ho := rfl) ..) (ldB (n := 0) (b := 1) (ho := offB i 0 1) ..) (ldB (n := 0) (b := 2) (ho := offB i 0 2) ..)

theorem s_1 : arg12.view.readCov (kernelRun1_G.sl.HS2_3 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 1 := by
  refine (View.readCov_skip _ _ _ _ _ (by decide)).trans ?_
  refine (View.readCov_cons_toLoadRect _ _ _ _).trans ?_
  exact scC (ldQ ..) (ldK (n := 1) (hn := by decide) (ho := rfl) ..) (ldB (n := 1) (b := 1) (ho := offB i 1 1) ..) (ldB (n := 1) (b := 2) (ho := offB i 1 2) ..)

theorem x_1 : arg13.view.readCov (kernelRun1_G.sl.HS3_3 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 1 := by
  refine (View.readCov_skip _ _ _ _ _ (by decide)).trans ?_
  refine (View.readCov_cons_toLoadRect _ _ _ _).trans ?_
  exact mxC (ldQ ..) (ldK (n := 1) (hn := by decide) (ho := rfl) ..) (ldB (n := 1) (b := 1) (ho := offB i 1 1) ..) (ldB (n := 1) (b := 2) (ho := offB i 1 2) ..)

theorem s_2 : arg12.view.readCov (kernelRun1_G.sl.HS2_4 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 2 := by
  refine (View.readCov_skip _ _ _ _ _ (by decide)).trans ?_
  refine (View.readCov_cons_toLoadRect _ _ _ _).trans ?_
  exact scC (ldQ ..) (ldK (n := 2) (hn := by decide) (ho := rfl) ..) (ldB (n := 2) (b := 1) (ho := offB i 2 1) ..) (ldB (n := 2) (b := 2) (ho := offB i 2 2) ..)

theorem x_2 : arg13.view.readCov (kernelRun1_G.sl.HS3_4 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 2 := by
  refine (View.readCov_skip _ _ _ _ _ (by decide)).trans ?_
  refine (View.readCov_cons_toLoadRect _ _ _ _).trans ?_
  exact mxC (ldQ ..) (ldK (n := 2) (hn := by decide) (ho := rfl) ..) (ldB (n := 2) (b := 1) (ho := offB i 2 1) ..) (ldB (n := 2) (b := 2) (ho := offB i 2 2) ..)

theorem s_3 : arg12.view.readCov (kernelRun1_G.sl.HS2_5 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 3 := by
  refine (View.readCov_skip _ _ _ _ _ (by decide)).trans ?_
  refine (View.readCov_cons_toLoadRect _ _ _ _).trans ?_
  exact scC (ldQ ..) (ldK (n := 3) (hn := by decide) (ho := rfl) ..) (ldB (n := 3) (b := 1) (ho := offB i 3 1) ..) (ldB (n := 3) (b := 2) (ho := offB i 3 2) ..)

theorem x_3 : arg13.view.readCov (kernelRun1_G.sl.HS3_5 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 3 := by
  refine (View.readCov_skip _ _ _ _ _ (by decide)).trans ?_
  refine (View.readCov_cons_toLoadRect _ _ _ _).trans ?_
  exact mxC (ldQ ..) (ldK (n := 3) (hn := by decide) (ho := rfl) ..) (ldB (n := 3) (b := 1) (ho := offB i 3 1) ..) (ldB (n := 3) (b := 2) (ho := offB i 3 2) ..)

theorem s_4 : arg12.view.readCov (kernelRun1_G.sl.HS2_6 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 4 := by
  refine (View.readCov_skip _ _ _ _ _ (by decide)).trans ?_
  refine (View.readCov_cons_toLoadRect _ _ _ _).trans ?_
  exact scC (ldQ ..) (ldK (n := 4) (hn := by decide) (ho := rfl) ..) (ldB (n := 4) (b := 1) (ho := offB i 4 1) ..) (ldB (n := 4) (b := 2) (ho := offB i 4 2) ..)

theorem x_4 : arg13.view.readCov (kernelRun1_G.sl.HS3_6 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 4 := by
  refine (View.readCov_skip _ _ _ _ _ (by decide)).trans ?_
  refine (View.readCov_cons_toLoadRect _ _ _ _).trans ?_
  exact mxC (ldQ ..) (ldK (n := 4) (hn := by decide) (ho := rfl) ..) (ldB (n := 4) (b := 1) (ho := offB i 4 1) ..) (ldB (n := 4) (b := 2) (ho := offB i 4 2) ..)

theorem s_5 : arg12.view.readCov (kernelRun1_G.sl.HS2_7 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 5 := by
  refine (View.readCov_skip _ _ _ _ _ (by decide)).trans ?_
  refine (View.readCov_cons_toLoadRect _ _ _ _).trans ?_
  exact scC (ldQ ..) (ldK (n := 5) (hn := by decide) (ho := rfl) ..) (ldB (n := 5) (b := 1) (ho := offB i 5 1) ..) (ldB (n := 5) (b := 2) (ho := offB i 5 2) ..)

theorem x_5 : arg13.view.readCov (kernelRun1_G.sl.HS3_7 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 5 := by
  refine (View.readCov_skip _ _ _ _ _ (by decide)).trans ?_
  refine (View.readCov_cons_toLoadRect _ _ _ _).trans ?_
  exact mxC (ldQ ..) (ldK (n := 5) (hn := by decide) (ho := rfl) ..) (ldB (n := 5) (b := 1) (ho := offB i 5 1) ..) (ldB (n := 5) (b := 2) (ho := offB i 5 2) ..)

theorem s_6 : arg12.view.readCov (kernelRun1_G.sl.HS2_8 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 6 := by
  refine (View.readCov_skip _ _ _ _ _ (by decide)).trans ?_
  refine (View.readCov_cons_toLoadRect _ _ _ _).trans ?_
  exact scC (ldQ ..) (ldK (n := 6) (hn := by decide) (ho := rfl) ..) (ldB (n := 6) (b := 1) (ho := offB i 6 1) ..) (ldB (n := 6) (b := 2) (ho := offB i 6 2) ..)

theorem x_6 : arg13.view.readCov (kernelRun1_G.sl.HS3_8 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 6 := by
  refine (View.readCov_skip _ _ _ _ _ (by decide)).trans ?_
  refine (View.readCov_cons_toLoadRect _ _ _ _).trans ?_
  exact mxC (ldQ ..) (ldK (n := 6) (hn := by decide) (ho := rfl) ..) (ldB (n := 6) (b := 1) (ho := offB i 6 1) ..) (ldB (n := 6) (b := 2) (ho := offB i 6 2) ..)

theorem s_7 : arg12.view.readCov (kernelRun1_G.sl.HS2_9 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 7 := by
  refine (View.readCov_skip _ _ _ _ _ (by decide)).trans ?_
  refine (View.readCov_cons_toLoadRect _ _ _ _).trans ?_
  exact scC (ldQ ..) (ldK (n := 7) (hn := by decide) (ho := rfl) ..) (ldB (n := 7) (b := 1) (ho := offB i 7 1) ..) (ldB (n := 7) (b := 2) (ho := offB i 7 2) ..)

theorem x_7 : arg13.view.readCov (kernelRun1_G.sl.HS3_9 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 7 := by
  refine (View.readCov_skip _ _ _ _ _ (by decide)).trans ?_
  refine (View.readCov_cons_toLoadRect _ _ _ _).trans ?_
  exact mxC (ldQ ..) (ldK (n := 7) (hn := by decide) (ho := rfl) ..) (ldB (n := 7) (b := 1) (ho := offB i 7 1) ..) (ldB (n := 7) (b := 2) (ho := offB i 7 2) ..)

theorem s_8 : arg12.view.readCov (kernelRun1_G.sl.HS2_10 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 8 := by
  refine (View.readCov_skip _ _ _ _ _ (by decide)).trans ?_
  refine (View.readCov_cons_toLoadRect _ _ _ _).trans ?_
  exact scC (ldQ ..) (ldK (n := 8) (hn := by decide) (ho := rfl) ..) (ldB (n := 8) (b := 1) (ho := offB i 8 1) ..) (ldB (n := 8) (b := 2) (ho := offB i 8 2) ..)

theorem x_8 : arg13.view.readCov (kernelRun1_G.sl.HS3_10 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 8 := by
  refine (View.readCov_skip _ _ _ _ _ (by decide)).trans ?_
  refine (View.readCov_cons_toLoadRect _ _ _ _).trans ?_
  exact mxC (ldQ ..) (ldK (n := 8) (hn := by decide) (ho := rfl) ..) (ldB (n := 8) (b := 1) (ho := offB i 8 1) ..) (ldB (n := 8) (b := 2) (ho := offB i 8 2) ..)

theorem s_9 : arg12.view.readCov (kernelRun1_G.sl.HS2_11 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 9 := by
  refine (View.readCov_skip _ _ _ _ _ (by decide)).trans ?_
  refine (View.readCov_cons_toLoadRect _ _ _ _).trans ?_
  exact scC (ldQ ..) (ldK (n := 9) (hn := by decide) (ho := rfl) ..) (ldB (n := 9) (b := 1) (ho := offB i 9 1) ..) (ldB (n := 9) (b := 2) (ho := offB i 9 2) ..)

theorem x_9 : arg13.view.readCov (kernelRun1_G.sl.HS3_11 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 9 := by
  refine (View.readCov_skip _ _ _ _ _ (by decide)).trans ?_
  refine (View.readCov_cons_toLoadRect _ _ _ _).trans ?_
  exact mxC (ldQ ..) (ldK (n := 9) (hn := by decide) (ho := rfl) ..) (ldB (n := 9) (b := 1) (ho := offB i 9 1) ..) (ldB (n := 9) (b := 2) (ho := offB i 9 2) ..)

theorem s_10 : arg12.view.readCov (kernelRun1_G.sl.HS2_12 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 10 := by
  refine (View.readCov_skip _ _ _ _ _ (by decide)).trans ?_
  refine (View.readCov_cons_toLoadRect _ _ _ _).trans ?_
  exact scC (ldQ ..) (ldK (n := 10) (hn := by decide) (ho := rfl) ..) (ldB (n := 10) (b := 1) (ho := offB i 10 1) ..) (ldB (n := 10) (b := 2) (ho := offB i 10 2) ..)

theorem x_10 : arg13.view.readCov (kernelRun1_G.sl.HS3_12 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 10 := by
  refine (View.readCov_skip _ _ _ _ _ (by decide)).trans ?_
  refine (View.readCov_cons_toLoadRect _ _ _ _).trans ?_
  exact mxC (ldQ ..) (ldK (n := 10) (hn := by decide) (ho := rfl) ..) (ldB (n := 10) (b := 1) (ho := offB i 10 1) ..) (ldB (n := 10) (b := 2) (ho := offB i 10 2) ..)

theorem s_11 : arg12.view.readCov (kernelRun1_G.sl.HS2_13 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 11 := by
  refine (View.readCov_skip _ _ _ _ _ (by decide)).trans ?_
  refine (View.readCov_cons_toLoadRect _ _ _ _).trans ?_
  exact scC (ldQ ..) (ldK (n := 11) (hn := by decide) (ho := rfl) ..) (ldB (n := 11) (b := 1) (ho := offB i 11 1) ..) (ldB (n := 11) (b := 2) (ho := offB i 11 2) ..)

theorem x_11 : arg13.view.readCov (kernelRun1_G.sl.HS3_13 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 11 := by
  refine (View.readCov_skip _ _ _ _ _ (by decide)).trans ?_
  refine (View.readCov_cons_toLoadRect _ _ _ _).trans ?_
  exact mxC (ldQ ..) (ldK (n := 11) (hn := by decide) (ho := rfl) ..) (ldB (n := 11) (b := 1) (ho := offB i 11 1) ..) (ldB (n := 11) (b := 2) (ho := offB i 11 2) ..)

theorem s_12 : arg12.view.readCov (kernelRun1_G.sl.HS2_14 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 12 := by
  refine (View.readCov_skip _ _ _ _ _ (by decide)).trans ?_
  refine (View.readCov_cons_toLoadRect _ _ _ _).trans ?_
  exact scC (ldQ ..) (ldK (n := 12) (hn := by decide) (ho := rfl) ..) (ldB (n := 12) (b := 1) (ho := offB i 12 1) ..) (ldB (n := 12) (b := 2) (ho := offB i 12 2) ..)

theorem x_12 : arg13.view.readCov (kernelRun1_G.sl.HS3_14 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 12 := by
  refine (View.readCov_skip _ _ _ _ _ (by decide)).trans ?_
  refine (View.readCov_cons_toLoadRect _ _ _ _).trans ?_
  exact mxC (ldQ ..) (ldK (n := 12) (hn := by decide) (ho := rfl) ..) (ldB (n := 12) (b := 1) (ho := offB i 12 1) ..) (ldB (n := 12) (b := 2) (ho := offB i 12 2) ..)

theorem s_13 : arg12.view.readCov (kernelRun1_G.sl.HS2_14 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 13 := by
  refine (View.readCov_cons_toLoadRect _ _ _ _).trans ?_
  exact scC (ldQ ..) (ldK (n := 13) (hn := by decide) (ho := rfl) ..) (ldB (n := 13) (b := 1) (ho := offB i 13 1) ..) (ldB (n := 13) (b := 2) (ho := offB i 13 2) ..)

theorem x_13 : arg13.view.readCov (kernelRun1_G.sl.HS3_14 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 13 := by
  refine (View.readCov_cons_toLoadRect _ _ _ _).trans ?_
  exact mxC (ldQ ..) (ldK (n := 13) (hn := by decide) (ho := rfl) ..) (ldB (n := 13) (b := 1) (ho := offB i 13 1) ..) (ldB (n := 13) (b := 2) (ho := offB i 13 2) ..)

theorem m_0 : arg10.view.readCov (kernelRun1_G.sl.HS0_1 (F := Ideal) ) (Rect.unit (s := S8x1024) ![0, 0] S8x1024.size (by decide)).toLoadRect
    = M x0 x1 x3 (i 2).val 0 := by
  refine (View.readCov_cons_toLoadRect _ _ _ _).trans ?_
  rfl

theorem a_0 : arg11.view.readCov (kernelRun1_G.sl.HS1_1 (F := Ideal) ) (Rect.unit (s := S144x1024) ![0, 0] S144x1024.size (by decide)).toLoadRect
    = A x0 x1 x2 x3 (i 2).val 0 := by
  refine (View.readCov_cons_toLoadRect _ _ _ _).trans ?_
  rfl

theorem m_1 : arg10.view.readCov (kernelRun1_G.sl.HS0_2 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 1 := by
  refine (View.readCov_cons_toLoadRect _ _ _ _).trans ?_
  exact mC (m_0 ..) (x_0 ..)

theorem a_1 : arg11.view.readCov (kernelRun1_G.sl.HS1_2 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 1 := by
  refine (View.readCov_cons_toLoadRect _ _ _ _).trans ?_
  exact aC (m_0 ..) (x_0 ..) (s_0 ..) (a_0 ..) (ldV (n := 0) (hn := by decide) ..)

theorem m_2 : arg10.view.readCov (kernelRun1_G.sl.HS0_3 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 2 := by
  refine (View.readCov_cons_toLoadRect _ _ _ _).trans ?_
  exact mC (m_1 ..) (x_1 ..)

theorem a_2 : arg11.view.readCov (kernelRun1_G.sl.HS1_3 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 2 := by
  refine (View.readCov_cons_toLoadRect _ _ _ _).trans ?_
  exact aC (m_1 ..) (x_1 ..) (s_1 ..) (a_1 ..) (ldV (n := 1) (hn := by decide) ..)

theorem m_3 : arg10.view.readCov (kernelRun1_G.sl.HS0_4 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 3 := by
  refine (View.readCov_cons_toLoadRect _ _ _ _).trans ?_
  exact mC (m_2 ..) (x_2 ..)

theorem a_3 : arg11.view.readCov (kernelRun1_G.sl.HS1_4 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 3 := by
  refine (View.readCov_cons_toLoadRect _ _ _ _).trans ?_
  exact aC (m_2 ..) (x_2 ..) (s_2 ..) (a_2 ..) (ldV (n := 2) (hn := by decide) ..)

theorem m_4 : arg10.view.readCov (kernelRun1_G.sl.HS0_5 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 4 := by
  refine (View.readCov_cons_toLoadRect _ _ _ _).trans ?_
  exact mC (m_3 ..) (x_3 ..)

theorem a_4 : arg11.view.readCov (kernelRun1_G.sl.HS1_5 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 4 := by
  refine (View.readCov_cons_toLoadRect _ _ _ _).trans ?_
  exact aC (m_3 ..) (x_3 ..) (s_3 ..) (a_3 ..) (ldV (n := 3) (hn := by decide) ..)

theorem m_5 : arg10.view.readCov (kernelRun1_G.sl.HS0_6 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 5 := by
  refine (View.readCov_cons_toLoadRect _ _ _ _).trans ?_
  exact mC (m_4 ..) (x_4 ..)

theorem a_5 : arg11.view.readCov (kernelRun1_G.sl.HS1_6 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 5 := by
  refine (View.readCov_cons_toLoadRect _ _ _ _).trans ?_
  exact aC (m_4 ..) (x_4 ..) (s_4 ..) (a_4 ..) (ldV (n := 4) (hn := by decide) ..)

theorem m_6 : arg10.view.readCov (kernelRun1_G.sl.HS0_7 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 6 := by
  refine (View.readCov_cons_toLoadRect _ _ _ _).trans ?_
  exact mC (m_5 ..) (x_5 ..)

theorem a_6 : arg11.view.readCov (kernelRun1_G.sl.HS1_7 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 6 := by
  refine (View.readCov_cons_toLoadRect _ _ _ _).trans ?_
  exact aC (m_5 ..) (x_5 ..) (s_5 ..) (a_5 ..) (ldV (n := 5) (hn := by decide) ..)

theorem m_7 : arg10.view.readCov (kernelRun1_G.sl.HS0_8 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 7 := by
  refine (View.readCov_cons_toLoadRect _ _ _ _).trans ?_
  exact mC (m_6 ..) (x_6 ..)

theorem a_7 : arg11.view.readCov (kernelRun1_G.sl.HS1_8 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 7 := by
  refine (View.readCov_cons_toLoadRect _ _ _ _).trans ?_
  exact aC (m_6 ..) (x_6 ..) (s_6 ..) (a_6 ..) (ldV (n := 6) (hn := by decide) ..)

theorem m_8 : arg10.view.readCov (kernelRun1_G.sl.HS0_9 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 8 := by
  refine (View.readCov_cons_toLoadRect _ _ _ _).trans ?_
  exact mC (m_7 ..) (x_7 ..)

theorem a_8 : arg11.view.readCov (kernelRun1_G.sl.HS1_9 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 8 := by
  refine (View.readCov_cons_toLoadRect _ _ _ _).trans ?_
  exact aC (m_7 ..) (x_7 ..) (s_7 ..) (a_7 ..) (ldV (n := 7) (hn := by decide) ..)

theorem m_9 : arg10.view.readCov (kernelRun1_G.sl.HS0_10 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 9 := by
  refine (View.readCov_cons_toLoadRect _ _ _ _).trans ?_
  exact mC (m_8 ..) (x_8 ..)

theorem a_9 : arg11.view.readCov (kernelRun1_G.sl.HS1_10 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 9 := by
  refine (View.readCov_cons_toLoadRect _ _ _ _).trans ?_
  exact aC (m_8 ..) (x_8 ..) (s_8 ..) (a_8 ..) (ldV (n := 8) (hn := by decide) ..)

theorem m_10 : arg10.view.readCov (kernelRun1_G.sl.HS0_11 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 10 := by
  refine (View.readCov_cons_toLoadRect _ _ _ _).trans ?_
  exact mC (m_9 ..) (x_9 ..)

theorem a_10 : arg11.view.readCov (kernelRun1_G.sl.HS1_11 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 10 := by
  refine (View.readCov_cons_toLoadRect _ _ _ _).trans ?_
  exact aC (m_9 ..) (x_9 ..) (s_9 ..) (a_9 ..) (ldV (n := 9) (hn := by decide) ..)

theorem m_11 : arg10.view.readCov (kernelRun1_G.sl.HS0_12 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 11 := by
  refine (View.readCov_cons_toLoadRect _ _ _ _).trans ?_
  exact mC (m_10 ..) (x_10 ..)

theorem a_11 : arg11.view.readCov (kernelRun1_G.sl.HS1_12 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 11 := by
  refine (View.readCov_cons_toLoadRect _ _ _ _).trans ?_
  exact aC (m_10 ..) (x_10 ..) (s_10 ..) (a_10 ..) (ldV (n := 10) (hn := by decide) ..)

theorem m_12 : arg10.view.readCov (kernelRun1_G.sl.HS0_13 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 12 := by
  refine (View.readCov_cons_toLoadRect _ _ _ _).trans ?_
  exact mC (m_11 ..) (x_11 ..)

theorem a_12 : arg11.view.readCov (kernelRun1_G.sl.HS1_13 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 12 := by
  refine (View.readCov_cons_toLoadRect _ _ _ _).trans ?_
  exact aC (m_11 ..) (x_11 ..) (s_11 ..) (a_11 ..) (ldV (n := 11) (hn := by decide) ..)

theorem m_13 : arg10.view.readCov (kernelRun1_G.sl.HS0_14 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 13 := by
  refine (View.readCov_cons_toLoadRect _ _ _ _).trans ?_
  exact mC (m_12 ..) (x_12 ..)

theorem a_13 : arg11.view.readCov (kernelRun1_G.sl.HS1_14 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 13 := by
  refine (View.readCov_cons_toLoadRect _ _ _ _).trans ?_
  exact aC (m_12 ..) (x_12 ..) (s_12 ..) (a_12 ..) (ldV (n := 12) (hn := by decide) ..)

theorem a_14 : arg11.view.readCov (kernelRun1_G.sl.HS1_15 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 14 := by
  refine (View.readCov_cons_toLoadRect _ _ _ _).trans ?_
  exact aC (m_13 ..) (x_13 ..) (s_13 ..) (a_13 ..) (ldV (n := 13) (hn := by decide) ..)

end Cert.KernelIdeal.Val.CaseG

end
-- ==== Proof.CaseH.lean ====
module

public import proofs.«01_k».proof.Proof.Flash

@[expose] public section

set_option maxRecDepth 16384

noncomputable section

/-! # The points of query tile 7: 16 key tiles, tile by tile, are the recursion -/

namespace Cert.KernelIdeal.Val.CaseH

open Idealize.ShloMosaic Idealize.ShloMosaic.TcCoe Idealize.SL.Sem Cert.KernelIdeal Cert.KernelIdeal.Gen

variable (c : Dev nD) (i : grid1.Coords) (arg3 : Memref sig .tc .vmem S1x512x128 .bf16) (harg3 : arg3.IsWhole) (arg4 : Memref sig .tc .vmem S1x4096x128 .bf16) (harg4 : arg4.IsWhole)
  (arg5 : Memref sig .tc .vmem S1x1x16x128x256 .bf16) (harg5 : arg5.IsWhole) (arg6 : Memref sig .tc .vmem S7x1x256x256 .f32) (harg6 : arg6.IsWhole)
  (arg10 : Memref sig .tc .vmem S8x1024 .f32) (arg11 : Memref sig .tc .vmem S144x1024 .f32) (arg12 : Memref sig .tc .vmem S2x256x1024 .f32) (arg13 : Memref sig .tc .vmem S2x8x1024 .f32)
  (hc0 : cond1_0 i) (hc1 : cond1_1 i) (hc2 : cond1_2 i) (hc3 : cond1_3 i) (hc4 : cond1_4 i) (hc5 : cond1_5 i) (hc6 : cond1_6 i)
  (x0 : Vec Ideal S1x512x128 .bf16) (x1 : Vec Ideal S1x4096x128 .bf16) (x2 : Vec Ideal S1x1x16x128x256 .bf16) (x3 : Vec Ideal S7x1x256x256 .f32)

theorem s_0 : arg12.view.readCov (kernelRun1_H.sl.HS2_2 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 0 := by
  refine (View.readCov_skip _ _ _ _ _ (by decide)).trans ?_
  refine (View.readCov_cons_toLoadRect _ _ _ _).trans ?_
  exact scC (ldQ ..) (ldK (n := 0) (hn := by decide) (ho := rfl) ..) (ldB (n := 0) (b := 1) (ho := offB i 0 1) ..) (ldB (n := 0) (b := 2) (ho := offB i 0 2) ..)

theorem x_0 : arg13.view.readCov (kernelRun1_H.sl.HS3_2 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 0 := by
  refine (View.readCov_skip _ _ _ _ _ (by decide)).trans ?_
  refine (View.readCov_cons_toLoadRect _ _ _ _).trans ?_
  exact mxC (ldQ ..) (ldK (n := 0) (hn := by decide) (ho := rfl) ..) (ldB (n := 0) (b := 1) (ho := offB i 0 1) ..) (ldB (n := 0) (b := 2) (ho := offB i 0 2) ..)

theorem s_1 : arg12.view.readCov (kernelRun1_H.sl.HS2_3 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 1 := by
  refine (View.readCov_skip _ _ _ _ _ (by decide)).trans ?_
  refine (View.readCov_cons_toLoadRect _ _ _ _).trans ?_
  exact scC (ldQ ..) (ldK (n := 1) (hn := by decide) (ho := rfl) ..) (ldB (n := 1) (b := 1) (ho := offB i 1 1) ..) (ldB (n := 1) (b := 2) (ho := offB i 1 2) ..)

theorem x_1 : arg13.view.readCov (kernelRun1_H.sl.HS3_3 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 1 := by
  refine (View.readCov_skip _ _ _ _ _ (by decide)).trans ?_
  refine (View.readCov_cons_toLoadRect _ _ _ _).trans ?_
  exact mxC (ldQ ..) (ldK (n := 1) (hn := by decide) (ho := rfl) ..) (ldB (n := 1) (b := 1) (ho := offB i 1 1) ..) (ldB (n := 1) (b := 2) (ho := offB i 1 2) ..)

theorem s_2 : arg12.view.readCov (kernelRun1_H.sl.HS2_4 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 2 := by
  refine (View.readCov_skip _ _ _ _ _ (by decide)).trans ?_
  refine (View.readCov_cons_toLoadRect _ _ _ _).trans ?_
  exact scC (ldQ ..) (ldK (n := 2) (hn := by decide) (ho := rfl) ..) (ldB (n := 2) (b := 1) (ho := offB i 2 1) ..) (ldB (n := 2) (b := 2) (ho := offB i 2 2) ..)

theorem x_2 : arg13.view.readCov (kernelRun1_H.sl.HS3_4 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 2 := by
  refine (View.readCov_skip _ _ _ _ _ (by decide)).trans ?_
  refine (View.readCov_cons_toLoadRect _ _ _ _).trans ?_
  exact mxC (ldQ ..) (ldK (n := 2) (hn := by decide) (ho := rfl) ..) (ldB (n := 2) (b := 1) (ho := offB i 2 1) ..) (ldB (n := 2) (b := 2) (ho := offB i 2 2) ..)

theorem s_3 : arg12.view.readCov (kernelRun1_H.sl.HS2_5 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 3 := by
  refine (View.readCov_skip _ _ _ _ _ (by decide)).trans ?_
  refine (View.readCov_cons_toLoadRect _ _ _ _).trans ?_
  exact scC (ldQ ..) (ldK (n := 3) (hn := by decide) (ho := rfl) ..) (ldB (n := 3) (b := 1) (ho := offB i 3 1) ..) (ldB (n := 3) (b := 2) (ho := offB i 3 2) ..)

theorem x_3 : arg13.view.readCov (kernelRun1_H.sl.HS3_5 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 3 := by
  refine (View.readCov_skip _ _ _ _ _ (by decide)).trans ?_
  refine (View.readCov_cons_toLoadRect _ _ _ _).trans ?_
  exact mxC (ldQ ..) (ldK (n := 3) (hn := by decide) (ho := rfl) ..) (ldB (n := 3) (b := 1) (ho := offB i 3 1) ..) (ldB (n := 3) (b := 2) (ho := offB i 3 2) ..)

theorem s_4 : arg12.view.readCov (kernelRun1_H.sl.HS2_6 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 4 := by
  refine (View.readCov_skip _ _ _ _ _ (by decide)).trans ?_
  refine (View.readCov_cons_toLoadRect _ _ _ _).trans ?_
  exact scC (ldQ ..) (ldK (n := 4) (hn := by decide) (ho := rfl) ..) (ldB (n := 4) (b := 1) (ho := offB i 4 1) ..) (ldB (n := 4) (b := 2) (ho := offB i 4 2) ..)

theorem x_4 : arg13.view.readCov (kernelRun1_H.sl.HS3_6 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 4 := by
  refine (View.readCov_skip _ _ _ _ _ (by decide)).trans ?_
  refine (View.readCov_cons_toLoadRect _ _ _ _).trans ?_
  exact mxC (ldQ ..) (ldK (n := 4) (hn := by decide) (ho := rfl) ..) (ldB (n := 4) (b := 1) (ho := offB i 4 1) ..) (ldB (n := 4) (b := 2) (ho := offB i 4 2) ..)

theorem s_5 : arg12.view.readCov (kernelRun1_H.sl.HS2_7 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 5 := by
  refine (View.readCov_skip _ _ _ _ _ (by decide)).trans ?_
  refine (View.readCov_cons_toLoadRect _ _ _ _).trans ?_
  exact scC (ldQ ..) (ldK (n := 5) (hn := by decide) (ho := rfl) ..) (ldB (n := 5) (b := 1) (ho := offB i 5 1) ..) (ldB (n := 5) (b := 2) (ho := offB i 5 2) ..)

theorem x_5 : arg13.view.readCov (kernelRun1_H.sl.HS3_7 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 5 := by
  refine (View.readCov_skip _ _ _ _ _ (by decide)).trans ?_
  refine (View.readCov_cons_toLoadRect _ _ _ _).trans ?_
  exact mxC (ldQ ..) (ldK (n := 5) (hn := by decide) (ho := rfl) ..) (ldB (n := 5) (b := 1) (ho := offB i 5 1) ..) (ldB (n := 5) (b := 2) (ho := offB i 5 2) ..)

theorem s_6 : arg12.view.readCov (kernelRun1_H.sl.HS2_8 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 6 := by
  refine (View.readCov_skip _ _ _ _ _ (by decide)).trans ?_
  refine (View.readCov_cons_toLoadRect _ _ _ _).trans ?_
  exact scC (ldQ ..) (ldK (n := 6) (hn := by decide) (ho := rfl) ..) (ldB (n := 6) (b := 1) (ho := offB i 6 1) ..) (ldB (n := 6) (b := 2) (ho := offB i 6 2) ..)

theorem x_6 : arg13.view.readCov (kernelRun1_H.sl.HS3_8 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 6 := by
  refine (View.readCov_skip _ _ _ _ _ (by decide)).trans ?_
  refine (View.readCov_cons_toLoadRect _ _ _ _).trans ?_
  exact mxC (ldQ ..) (ldK (n := 6) (hn := by decide) (ho := rfl) ..) (ldB (n := 6) (b := 1) (ho := offB i 6 1) ..) (ldB (n := 6) (b := 2) (ho := offB i 6 2) ..)

theorem s_7 : arg12.view.readCov (kernelRun1_H.sl.HS2_9 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 7 := by
  refine (View.readCov_skip _ _ _ _ _ (by decide)).trans ?_
  refine (View.readCov_cons_toLoadRect _ _ _ _).trans ?_
  exact scC (ldQ ..) (ldK (n := 7) (hn := by decide) (ho := rfl) ..) (ldB (n := 7) (b := 1) (ho := offB i 7 1) ..) (ldB (n := 7) (b := 2) (ho := offB i 7 2) ..)

theorem x_7 : arg13.view.readCov (kernelRun1_H.sl.HS3_9 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 7 := by
  refine (View.readCov_skip _ _ _ _ _ (by decide)).trans ?_
  refine (View.readCov_cons_toLoadRect _ _ _ _).trans ?_
  exact mxC (ldQ ..) (ldK (n := 7) (hn := by decide) (ho := rfl) ..) (ldB (n := 7) (b := 1) (ho := offB i 7 1) ..) (ldB (n := 7) (b := 2) (ho := offB i 7 2) ..)

theorem s_8 : arg12.view.readCov (kernelRun1_H.sl.HS2_10 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 8 := by
  refine (View.readCov_skip _ _ _ _ _ (by decide)).trans ?_
  refine (View.readCov_cons_toLoadRect _ _ _ _).trans ?_
  exact scC (ldQ ..) (ldK (n := 8) (hn := by decide) (ho := rfl) ..) (ldB (n := 8) (b := 1) (ho := offB i 8 1) ..) (ldB (n := 8) (b := 2) (ho := offB i 8 2) ..)

theorem x_8 : arg13.view.readCov (kernelRun1_H.sl.HS3_10 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 8 := by
  refine (View.readCov_skip _ _ _ _ _ (by decide)).trans ?_
  refine (View.readCov_cons_toLoadRect _ _ _ _).trans ?_
  exact mxC (ldQ ..) (ldK (n := 8) (hn := by decide) (ho := rfl) ..) (ldB (n := 8) (b := 1) (ho := offB i 8 1) ..) (ldB (n := 8) (b := 2) (ho := offB i 8 2) ..)

theorem s_9 : arg12.view.readCov (kernelRun1_H.sl.HS2_11 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 9 := by
  refine (View.readCov_skip _ _ _ _ _ (by decide)).trans ?_
  refine (View.readCov_cons_toLoadRect _ _ _ _).trans ?_
  exact scC (ldQ ..) (ldK (n := 9) (hn := by decide) (ho := rfl) ..) (ldB (n := 9) (b := 1) (ho := offB i 9 1) ..) (ldB (n := 9) (b := 2) (ho := offB i 9 2) ..)

theorem x_9 : arg13.view.readCov (kernelRun1_H.sl.HS3_11 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 9 := by
  refine (View.readCov_skip _ _ _ _ _ (by decide)).trans ?_
  refine (View.readCov_cons_toLoadRect _ _ _ _).trans ?_
  exact mxC (ldQ ..) (ldK (n := 9) (hn := by decide) (ho := rfl) ..) (ldB (n := 9) (b := 1) (ho := offB i 9 1) ..) (ldB (n := 9) (b := 2) (ho := offB i 9 2) ..)

theorem s_10 : arg12.view.readCov (kernelRun1_H.sl.HS2_12 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 10 := by
  refine (View.readCov_skip _ _ _ _ _ (by decide)).trans ?_
  refine (View.readCov_cons_toLoadRect _ _ _ _).trans ?_
  exact scC (ldQ ..) (ldK (n := 10) (hn := by decide) (ho := rfl) ..) (ldB (n := 10) (b := 1) (ho := offB i 10 1) ..) (ldB (n := 10) (b := 2) (ho := offB i 10 2) ..)

theorem x_10 : arg13.view.readCov (kernelRun1_H.sl.HS3_12 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 10 := by
  refine (View.readCov_skip _ _ _ _ _ (by decide)).trans ?_
  refine (View.readCov_cons_toLoadRect _ _ _ _).trans ?_
  exact mxC (ldQ ..) (ldK (n := 10) (hn := by decide) (ho := rfl) ..) (ldB (n := 10) (b := 1) (ho := offB i 10 1) ..) (ldB (n := 10) (b := 2) (ho := offB i 10 2) ..)

theorem s_11 : arg12.view.readCov (kernelRun1_H.sl.HS2_13 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 11 := by
  refine (View.readCov_skip _ _ _ _ _ (by decide)).trans ?_
  refine (View.readCov_cons_toLoadRect _ _ _ _).trans ?_
  exact scC (ldQ ..) (ldK (n := 11) (hn := by decide) (ho := rfl) ..) (ldB (n := 11) (b := 1) (ho := offB i 11 1) ..) (ldB (n := 11) (b := 2) (ho := offB i 11 2) ..)

theorem x_11 : arg13.view.readCov (kernelRun1_H.sl.HS3_13 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 11 := by
  refine (View.readCov_skip _ _ _ _ _ (by decide)).trans ?_
  refine (View.readCov_cons_toLoadRect _ _ _ _).trans ?_
  exact mxC (ldQ ..) (ldK (n := 11) (hn := by decide) (ho := rfl) ..) (ldB (n := 11) (b := 1) (ho := offB i 11 1) ..) (ldB (n := 11) (b := 2) (ho := offB i 11 2) ..)

theorem s_12 : arg12.view.readCov (kernelRun1_H.sl.HS2_14 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 12 := by
  refine (View.readCov_skip _ _ _ _ _ (by decide)).trans ?_
  refine (View.readCov_cons_toLoadRect _ _ _ _).trans ?_
  exact scC (ldQ ..) (ldK (n := 12) (hn := by decide) (ho := rfl) ..) (ldB (n := 12) (b := 1) (ho := offB i 12 1) ..) (ldB (n := 12) (b := 2) (ho := offB i 12 2) ..)

theorem x_12 : arg13.view.readCov (kernelRun1_H.sl.HS3_14 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 12 := by
  refine (View.readCov_skip _ _ _ _ _ (by decide)).trans ?_
  refine (View.readCov_cons_toLoadRect _ _ _ _).trans ?_
  exact mxC (ldQ ..) (ldK (n := 12) (hn := by decide) (ho := rfl) ..) (ldB (n := 12) (b := 1) (ho := offB i 12 1) ..) (ldB (n := 12) (b := 2) (ho := offB i 12 2) ..)

theorem s_13 : arg12.view.readCov (kernelRun1_H.sl.HS2_15 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 13 := by
  refine (View.readCov_skip _ _ _ _ _ (by decide)).trans ?_
  refine (View.readCov_cons_toLoadRect _ _ _ _).trans ?_
  exact scC (ldQ ..) (ldK (n := 13) (hn := by decide) (ho := rfl) ..) (ldB (n := 13) (b := 1) (ho := offB i 13 1) ..) (ldB (n := 13) (b := 2) (ho := offB i 13 2) ..)

theorem x_13 : arg13.view.readCov (kernelRun1_H.sl.HS3_15 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 13 := by
  refine (View.readCov_skip _ _ _ _ _ (by decide)).trans ?_
  refine (View.readCov_cons_toLoadRect _ _ _ _).trans ?_
  exact mxC (ldQ ..) (ldK (n := 13) (hn := by decide) (ho := rfl) ..) (ldB (n := 13) (b := 1) (ho := offB i 13 1) ..) (ldB (n := 13) (b := 2) (ho := offB i 13 2) ..)

theorem s_14 : arg12.view.readCov (kernelRun1_H.sl.HS2_16 (F := Ideal) c i arg3 harg3 arg4 harg4 arg6 harg6 hc0 hc1 hc2 hc3 hc4 hc5 hc6 x0 x1 x3) (Rect.unit (s := S2x256x1024) ![0, 0, 0] S1x256x1024.size (by decide)).toLoadRect
    = Sc x0 x1 x3 (i 2).val 14 := by
  refine (View.readCov_skip _ _ _ _ _ (by decide)).trans ?_
  refine (View.readCov_cons_toLoadRect _ _ _ _).trans ?_
  exact scC (ldQ ..) (ldK (n := 14) (hn := by decide) (ho := rfl) ..) (ldB (n := 14) (b := 1) (ho := offB i 14 1) ..) (ldB (n := 14) (b := 2) (ho := offB i 14 2) ..)

theorem x_14 : arg13.view.readCov (kernelRun1_H.sl.HS3_16 (F := Ideal) c i arg3 harg3 arg4 harg4 arg6 harg6 hc0 hc1 hc2 hc3 hc4 hc5 hc6 x0 x1 x3) (Rect.unit (s := S2x8x1024) ![0, 0, 0] S1x8x1024.size (by decide)).toLoadRect
    = Mx x0 x1 x3 (i 2).val 14 := by
  refine (View.readCov_skip _ _ _ _ _ (by decide)).trans ?_
  refine (View.readCov_cons_toLoadRect _ _ _ _).trans ?_
  exact mxC (ldQ ..) (ldK (n := 14) (hn := by decide) (ho := rfl) ..) (ldB (n := 14) (b := 1) (ho := offB i 14 1) ..) (ldB (n := 14) (b := 2) (ho := offB i 14 2) ..)

theorem s_15 : arg12.view.readCov (kernelRun1_H.sl.HS2_16 (F := Ideal) c i arg3 harg3 arg4 harg4 arg6 harg6 hc0 hc1 hc2 hc3 hc4 hc5 hc6 x0 x1 x3) (Rect.unit (s := S2x256x1024) ![1, 0, 0] S1x256x1024.size (by decide)).toLoadRect
    = Sc x0 x1 x3 (i 2).val 15 := by
  refine (View.readCov_cons_toLoadRect _ _ _ _).trans ?_
  exact scC (ldQ ..) (ldK (n := 15) (hn := by decide) (ho := rfl) ..) (ldB (n := 15) (b := 1) (ho := offB i 15 1) ..) (ldB (n := 15) (b := 2) (ho := offB i 15 2) ..)

theorem x_15 : arg13.view.readCov (kernelRun1_H.sl.HS3_16 (F := Ideal) c i arg3 harg3 arg4 harg4 arg6 harg6 hc0 hc1 hc2 hc3 hc4 hc5 hc6 x0 x1 x3) (Rect.unit (s := S2x8x1024) ![1, 0, 0] S1x8x1024.size (by decide)).toLoadRect
    = Mx x0 x1 x3 (i 2).val 15 := by
  refine (View.readCov_cons_toLoadRect _ _ _ _).trans ?_
  exact mxC (ldQ ..) (ldK (n := 15) (hn := by decide) (ho := rfl) ..) (ldB (n := 15) (b := 1) (ho := offB i 15 1) ..) (ldB (n := 15) (b := 2) (ho := offB i 15 2) ..)

theorem m_0 : arg10.view.readCov (kernelRun1_H.sl.HS0_1 (F := Ideal) ) (Rect.unit (s := S8x1024) ![0, 0] S8x1024.size (by decide)).toLoadRect
    = M x0 x1 x3 (i 2).val 0 := by
  refine (View.readCov_cons_toLoadRect _ _ _ _).trans ?_
  rfl

theorem a_0 : arg11.view.readCov (kernelRun1_H.sl.HS1_1 (F := Ideal) ) (Rect.unit (s := S144x1024) ![0, 0] S144x1024.size (by decide)).toLoadRect
    = A x0 x1 x2 x3 (i 2).val 0 := by
  refine (View.readCov_cons_toLoadRect _ _ _ _).trans ?_
  rfl

theorem m_1 : arg10.view.readCov (kernelRun1_H.sl.HS0_2 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 1 := by
  refine (View.readCov_cons_toLoadRect _ _ _ _).trans ?_
  exact mC (m_0 ..) (x_0 ..)

theorem a_1 : arg11.view.readCov (kernelRun1_H.sl.HS1_2 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 1 := by
  refine (View.readCov_cons_toLoadRect _ _ _ _).trans ?_
  exact aC (m_0 ..) (x_0 ..) (s_0 ..) (a_0 ..) (ldV (n := 0) (hn := by decide) ..)

theorem m_2 : arg10.view.readCov (kernelRun1_H.sl.HS0_3 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 2 := by
  refine (View.readCov_cons_toLoadRect _ _ _ _).trans ?_
  exact mC (m_1 ..) (x_1 ..)

theorem a_2 : arg11.view.readCov (kernelRun1_H.sl.HS1_3 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 2 := by
  refine (View.readCov_cons_toLoadRect _ _ _ _).trans ?_
  exact aC (m_1 ..) (x_1 ..) (s_1 ..) (a_1 ..) (ldV (n := 1) (hn := by decide) ..)

theorem m_3 : arg10.view.readCov (kernelRun1_H.sl.HS0_4 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 3 := by
  refine (View.readCov_cons_toLoadRect _ _ _ _).trans ?_
  exact mC (m_2 ..) (x_2 ..)

theorem a_3 : arg11.view.readCov (kernelRun1_H.sl.HS1_4 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 3 := by
  refine (View.readCov_cons_toLoadRect _ _ _ _).trans ?_
  exact aC (m_2 ..) (x_2 ..) (s_2 ..) (a_2 ..) (ldV (n := 2) (hn := by decide) ..)

theorem m_4 : arg10.view.readCov (kernelRun1_H.sl.HS0_5 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 4 := by
  refine (View.readCov_cons_toLoadRect _ _ _ _).trans ?_
  exact mC (m_3 ..) (x_3 ..)

theorem a_4 : arg11.view.readCov (kernelRun1_H.sl.HS1_5 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 4 := by
  refine (View.readCov_cons_toLoadRect _ _ _ _).trans ?_
  exact aC (m_3 ..) (x_3 ..) (s_3 ..) (a_3 ..) (ldV (n := 3) (hn := by decide) ..)

theorem m_5 : arg10.view.readCov (kernelRun1_H.sl.HS0_6 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 5 := by
  refine (View.readCov_cons_toLoadRect _ _ _ _).trans ?_
  exact mC (m_4 ..) (x_4 ..)

theorem a_5 : arg11.view.readCov (kernelRun1_H.sl.HS1_6 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 5 := by
  refine (View.readCov_cons_toLoadRect _ _ _ _).trans ?_
  exact aC (m_4 ..) (x_4 ..) (s_4 ..) (a_4 ..) (ldV (n := 4) (hn := by decide) ..)

theorem m_6 : arg10.view.readCov (kernelRun1_H.sl.HS0_7 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 6 := by
  refine (View.readCov_cons_toLoadRect _ _ _ _).trans ?_
  exact mC (m_5 ..) (x_5 ..)

theorem a_6 : arg11.view.readCov (kernelRun1_H.sl.HS1_7 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 6 := by
  refine (View.readCov_cons_toLoadRect _ _ _ _).trans ?_
  exact aC (m_5 ..) (x_5 ..) (s_5 ..) (a_5 ..) (ldV (n := 5) (hn := by decide) ..)

theorem m_7 : arg10.view.readCov (kernelRun1_H.sl.HS0_8 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 7 := by
  refine (View.readCov_cons_toLoadRect _ _ _ _).trans ?_
  exact mC (m_6 ..) (x_6 ..)

theorem a_7 : arg11.view.readCov (kernelRun1_H.sl.HS1_8 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 7 := by
  refine (View.readCov_cons_toLoadRect _ _ _ _).trans ?_
  exact aC (m_6 ..) (x_6 ..) (s_6 ..) (a_6 ..) (ldV (n := 6) (hn := by decide) ..)

theorem m_8 : arg10.view.readCov (kernelRun1_H.sl.HS0_9 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 8 := by
  refine (View.readCov_cons_toLoadRect _ _ _ _).trans ?_
  exact mC (m_7 ..) (x_7 ..)

theorem a_8 : arg11.view.readCov (kernelRun1_H.sl.HS1_9 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 8 := by
  refine (View.readCov_cons_toLoadRect _ _ _ _).trans ?_
  exact aC (m_7 ..) (x_7 ..) (s_7 ..) (a_7 ..) (ldV (n := 7) (hn := by decide) ..)

theorem m_9 : arg10.view.readCov (kernelRun1_H.sl.HS0_10 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 9 := by
  refine (View.readCov_cons_toLoadRect _ _ _ _).trans ?_
  exact mC (m_8 ..) (x_8 ..)

theorem a_9 : arg11.view.readCov (kernelRun1_H.sl.HS1_10 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 9 := by
  refine (View.readCov_cons_toLoadRect _ _ _ _).trans ?_
  exact aC (m_8 ..) (x_8 ..) (s_8 ..) (a_8 ..) (ldV (n := 8) (hn := by decide) ..)

theorem m_10 : arg10.view.readCov (kernelRun1_H.sl.HS0_11 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 10 := by
  refine (View.readCov_cons_toLoadRect _ _ _ _).trans ?_
  exact mC (m_9 ..) (x_9 ..)

theorem a_10 : arg11.view.readCov (kernelRun1_H.sl.HS1_11 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 10 := by
  refine (View.readCov_cons_toLoadRect _ _ _ _).trans ?_
  exact aC (m_9 ..) (x_9 ..) (s_9 ..) (a_9 ..) (ldV (n := 9) (hn := by decide) ..)

theorem m_11 : arg10.view.readCov (kernelRun1_H.sl.HS0_12 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 11 := by
  refine (View.readCov_cons_toLoadRect _ _ _ _).trans ?_
  exact mC (m_10 ..) (x_10 ..)

theorem a_11 : arg11.view.readCov (kernelRun1_H.sl.HS1_12 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 11 := by
  refine (View.readCov_cons_toLoadRect _ _ _ _).trans ?_
  exact aC (m_10 ..) (x_10 ..) (s_10 ..) (a_10 ..) (ldV (n := 10) (hn := by decide) ..)

theorem m_12 : arg10.view.readCov (kernelRun1_H.sl.HS0_13 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 12 := by
  refine (View.readCov_cons_toLoadRect _ _ _ _).trans ?_
  exact mC (m_11 ..) (x_11 ..)

theorem a_12 : arg11.view.readCov (kernelRun1_H.sl.HS1_13 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 12 := by
  refine (View.readCov_cons_toLoadRect _ _ _ _).trans ?_
  exact aC (m_11 ..) (x_11 ..) (s_11 ..) (a_11 ..) (ldV (n := 11) (hn := by decide) ..)

theorem m_13 : arg10.view.readCov (kernelRun1_H.sl.HS0_14 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 13 := by
  refine (View.readCov_cons_toLoadRect _ _ _ _).trans ?_
  exact mC (m_12 ..) (x_12 ..)

theorem a_13 : arg11.view.readCov (kernelRun1_H.sl.HS1_14 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 13 := by
  refine (View.readCov_cons_toLoadRect _ _ _ _).trans ?_
  exact aC (m_12 ..) (x_12 ..) (s_12 ..) (a_12 ..) (ldV (n := 12) (hn := by decide) ..)

theorem m_14 : arg10.view.readCov (kernelRun1_H.sl.HS0_15 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 14 := by
  refine (View.readCov_cons_toLoadRect _ _ _ _).trans ?_
  exact mC (m_13 ..) (x_13 ..)

theorem a_14 : arg11.view.readCov (kernelRun1_H.sl.HS1_15 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 14 := by
  refine (View.readCov_cons_toLoadRect _ _ _ _).trans ?_
  exact aC (m_13 ..) (x_13 ..) (s_13 ..) (a_13 ..) (ldV (n := 13) (hn := by decide) ..)

theorem m_15 : arg10.view.readCov (kernelRun1_H.sl.HS0_16 (F := Ideal) c i arg3 harg3 arg4 harg4 arg6 harg6 arg10 arg13 hc0 hc1 hc2 hc3 hc4 hc5 hc6 x0 x1 x3) (Rect.unit (s := S8x1024) ![0, 0] S8x1024.size (by decide)).toLoadRect
    = M x0 x1 x3 (i 2).val 15 := by
  refine (View.readCov_cons_toLoadRect _ _ _ _).trans ?_
  exact mC (m_14 ..) (x_14 ..)

theorem a_15 : arg11.view.readCov (kernelRun1_H.sl.HS1_16 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 15 := by
  refine (View.readCov_cons_toLoadRect _ _ _ _).trans ?_
  exact aC (m_14 ..) (x_14 ..) (s_14 ..) (a_14 ..) (ldV (n := 14) (hn := by decide) ..)

theorem a_16 : arg11.view.readCov (kernelRun1_H.sl.HS1_17 (F := Ideal) c i arg3 harg3 arg4 harg4 arg5 harg5 arg6 harg6 arg10 arg11 arg12 arg13 hc0 hc1 hc2 hc3 hc4 hc5 hc6 x0 x1 x2 x3) (Rect.unit (s := S144x1024) ![0, 0] S144x1024.size (by decide)).toLoadRect
    = A x0 x1 x2 x3 (i 2).val 16 := by
  refine (View.readCov_cons_toLoadRect _ _ _ _).trans ?_
  exact aC (m_15 ..) (x_15 ..) (s_15 ..) (a_15 ..) (ldV (n := 15) (hn := by decide) ..)

end Cert.KernelIdeal.Val.CaseH

end
-- ==== Proof.Out.lean ====
module
public import proofs.«01_k».proof.Proof.CaseA
public import proofs.«01_k».proof.Proof.CaseB
public import proofs.«01_k».proof.Proof.CaseC
public import proofs.«01_k».proof.Proof.CaseD
public import proofs.«01_k».proof.Proof.CaseE
public import proofs.«01_k».proof.Proof.CaseF
public import proofs.«01_k».proof.Proof.CaseG
public import proofs.«01_k».proof.Proof.CaseH

/-! Every grid point's block in closed form: whichever branch of the switch a point takes, what it writes is the
normalised difference of the two maps made of the column sums after its last tile. -/

open Idealize.ShloMosaic Idealize.ShloMosaic.TcCoe Idealize.SL.Sem Cert.KernelIdeal Cert.KernelIdeal.Gen

namespace Cert.KernelIdeal.Val

set_option maxRecDepth 16384

public section

variable (V : ∀ (c : Dev nD) (ref : Ref sig .tc), Buf (Elt Ideal) ((c : Thread nD τ).loc ref)) (c : Dev nD)

theorem ldL (m : Memref sig .tc .vmem S4x64 .f32) (h : m.IsWhole) (x4 : Vec Ideal S4x64 .f32) (inb) :
    View.readAt (Elt Ideal) m.view (Rect.unit (s := S4x64) ![0, 0] S4x64.size inb).toLoadRect (h.unread x4) = x4 := by
  refine (View.readAt_eq_ld _ _ _).trans ?_
  rw [h.read_unread]
  funext j
  refine congrArg x4 (funext fun a => Fin.ext ?_)
  match a with
  | ⟨0, _⟩ => exact (Nat.zero_add _).trans (Nat.one_mul _)
  | ⟨1, _⟩ => exact (Nat.zero_add _).trans (Nat.one_mul _)

theorem ldG (m : Memref sig .tc .vmem S128x128 .f32) (h : m.IsWhole) (x5 : Vec Ideal S128x128 .f32) (inb) :
    View.readAt (Elt Ideal) m.view (Rect.unit (s := S128x128) ![0, 0] S128x128.size inb).toLoadRect (h.unread x5) = x5 := by
  refine (View.readAt_eq_ld _ _ _).trans ?_
  rw [h.read_unread]
  funext j
  refine congrArg x5 (funext fun a => Fin.ext ?_)
  match a with
  | ⟨0, _⟩ => exact (Nat.zero_add _).trans (Nat.one_mul _)
  | ⟨1, _⟩ => exact (Nat.zero_add _).trans (Nat.one_mul _)

theorem blkC {l x4 : Vec Ideal S4x64 .f32} {x x' : Vec Ideal S144x1024 .f32}
    {g g' : Vec Ideal S128x128 .f32} (hl : l = x4) (hx : x = x') (hg : g = g') :
    k1_pay1 (k1_pay496 l) (k1_pay497 l) x g = k1_pay1 (k1_pay496 x4) (k1_pay497 x4) x' g' := by
  subst hl hx hg; rfl

theorem coord2 : ∀ t : Fin cfg1.N, (grid1.coords t 2).val = t.val % 8 :=
  (by decide +kernel : ∀ t : Fin grid1.N, (grid1.coords t 2).val = t.val % 8)

theorem A_at {x0 x1 x2 x3} {q q' n n' : ℕ} (h : q = q') (hn : n = n') : A x0 x1 x2 x3 q n = A x0 x1 x2 x3 q' n' := by
  subst h hn; rfl

/-- What a grid point writes. -/
@[expose] noncomputable def Blk (t : Fin cfg1.N) : Vec Ideal S1x512x128 .bf16 :=
  k1_pay1 (k1_pay496 (iblk1 V c 4 t)) (k1_pay497 (iblk1 V c 4 t))
    (A (iblk1 V c 0 t) (iblk1 V c 1 t) (iblk1 V c 2 t) (iblk1 V c 3 t) (t.val % 8) (2 * (t.val % 8) + 2)) (iblk1 V c 5 t)

theorem mod_A (n : ℕ) (h0 : ¬1 ≤ n % 8) : n % 8 = 0 := by omega

theorem out_A (t : Fin cfg1.N) (h0 : ¬1 ≤ t.val % 8) :
    outsAt1 V c t.val t.isLt = Blk V c t := by
  have e : t.val % 8 = 0 := mod_A t.val h0
  have e2 : 2 = 2 * (t.val % 8) + 2 := by rw [e]
  rw [outsAt1_A _ _ _ h0]
  unfold out1_A_6
  rw [View.read_writes_junk_eq_canon]
  unfold kernelRun1_A
  dsimp only
  rw [View.canon_cons_unit_lit _ _ _ (by decide)]
  unfold Blk kernelRun1_A.sl.r kernelRun1_A.sl.r_1
  exact blkC (ldL ..)
    ((CaseA.a_2 ..).trans (A_at (coord2 t) e2)) (ldG ..)

theorem mod_B (n : ℕ) (h0 : 1 ≤ n % 8) (h1 : ¬n % 8 ≠ 1) : n % 8 = 1 := by omega

theorem out_B (t : Fin cfg1.N) (h0 : 1 ≤ t.val % 8) (h1 : ¬t.val % 8 ≠ 1) :
    outsAt1 V c t.val t.isLt = Blk V c t := by
  have e : t.val % 8 = 1 := mod_B t.val h0 h1
  have e2 : 4 = 2 * (t.val % 8) + 2 := by rw [e]
  rw [outsAt1_B _ _ _ h0 h1]
  unfold out1_B_6
  rw [View.read_writes_junk_eq_canon]
  unfold kernelRun1_B
  dsimp only
  rw [View.canon_cons_unit_lit _ _ _ (by decide)]
  unfold Blk kernelRun1_B.sl.r kernelRun1_B.sl.r_1
  exact blkC (ldL ..)
    ((CaseB.a_4 ..).trans (A_at (coord2 t) e2)) (ldG ..)

theorem mod_C (n : ℕ) (h0 : 1 ≤ n % 8) (h1 : n % 8 ≠ 1) (h2 : ¬n % 8 ≠ 2) : n % 8 = 2 := by omega

theorem out_C (t : Fin cfg1.N) (h0 : 1 ≤ t.val % 8) (h1 : t.val % 8 ≠ 1) (h2 : ¬t.val % 8 ≠ 2) :
    outsAt1 V c t.val t.isLt = Blk V c t := by
  have e : t.val % 8 = 2 := mod_C t.val h0 h1 h2
  have e2 : 6 = 2 * (t.val % 8) + 2 := by rw [e]
  rw [outsAt1_C _ _ _ h0 h1 h2]
  unfold out1_C_6
  rw [View.read_writes_junk_eq_canon]
  unfold kernelRun1_C
  dsimp only
  rw [View.canon_cons_unit_lit _ _ _ (by decide)]
  unfold Blk kernelRun1_C.sl.r kernelRun1_C.sl.r_1
  exact blkC (ldL ..)
    ((CaseC.a_6 ..).trans (A_at (coord2 t) e2)) (ldG ..)

theorem mod_D (n : ℕ) (h0 : 1 ≤ n % 8) (h1 : n % 8 ≠ 1) (h2 : n % 8 ≠ 2) (h3 : ¬n % 8 ≠ 3) : n % 8 = 3 := by omega

theorem out_D (t : Fin cfg1.N) (h0 : 1 ≤ t.val % 8) (h1 : t.val % 8 ≠ 1) (h2 : t.val % 8 ≠ 2) (h3 : ¬t.val % 8 ≠ 3) :
    outsAt1 V c t.val t.isLt = Blk V c t := by
  have e : t.val % 8 = 3 := mod_D t.val h0 h1 h2 h3
  have e2 : 8 = 2 * (t.val % 8) + 2 := by rw [e]
  rw [outsAt1_D _ _ _ h0 h1 h2 h3]
  unfold out1_D_6
  rw [View.read_writes_junk_eq_canon]
  unfold kernelRun1_D
  dsimp only
  rw [View.canon_cons_unit_lit _ _ _ (by decide)]
  unfold Blk kernelRun1_D.sl.r kernelRun1_D.sl.r_1
  exact blkC (ldL ..)
    ((CaseD.a_8 ..).trans (A_at (coord2 t) e2)) (ldG ..)

theorem mod_E (n : ℕ) (h0 : 1 ≤ n % 8) (h1 : n % 8 ≠ 1) (h2 : n % 8 ≠ 2) (h3 : n % 8 ≠ 3) (h4 : ¬n % 8 ≠ 4) : n % 8 = 4 := by omega

theorem out_E (t : Fin cfg1.N) (h0 : 1 ≤ t.val % 8) (h1 : t.val % 8 ≠ 1) (h2 : t.val % 8 ≠ 2) (h3 : t.val % 8 ≠ 3) (h4 : ¬t.val % 8 ≠ 4) :
    outsAt1 V c t.val t.isLt = Blk V c t := by
  have e : t.val % 8 = 4 := mod_E t.val h0 h1 h2 h3 h4
  have e2 : 10 = 2 * (t.val % 8) + 2 := by rw [e]
  rw [outsAt1_E _ _ _ h0 h1 h2 h3 h4]
  unfold out1_E_6
  rw [View.read_writes_junk_eq_canon]
  unfold kernelRun1_E
  dsimp only
  rw [View.canon_cons_unit_lit _ _ _ (by decide)]
  unfold Blk kernelRun1_E.sl.r kernelRun1_E.sl.r_1
  exact blkC (ldL ..)
    ((CaseE.a_10 ..).trans (A_at (coord2 t) e2)) (ldG ..)

theorem mod_F (n : ℕ) (h0 : 1 ≤ n % 8) (h1 : n % 8 ≠ 1) (h2 : n % 8 ≠ 2) (h3 : n % 8 ≠ 3) (h4 : n % 8 ≠ 4) (h5 : ¬n % 8 ≠ 5) : n % 8 = 5 := by omega

theorem out_F (t : Fin cfg1.N) (h0 : 1 ≤ t.val % 8) (h1 : t.val % 8 ≠ 1) (h2 : t.val % 8 ≠ 2) (h3 : t.val % 8 ≠ 3) (h4 : t.val % 8 ≠ 4) (h5 : ¬t.val % 8 ≠ 5) :
    outsAt1 V c t.val t.isLt = Blk V c t := by
  have e : t.val % 8 = 5 := mod_F t.val h0 h1 h2 h3 h4 h5
  have e2 : 12 = 2 * (t.val % 8) + 2 := by rw [e]
  rw [outsAt1_F _ _ _ h0 h1 h2 h3 h4 h5]
  unfold out1_F_6
  rw [View.read_writes_junk_eq_canon]
  unfold kernelRun1_F
  dsimp only
  rw [View.canon_cons_unit_lit _ _ _ (by decide)]
  unfold Blk kernelRun1_F.sl.r kernelRun1_F.sl.r_1
  exact blkC (ldL ..)
    ((CaseF.a_12 ..).trans (A_at (coord2 t) e2)) (ldG ..)

theorem mod_G (n : ℕ) (h0 : 1 ≤ n % 8) (h1 : n % 8 ≠ 1) (h2 : n % 8 ≠ 2) (h3 : n % 8 ≠ 3) (h4 : n % 8 ≠ 4) (h5 : n % 8 ≠ 5) (h6 : ¬n % 8 ≠ 6) : n % 8 = 6 := by omega

theorem out_G (t : Fin cfg1.N) (h0 : 1 ≤ t.val % 8) (h1 : t.val % 8 ≠ 1) (h2 : t.val % 8 ≠ 2) (h3 : t.val % 8 ≠ 3) (h4 : t.val % 8 ≠ 4) (h5 : t.val % 8 ≠ 5) (h6 : ¬t.val % 8 ≠ 6) :
    outsAt1 V c t.val t.isLt = Blk V c t := by
  have e : t.val % 8 = 6 := mod_G t.val h0 h1 h2 h3 h4 h5 h6
  have e2 : 14 = 2 * (t.val % 8) + 2 := by rw [e]
  rw [outsAt1_G _ _ _ h0 h1 h2 h3 h4 h5 h6]
  unfold out1_G_6
  rw [View.read_writes_junk_eq_canon]
  unfold kernelRun1_G
  dsimp only
  rw [View.canon_cons_unit_lit _ _ _ (by decide)]
  unfold Blk kernelRun1_G.sl.r kernelRun1_G.sl.r_1
  exact blkC (ldL ..)
    ((CaseG.a_14 ..).trans (A_at (coord2 t) e2)) (ldG ..)

theorem mod_H (n : ℕ) (h0 : 1 ≤ n % 8) (h1 : n % 8 ≠ 1) (h2 : n % 8 ≠ 2) (h3 : n % 8 ≠ 3) (h4 : n % 8 ≠ 4) (h5 : n % 8 ≠ 5) (h6 : n % 8 ≠ 6) : n % 8 = 7 := by omega

theorem out_H (t : Fin cfg1.N) (h0 : 1 ≤ t.val % 8) (h1 : t.val % 8 ≠ 1) (h2 : t.val % 8 ≠ 2) (h3 : t.val % 8 ≠ 3) (h4 : t.val % 8 ≠ 4) (h5 : t.val % 8 ≠ 5) (h6 : t.val % 8 ≠ 6) :
    outsAt1 V c t.val t.isLt = Blk V c t := by
  have e : t.val % 8 = 7 := mod_H t.val h0 h1 h2 h3 h4 h5 h6
  have e2 : 16 = 2 * (t.val % 8) + 2 := by rw [e]
  rw [outsAt1_H _ _ _ h0 h1 h2 h3 h4 h5 h6]
  unfold out1_H_6
  rw [View.read_writes_junk_eq_canon]
  unfold kernelRun1_H
  dsimp only
  rw [View.canon_cons_unit_lit _ _ _ (by decide)]
  unfold Blk kernelRun1_H.sl.r kernelRun1_H.sl.r_1
  exact blkC (ldL ..)
    ((CaseH.a_16 ..).trans (A_at (coord2 t) e2)) (ldG ..)

/-- Every point's block. -/
theorem out_eq (t : Fin cfg1.N) : outsAt1 V c t.val t.isLt = Blk V c t := by
  by_cases h0 : 1 ≤ t.val % 8
  · by_cases h1 : t.val % 8 ≠ 1
    · by_cases h2 : t.val % 8 ≠ 2
      · by_cases h3 : t.val % 8 ≠ 3
        · by_cases h4 : t.val % 8 ≠ 4
          · by_cases h5 : t.val % 8 ≠ 5
            · by_cases h6 : t.val % 8 ≠ 6
              · exact out_H V c t h0 h1 h2 h3 h4 h5 h6
              · exact out_G V c t h0 h1 h2 h3 h4 h5 h6
            · exact out_F V c t h0 h1 h2 h3 h4 h5
          · exact out_E V c t h0 h1 h2 h3 h4
        · exact out_D V c t h0 h1 h2 h3
      · exact out_C V c t h0 h1 h2
    · exact out_B V c t h0 h1
  · exact out_A V c t h0

end

end Cert.KernelIdeal.Val
-- ==== Proof.KVal.lean ====
module

public import proofs.«01_k».proof.Proof.Norm
public import proofs.«01_k».proof.Proof.Blocks
public import proofs.«01_k».proof.Proof.Out

@[expose] public section

set_option maxRecDepth 16384

noncomputable section

/-! # The kernel's result when its inputs are reals -/

namespace Cert.KernelIdeal.Val

open Idealize.ShloMosaic Idealize.ShloMosaic.TcCoe Idealize.SL.Sem Cert.KernelIdeal Cert.KernelIdeal.Gen
open Cert.Softmax (sc wt)
open Cert.Spec (In feat col)

theorem lg_eq : lg = (((Real.log 2)⁻¹ : ℝ) : EReal) := IdealRules.named_const.ideal_named_scalar _ _ _ _ rfl

theorem scale_eq : Ideal.div (Ideal.ofBits .f32 0x3E000000#32) (Ideal.log (Ideal.ofBits .f32 0x40000000#32))
    = ((1 / 8 * (Real.log 2)⁻¹ : ℝ) : EReal) := by
  have h : Real.log 2 ≠ 0 := (Real.log_pos (by norm_num)).ne'
  rw [Cert.Bucket.lit_eighth, Cert.Bucket.lit_two, Ideal.log_coe, if_neg (by norm_num), Ideal.div_coe h, ← EReal.coe_mul, one_div (Real.log 2)]

variable (m : (ℓ : Loc nD τ sig) → Buf (Elt Ideal) ℓ) (ρ : Dev nD → PrngReg) (c : Dev nD)

/-- The arguments hold the reals of `I`. -/
structure Holds (I : In) : Prop where
  q : ∀ b n x, (arg0 m c (ix3 b n x) : EReal) = ((I.q b n x : ℝ) : EReal)
  k : ∀ b n x, (arg1 m c (ix3 b n x) : EReal) = ((I.k b n x : ℝ) : EReal)
  v : ∀ b n x, (arg2 m c (ix3 b n x) : EReal) = ((I.v b n x : ℝ) : EReal)
  lam : ∀ i j, (arg3 m c (ix2 i j) : EReal) = ((I.lam i j : ℝ) : EReal)
  rb : ∀ i j, (arg5 m c (ix2 i j) : EReal) = ((I.rb i j : ℝ) : EReal)

variable (I : In) (t : Fin cfg1.N)

/-- A grid point's queries, scaled; its keys and values; its biases in powers of two. -/
def pq (r : Fin 512) (x : Fin 128) : ℝ := I.q (tb t) ⟨512 * (tq t).val + r.val, by omega⟩ (feat (th t) x) * (1 / 8 * (Real.log 2)⁻¹)
def pk (n : ℕ) (x : Fin 128) : ℝ := if h : n < 4096 then I.k (tb t) ⟨n, h⟩ (feat (th t) x) else 0
def pv (n : ℕ) (d : Fin 128) : ℝ := if h : n < 4096 then I.v (tb t) ⟨n, h⟩ (feat (th t) d) else 0
def pb (d : ℕ) : ℝ := Cert.Spec.bias I (th t) d * (Real.log 2)⁻¹

variable {I} (H : Holds m c I)

include H

theorem hq_at (r : Fin 512) (x : Fin 128) :
    ((iblk1 (V7 m ρ) c 0 t : Vec Ideal S1x512x128 .bf16) (ix3 0 r x) : EReal) = ((pq I t r x : ℝ) : EReal) := by
  rw [blk_q]
  refine (q_at m ρ c (tb t) ⟨512 * (tq t).val + r.val, by omega⟩ (feat (th t) x)).trans ?_
  rw [H.q, scale_eq, ← EReal.coe_mul]
  rfl

theorem hk_at (n : Fin 4096) (x : Fin 128) :
    ((iblk1 (V7 m ρ) c 1 t : Vec Ideal S1x4096x128 .bf16) (ix3 0 n x) : EReal) = ((pk I t n.val x : ℝ) : EReal) := by
  rw [blk_k]
  refine (k_at m ρ c (tb t) n (feat (th t) x)).trans ?_
  rw [H.k, pk, dif_pos n.isLt]

theorem hv_at (n : Fin 16) (d : Fin 128) (r : Fin 256) :
    ((iblk1 (V7 m ρ) c 2 t : Vec Ideal S1x1x16x128x256 .bf16) (ix5 0 0 n d r) : EReal) = ((pv I t (256 * n.val + r.val) d : ℝ) : EReal) := by
  rw [blk_v]
  refine (v_at m ρ c (tb t) (th t) n d r).trans ?_
  rw [H.v, pv, dif_pos (show 256 * n.val + r.val < 4096 by omega)]
  refine congrArg (fun e : Fin 4096 => ((I.v (tb t) e _ : ℝ) : EReal)) (Fin.ext ?_)
  show n.val * 256 + r.val = 256 * n.val + r.val
  omega

omit H in
theorem far_tile (c : ℕ) (r s : Fin 256) : far c ((s.val + 512 - r.val % 512) % 512) = 256 * c + 512 + s.val - r.val := by
  unfold far; split <;> omega

theorem hb_at (n : ℕ) (hn : n ≤ 2 * (t.val % 8) + 1) (b : ℕ) (hb : b = 1 ∨ b = 2) (r s : Fin 256) :
    ((iblk1 (V7 m ρ) c 3 t : Vec Ideal S7x1x256x256 .f32) (ix4 (bI (t.val % 8) b n) 0 r s) : EReal)
      = sc (256 * n + r.val ≤ 256 * (2 * (t.val % 8) + b - 1) + s.val)
          (pb I t (256 * (2 * (t.val % 8) + b - 1) + s.val - (256 * n + r.val))) := by
  rw [blk_b, v50_at]
  show @HMul.hMul EReal EReal EReal _ ((V5 m ρ c main_v49 : Vec Ideal S7x8x1x512 .f32)
    (ix4 (bI (t.val % 8) b n) (th t) 0 ⟨(s.val + 512 - r.val % 512) % 512, Nat.mod_lt _ (by omega)⟩)) lg = _
  rw [v49_val, lg_eq]
  generalize hF : far _ _ = F
  have hF' : F = 256 * min 6 (2 * (t.val % 8) + b - n) + 512 + s.val - r.val := hF.symm.trans (far_tile _ r s)
  clear hF
  have hpos : (0 : ℝ) < (Real.log 2)⁻¹ := inv_pos.2 (Real.log_pos (by norm_num))
  have hr := r.isLt
  have hs := s.isLt
  have hm : t.val % 8 < 8 := Nat.mod_lt _ (by omega)
  unfold sc
  by_cases hc : 256 * n + r.val ≤ 256 * (2 * (t.val % 8) + b - 1) + s.val
  · rw [if_pos hc, if_pos (by omega), H.rb, ← EReal.coe_mul]
    refine congrArg (fun e : Fin 32 => ((I.rb e _ * (Real.log 2)⁻¹ : ℝ) : EReal)) ?_
    by_cases h6 : 2 * (t.val % 8) + b - n ≤ 6
    · refine congrArg (fun e => Cert.Bucket.row (BitVec.ofNat 32 e)) ?_
      omega
    · rw [Cert.Bucket.row_far (by omega) (by omega), Cert.Bucket.row_far (by omega) (by omega)]
  · rw [if_neg hc, if_neg (by omega)]
    exact EReal.bot_mul_coe_of_pos hpos

omit H in
/-- The sum over half `mm`'s features, in the lane that holds it. -/
theorem dot_half (r : Fin 512) (mm : Fin 2) (n : ℕ) :
    ∑ x : Fin 128, pk I t n x * Qm (pq I t) ⟨512 * mm.val + r.val, by omega⟩ x
      = ∑ x : Fin 64, pk I t n ⟨mm.val * 64 + x.val, by omega⟩ * pq I t r ⟨mm.val * 64 + x.val, by omega⟩ := by
  refine (Fin.sum_univ_add (a := 64) (b := 64) _).trans ?_
  have hr := r.isLt
  match mm with
  | 0 =>
    rw [Finset.sum_eq_zero (s := Finset.univ) (f := fun i : Fin 64 => pk I t n (Fin.natAdd 64 i) * Qm (pq I t) ⟨512 * (0 : Fin 2).val + r.val, by omega⟩ (Fin.natAdd 64 i)), add_zero]
    · refine Finset.sum_congr rfl fun x _ => ?_
      have hx := x.isLt
      have e : Qm (pq I t) ⟨512 * (0 : Fin 2).val + r.val, by omega⟩ (Fin.castAdd 64 x) = pq I t r ⟨(0 : Fin 2).val * 64 + x.val, by omega⟩ := by
        unfold Qm
        rw [dif_pos (show 512 * (0 : Fin 2).val + r.val < 512 by show 512 * 0 + r.val < 512; omega), if_pos (show (Fin.castAdd 64 x).val < 64 from hx)]
        congr 1
        · exact Fin.ext (show 512 * 0 + r.val = r.val by omega)
        · exact Fin.ext (show x.val = 0 * 64 + x.val by omega)
      rw [e]
      congr 2
      exact Fin.ext (show x.val = 0 * 64 + x.val by omega)
    · intro x _
      unfold Qm
      rw [dif_pos (show 512 * (0 : Fin 2).val + r.val < 512 by show 512 * 0 + r.val < 512; omega), if_neg (show ¬ (Fin.natAdd 64 x).val < 64 by show ¬ 64 + x.val < 64; omega), mul_zero]
  | 1 =>
    rw [Finset.sum_eq_zero (s := Finset.univ) (f := fun i : Fin 64 => pk I t n (Fin.castAdd 64 i) * Qm (pq I t) ⟨512 * (1 : Fin 2).val + r.val, by omega⟩ (Fin.castAdd 64 i)), zero_add]
    · refine Finset.sum_congr rfl fun x _ => ?_
      have hx := x.isLt
      have e : Qm (pq I t) ⟨512 * (1 : Fin 2).val + r.val, by omega⟩ (Fin.natAdd 64 x) = pq I t r ⟨(1 : Fin 2).val * 64 + x.val, by omega⟩ := by
        unfold Qm
        rw [dif_neg (show ¬ 512 * (1 : Fin 2).val + r.val < 512 by show ¬ 512 * 1 + r.val < 512; omega), if_neg (show ¬ (Fin.natAdd 64 x).val < 64 by show ¬ 64 + x.val < 64; omega)]
        congr 1
        · exact Fin.ext (show 512 * 1 + r.val - 512 = r.val by omega)
      rw [e]
      congr 2
    · intro x _
      have hx := x.isLt
      unfold Qm
      rw [dif_neg (show ¬ 512 * (1 : Fin 2).val + r.val < 512 by show ¬ 512 * 1 + r.val < 512; omega), if_pos (show (Fin.castAdd 64 x).val < 64 from hx), mul_zero]

omit H in
/-- A lane's weight of a key is the head's weight of it. -/
theorem ww_at (r : Fin 512) (mm : Fin 2) (j : Fin 4096) :
    ww (pq I t) (pk I t) (pb I t) (t.val % 8) ⟨512 * mm.val + r.val, by omega⟩ j.val
      = Cert.Spec.w I (tb t) (th t) mm ⟨512 * (tq t).val + r.val, by omega⟩ j := by
  have hp : pos (t.val % 8) ⟨512 * mm.val + r.val, by omega⟩ = 512 * (tq t).val + r.val := by
    have := r.isLt
    show 512 * (t.val % 8) + (512 * mm.val + r.val) % 512 = 512 * (t.val % 8) + r.val
    omega
  have hl : Real.log 2 ≠ 0 := (Real.log_pos (by norm_num)).ne'
  unfold ww wt Cert.Spec.w
  rw [hp]
  refine if_congr Iff.rfl ?_ rfl
  rw [Real.rpow_def_of_pos (by norm_num)]
  congr 1
  unfold tt Cert.Spec.s
  rw [dot_half, hp, mul_add]
  congr 1
  · rw [Finset.mul_sum, Finset.sum_mul]
    refine Finset.sum_congr rfl fun x _ => ?_
    unfold pk pq
    rw [dif_pos j.isLt]
    have e : feat (th t) ⟨mm.val * 64 + x.val, by omega⟩ = col (th t) mm x := Fin.ext (by
      show (th t).val * 128 + (mm.val * 64 + x.val) = (th t).val * 128 + mm.val * 64 + x.val
      omega)
    rw [e]
    show Real.log 2 * (I.k (tb t) j _ * (I.q (tb t) _ _ * (1 / 8 * (Real.log 2)⁻¹))) = _
    field_simp
  · unfold pb
    show Real.log 2 * (Cert.Spec.bias I (th t) (512 * (tq t).val + r.val - j.val) * (Real.log 2)⁻¹) = _
    field_simp

omit H in
/-- A sum over the keys of the tiles seen is the sum over all keys. -/
theorem sum_keys (r : Fin 512) (mm : Fin 2) (f : ℕ → ℝ) :
    ∑ j ∈ Finset.range (256 * (2 * (t.val % 8) + 1 + 1)), f j * ww (pq I t) (pk I t) (pb I t) (t.val % 8) ⟨512 * mm.val + r.val, by omega⟩ j
      = ∑ j : Fin 4096, f j.val * Cert.Spec.w I (tb t) (th t) mm ⟨512 * (tq t).val + r.val, by omega⟩ j := by
  have hr := r.isLt
  have h8 : t.val % 8 < 8 := Nat.mod_lt _ (by omega)
  rw [Finset.sum_subset (s₂ := Finset.range 4096) (Finset.range_subset_range.2 (by omega))]
  · rw [Finset.sum_range]
    exact Finset.sum_congr rfl fun j _ => by rw [ww_at]
  · intro j _ hj
    rw [Finset.mem_range, not_lt] at hj
    have hp : ¬ j ≤ pos (t.val % 8) ⟨512 * mm.val + r.val, by omega⟩ := by
      show ¬ j ≤ 512 * (t.val % 8) + (512 * mm.val + r.val) % 512
      omega
    rw [ww, wt, if_neg hp, mul_zero]

theorem ratio_at (r : Fin 512) (mm : Fin 2) (d : Fin 128) :
    ratio (A (iblk1 (V7 m ρ) c 0 t) (iblk1 (V7 m ρ) c 1 t) (iblk1 (V7 m ρ) c 2 t) (iblk1 (V7 m ρ) c 3 t) (t.val % 8) (2 * (t.val % 8) + 2))
        ⟨512 * mm.val + r.val, by omega⟩ d
      = ((Cert.Spec.mean I (tb t) (th t) mm ⟨512 * (tq t).val + r.val, by omega⟩ d : ℝ) : EReal) := by
  have L := lane (pq I t) (pk I t) (pv I t) (pb I t) (t.val % 8) (hq_at m ρ c t H) (hk_at m ρ c t H) (hv_at m ρ c t H)
    (hb_at m ρ c t H) (Nat.mod_lt _ (by omega)) ⟨512 * mm.val + r.val, by omega⟩ (2 * (t.val % 8) + 1) le_rfl
  have e := Cert.Softmax.inv_div L ⟨d.val, by omega⟩ (128 : Fin 144)
    (by simp only [vv, dif_neg (show ¬ (128 : Fin 144).val < 128 by decide), one_mul]) Cert.Bucket.tiny Cert.Bucket.tiny_le_one
  unfold ratio
  rw [Cert.Bucket.lit_tiny]
  refine e.trans (congrArg (fun e : ℝ => (e : EReal)) ?_)
  unfold Cert.Spec.mean
  rw [sum_keys]
  have h1 := sum_keys t r mm (I := I) (fun _ => 1)
  simp only [one_mul] at h1
  rw [h1]
  refine congrArg (· / _) (Finset.sum_congr rfl fun j _ => congrArg (· * _) ?_)
  rw [vv, dif_pos (show (⟨d.val, by omega⟩ : Fin 144).val < 128 from d.isLt), pv, dif_pos j.isLt]

/-- The kernel's result. -/
def kout (I : In) (g : Fin 128 → EReal) : Vec Ideal S2x4096x1024 .bf16 := fun x =>
  Cert.Spec.normed (fun d => ((Cert.Spec.o I (x 0) ⟨(x 2).val / 128, by have h : (x 2).val < 1024 := (x 2).isLt; omega⟩ (x 1) d : ℝ) : EReal)) g
    ⟨(x 2).val % 128, Nat.mod_lt _ (by omega)⟩

theorem result :
    (dat1 (V7 m ρ) c).arrAt 6 cfg1.N = kout I (fun d => (arg4 m c (ix1 d) : EReal)) := by
  refine out_arr (V7 m ρ) c _ fun t r x => ?_
  rw [out_eq]
  unfold Blk
  refine (pay1_at _ _ _ _ (fun d => (arg4 m c (ix1 d) : EReal)) (fun i j => (blk_g (V7 m ρ) c t i j).trans (g_at m ρ c i j)) r x).trans ?_
  have hlam : @HAdd.hAdd EReal EReal EReal _ (@HSub.hSub EReal EReal EReal _
      (k1_pay496 (iblk1 (V7 m ρ) c 4 t) (ix2 0 0)) (k1_pay497 (iblk1 (V7 m ρ) c 4 t) (ix2 0 0))) (Ideal.ofBits .f32 0x3E4CCCCD#32)
      = ((Cert.Spec.lamb I : ℝ) : EReal) := by
    refine Eq.trans ?_ (Cert.Spec.lamb_coe I)
    rw [pay496_at, pay497_at]
    have hl : ∀ i j, ((iblk1 (V7 m ρ) c 4 t : Vec Ideal S4x64 .f32) (ix2 i j) : EReal) = ((I.lam i j : ℝ) : EReal) := fun i j =>
      (blk_l (V7 m ρ) c t i j).trans ((congrFun (W7_args m ρ c main_arg3 (by decide)) _).trans (H.lam i j))
    simp only [hl]
  rw [hlam]
  have key : (fun d : Fin 128 => ratio (A (iblk1 (V7 m ρ) c 0 t) (iblk1 (V7 m ρ) c 1 t) (iblk1 (V7 m ρ) c 2 t) (iblk1 (V7 m ρ) c 3 t) (t.val % 8) (2 * (t.val % 8) + 2)) ⟨r.val, by omega⟩ d
        - @HMul.hMul EReal EReal EReal _ ((Cert.Spec.lamb I : ℝ) : EReal)
          (ratio (A (iblk1 (V7 m ρ) c 0 t) (iblk1 (V7 m ρ) c 1 t) (iblk1 (V7 m ρ) c 2 t) (iblk1 (V7 m ρ) c 3 t) (t.val % 8) (2 * (t.val % 8) + 2)) ⟨512 + r.val, by omega⟩ d))
      = fun d => ((Cert.Spec.o I (tb t) (th t) ⟨512 * (tq t).val + r.val, by omega⟩ d : ℝ) : EReal) := funext fun d => by
    have h0 := (congrArg (fun l => ratio (A (iblk1 (V7 m ρ) c 0 t) (iblk1 (V7 m ρ) c 1 t) (iblk1 (V7 m ρ) c 2 t) (iblk1 (V7 m ρ) c 3 t) (t.val % 8) (2 * (t.val % 8) + 2)) l d)
      (Fin.ext (show r.val = 512 * 0 + r.val by omega) : (⟨r.val, by omega⟩ : Fin 1024) = ⟨512 * (0 : Fin 2).val + r.val, by omega⟩)).trans (ratio_at m ρ c t H r 0 d)
    have h1 := ratio_at m ρ c t H r 1 d
    refine (congrArg₂ (fun a b => a - @HMul.hMul EReal EReal EReal _ ((Cert.Spec.lamb I : ℝ) : EReal) b) h0 h1).trans ?_
    rw [← EReal.coe_mul, ← EReal.coe_sub]
    rfl
  rw [key]
  have e1 : (⟨((th t).val * 128 + x.val) / 128, by omega⟩ : Fin 8) = th t := Fin.ext (show ((th t).val * 128 + x.val) / 128 = (th t).val by omega)
  have e2 : (⟨((th t).val * 128 + x.val) % 128, by omega⟩ : Fin 128) = x := Fin.ext (show ((th t).val * 128 + x.val) % 128 = x.val by omega)
  show _ = Cert.Spec.normed (fun d => ((Cert.Spec.o I (tb t) ⟨((th t).val * 128 + x.val) / 128, _⟩ ⟨512 * (tq t).val + r.val, _⟩ d : ℝ) : EReal)) _
    ⟨((th t).val * 128 + x.val) % 128, _⟩
  rw [e1, e2]

end Cert.KernelIdeal.Val

end
-- ==== Proof.Ref.lean ====
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

/-! # The reference's result when its inputs are reals -/

namespace Cert.ReferenceIdeal.Val

open Idealize.ShloMosaic Idealize.ShloMosaic.TcCoe Idealize.SL.Sem Cert.ReferenceIdeal Cert.ReferenceIdeal.Value Cert.ReferenceIdeal.Gen
open Cert.Softmax (sc wt)
open Cert.Spec (In feat col)

variable (V0 : Valuation τ sig (Elt Ideal))

theorem v25_at (i j : Fin 4096) : res_main_v25 V0 (ix2 i j) = IntOp.subi (BitVec.ofNat 32 i.val) (BitVec.ofNat 32 j.val) := by
  unfold res_main_v25
  clean_types
  pointwise

theorem v46_at (i j : Fin 4096) : res_main_v46 V0 (ix2 i j) = Cert.Bucket.bk (res_main_v25 V0 (ix2 i j)) := by
  unfold res_main_v46 res_main_v28
  clean_types
  pointwise
  rfl

theorem v63_at (i j : Fin 4096) : res_main_v63 V0 (ix2 i j) = IntOp.cmpi .sge (res_main_v25 V0 (ix2 i j)) 0#32 := by
  unfold res_main_v63
  clean_types
  pointwise

/-- A row of the table, looked up. -/
theorem gat (x : Vec Ideal S32x8 .f32) (idx : IVec S4096x4096x1 32) (i j : Fin 4096) (h : Fin 8) :
    Host.gather gather_S32x8_S4096x4096x1_S4096x4096x8_2_0_n_n_0_2_18 x idx (ix3 i j h)
      = x (ix2 ⟨min (idx (ix3 i j 0)).toInt.toNat 31, by omega⟩ h) := by
  unfold Host.gather
  refine congrArg x (funext fun a => Fin.ext ?_)
  have h01 : a = 0 ∨ a = 1 := by
    match a with
    | ⟨0, _⟩ => exact Or.inl rfl
    | ⟨1, _⟩ => exact Or.inr rfl
  rcases h01 with rfl | rfl
  · show (gather_S32x8_S4096x4096x1_S4096x4096x8_2_0_n_n_0_2_18).start _ idx 0 + GatherDims.batchCoord _ _ _ + GatherDims.offCoord _ _ _ = _
    rw [GatherDims.batchCoord_eq_zero _ _ _ List.not_mem_nil,
      GatherDims.offCoord_eq_zero _ _ _ (by decide)]
    unfold GatherDims.start
    rw [dif_pos (by decide)]
    rw [show GatherDims.siIdx _ _ _ = ix3 i j 0 from by
      funext b; refine Fin.ext ?_
      match b with
      | ⟨0, _⟩ => rfl
      | ⟨1, _⟩ => rfl
      | ⟨2, _⟩ => rfl]
    rfl
  · show (gather_S32x8_S4096x4096x1_S4096x4096x8_2_0_n_n_0_2_18).start _ idx 1 + GatherDims.batchCoord _ _ _ + GatherDims.offCoord _ _ _ = _
    rw [GatherDims.batchCoord_eq_zero _ _ _ List.not_mem_nil]
    unfold GatherDims.start GatherDims.offCoord
    rw [dif_neg (by decide), dif_pos (by decide)]
    simp only [Nat.zero_add]
    rfl

/-- The biases, spread over the batch and the halves. -/
theorem spread_at (G : FVec Ideal S4096x4096x8 .f32) (b : Fin 2) (h : Fin 8) (mm : Fin 2) (i j : Fin 4096) :
    (broadcastInDim S2x8x2x4096x4096 ![0, 1, 2, 3, 4] bcast_S1x8x1x4096x4096_S2x8x2x4096x4096_0_1_2_3_4 (broadcastInDim S1x8x1x4096x4096 ![1, 2, 3, 4] bcast_S8x1x4096x4096_S1x8x1x4096x4096_1_2_3_4 (broadcastInDim S8x1x4096x4096 ![0, 2, 3] bcast_S8x4096x4096_S8x1x4096x4096_0_2_3 (transpose S8x4096x4096 [2, 0, 1] G transposes_S4096x4096x8_S8x4096x4096_2_0_1))) : FVec Ideal S2x8x2x4096x4096 .f32) (ix5 b h mm i j)
      = G (ix3 i j h) := by
  pointwise

theorem wrap_at (w : IVec S4096x4096 32) (i j : Fin 4096) :
    (broadcastInDim S4096x4096x1 ![0, 1] bcast_S4096x4096_S4096x4096x1_0_1 (select (cmpi .slt w (broadcastInDim S4096x4096 ![] bcast_S_S4096x4096 (constantI S_ 32 0#32))) (addi w (broadcastInDim S4096x4096 ![] bcast_S_S4096x4096 (constantI S_ 32 32#32))) w) : IVec S4096x4096x1 32) (ix3 i j 0)
      = Scalar.select (IntOp.cmpi .slt (w (ix2 i j)) 0#32) (IntOp.addi (w (ix2 i j)) 32#32) (w (ix2 i j)) := by
  pointwise

theorem dot_at (q k : FVec Ideal S2x4096x1024 .f32) (b : Fin 2) (h : Fin 8) (mm : Fin 2) (i j : Fin 4096) :
    (Host.dotGeneral dot_S2x4096x8x2x64_S2x4096x8x2x64_S2x8x2x4096x4096_4_4_1_1_023_023 none (shapeCast _ q shapeCasts_S2x4096x1024_S2x4096x8x2x64) (shapeCast _ k shapeCasts_S2x4096x1024_S2x4096x8x2x64) : FVec Ideal S2x8x2x4096x4096 .f32) (ix5 b h mm i j)
      = ∑ x : Fin 64, @HMul.hMul EReal EReal EReal _ (q (ix3 b i (col h mm x))) (k (ix3 b j (col h mm x))) := by
  pointwise

theorem score_at (p : IVec S4096x4096 1) (D G : FVec Ideal S2x8x2x4096x4096 .f32) (b : Fin 2) (h : Fin 8) (mm : Fin 2) (i j : Fin 4096) :
    (select (broadcastInDim S2x8x2x4096x4096 ![3, 4] bcast_S4096x4096_S2x8x2x4096x4096_3_4 p) (addf (mulf D (broadcastInDim S2x8x2x4096x4096 ![] bcast_S_S2x8x2x4096x4096 (constant (F := Ideal) S_ .f32 0x3E000000#32))) G) (broadcastInDim S2x8x2x4096x4096 ![] bcast_S_S2x8x2x4096x4096 (id (constant (F := Ideal) S_ .f32 0xFF800000#32))) : FVec Ideal S2x8x2x4096x4096 .f32) (ix5 b h mm i j)
      = Scalar.select (p (ix2 i j)) (@HAdd.hAdd EReal EReal EReal _ (@HMul.hMul EReal EReal EReal _ (D (ix5 b h mm i j)) (Ideal.ofBits .f32 0x3E000000#32)) (G (ix5 b h mm i j))) (Ideal.ofBits .f32 0xFF800000#32) := by
  pointwise
  rfl

theorem top_at (S : FVec Ideal S2x8x2x4096x4096 .f32) (b : Fin 2) (h : Fin 8) (mm : Fin 2) (i : Fin 4096) :
    (broadcastInDim S2x8x2x4096x1 ![0, 1, 2, 3] bcast_S2x8x2x4096_S2x8x2x4096x1_0_1_2_3 (Host.reduce FloatOps.maximumf S (constant (F := Ideal) S_ .f32 0xFF800000#32) reducesTo_S2x8x2x4096x4096_S2x8x2x4096_d4 h_S_) : FVec Ideal S2x8x2x4096x1 .f32) (ix5 b h mm i 0)
      = Finset.univ.fold max (Ideal.ofBits .f32 0xFF800000#32) fun x : Fin 4096 => (S (ix5 b h mm i x) : EReal) := by
  pointwise

theorem weight_at (p : IVec S4096x4096 1) (S : FVec Ideal S2x8x2x4096x4096 .f32) (T : FVec Ideal S2x8x2x4096x1 .f32) (b : Fin 2) (h : Fin 8) (mm : Fin 2) (i j : Fin 4096) :
    (select (broadcastInDim S2x8x2x4096x4096 ![3, 4] bcast_S4096x4096_S2x8x2x4096x4096_3_4 p) (Host.exp (subf S (broadcastInDim S2x8x2x4096x4096 ![0, 1, 2, 3, 4] bcast_S2x8x2x4096x1_S2x8x2x4096x4096_0_1_2_3_4 (select (cmpf .olt (Host.absf T) (broadcastInDim S2x8x2x4096x1 ![] bcast_S_S2x8x2x4096x1 (constant (F := Ideal) S_ .f32 0x7F800000#32))) T (broadcastInDim S2x8x2x4096x1 ![] bcast_S_S2x8x2x4096x1 (id (constant (F := Ideal) S_ .f32 0x00000000#32))))))) (broadcastInDim S2x8x2x4096x4096 ![] bcast_S_S2x8x2x4096x4096 (id (constant (F := Ideal) S_ .f32 0x00000000#32))) : FVec Ideal S2x8x2x4096x4096 .f32) (ix5 b h mm i j)
      = Scalar.select (p (ix2 i j)) (Ideal.exp (@HSub.hSub EReal EReal EReal _ (S (ix5 b h mm i j))
          (if (FloatOps.absf (F := Ideal) (φ := .f32) (T (ix5 b h mm i 0)) : EReal) < Ideal.ofBits .f32 0x7F800000#32 then T (ix5 b h mm i 0) else 0))) 0 := by
  have e : (id (constant (F := Ideal) S_ .f32 0x00000000#32) ix0 : EReal) = 0 := by
    show Ideal.ofBits .f32 0x00000000#32 = 0
    simp [Ideal.ofBits, Ideal.ieee]
  pointwise
  rw [e]

theorem share_at (W : FVec Ideal S2x8x2x4096x4096 .f32) (b : Fin 2) (h : Fin 8) (mm : Fin 2) (i j : Fin 4096) :
    (Host.divf W (broadcastInDim S2x8x2x4096x4096 ![0, 1, 2, 3, 4] bcast_S2x8x2x4096x1_S2x8x2x4096x4096_0_1_2_3_4 (maximumf (broadcastInDim S2x8x2x4096x1 ![0, 1, 2, 3] bcast_S2x8x2x4096_S2x8x2x4096x1_0_1_2_3 (Host.reduceAdd W (constant (F := Ideal) S_ .f32 0x00000000#32) reducesTo_S2x8x2x4096x4096_S2x8x2x4096_d4 h_S_)) (broadcastInDim S2x8x2x4096x1 ![] bcast_S_S2x8x2x4096x1 (constant (F := Ideal) S_ .f32 0x0DA24260#32)))) : FVec Ideal S2x8x2x4096x4096 .f32) (ix5 b h mm i j)
      = Ideal.div (W (ix5 b h mm i j)) (max (∑ x : Fin 4096, (W (ix5 b h mm i x) : EReal)) (Ideal.ofBits .f32 0x0DA24260#32)) := by
  pointwise

/-- The weight of the second half, as the reference computes it. -/
def lamR (l : FVec Ideal S4x64 .f32) : FVec Ideal S_ .f32 :=
  addf (subf (Host.exp (Host.reduceAdd (mulf (shapeCast _ (extractStridedSlice S1x64 ![0, 0] l slices_S4x64_S1x64_0_0) shapeCasts_S1x64_S64) (shapeCast _ (extractStridedSlice S1x64 ![1, 0] l slices_S4x64_S1x64_1_0) shapeCasts_S1x64_S64)) (constant (F := Ideal) S_ .f32 0x00000000#32) reducesTo_S64_S_d0 h_S_)) (Host.exp (Host.reduceAdd (mulf (shapeCast _ (extractStridedSlice S1x64 ![2, 0] l slices_S4x64_S1x64_2_0) shapeCasts_S1x64_S64) (shapeCast _ (extractStridedSlice S1x64 ![3, 0] l slices_S4x64_S1x64_3_0) shapeCasts_S1x64_S64)) (constant (F := Ideal) S_ .f32 0x00000000#32) reducesTo_S64_S_d0 h_S_))) (constant (F := Ideal) S_ .f32 0x3E4CCCCD#32)

theorem lamR_at (l : FVec Ideal S4x64 .f32) :
    (lamR l ix0 : EReal) = Ideal.exp (∑ x : Fin 64, @HMul.hMul EReal EReal EReal _ (l (ix2 0 x)) (l (ix2 1 x)))
      - Ideal.exp (∑ x : Fin 64, @HMul.hMul EReal EReal EReal _ (l (ix2 2 x)) (l (ix2 3 x))) + Ideal.ofBits .f32 0x3E4CCCCD#32 := by
  unfold lamR
  pointwise

theorem diff_at (v : FVec Ideal S2x4096x1024 .f32) (P : FVec Ideal S2x8x2x4096x4096 .f32) (L : FVec Ideal S_ .f32) (b : Fin 2) (h : Fin 8) (i : Fin 4096) (d : Fin 128) :
    (transpose S2x4096x8x128 [0, 3, 1, 2] (Host.dotGeneral dot_S2x4096x8x128_S2x8x4096x4096_S2x8x128x4096_1_3_3_2_02_01 none (shapeCast _ v shapeCasts_S2x4096x1024_S2x4096x8x128) (subf (shapeCast _ (extractStridedSlice S2x8x1x4096x4096 ![0, 0, 0, 0, 0] P slices_S2x8x2x4096x4096_S2x8x1x4096x4096_0_0_0_0_0) shapeCasts_S2x8x1x4096x4096_S2x8x4096x4096) (mulf (broadcastInDim S2x8x4096x4096 ![] bcast_S_S2x8x4096x4096 L) (shapeCast _ (extractStridedSlice S2x8x1x4096x4096 ![0, 0, 1, 0, 0] P slices_S2x8x2x4096x4096_S2x8x1x4096x4096_0_0_1_0_0) shapeCasts_S2x8x1x4096x4096_S2x8x4096x4096)))) transposes_S2x8x128x4096_S2x4096x8x128_0_3_1_2 : FVec Ideal S2x4096x8x128 .f32) (ix4 b i h d)
      = ∑ x : Fin 4096, @HMul.hMul EReal EReal EReal _ (v (ix3 b x (feat h d))) (@HSub.hSub EReal EReal EReal _ (P (ix5 b h 0 i x)) (@HMul.hMul EReal EReal EReal _ (L ix0) (P (ix5 b h 1 i x)))) := by
  pointwise

/-- A distance's row of the table, looked up. -/
theorem look_at (T : FVec Ideal S32x24 .f32) (w : IVec S4096x4096 32) (i j : Fin 4096) (h : Fin 8) (u : BitVec 32) (hw : w (ix2 i j) = Cert.Bucket.bk u) :
    Host.gather gather_S32x8_S4096x4096x1_S4096x4096x8_2_0_n_n_0_2_18 (extractStridedSlice S32x8 ![0, 0] T slices_S32x24_S32x8_0_0) (broadcastInDim S4096x4096x1 ![0, 1] bcast_S4096x4096_S4096x4096x1_0_1 (select (cmpi .slt w (broadcastInDim S4096x4096 ![] bcast_S_S4096x4096 (constantI S_ 32 0#32))) (addi w (broadcastInDim S4096x4096 ![] bcast_S_S4096x4096 (constantI S_ 32 32#32))) w)) (ix3 i j h)
      = T (ix2 (Cert.Bucket.row u) ⟨h.val, by omega⟩) := by
  have hs : ∀ r : Fin 32, (extractStridedSlice S32x8 ![0, 0] T slices_S32x24_S32x8_0_0) (ix2 r h) = T (ix2 r ⟨h.val, by omega⟩) := fun r => by
    pointwise
  refine (gat _ _ i j h).trans ((hs _).trans ?_)
  refine congrArg (fun r => T (ix2 r _)) (Fin.ext ?_)
  show min (BitVec.toInt _).toNat 31 = _
  rw [wrap_at, hw]
  rfl

/-- The arguments hold the reals of `I`. -/
structure Holds (I : In) : Prop where
  q : ∀ b n x, ((V0 (Proc.devRef .tc main_arg0) : FVec Ideal S2x4096x1024 .f32) (ix3 b n x) : EReal) = ((I.q b n x : ℝ) : EReal)
  k : ∀ b n x, ((V0 (Proc.devRef .tc main_arg1) : FVec Ideal S2x4096x1024 .f32) (ix3 b n x) : EReal) = ((I.k b n x : ℝ) : EReal)
  v : ∀ b n x, ((V0 (Proc.devRef .tc main_arg2) : FVec Ideal S2x4096x1024 .f32) (ix3 b n x) : EReal) = ((I.v b n x : ℝ) : EReal)
  lam : ∀ i j, ((V0 (Proc.devRef .tc main_arg3) : FVec Ideal S4x64 .f32) (ix2 i j) : EReal) = ((I.lam i j : ℝ) : EReal)
  rb : ∀ i j, ((V0 (Proc.devRef .tc main_arg5) : FVec Ideal S32x24 .f32) (ix2 i j) : EReal) = ((I.rb i j : ℝ) : EReal)

variable {V0} {I : In} (H : Holds V0 I)

theorem mask_at (i j : Fin 4096) : res_main_v63 V0 (ix2 i j) = BitVec.ofBool (decide (j.val ≤ i.val)) := by
  rw [v63_at, v25_at]
  exact Cert.Bucket.sge_word i.isLt j.isLt

include H

/-- A score. -/
theorem s_at (b : Fin 2) (h : Fin 8) (mm : Fin 2) (i j : Fin 4096) :
    ((res_main_v64 V0 : FVec Ideal S2x8x2x4096x4096 .f32) (ix5 b h mm i j) : EReal) = sc (j.val ≤ i.val) (Cert.Spec.s I b h mm i j) := by
  unfold res_main_v64
  refine (score_at _ _ _ b h mm i j).trans ?_
  rw [mask_at, Cert.Bucket.lit_bot]
  unfold sc
  by_cases hj : j.val ≤ i.val
  · rw [if_pos hj, decide_eq_true hj]
    have h46 : res_main_v46 V0 (ix2 i j) = Cert.Bucket.bk (BitVec.ofNat 32 (i.val - j.val)) := by
      rw [v46_at, v25_at, Cert.Bucket.sub_word hj]
    have hg := (spread_at _ b h mm i j).trans (look_at (V0 (Proc.devRef .tc main_arg5)) (res_main_v46 V0) i j h _ h46)
    have hd := dot_at (V0 (Proc.devRef .tc main_arg0)) (V0 (Proc.devRef .tc main_arg1)) b h mm i j
    refine (congrArg₂ (fun x y => @HAdd.hAdd EReal EReal EReal _ (@HMul.hMul EReal EReal EReal _ x (Ideal.ofBits .f32 0x3E000000#32)) y) hd hg).trans ?_
    rw [H.rb, Cert.Bucket.lit_eighth]
    simp only [H.q, H.k]
    rw [Cert.Spec.coe_dot, ← EReal.coe_mul, ← EReal.coe_add]
    rfl
  · rw [if_neg hj, decide_eq_false hj]
    rfl

/-- A row's greatest score is the score of an allowed key. -/
theorem m_at (b : Fin 2) (h : Fin 8) (mm : Fin 2) (i : Fin 4096) : ∃ r : Fin 4096, r.val ≤ i.val ∧
    ((res_main_v66 V0 : FVec Ideal S2x8x2x4096x1 .f32) (ix5 b h mm i 0) : EReal) = ((Cert.Spec.s I b h mm i r : ℝ) : EReal) := by
  have e : ((res_main_v66 V0 : FVec Ideal S2x8x2x4096x1 .f32) (ix5 b h mm i 0) : EReal)
      = Finset.univ.fold max (⊥ : EReal) fun x : Fin 4096 => sc (x.val ≤ i.val) (Cert.Spec.s I b h mm i x) := by
    unfold res_main_v66
    refine (top_at _ b h mm i).trans ?_
    rw [Cert.Bucket.lit_bot]
    exact Finset.fold_congr fun x _ => s_at H b h mm i x
  rcases Cert.Softmax.fold_max_sc (fun x : Fin 4096 => x.val ≤ i.val) (Cert.Spec.s I b h mm i) with ⟨-, hn⟩ | ⟨r, hr, hm⟩
  · exact absurd le_rfl (hn i)
  · exact ⟨r, hr, e.trans hm⟩

/-- A key's share of a row. -/
theorem p_at (b : Fin 2) (h : Fin 8) (mm : Fin 2) (i j : Fin 4096) :
    ((res_main_v80 V0 : FVec Ideal S2x8x2x4096x4096 .f32) (ix5 b h mm i j) : EReal)
      = ((Cert.Spec.w I b h mm i j / ∑ x : Fin 4096, Cert.Spec.w I b h mm i x : ℝ) : EReal) := by
  obtain ⟨r, hr, hm⟩ := m_at H b h mm i
  set M := Cert.Spec.s I b h mm i r with hM
  have hw : ∀ j : Fin 4096, ((res_main_v74 V0 : FVec Ideal S2x8x2x4096x4096 .f32) (ix5 b h mm i j) : EReal)
      = ((Cert.Spec.w I b h mm i j * Real.exp (-M) : ℝ) : EReal) := fun j => by
    unfold res_main_v74
    refine (weight_at _ _ _ b h mm i j).trans ?_
    rw [mask_at, hm, s_at H, if_pos (by
      rw [Cert.Bucket.lit_top, Ideal.absf_def, ← EReal.coe_neg, ← Cert.Softmax.coe_max]
      exact EReal.coe_lt_top _)]
    unfold sc Cert.Spec.w
    by_cases hj : j.val ≤ i.val
    · rw [if_pos hj, if_pos hj, decide_eq_true hj, ← Real.exp_add, ← sub_eq_add_neg]
      refine Eq.trans ?_ (Cert.Spec.exp_real _)
      rw [EReal.coe_sub]
      rfl
    · rw [if_neg hj, if_neg hj, decide_eq_false hj, zero_mul]
      rfl
  have hnn : ∀ x, 0 ≤ Cert.Spec.w I b h mm i x := fun x => by
    unfold Cert.Spec.w; split
    · positivity
    · exact le_rfl
  have hsum : Real.exp M ≤ ∑ x : Fin 4096, Cert.Spec.w I b h mm i x := by
    have := Finset.single_le_sum (f := fun x => Cert.Spec.w I b h mm i x) (fun x _ => hnn x) (Finset.mem_univ r)
    refine le_trans (le_of_eq ?_) this
    show _ = Cert.Spec.w I b h mm i r
    rw [Cert.Spec.w, if_pos hr]
  have h1 : 1 ≤ ∑ x : Fin 4096, Cert.Spec.w I b h mm i x * Real.exp (-M) := by
    rw [← Finset.sum_mul]
    calc (1 : ℝ) = Real.exp M * Real.exp (-M) := by rw [← Real.exp_add]; simp
      _ ≤ _ := mul_le_mul_of_nonneg_right hsum (Real.exp_pos _).le
  unfold res_main_v80
  refine (share_at _ b h mm i j).trans ?_
  simp only [hw]
  rw [Cert.Softmax.coe_sum, Cert.Bucket.lit_tiny, ← Cert.Softmax.coe_max, max_eq_left (Cert.Bucket.tiny_le_one.trans h1),
    Ideal.div_coe (by linarith), ← EReal.coe_mul]
  refine congrArg (fun e : ℝ => (e : EReal)) ?_
  have hS : 0 < ∑ x : Fin 4096, Cert.Spec.w I b h mm i x := lt_of_lt_of_le (Real.exp_pos _) hsum
  rw [← Finset.sum_mul]
  have := Real.exp_pos (-M)
  field_simp

/-- The difference of the two halves. -/
theorem o_at (b : Fin 2) (h : Fin 8) (i : Fin 4096) (d : Fin 128) :
    ((res_main_v89 V0 : FVec Ideal S2x4096x8x128 .f32) (ix4 b i h d) : EReal) = ((Cert.Spec.o I b h i d : ℝ) : EReal) := by
  unfold res_main_v89
  refine (diff_at (V0 (Proc.devRef .tc main_arg2)) (res_main_v80 V0) (lamR (V0 (Proc.devRef .tc main_arg3))) b h i d).trans ?_
  rw [lamR_at]
  simp only [H.lam, H.v, p_at H]
  rw [Cert.Spec.lamb_coe]
  simp only [← EReal.coe_mul, ← EReal.coe_sub]
  rw [Cert.Softmax.coe_sum]
  refine congrArg (fun e : ℝ => (e : EReal)) ?_
  unfold Cert.Spec.o Cert.Spec.mean
  rw [Finset.sum_div, Finset.sum_div, Finset.mul_sum, ← Finset.sum_sub_distrib]
  refine Finset.sum_congr rfl fun x _ => ?_
  ring

omit H in
/-- The normalisation at the end. -/
theorem norm_at (O : FVec Ideal S2x4096x8x128 .f32) (g : FVec Ideal S128 .f32) (b : Fin 2) (i : Fin 4096) (l : Fin 1024) :
    (truncf .bf16 (shapeCast S2x4096x1024 (mulf (mulf (mulf O (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf O O) (constant (F := Ideal) S_ .f32 0x00000000#32) reducesTo_S2x4096x8x128_S2x4096x8_d3 h_S_)) (broadcastInDim S2x4096x8x1 ![] bcast_S_S2x4096x8x1 (constant (F := Ideal) S_ .f32 0x43000000#32))) (broadcastInDim S2x4096x8x1 ![] bcast_S_S2x4096x8x1 (constant (F := Ideal) S_ .f32 0x3727C5AC#32)))))) (broadcastInDim S2x4096x8x128 ![0, 1, 2, 3] bcast_S1x1x1x128_S2x4096x8x128_0_1_2_3 (broadcastInDim S1x1x1x128 ![3] bcast_S128_S1x1x1x128_3 g))) (broadcastInDim S2x4096x8x128 ![] bcast_S_S2x4096x8x128 (constant (F := Ideal) S_ .f32 0x3F4CCCCD#32))) shapeCasts_S2x4096x8x128_S2x4096x1024) bitsLt_bf16_f32 : FVec Ideal S2x4096x1024 .bf16) (ix3 b i l)
      = Cert.Spec.normed (fun d => (O (ix4 b i ⟨l.val / 128, by omega⟩ d) : EReal)) (fun d => (g (ix1 d) : EReal)) ⟨l.val % 128, Nat.mod_lt _ (by omega)⟩ := by
  unfold Cert.Spec.normed
  pointwise

end Cert.ReferenceIdeal.Val

end
-- ==== Proof.Algebraic.lean ====
module

public import proofs.«01_k».proof.Proof.Frames
public import proofs.«01_k».proof.Proof.KRun
public import proofs.«01_k».proof.Proof.KVal
public import proofs.«01_k».proof.Proof.Ref
public import Idealize.ShloMosaic.Lib.ReduceAll
public import Idealize.ShloMosaic.Lib.WordCmp
public import Idealize.ShloMosaic.Lib.Affine

@[expose] public section

set_option maxRecDepth 16384

noncomputable section

/-! # The kernel computes the reference, on finite inputs -/

namespace Cert.Proof.Claims

open Idealize.ShloMosaic Idealize.ShloMosaic.TcCoe Idealize.SL.Sem

instance : Subsingleton Cert.Pre_finite_inputs.S_.Idx := ⟨fun _ _ => funext fun a => a.elim0⟩

/-- A number whose absolute value is below infinity is real. -/
theorem real_of_lt (x : EReal) (h : (FloatOps.absf (F := Ideal) (φ := .f32) x : EReal) < ⊤) : ((x.toReal : ℝ) : EReal) = x := by
  rw [Ideal.absf_def, max_lt_iff] at h
  refine EReal.coe_toReal h.1.ne fun hb => ?_
  rw [hb, EReal.neg_bot] at h
  exact lt_irrefl _ h.2

/-- An array all of whose absolute values are below infinity is of reals. -/
theorem real_of_all {s : Shape} {axes : List (Fin s.rank)} (x : FVec Ideal s .f32) (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi (cmpf .olt (Host.absf x) (broadcastInDim s ![] hb (constant (F := Ideal) Cert.Pre_finite_inputs.S_ .f32 0x7F800000#32)))
      (constantI Cert.Pre_finite_inputs.S_ 1 1#1) hr hu ix0 = 1#1) (i : s.Idx) : (((x i : EReal).toReal : ℝ) : EReal) = x i := by
  have h1 := Host.reduce_andi_all _ _ hr hu ix0 h i
  refine real_of_lt (x i) ?_
  have h2 : Ideal.cmp .olt (FloatOps.absf (F := Ideal) (φ := .f32) (x i) : EReal) (Ideal.ofBits .f32 0x7F800000#32) = 1#1 := h1
  rw [Ideal.cmp_olt, Cert.Bucket.lit_top] at h2
  by_contra hn
  rw [decide_eq_false hn] at h2
  exact absurd h2 (by decide)

attribute [local instance] pre_facts

/-- The precondition makes reals of the five arrays it tests. -/
theorem reals (a0 a1 a2 : FVec Ideal Cert.Pre_finite_inputs.S2x4096x1024 .f32) (a3 : FVec Ideal Cert.Pre_finite_inputs.S4x64 .f32)
    (a4 : FVec Ideal Cert.Pre_finite_inputs.S128 .f32) (a5 : FVec Ideal Cert.Pre_finite_inputs.S32x24 .f32)
    (h : Cert.Pre_finite_inputs.fn (F := Ideal) a0 a1 a2 a3 a4 a5 = fun _ => 1#1) :
    (∀ i, (((a0 i : EReal).toReal : ℝ) : EReal) = a0 i) ∧ (∀ i, (((a1 i : EReal).toReal : ℝ) : EReal) = a1 i)
      ∧ (∀ i, (((a2 i : EReal).toReal : ℝ) : EReal) = a2 i) ∧ (∀ i, (((a3 i : EReal).toReal : ℝ) : EReal) = a3 i)
      ∧ (∀ i, (((a5 i : EReal).toReal : ℝ) : EReal) = a5 i) := by
  have h0 := congrFun h ix0
  unfold Cert.Pre_finite_inputs.fn Cert.Pre_finite_inputs.fn_part1 at h0
  obtain ⟨h1, h5⟩ := IntOp.andi_eq_one.1 h0
  obtain ⟨h2, h3⟩ := IntOp.andi_eq_one.1 h1
  obtain ⟨h4, h6⟩ := IntOp.andi_eq_one.1 h2
  obtain ⟨h7, h8⟩ := IntOp.andi_eq_one.1 h4
  exact ⟨real_of_all a0 _ _ _ h7, real_of_all a1 _ _ _ h8, real_of_all a2 _ _ _ h6, real_of_all a3 _ _ _ h3, real_of_all a5 _ _ _ h5⟩

section
variable (m : (ℓ : Loc Cert.KernelIdeal.nD Cert.KernelIdeal.τ Cert.KernelIdeal.sig) → Buf (Elt Ideal) ℓ) (c : Dev Cert.KernelIdeal.nD)

open Cert.KernelIdeal.Val in
/-- The reals in the kernel's arguments. -/
def inp : Cert.Spec.In where
  q b n x := (arg0 m c (ix3 b n x) : EReal).toReal
  k b n x := (arg1 m c (ix3 b n x) : EReal).toReal
  v b n x := (arg2 m c (ix3 b n x) : EReal).toReal
  lam i j := (arg3 m c (ix2 i j) : EReal).toReal
  rb i j := (arg5 m c (ix2 i j) : EReal).toReal

theorem holds_k (hpre : Cert.Pre_KernelIdeal_finite_inputs m) : Cert.KernelIdeal.Val.Holds m c (inp m c) := by
  obtain ⟨h0, h1, h2, h3, h5⟩ := reals _ _ _ _ _ _ (hpre c)
  exact ⟨fun _ _ _ => (h0 _).symm, fun _ _ _ => (h1 _).symm, fun _ _ _ => (h2 _).symm, fun _ _ => (h3 _).symm, fun _ _ => (h5 _).symm⟩
end

theorem algebraic : Cert.algebraic_KernelIdeal_ReferenceIdeal_pre_finite_inputs (hKernelIdeal := Cert.KernelIdeal.Gen.facts)
    (hReferenceIdeal := Cert.ReferenceIdeal.Gen.facts) (hPre_finite_inputs := pre_facts) := by
  intro m ρ m' ρ' hpre hagree
  refine ⟨_, Cert.KernelIdeal.Val.run (F := Ideal) m ρ, ?_⟩
  refine (θ_run Cert.ReferenceIdeal.defs _ _).mono (fun _ h c => ⟨(h c).1.trans ?_, (h c).2⟩) (Cert.ReferenceIdeal.Value.run (F := Ideal) m' ρ')
  have H := holds_k m c hpre
  obtain ⟨e0, e1, e2, e3, e4, e5⟩ := hagree c
  refine Eq.trans ?_ (Cert.KernelIdeal.Val.result m ρ c H).symm
  have HR : Cert.ReferenceIdeal.Val.Holds (StableHlo.launchContents m' c) (inp m c) :=
    ⟨fun b n x => (congrFun e0 (ix3 b n x)).trans (H.q b n x), fun b n x => (congrFun e1 (ix3 b n x)).trans (H.k b n x),
      fun b n x => (congrFun e2 (ix3 b n x)).trans (H.v b n x), fun i j => (congrFun e3 (ix2 i j)).trans (H.lam i j),
      fun i j => (congrFun e5 (ix2 i j)).trans (H.rb i j)⟩
  funext x
  idx_vars x
  refine (Cert.ReferenceIdeal.Val.norm_at (Cert.ReferenceIdeal.Value.res_main_v89 (StableHlo.launchContents m' c))
    (StableHlo.launchContents m' c (Proc.devRef .tc Cert.ReferenceIdeal.main_arg4)) x0 x1 x2).trans ?_
  refine congrArg₂ (fun r g => Cert.Spec.normed r g ⟨x2.val % 128, Nat.mod_lt _ (by omega)⟩)
    (funext fun d => Cert.ReferenceIdeal.Val.o_at HR x0 ⟨x2.val / 128, by omega⟩ x1 d) (funext fun d => congrFun e4 (ix1 d))

end Cert.Proof.Claims

end
-- ==== Proof.Merge.lean ====
module

public import proofs.«01_k».proof.Proof.Gen.Kernel2Ideal.Value
public import Idealize.ShloMosaic.Lib.Pipeline.ValueKit
public import Idealize.ShloMosaic.Lib.StableHlo.RunRead
public import Idealize.ShloMosaic.Lib.Pointwise
public import Idealize.ShloMosaic.Lib.Tactic
public import Idealize.ShloMosaic.Lib.Tactic.CleanTypes

@[expose] public section

set_option maxRecDepth 16384

noncomputable section

/-! # The gated merge of the three branches: what the kernel's array holds -/

namespace Cert.Kernel2Ideal.Val

open Idealize.ShloMosaic Idealize.ShloMosaic.TcCoe Idealize.SL.Sem Cert.Kernel2Ideal Cert.Kernel2Ideal.Gen

/-! ## What one grid point stores -/

theorem hz : (![0, 0] : Fin 2 → ℕ) = fun _ => 0 := funext fun a => by fin_cases a <;> rfl

section Cases

variable (c : Dev nD) (i : grid0.Coords)
  (p2 : Memref sig .tc .vmem S512x2048 .bf16) (h2 : p2.IsWhole) (p3 : Memref sig .tc .vmem S2048x2048 .bf16) (h3 : p3.IsWhole)
  (p4 : Memref sig .tc .vmem S512x1024 .bf16) (h4 : p4.IsWhole) (p5 : Memref sig .tc .vmem S512x1024 .bf16) (h5 : p5.IsWhole)
  (p6 : Memref sig .tc .vmem S512x1024 .bf16) (h6 : p6.IsWhole) (p7 : Memref sig .tc .vmem S1x1024x2048 .bf16) (h7 : p7.IsWhole)
  (p8 : Memref sig .tc .vmem S512x2048 .bf16) (h8 : p8.IsWhole) (p9 : Memref sig .tc .vmem S512x2048 .f32) (h9 : p9.IsWhole)
  (x0 : Vec Ideal S512x2048 .bf16) (x1 : Vec Ideal S2048x2048 .bf16) (x2 x3 x4 : Vec Ideal S512x1024 .bf16) (x5 : Vec Ideal S1x1024x2048 .bf16)
  (s : Vec Ideal S512x2048 .f32)

theorem scrA (hc : cond0_0 i) : sout0_A_0 c i p2 h2 p3 h3 p4 h4 p5 h5 p6 h6 p7 h7 p8 h8 p9 h9 hc x0 x1 x2 x3 x4 x5 = k0_pay3 i x0 x1 x2 x3 x4 (k0_pay1 (F := Ideal)) x5 := by
  unfold sout0_A_0
  rw [View.read_writes_eq_canon _ _ _ (scover0_A_0 c i p2 h2 p3 h3 p4 h4 p5 h5 p6 h6 p7 h7 p8 h8 p9 h9 hc x0 x1 x2 x3 x4 x5)]
  unfold kernelRun0_A
  dsimp only
  sl_unfold_words
  rw [View.canon_cons_unit_lit _ _ _ (by decide), View.readCov_unit_zero (S := S512x2048) _ hz]
  simp only [View.readAt_eq_ld, h2.read_unread, h3.read_unread, h4.read_unread, h5.read_unread, h6.read_unread, h7.read_unread]
  rw [View.ld_unit_lit _ _ (by decide), View.ld_unit_lit _ _ (by decide), View.ld_unit_lit _ _ (by decide), View.ld_unit_lit _ _ (by decide),
    View.ld_unit_lit _ _ (by decide), View.ld_unit_lit _ _ (by decide)]

theorem scrB (hc : ¬cond0_0 i) : sout0_B_0 c i p2 h2 p3 h3 p4 h4 p5 h5 p6 h6 p7 h7 p8 h8 p9 h9 hc x0 x1 x2 x3 x4 x5 s = k0_pay3 i x0 x1 x2 x3 x4 s x5 := by
  unfold sout0_B_0
  rw [View.read_writes_eq_canon _ _ _ (scover0_B_0 c i p2 h2 p3 h3 p4 h4 p5 h5 p6 h6 p7 h7 p8 h8 p9 h9 hc x0 x1 x2 x3 x4 x5 s)]
  unfold kernelRun0_B
  dsimp only
  sl_unfold_words
  rw [View.canon_cons_unit_lit _ _ _ (by decide)]
  simp only [View.readAt_eq_ld, h2.read_unread, h3.read_unread, h4.read_unread, h5.read_unread, h6.read_unread, h7.read_unread, h9.read_unread]
  rw [View.ld_unit_lit _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]

theorem outB (hc : ¬cond0_0 i) : out0_B_6 c i p2 h2 p3 h3 p4 h4 p5 h5 p6 h6 p7 h7 p8 h8 p9 h9 hc x0 x1 x2 x3 x4 x5 s = k0_pay4 i x0 x1 x2 x3 x4 s x5 := by
  unfold out0_B_6
  rw [View.read_writes_eq_canon _ _ _ (cover0_B_6 c i p2 h2 p3 h3 p4 h4 p5 h5 p6 h6 p7 h7 p8 h8 p9 h9 hc x0 x1 x2 x3 x4 x5 s)]
  unfold kernelRun0_B
  dsimp only
  sl_unfold_words
  rw [View.canon_cons_unit_lit _ _ _ (by decide)]
  simp only [View.readAt_eq_ld, h2.read_unread, h3.read_unread, h4.read_unread, h5.read_unread, h6.read_unread, h7.read_unread, h9.read_unread]
  rw [View.ld_unit_lit _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]

end Cases

/-! ## The payloads at an index -/

section Pay

variable (i : grid0.Coords) (x0 : Vec Ideal S512x2048 .bf16) (x1 : Vec Ideal S2048x2048 .bf16) (x2 x3 x4 : Vec Ideal S512x1024 .bf16)
  (x5 : Vec Ideal S1x1024x2048 .bf16) (s : Vec Ideal S512x2048 .f32) (r : Fin 512) (j : Fin 2048)

/-- One point's addition to the sum: a gate times a projected branch. -/
abbrev add (z : Vec Ideal S512x1024 .bf16) : EReal :=
  Ideal.logistic (∑ k : Fin 2048, @HMul.hMul EReal EReal EReal _ (x0 (ix2 r k)) (x1 (ix2 j k)))
    * ∑ k : Fin 1024, @HMul.hMul EReal EReal EReal _ (z (ix2 r k)) (x5 (ix3 0 k j))

theorem pay2_0 (h : (i 1).val = 0) : (k0_pay2 i x0 x1 x2 x3 x4 s x5 (ix2 r j) : EReal) = s (ix2 r j) + add x0 x1 x5 r j x2 := by
  unfold add
  have e : Scalar.cmpi .eq (BitVec.ofNat 32 (i 1).val) 0#32 = 1#1 := by rw [h]; decide
  unfold k0_pay2
  dsimp only
  rw [e]
  pointwise

theorem pay2_1 (h : (i 1).val = 1) : (k0_pay2 i x0 x1 x2 x3 x4 s x5 (ix2 r j) : EReal) = s (ix2 r j) + add x0 x1 x5 r j x3 := by
  unfold add
  have e : Scalar.cmpi .eq (BitVec.ofNat 32 (i 1).val) 0#32 = 0#1 := by rw [h]; decide
  have e' : Scalar.cmpi .eq (BitVec.ofNat 32 (i 1).val) 1#32 = 1#1 := by rw [h]; decide
  unfold k0_pay2
  dsimp only
  rw [e, e']
  pointwise

theorem pay2_2 (h : (i 1).val = 2) : (k0_pay2 i x0 x1 x2 x3 x4 s x5 (ix2 r j) : EReal) = s (ix2 r j) + add x0 x1 x5 r j x4 := by
  unfold add
  have e : Scalar.cmpi .eq (BitVec.ofNat 32 (i 1).val) 0#32 = 0#1 := by rw [h]; decide
  have e' : Scalar.cmpi .eq (BitVec.ofNat 32 (i 1).val) 1#32 = 0#1 := by rw [h]; decide
  unfold k0_pay2
  dsimp only
  rw [e, e']
  pointwise

theorem pay3_at (y : S512x2048.Idx) : (k0_pay3 i x0 x1 x2 x3 x4 s x5 y : EReal) = k0_pay2 i x0 x1 x2 x3 x4 s x5 y := by
  idx_vars y
  unfold k0_pay3
  generalize k0_pay2 i x0 x1 x2 x3 x4 s x5 = w
  pointwise

theorem pay4_at (y : S512x2048.Idx) : (k0_pay4 i x0 x1 x2 x3 x4 s x5 y : EReal) = k0_pay2 i x0 x1 x2 x3 x4 s x5 y := rfl

theorem pay1_at : ((k0_pay1 : FVec Ideal S512x2048 .f32) (ix2 r j) : EReal) = 0 := by
  pointwise [k0_pay1]

end Pay

/-! ## The arrays as the kernel finds them -/

section Arrays

/-- The batch entry and the position of a row of the flattened arrays. -/
abbrev bt (i : Fin 8192) : Fin 2 := ⟨i.val / 4096, by omega⟩
abbrev ps (i : Fin 8192) : Fin 4096 := ⟨i.val % 4096, by omega⟩

/-- The column of the weights that holds a branch's gate. -/
abbrev gcol (n : Fin 3) (j : Fin 2048) : Fin 12848 := ⟨6704 + 2048 * n.val + j.val, by omega⟩

variable (m : (ℓ : Loc nD τ sig) → Buf (Elt Ideal) ℓ) (c : Dev nD)

abbrev a0 : Vec Ideal S2x4096x2048 .f32 := m ((c : Thread nD τ).loc main_arg0)
abbrev a1 : Vec Ideal S2048x12848 .f32 := m ((c : Thread nD τ).loc main_arg1)
abbrev a2 : Vec Ideal S2x4096x1024 .f32 := m ((c : Thread nD τ).loc main_arg2)
abbrev a3 : Vec Ideal S2x4096x1024 .f32 := m ((c : Thread nD τ).loc main_arg3)
abbrev a4 : Vec Ideal S2x4096x1024 .f32 := m ((c : Thread nD τ).loc main_arg4)
abbrev a5 : Vec Ideal S3x1024x2048 .f32 := m ((c : Thread nD τ).loc main_arg5)

theorem v1_at (i : Fin 8192) (x : Fin 2048) : ((V m c main_v1 : Vec Ideal S8192x2048 .bf16) (ix2 i x) : EReal) = (a0 m c (ix3 (bt i) (ps i) x) : EReal) := by
  unfold V hostOps0
  after_reads_simp
  clean_types
  pointwise

theorem v4_at (i : Fin 6144) (x : Fin 2048) : ((V m c main_v4 : Vec Ideal S6144x2048 .bf16) (ix2 i x) : EReal) = (a1 m c (ix2 x (⟨6704 + i.val, by omega⟩ : Fin 12848)) : EReal) := by
  unfold V hostOps0
  after_reads_simp
  clean_types
  pointwise

theorem v6_at (i : Fin 8192) (x : Fin 1024) : ((V m c main_v6 : Vec Ideal S8192x1024 .bf16) (ix2 i x) : EReal) = (a2 m c (ix3 (bt i) (ps i) x) : EReal) := by
  unfold V hostOps0
  after_reads_simp
  clean_types
  pointwise

theorem v8_at (i : Fin 8192) (x : Fin 1024) : ((V m c main_v8 : Vec Ideal S8192x1024 .bf16) (ix2 i x) : EReal) = (a3 m c (ix3 (bt i) (ps i) x) : EReal) := by
  unfold V hostOps0
  after_reads_simp
  clean_types
  pointwise

theorem v10_at (i : Fin 8192) (x : Fin 1024) : ((V m c main_v10 : Vec Ideal S8192x1024 .bf16) (ix2 i x) : EReal) = (a4 m c (ix3 (bt i) (ps i) x) : EReal) := by
  unfold V hostOps0
  after_reads_simp
  clean_types
  pointwise

theorem v11_at (n : Fin 3) (i : Fin 1024) (x : Fin 2048) : ((V m c main_v11 : Vec Ideal S3x1024x2048 .bf16) (ix3 n i x) : EReal) = (a5 m c (ix3 n i x) : EReal) := by
  unfold V hostOps0
  after_reads_simp
  clean_types
  pointwise

theorem idx0 : ∀ t : Fin grid0.N, win0_0.index t = ![t.val / 3, 0] ∧ win0_1.index t = ![t.val % 3, 0] ∧ win0_2.index t = ![t.val / 3, 0]
    ∧ win0_3.index t = ![t.val / 3, 0] ∧ win0_4.index t = ![t.val / 3, 0] ∧ win0_5.index t = ![t.val % 3, 0, 0]
    ∧ win0_6.index t = ![t.val / 3, 0] := by decide +kernel

theorem crd : ∀ t : Fin grid0.N, (grid0.coords t 1).val = t.val % 3 := by decide +kernel

theorem lt0 (t : Fin cfg0.N) : t.val < 48 := t.isLt

variable (t : Fin cfg0.N)

/-- A row of the arrays, from a block's row; and the branch of a point. -/
abbrev row (r : Fin 512) : Fin 8192 := ⟨512 * (t.val / 3) + r.val, by have := lt0 t; omega⟩
abbrev br : Fin 3 := ⟨t.val % 3, by omega⟩

theorem blk0 (r : Fin 512) (x : Fin 2048) : (iblk m c 0 t : Vec Ideal S512x2048 .bf16) (ix2 r x) = (V m c main_v1 : Vec Ideal S8192x2048 .bf16) (ix2 (row t r) x) := by
  have e := (idx0 t).1
  have := lt0 t
  blk_ext [iblk, e]

theorem blk1 (k x : Fin 2048) : (iblk m c 1 t : Vec Ideal S2048x2048 .bf16) (ix2 k x) = (V m c main_v4 : Vec Ideal S6144x2048 .bf16) (ix2 (⟨2048 * (br t).val + k.val, by have := (br t).isLt; omega⟩ : Fin 6144) x) := by
  have e := (idx0 t).2.1
  have := lt0 t
  blk_ext [iblk, e]

theorem blk2 (r : Fin 512) (x : Fin 1024) : (iblk m c 2 t : Vec Ideal S512x1024 .bf16) (ix2 r x) = (V m c main_v6 : Vec Ideal S8192x1024 .bf16) (ix2 (row t r) x) := by
  have e := (idx0 t).2.2.1
  have := lt0 t
  blk_ext [iblk, e]

theorem blk3 (r : Fin 512) (x : Fin 1024) : (iblk m c 3 t : Vec Ideal S512x1024 .bf16) (ix2 r x) = (V m c main_v8 : Vec Ideal S8192x1024 .bf16) (ix2 (row t r) x) := by
  have e := (idx0 t).2.2.2.1
  have := lt0 t
  blk_ext [iblk, e]

theorem blk4 (r : Fin 512) (x : Fin 1024) : (iblk m c 4 t : Vec Ideal S512x1024 .bf16) (ix2 r x) = (V m c main_v10 : Vec Ideal S8192x1024 .bf16) (ix2 (row t r) x) := by
  have e := (idx0 t).2.2.2.2.1
  have := lt0 t
  blk_ext [iblk, e]

theorem blk5 (k : Fin 1024) (x : Fin 2048) : (iblk m c 5 t : Vec Ideal S1x1024x2048 .bf16) (ix3 0 k x) = (V m c main_v11 : Vec Ideal S3x1024x2048 .bf16) (ix3 (br t) k x) := by
  have e := (idx0 t).2.2.2.2.2.1
  have := lt0 t
  blk_ext [iblk, e]

theorem emb6 (r : Fin 512) (x : Fin 2048) : ((View.whole main_v12).slice (win0_6.rect t)).emb (ix2 r x) = ix2 (row t r) x := by
  have e := (idx0 t).2.2.2.2.2.2
  have := lt0 t
  blk_ext [e]

/-- One branch's share of an element: its gate times its projection. -/
def term (x : Vec Ideal S2x4096x2048 .f32) (w : Vec Ideal S2048x12848 .f32) (p q o : Vec Ideal S2x4096x1024 .f32) (u : Vec Ideal S3x1024x2048 .f32)
    (n : Fin 3) (i : Fin 8192) (j : Fin 2048) : EReal :=
  Ideal.logistic (∑ k : Fin 2048, @HMul.hMul EReal EReal EReal _ (x (ix3 (bt i) (ps i) k)) (w (ix2 k (gcol n j))))
    * ∑ k : Fin 1024, @HMul.hMul EReal EReal EReal _ ((![p, q, o] n : Vec Ideal S2x4096x1024 .f32) (ix3 (bt i) (ps i) k)) (u (ix3 n k j))

/-- The merged rows: the three branches' shares added up. -/
def out (x : Vec Ideal S2x4096x2048 .f32) (w : Vec Ideal S2048x12848 .f32) (p q o : Vec Ideal S2x4096x1024 .f32) (u : Vec Ideal S3x1024x2048 .f32) :
    Vec Ideal S8192x2048 .bf16 := fun i => ∑ n : Fin 3, term x w p q o u n (i 0) (i 1)

/-- The share of the point's branch. -/
abbrev sh (n : Fin 3) (i : Fin 8192) (j : Fin 2048) : EReal := term (a0 m c) (a1 m c) (a2 m c) (a3 m c) (a4 m c) (a5 m c) n i j

theorem gate_at (r : Fin 512) (j : Fin 2048) :
    ∑ k : Fin 2048, @HMul.hMul EReal EReal EReal _ ((iblk m c 0 t : Vec Ideal S512x2048 .bf16) (ix2 r k)) ((iblk m c 1 t : Vec Ideal S2048x2048 .bf16) (ix2 j k))
      = ∑ k : Fin 2048, @HMul.hMul EReal EReal EReal _ (a0 m c (ix3 (bt (row t r)) (ps (row t r)) k)) (a1 m c (ix2 k (gcol (br t) j))) := by
  refine Finset.sum_congr rfl fun k _ => congrArg₂ (fun a b : EReal => a * b) ((blk0 m c t r k).trans (v1_at m c _ k)) ?_
  refine ((blk1 m c t j k).trans (v4_at m c _ k)).trans (congrArg (fun g => a1 m c (ix2 k g)) (Fin.ext ?_))
  show 6704 + (2048 * (br t).val + j.val) = 6704 + 2048 * (br t).val + j.val
  omega

theorem proj_at (r : Fin 512) (j : Fin 2048) (z : Vec Ideal S512x1024 .bf16) (o : Vec Ideal S2x4096x1024 .f32)
    (hz : ∀ k : Fin 1024, (z (ix2 r k) : EReal) = o (ix3 (bt (row t r)) (ps (row t r)) k)) :
    ∑ k : Fin 1024, @HMul.hMul EReal EReal EReal _ (z (ix2 r k)) ((iblk m c 5 t : Vec Ideal S1x1024x2048 .bf16) (ix3 0 k j))
      = ∑ k : Fin 1024, @HMul.hMul EReal EReal EReal _ (o (ix3 (bt (row t r)) (ps (row t r)) k)) (a5 m c (ix3 (br t) k j)) :=
  Finset.sum_congr rfl fun k _ => congrArg₂ (fun a b : EReal => a * b) (hz k) ((blk5 m c t k j).trans (v11_at m c _ k j))

/-- A point adds its branch's share to what the sum held. -/
theorem step_at (s : Vec Ideal S512x2048 .f32) (r : Fin 512) (j : Fin 2048) :
    (k0_pay2 (grid0.coords t) (iblk m c 0 t) (iblk m c 1 t) (iblk m c 2 t) (iblk m c 3 t) (iblk m c 4 t) s (iblk m c 5 t) (ix2 r j) : EReal)
      = s (ix2 r j) + sh m c (br t) (row t r) j := by
  have hc := crd t
  have h : t.val % 3 = 0 ∨ t.val % 3 = 1 ∨ t.val % 3 = 2 := by omega
  rcases h with h | h | h
  · refine (pay2_0 _ _ _ _ _ _ _ _ r j (hc.trans h)).trans ?_
    refine congrArg₂ (fun a b : EReal => s (ix2 r j) + Ideal.logistic a * b) (gate_at m c t r j)
      ((proj_at m c t r j _ _ fun k => (blk2 m c t r k).trans (v6_at m c _ k)).trans ?_)
    rw [show br t = 0 from Fin.ext h]
    rfl
  · refine (pay2_1 _ _ _ _ _ _ _ _ r j (hc.trans h)).trans ?_
    refine congrArg₂ (fun a b : EReal => s (ix2 r j) + Ideal.logistic a * b) (gate_at m c t r j)
      ((proj_at m c t r j _ _ fun k => (blk3 m c t r k).trans (v8_at m c _ k)).trans ?_)
    rw [show br t = 1 from Fin.ext h]
    rfl
  · refine (pay2_2 _ _ _ _ _ _ _ _ r j (hc.trans h)).trans ?_
    refine congrArg₂ (fun a b : EReal => s (ix2 r j) + Ideal.logistic a * b) (gate_at m c t r j)
      ((proj_at m c t r j _ _ fun k => (blk4 m c t r k).trans (v10_at m c _ k)).trans ?_)
    rw [show br t = 2 from Fin.ext h]
    rfl

/-- What the sum holds after a branch's first point, and after a later one. -/
theorem scr_first (h : t.val % 3 = 0) (r : Fin 512) (j : Fin 2048) :
    ((outsAt0 m c t.val t.isLt).2 (ix2 r j) : EReal) = 0 + sh m c (br t) (row t r) j := by
  rw [outsAt0_A m c t h]
  dsimp only
  rw [scrA]
  refine (pay3_at _ _ _ _ _ _ _ _ (ix2 r j)).trans ((step_at m c t _ r j).trans ?_)
  rw [pay1_at]

theorem scr_next (h : ¬t.val % 3 = 0) (r : Fin 512) (j : Fin 2048) :
    ((outsAt0 m c t.val t.isLt).2 (ix2 r j) : EReal)
      = (outsAt0 m c (t.val - 1) (Nat.lt_of_le_of_lt (Nat.sub_le _ _) t.isLt)).2 (ix2 r j) + sh m c (br t) (row t r) j := by
  rw [outsAt0_B m c t h]
  dsimp only
  rw [scrB]
  exact (pay3_at _ _ _ _ _ _ _ _ (ix2 r j)).trans (step_at m c t _ r j)

theorem out_next (h : ¬t.val % 3 = 0) (r : Fin 512) (j : Fin 2048) :
    ((outsAt0 m c t.val t.isLt).1 (ix2 r j) : EReal)
      = (outsAt0 m c (t.val - 1) (Nat.lt_of_le_of_lt (Nat.sub_le _ _) t.isLt)).2 (ix2 r j) + sh m c (br t) (row t r) j := by
  rw [outsAt0_B m c t h]
  dsimp only
  rw [outB]
  exact (pay4_at _ _ _ _ _ _ _ _ (ix2 r j)).trans (step_at m c t _ r j)

/-- What a block's last point writes: the three shares added up. -/
theorem last_at (h : t.val % 3 = 2) (r : Fin 512) (j : Fin 2048) :
    ((outsAt0 m c t.val t.isLt).1 (ix2 r j) : EReal) = ∑ n : Fin 3, sh m c n (row t r) j := by
  have h48 := lt0 t
  have l1 : t.val - 1 < cfg0.N := Nat.lt_of_le_of_lt (Nat.sub_le _ _) t.isLt
  have l2 : t.val - 1 - 1 < cfg0.N := Nat.lt_of_le_of_lt (Nat.sub_le _ _) l1
  have e2 := out_next m c t (by omega) r j
  have e1 := scr_next m c ⟨t.val - 1, l1⟩ (by show ¬(t.val - 1) % 3 = 0; omega) r j
  have e0 := scr_first m c ⟨t.val - 1 - 1, l2⟩ (by show (t.val - 1 - 1) % 3 = 0; omega) r j
  rw [show br ⟨t.val - 1, l1⟩ = 1 from Fin.ext (by show (t.val - 1) % 3 = 1; omega),
    show row ⟨t.val - 1, l1⟩ r = row t r from Fin.ext (by show 512 * ((t.val - 1) / 3) + r.val = 512 * (t.val / 3) + r.val; omega)] at e1
  rw [show br ⟨t.val - 1 - 1, l2⟩ = 0 from Fin.ext (by show (t.val - 1 - 1) % 3 = 0; omega),
    show row ⟨t.val - 1 - 1, l2⟩ r = row t r from Fin.ext (by show 512 * ((t.val - 1 - 1) / 3) + r.val = 512 * (t.val / 3) + r.val; omega)] at e0
  rw [show br t = 2 from Fin.ext h] at e2
  rw [Fin.sum_univ_three, e2]
  refine congrArg (fun a : EReal => a + sh m c 2 (row t r) j) (e1.trans ?_)
  exact congrArg (fun a : EReal => a + sh m c 1 (row t r) j) (e0.trans (zero_add _))

theorem result : (dats m 0 c).arrAt 6 cfg0.N = out (a0 m c) (a1 m c) (a2 m c) (a3 m c) (a4 m c) (a5 m c) := by
  refine (dats m 0 c).arrAt_eq_of_covers 6 _ (by decide +kernel) fun t hf y => ?_
  blk_simp
  rw [after0_6]
  idx_vars y
  refine Eq.trans ?_ (congrArg (out (a0 m c) (a1 m c) (a2 m c) (a3 m c) (a4 m c) (a5 m c)) (emb6 t y0 y1)).symm
  exact last_at m c t ((flush0_6 t).mp hf) y0 y1

/-- After the kernel's run the result array holds the merged rows; the arguments are as before. -/
theorem run (ρ : Dev nD → PrngReg) : θ_run defs (onTc (τ := τ) (main (F := Ideal))) ⟨m, fun _ => 0, ρ⟩ fun r => ∀ c : Dev nD,
      r.2.mem ((c : Thread nD τ).loc main_v12) = out (a0 m c) (a1 m c) (a2 m c) (a3 m c) (a4 m c) (a5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (result m c), (h c).2⟩) (Value.run_blocks m ρ)

end Arrays

end Cert.Kernel2Ideal.Val

end
-- ==== Proof.MergeRef.lean ====
module

public import proofs.«01_k».proof.Proof.Merge
public import proofs.«01_k».proof.Proof.Gen.Reference2Ideal.Run
public import proofs.«01_k».proof.Defs

@[expose] public section

set_option maxRecDepth 16384

noncomputable section

/-! # The gated merge of the three branches: the kernel's array is the reference's -/

namespace Cert.Proof.Merge

open Idealize.ShloMosaic Idealize.ShloMosaic.TcCoe Idealize.SL.Sem Cert.Reference2Ideal Cert.Reference2Ideal.Gen
open Cert.Kernel2Ideal.Val (bt ps gcol term out)

theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨_, Cert.Kernel2Ideal.Val.run m ρ, ?_⟩
  refine (θ_run Cert.Reference2Ideal.defs _ _).mono (fun r h c => ⟨(h c).1.trans ?_, (h c).2⟩) (Cert.Reference2Ideal.Value.run (F := Ideal) m' ρ')
  obtain ⟨e0, e1, e2, e3, e4, e5⟩ := hagree c
  rw [e0, e1, e2, e3, e4, e5]
  funext x
  idx_vars x
  refine Eq.trans ?_ (show (∑ n : Fin 3, term _ _ _ _ _ _ n x0 x1) = out _ _ _ _ _ _ (ix2 x0 x1) from rfl)
  clean_types
  pointwise
  refine Finset.sum_congr rfl fun n _ => ?_
  unfold term
  refine congrArg₂ (fun a b : EReal => a * b) ?_ (Finset.sum_congr rfl fun k _ => (mul_comm _ _).trans (congrArg₂ (fun a b : EReal => a * b) ?_ rfl))
  · refine Eq.trans ?_ (show Ideal.div 1 (1 + Ideal.exp (-_)) = Ideal.logistic _ from rfl)
    refine congrArg (fun z : EReal => Ideal.div 1 (1 + Ideal.exp (-z))) (Finset.sum_congr rfl fun k _ => ?_)
    refine congrArg (fun g => Cert.Kernel2Ideal.Val.a0 m c (ix3 (bt x0) (ps x0) k) * Cert.Kernel2Ideal.Val.a1 m c (ix2 k g)) (Fin.ext ?_)
    show 6704 + (n.val * 2048 + x1.val) = 6704 + 2048 * n.val + x1.val
    omega
  · fin_cases n <;> rfl

end Cert.Proof.Merge

end
-- ==== Proof.LayerNorm.lean ====
module

public import Idealize.ShloMosaic.PureOps.Ideal

@[expose] public section

noncomputable section

/-! # The layer norm of a row of 2048 numbers, over the extended reals -/

namespace Cert.LayerNorm

open Idealize.ShloMosaic

/-- The mean of a row. -/
def mean (z : Fin 2048 → EReal) : EReal := Ideal.div (∑ x, z x) (Ideal.ofBits .f32 0x45000000#32)

/-- A row less its mean, over the root of its variance and the small constant, times the gains, plus the shifts. -/
def ln (z g b : Fin 2048 → EReal) (j : Fin 2048) : EReal :=
  (z j - mean z) * Ideal.rsqrt (mean (fun x => (z x - mean z) * (z x - mean z)) + Ideal.ofBits .f32 0x3727C5AC#32) * g j + b j

theorem ln_ext {z z' g g' b b' : Fin 2048 → EReal} (hz : ∀ x, z x = z' x) (hg : ∀ x, g x = g' x) (hb : ∀ x, b x = b' x) (j : Fin 2048) :
    ln z g b j = ln z' g' b' j := by
  rw [funext hz, funext hg, funext hb]

end Cert.LayerNorm

end
-- ==== Proof.OutProj.lean ====
module

public import proofs.«01_k».proof.Proof.Gen.Kernel3Ideal.Value
public import proofs.«01_k».proof.Proof.LayerNorm
public import Idealize.ShloMosaic.Lib.Pipeline.ValueKit
public import Idealize.ShloMosaic.Lib.StableHlo.RunRead
public import Idealize.ShloMosaic.Lib.Pointwise
public import Idealize.ShloMosaic.Lib.Tactic.CleanTypes

@[expose] public section

set_option maxRecDepth 16384

noncomputable section

/-! # The output projection with the first layer norm and the queries of the retrieval: what the kernel's arrays hold -/

namespace Cert.Kernel3Ideal.Val

open Idealize.ShloMosaic Idealize.ShloMosaic.TcCoe Idealize.SL.Sem Cert.Kernel3Ideal Cert.Kernel3Ideal.Gen
open Cert.LayerNorm (ln)

/-- The batch entry and the position of a row of the flattened arrays. -/
abbrev bt (i : Fin 8192) : Fin 2 := ⟨i.val / 4096, by omega⟩
abbrev ps (i : Fin 8192) : Fin 4096 := ⟨i.val % 4096, by omega⟩

/-- The residual plus a projected row. -/
abbrev pre (x : Fin 2048 → EReal) (y : Fin 2048 → EReal) (w : Fin 2048 → Fin 2048 → EReal) (j : Fin 2048) : EReal :=
  Ideal.ofBits .f32 0x3F9837F0#32 * x j + ∑ k, y k * w k j

/-- A block's normed rows. -/
theorem pay2_at (P0 : Vec Ideal S512x2048 .bf16) (P1 : Vec Ideal S2048x2048 .bf16) (P2 : Vec Ideal S512x2048 .f32) (P3 P4 : Vec Ideal S1x2048 .f32)
    (r : Fin 512) (j : Fin 2048) :
    (k0_pay2 P0 P1 P2 P3 P4 (ix2 r j) : EReal)
      = ln (pre (fun x => P2 (ix2 r x)) (fun x => P0 (ix2 r x)) (fun x y => P1 (ix2 x y)))
          (fun x => P3 (ix2 0 x)) (fun x => P4 (ix2 0 x)) j := by
  unfold ln Cert.LayerNorm.mean pre
  pointwise [k0_pay2]

/-- The narrow copy of a block's normed rows. -/
theorem pay3_at (P0 : Vec Ideal S512x2048 .bf16) (P1 : Vec Ideal S2048x2048 .bf16) (P2 : Vec Ideal S512x2048 .f32) (P3 P4 : Vec Ideal S1x2048 .f32)
    (i : S512x2048.Idx) : (k0_pay3 P0 P1 P2 P3 P4 i : EReal) = k0_pay2 P0 P1 P2 P3 P4 i := rfl

/-- A block's queries. -/
theorem pay1_at (X : FVec Ideal S512x2048 .bf16) (W : Vec Ideal S2048x2048 .bf16) (r : Fin 512) (j : Fin 2048) :
    (k0_pay1 X W (ix2 r j) : EReal) = ∑ k : Fin 2048, @HMul.hMul EReal EReal EReal _ (X (ix2 r k)) (W (ix2 k j)) := by
  pointwise [k0_pay1]

variable (m : (ℓ : Loc nD τ sig) → Buf (Elt Ideal) ℓ) (c : Dev nD)

abbrev a0 : Vec Ideal S2x4096x2048 .f32 := m ((c : Thread nD τ).loc main_arg0)
abbrev a1 : Vec Ideal S2048x2048 .f32 := m ((c : Thread nD τ).loc main_arg1)
abbrev a2 : Vec Ideal S2x4096x2048 .f32 := m ((c : Thread nD τ).loc main_arg2)
abbrev a3 : Vec Ideal S2048 .f32 := m ((c : Thread nD τ).loc main_arg3)
abbrev a4 : Vec Ideal S2048 .f32 := m ((c : Thread nD τ).loc main_arg4)
abbrev a5 : Vec Ideal S2048x2048 .f32 := m ((c : Thread nD τ).loc main_arg5)

theorem v1_at (i : Fin 8192) (x : Fin 2048) : ((V m c main_v1 : Vec Ideal S8192x2048 .bf16) (ix2 i x) : EReal) = (a0 m c (ix3 (bt i) (ps i) x) : EReal) := by
  unfold V hostOps0
  after_reads_simp
  clean_types
  pointwise

theorem v2_at (i x : Fin 2048) : ((V m c main_v2 : Vec Ideal S2048x2048 .bf16) (ix2 i x) : EReal) = (a1 m c (ix2 i x) : EReal) := by
  unfold V hostOps0
  after_reads_simp
  clean_types
  pointwise

theorem v3_at (i : Fin 8192) (x : Fin 2048) : ((V m c main_v3 : Vec Ideal S8192x2048 .f32) (ix2 i x) : EReal) = (a2 m c (ix3 (bt i) (ps i) x) : EReal) := by
  unfold V hostOps0
  after_reads_simp
  clean_types
  pointwise

theorem v4_at (x : Fin 2048) : ((V m c main_v4 : Vec Ideal S1x2048 .f32) (ix2 0 x) : EReal) = (a3 m c (ix1 x) : EReal) := by
  unfold V hostOps0
  after_reads_simp
  clean_types
  pointwise

theorem v5_at (x : Fin 2048) : ((V m c main_v5 : Vec Ideal S1x2048 .f32) (ix2 0 x) : EReal) = (a4 m c (ix1 x) : EReal) := by
  unfold V hostOps0
  after_reads_simp
  clean_types
  pointwise

theorem v6_at (i x : Fin 2048) : ((V m c main_v6 : Vec Ideal S2048x2048 .bf16) (ix2 i x) : EReal) = (a5 m c (ix2 i x) : EReal) := by
  unfold V hostOps0
  after_reads_simp
  clean_types
  pointwise

theorem idx0 : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![0, 0] := by decide +kernel

theorem idx1 : ∀ t : Fin grid0.N, win0_6.index t = ![t.val, 0] ∧ win0_7.index t = ![t.val, 0] ∧ win0_8.index t = ![t.val, 0] := by
  decide +kernel

theorem lt0 (t : Fin cfg0.N) : t.val < 16 := t.isLt

variable (t : Fin cfg0.N)

/-- A row of the arrays, from a block's row. -/
abbrev row (r : Fin 512) : Fin 8192 := ⟨512 * t.val + r.val, by have := lt0 t; omega⟩

theorem blk0 (r : Fin 512) (x : Fin 2048) : (iblk m c 0 t : Vec Ideal S512x2048 .bf16) (ix2 r x) = (V m c main_v1 : Vec Ideal S8192x2048 .bf16) (ix2 (row t r) x) := by
  have e := (idx0 t).1
  have := lt0 t
  blk_ext [iblk, e]

theorem blk1 (k x : Fin 2048) : (iblk m c 1 t : Vec Ideal S2048x2048 .bf16) (ix2 k x) = (V m c main_v2 : Vec Ideal S2048x2048 .bf16) (ix2 k x) := by
  have e := (idx0 t).2.1
  have := lt0 t
  blk_ext [iblk, e]

theorem blk2 (r : Fin 512) (x : Fin 2048) : (iblk m c 2 t : Vec Ideal S512x2048 .f32) (ix2 r x) = (V m c main_v3 : Vec Ideal S8192x2048 .f32) (ix2 (row t r) x) := by
  have e := (idx0 t).2.2.1
  have := lt0 t
  blk_ext [iblk, e]

theorem blk3 (x : Fin 2048) : (iblk m c 3 t : Vec Ideal S1x2048 .f32) (ix2 0 x) = (V m c main_v4 : Vec Ideal S1x2048 .f32) (ix2 0 x) := by
  have e := (idx0 t).2.2.2.1
  have := lt0 t
  blk_ext [iblk, e]

theorem blk4 (x : Fin 2048) : (iblk m c 4 t : Vec Ideal S1x2048 .f32) (ix2 0 x) = (V m c main_v5 : Vec Ideal S1x2048 .f32) (ix2 0 x) := by
  have e := (idx0 t).2.2.2.2.1
  have := lt0 t
  blk_ext [iblk, e]

theorem blk5 (k x : Fin 2048) : (iblk m c 5 t : Vec Ideal S2048x2048 .bf16) (ix2 k x) = (V m c main_v6 : Vec Ideal S2048x2048 .bf16) (ix2 k x) := by
  have e := (idx0 t).2.2.2.2.2
  have := lt0 t
  blk_ext [iblk, e]

theorem emb6 (r : Fin 512) (x : Fin 2048) : ((View.whole main_v7_0).slice (win0_6.rect t)).emb (ix2 r x) = ix2 (row t r) x := by
  have e := (idx1 t).1
  have := lt0 t
  blk_ext [e]

theorem emb7 (r : Fin 512) (x : Fin 2048) : ((View.whole main_v7_1).slice (win0_7.rect t)).emb (ix2 r x) = ix2 (row t r) x := by
  have e := (idx1 t).2.1
  have := lt0 t
  blk_ext [e]

theorem emb8 (r : Fin 512) (x : Fin 2048) : ((View.whole main_v7_2).slice (win0_8.rect t)).emb (ix2 r x) = ix2 (row t r) x := by
  have e := (idx1 t).2.2
  have := lt0 t
  blk_ext [e]

/-- A row of the normed residual. -/
def nrm (y : Vec Ideal S2x4096x2048 .f32) (w : Vec Ideal S2048x2048 .f32) (x : Vec Ideal S2x4096x2048 .f32) (g b : Vec Ideal S2048 .f32)
    (i : Fin 8192) (j : Fin 2048) : EReal :=
  ln (pre (fun k => x (ix3 (bt i) (ps i) k)) (fun k => y (ix3 (bt i) (ps i) k)) (fun k l => w (ix2 k l))) (fun k => g (ix1 k)) (fun k => b (ix1 k)) j

/-- The normed residual as an array, wide and narrow, and the queries made of it. -/
def outW (y : Vec Ideal S2x4096x2048 .f32) (w : Vec Ideal S2048x2048 .f32) (x : Vec Ideal S2x4096x2048 .f32) (g b : Vec Ideal S2048 .f32) :
    Vec Ideal S8192x2048 .f32 := fun i => nrm y w x g b (i 0) (i 1)
def outN (y : Vec Ideal S2x4096x2048 .f32) (w : Vec Ideal S2048x2048 .f32) (x : Vec Ideal S2x4096x2048 .f32) (g b : Vec Ideal S2048 .f32) :
    Vec Ideal S8192x2048 .bf16 := fun i => nrm y w x g b (i 0) (i 1)
def outQ (y : Vec Ideal S2x4096x2048 .f32) (w : Vec Ideal S2048x2048 .f32) (x : Vec Ideal S2x4096x2048 .f32) (g b : Vec Ideal S2048 .f32)
    (q : Vec Ideal S2048x2048 .f32) : Vec Ideal S8192x2048 .bf16 := fun i => ∑ k, nrm y w x g b (i 0) k * q (ix2 k (i 1))

theorem norm_at (r : Fin 512) (j : Fin 2048) :
    (k0_pay2 (iblk m c 0 t) (iblk m c 1 t) (iblk m c 2 t) (iblk m c 3 t) (iblk m c 4 t) (ix2 r j) : EReal)
      = nrm (a0 m c) (a1 m c) (a2 m c) (a3 m c) (a4 m c) (row t r) j := by
  refine (pay2_at _ _ _ _ _ r j).trans ?_
  refine Cert.LayerNorm.ln_ext (fun x => ?_) (fun x => (blk3 m c t x).trans (v4_at m c x)) (fun x => (blk4 m c t x).trans (v5_at m c x)) j
  refine congrArg₂ (fun a b : EReal => Ideal.ofBits .f32 0x3F9837F0#32 * a + b) ((blk2 m c t r x).trans (v3_at m c _ x)) ?_
  exact Finset.sum_congr rfl fun k _ => congrArg₂ (fun a b : EReal => a * b) ((blk0 m c t r k).trans (v1_at m c _ k)) ((blk1 m c t k x).trans (v2_at m c k x))

theorem result6 : (dats m 0 c).arrAt 6 cfg0.N = outW (a0 m c) (a1 m c) (a2 m c) (a3 m c) (a4 m c) := by
  refine (dats m 0 c).arrAt_eq_of_covers 6 _ (by decide +kernel) fun t hf y => ?_
  blk_simp
  rw [after0_6]
  idx_vars y
  refine Eq.trans ?_ (congrArg (outW (a0 m c) (a1 m c) (a2 m c) (a3 m c) (a4 m c)) (emb6 t y0 y1)).symm
  rw [out0_6, View.canon_cons_unit_lit _ _ _ (by decide)]
  rw [View.ld_unit_lit _ _ (by decide), View.ld_unit_lit _ _ (by decide), View.ld_unit_lit _ _ (by decide), View.ld_unit_lit _ _ (by decide), View.ld_unit_lit _ _ (by decide)]
  exact norm_at m c t y0 y1

theorem pay4_eq (x0 : Vec Ideal S512x2048 .bf16) (x1 : Vec Ideal S2048x2048 .bf16) (x2 : Vec Ideal S512x2048 .f32) (x3 x4 : Vec Ideal S1x2048 .f32)
    (x5 : Vec Ideal S2048x2048 .bf16) : k0_pay4 x0 x1 x2 x3 x4 x5 = k0_pay3 x0 x1 x2 x3 x4 := by
  unfold k0_pay4
  rw [View.ld_unit_lit _ _ (by decide), View.ld_unit_lit _ _ (by decide), View.ld_unit_lit _ _ (by decide), View.ld_unit_lit _ _ (by decide), View.ld_unit_lit _ _ (by decide)]

theorem result7 : (dats m 0 c).arrAt 7 cfg0.N = outN (a0 m c) (a1 m c) (a2 m c) (a3 m c) (a4 m c) := by
  refine (dats m 0 c).arrAt_eq_of_covers 7 _ (by decide +kernel) fun t hf y => ?_
  blk_simp
  rw [after0_7]
  idx_vars y
  refine Eq.trans ?_ (congrArg (outN (a0 m c) (a1 m c) (a2 m c) (a3 m c) (a4 m c)) (emb7 t y0 y1)).symm
  rw [out0_7, View.canon_cons_unit_lit _ _ _ (by decide), pay4_eq]
  exact norm_at m c t y0 y1

theorem result8 : (dats m 0 c).arrAt 8 cfg0.N = outQ (a0 m c) (a1 m c) (a2 m c) (a3 m c) (a4 m c) (a5 m c) := by
  refine (dats m 0 c).arrAt_eq_of_covers 8 _ (by decide +kernel) fun t hf y => ?_
  blk_simp
  rw [after0_8]
  idx_vars y
  refine Eq.trans ?_ (congrArg (outQ (a0 m c) (a1 m c) (a2 m c) (a3 m c) (a4 m c) (a5 m c)) (emb8 t y0 y1)).symm
  rw [out0_8, View.canon_cons_unit_lit _ _ _ (by decide), View.ld_unit_lit _ _ (by decide), pay4_eq]
  refine (pay1_at _ _ y0 y1).trans ?_
  exact Finset.sum_congr rfl fun k _ => congrArg₂ (fun a b : EReal => a * b) (norm_at m c t y0 k) ((blk5 m c t k y1).trans (v6_at m c k y1))

/-- After the kernel's run the three result arrays are the normed residual, its narrow copy and the queries; the arguments are as before. -/
theorem run (ρ : Dev nD → PrngReg) : θ_run defs (onTc (τ := τ) (main (F := Ideal))) ⟨m, fun _ => 0, ρ⟩ fun r => ∀ c : Dev nD,
      r.2.mem ((c : Thread nD τ).loc main_v7_0) = outW (a0 m c) (a1 m c) (a2 m c) (a3 m c) (a4 m c)
      ∧ r.2.mem ((c : Thread nD τ).loc main_v7_1) = outN (a0 m c) (a1 m c) (a2 m c) (a3 m c) (a4 m c)
      ∧ r.2.mem ((c : Thread nD τ).loc main_v7_2) = outQ (a0 m c) (a1 m c) (a2 m c) (a3 m c) (a4 m c) (a5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (result6 m c), (h c).2.1.trans (result7 m c), (h c).2.2.1.trans (result8 m c), (h c).2.2.2⟩)
    (Value.run_blocks m ρ)

end Cert.Kernel3Ideal.Val

end
-- ==== Proof.OutProjRef.lean ====
module

public import proofs.«01_k».proof.Proof.OutProj
public import proofs.«01_k».proof.Proof.Gen.Reference3Ideal.Run
public import proofs.«01_k».proof.Defs

@[expose] public section

set_option maxRecDepth 16384

noncomputable section

/-! # The output projection with the first layer norm: the kernel's arrays are the reference's -/

namespace Cert.Proof.OutProj

open Idealize.ShloMosaic Idealize.ShloMosaic.TcCoe Idealize.SL.Sem Cert.Reference3Ideal Cert.Reference3Ideal.Gen
open Cert.LayerNorm (ln)
open Cert.Kernel3Ideal.Val (bt ps pre nrm outW outN outQ)

/-- An element of the projection. -/
theorem proj_at (a : Vec Ideal S2x4096x2048 .f32) (w : Vec Ideal S2048x2048 .f32) (b : Fin 2) (p : Fin 4096) (j : Fin 2048) :
    (Host.dotGeneral (F := Ideal) (φ₁ := .f32) (φ₂ := .f32) dot_S2x4096x2048_S2048x2048_S2x4096x2048_2_0_01_1_n_n none a w (ix3 b p j) : EReal)
      = ∑ k : Fin 2048, @HMul.hMul EReal EReal EReal _ (a (ix3 b p k)) (w (ix2 k j)) := by
  pointwise

/-- An element of the queries. -/
theorem query_at (X : Vec Ideal S8192x2048 .f32) (w : Vec Ideal S2048x2048 .f32) (i : Fin 8192) (j : Fin 2048) :
    (Host.dotGeneral (F := Ideal) (φ₁ := .f32) (φ₂ := .f32) dot_S8192x2048_S2048x2048_S8192x2048_1_0_0_1_n_n none X w (ix2 i j) : EReal)
      = ∑ k : Fin 2048, @HMul.hMul EReal EReal EReal _ (X (ix2 i k)) (w (ix2 k j)) := by
  pointwise

theorem algebraic : Cert.algebraic_Kernel3Ideal_Reference3Ideal (hKernel3Ideal := Cert.Kernel3Ideal.Gen.facts) (hReference3Ideal := Cert.Reference3Ideal.Gen.facts) := by
  intro m ρ m' ρ' _ hagree
  refine ⟨_, _, _, Cert.Kernel3Ideal.Val.run m ρ, ?_⟩
  refine (θ_run Cert.Reference3Ideal.defs _ _).mono (fun r h c => ?_) (Cert.Reference3Ideal.Value.run (F := Ideal) m' ρ')
  obtain ⟨h0, h1, h2, hk⟩ := h c
  obtain ⟨e0, e1, e2, e3, e4, e5⟩ := hagree c
  simp only [Cert.Kernel3Ideal.Val.a0, Cert.Kernel3Ideal.Val.a1, Cert.Kernel3Ideal.Val.a2, Cert.Kernel3Ideal.Val.a3, Cert.Kernel3Ideal.Val.a4, Cert.Kernel3Ideal.Val.a5]
  rw [← e0, ← e1, ← e2, ← e3, ← e4, ← e5]
  generalize m' ((c.tc : Thread nD τ).loc main_arg0) = p0 at *
  generalize m' ((c.tc : Thread nD τ).loc main_arg1) = p1 at *
  generalize m' ((c.tc : Thread nD τ).loc main_arg2) = p2 at *
  generalize m' ((c.tc : Thread nD τ).loc main_arg3) = p3 at *
  generalize m' ((c.tc : Thread nD τ).loc main_arg4) = p4 at *
  generalize m' ((c.tc : Thread nD τ).loc main_arg5) = p5 at *
  have hw : r.2.mem ((c.tc : Thread nD τ).loc main_v28) = outW p0 p1 p2 p3 p4 := by
    refine h0.trans ?_
    funext x
    idx_vars x
    generalize hY : Host.dotGeneral (F := Ideal) (φ₁ := .f32) (φ₂ := .f32) dot_S2x4096x2048_S2048x2048_S2x4096x2048_2_0_01_1_n_n none p0 p1 = Y
    have hp : outW p0 p1 p2 p3 p4 (ix2 x0 x1) = ln (fun j => Ideal.ofBits .f32 0x3F9837F0#32 * p2 (ix3 (bt x0) (ps x0) j) + Y (ix3 (bt x0) (ps x0) j))
        (fun j => p3 (ix1 j)) (fun j => p4 (ix1 j)) x1 := by
      rw [← hY]
      show ln (pre (fun k => p2 (ix3 (bt x0) (ps x0) k)) (fun k => p0 (ix3 (bt x0) (ps x0) k)) (fun k l => p1 (ix2 k l))) (fun k => p3 (ix1 k)) (fun k => p4 (ix1 k)) x1 = _
      refine Cert.LayerNorm.ln_ext (fun j => ?_) (fun _ => rfl) (fun _ => rfl) x1
      exact congrArg (fun a : EReal => Ideal.ofBits .f32 0x3F9837F0#32 * (p2 (ix3 (bt x0) (ps x0) j) : EReal) + a) (proj_at p0 p1 _ _ j).symm
    rw [hp]
    unfold ln Cert.LayerNorm.mean
    clean_types
    pointwise
  have ha := h0.symm.trans hw
  refine ⟨hw, h1.trans ((congrArg (truncf (F := Ideal) .bf16) ha).trans rfl), h2.trans ?_, hk⟩
  refine (congrArg (fun X => truncf (F := Ideal) .bf16 (Host.dotGeneral (F := Ideal) (φ₁ := .f32) (φ₂ := .f32) dot_S8192x2048_S2048x2048_S8192x2048_1_0_0_1_n_n none X p5)) ha).trans ?_
  funext x
  idx_vars x
  exact query_at (outW p0 p1 p2 p3 p4) p5 x0 x1

end Cert.Proof.OutProj

end
-- ==== Proof.Residual.lean ====
module

public import proofs.«01_k».proof.Proof.Gen.Kernel4Ideal.Value
public import proofs.«01_k».proof.Proof.LayerNorm
public import Idealize.ShloMosaic.Lib.Pipeline.ValueKit
public import Idealize.ShloMosaic.Lib.StableHlo.RunRead
public import Idealize.ShloMosaic.Lib.Pointwise
public import Idealize.ShloMosaic.Lib.Tactic.CleanTypes

@[expose] public section

set_option maxRecDepth 16384

noncomputable section

/-! # The second residual and layer norm: what the kernel's array holds -/

namespace Cert.Kernel4Ideal.Val

open Idealize.ShloMosaic Idealize.ShloMosaic.TcCoe Idealize.SL.Sem Cert.Kernel4Ideal Cert.Kernel4Ideal.Gen
open Cert.LayerNorm (ln)

/-- The batch entry and the position of a row of the flattened arrays. -/
abbrev bt (i : Fin 8192) : Fin 2 := ⟨i.val / 4096, by omega⟩
abbrev ps (i : Fin 8192) : Fin 4096 := ⟨i.val % 4096, by omega⟩

/-- A block's result: the layer norm of its rows. -/
theorem pay_at (P0 P1 : Vec Ideal S512x2048 .f32) (P2 P3 : Vec Ideal S1x2048 .f32) (r : Fin 512) (j : Fin 2048) :
    (k0_pay1 P0 P1 P2 P3 (ix2 r j) : EReal)
      = ln (fun x => @HAdd.hAdd EReal EReal EReal _ (@HMul.hMul EReal EReal EReal _ (Ideal.ofBits .f32 0x3F9837F0#32) (P0 (ix2 r x))) (P1 (ix2 r x)))
          (fun x => P2 (ix2 0 x)) (fun x => P3 (ix2 0 x)) j := by
  unfold ln Cert.LayerNorm.mean
  pointwise [k0_pay1]

variable (m : (ℓ : Loc nD τ sig) → Buf (Elt Ideal) ℓ) (c : Dev nD)

abbrev a0 : Vec Ideal S2x4096x2048 .f32 := m ((c : Thread nD τ).loc main_arg0)
abbrev a1 : Vec Ideal S2x4096x2048 .f32 := m ((c : Thread nD τ).loc main_arg1)
abbrev a2 : Vec Ideal S2048 .f32 := m ((c : Thread nD τ).loc main_arg2)
abbrev a3 : Vec Ideal S2048 .f32 := m ((c : Thread nD τ).loc main_arg3)

theorem v0_at (i : Fin 8192) (x : Fin 2048) :
    (V m c main_v0 : Vec Ideal S8192x2048 .f32) (ix2 i x) = a0 m c (ix3 (bt i) (ps i) x) := by
  unfold V hostOps0
  after_reads_simp
  clean_types
  pointwise

theorem v1_at (i : Fin 8192) (x : Fin 2048) :
    (V m c main_v1 : Vec Ideal S8192x2048 .f32) (ix2 i x) = a1 m c (ix3 (bt i) (ps i) x) := by
  unfold V hostOps0
  after_reads_simp
  clean_types
  pointwise

theorem v2_at (x : Fin 2048) : (V m c main_v2 : Vec Ideal S1x2048 .f32) (ix2 0 x) = a2 m c (ix1 x) := by
  unfold V hostOps0
  after_reads_simp
  clean_types
  pointwise

theorem v3_at (x : Fin 2048) : (V m c main_v3 : Vec Ideal S1x2048 .f32) (ix2 0 x) = a3 m c (ix1 x) := by
  unfold V hostOps0
  after_reads_simp
  clean_types
  pointwise

theorem idx0 : ∀ t : Fin grid0.N, win0_0.index t = ![t.val, 0] ∧ win0_1.index t = ![t.val, 0] ∧ win0_2.index t = ![0, 0]
    ∧ win0_3.index t = ![0, 0] ∧ win0_4.index t = ![t.val, 0] := by decide +kernel

theorem lt0 (t : Fin cfg0.N) : t.val < 16 := t.isLt

variable (t : Fin cfg0.N)

theorem blk0 (r : Fin 512) (x : Fin 2048) : (iblk m c 0 t : Vec Ideal S512x2048 .f32) (ix2 r x)
    = (V m c main_v0 : Vec Ideal S8192x2048 .f32) (ix2 ⟨512 * t.val + r.val, by have := lt0 t; omega⟩ x) := by
  have e := (idx0 t).1
  have := lt0 t
  blk_ext [iblk, e]

theorem blk1 (r : Fin 512) (x : Fin 2048) : (iblk m c 1 t : Vec Ideal S512x2048 .f32) (ix2 r x)
    = (V m c main_v1 : Vec Ideal S8192x2048 .f32) (ix2 ⟨512 * t.val + r.val, by have := lt0 t; omega⟩ x) := by
  have e := (idx0 t).2.1
  have := lt0 t
  blk_ext [iblk, e]

theorem blk2 (x : Fin 2048) : (iblk m c 2 t : Vec Ideal S1x2048 .f32) (ix2 0 x) = (V m c main_v2 : Vec Ideal S1x2048 .f32) (ix2 0 x) := by
  have e := (idx0 t).2.2.1
  blk_ext [iblk, e]

theorem blk3 (x : Fin 2048) : (iblk m c 3 t : Vec Ideal S1x2048 .f32) (ix2 0 x) = (V m c main_v3 : Vec Ideal S1x2048 .f32) (ix2 0 x) := by
  have e := (idx0 t).2.2.2.1
  blk_ext [iblk, e]

theorem emb_at (r : Fin 512) (x : Fin 2048) :
    ((View.whole main_v4).slice (win0_4.rect t)).emb (ix2 r x)
      = ix2 (⟨512 * t.val + r.val, by have := lt0 t; omega⟩ : Fin 8192) x := by
  have e := (idx0 t).2.2.2.2
  have := lt0 t
  blk_ext [e]

/-- The layer norm of the scaled first argument plus the second, row by row. -/
def out (u v : Vec Ideal S2x4096x2048 .f32) (g b : Vec Ideal S2048 .f32) : Vec Ideal S8192x2048 .f32 := fun i =>
  ln (fun x => @HAdd.hAdd EReal EReal EReal _ (@HMul.hMul EReal EReal EReal _ (Ideal.ofBits .f32 0x3F9837F0#32)
      (u (ix3 (bt (i 0)) (ps (i 0)) x))) (v (ix3 (bt (i 0)) (ps (i 0)) x)))
    (fun x => g (ix1 x)) (fun x => b (ix1 x)) (i 1)

theorem result : (dats m 0 c).arrAt 4 cfg0.N = out (a0 m c) (a1 m c) (a2 m c) (a3 m c) := by
  refine (dats m 0 c).arrAt_eq_of_covers 4 _ (by decide +kernel) fun t hf y => ?_
  blk_simp
  rw [after0_4]
  idx_vars y
  refine Eq.trans ?_ (congrArg (out (a0 m c) (a1 m c) (a2 m c) (a3 m c)) (emb_at t y0 y1)).symm
  rw [out0_4, View.canon_cons_unit_lit _ _ _ (by decide), View.ld_unit_lit _ _ (by decide), View.ld_unit_lit _ _ (by decide),
    View.ld_unit_lit _ _ (by decide), View.ld_unit_lit _ _ (by decide)]
  refine (pay_at _ _ _ _ y0 y1).trans ?_
  refine Cert.LayerNorm.ln_ext (fun x => ?_) (fun x => (blk2 m c t x).trans (v2_at m c x)) (fun x => (blk3 m c t x).trans (v3_at m c x)) y1
  exact congrArg₂ (fun a b : EReal => Ideal.ofBits .f32 0x3F9837F0#32 * a + b) ((blk0 m c t y0 x).trans (v0_at m c _ x)) ((blk1 m c t y0 x).trans (v1_at m c _ x))

/-- After the kernel's run the result array is the layer norm of its arguments, which are as before. -/
theorem run (ρ : Dev nD → PrngReg) : θ_run defs (onTc (τ := τ) (main (F := Ideal))) ⟨m, fun _ => 0, ρ⟩ fun r => ∀ c : Dev nD,
      r.2.mem ((c : Thread nD τ).loc main_v4) = out (a0 m c) (a1 m c) (a2 m c) (a3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result m c), (h c).2⟩) (Value.run_blocks m ρ)

end Cert.Kernel4Ideal.Val

end
-- ==== Proof.ResidualRef.lean ====
module

public import proofs.«01_k».proof.Defs
public import proofs.«01_k».proof.Proof.Residual
public import proofs.«01_k».proof.Proof.Gen.Reference4Ideal.Run

@[expose] public section

set_option maxRecDepth 16384

noncomputable section

/-! # The second residual and layer norm: the kernel computes the reference -/

namespace Cert.Proof.Residual

open Idealize.ShloMosaic Idealize.ShloMosaic.TcCoe Idealize.SL.Sem Cert.Reference4Ideal Cert.Reference4Ideal.Gen
open Cert.LayerNorm (ln)

theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨_, Cert.Kernel4Ideal.Val.run m ρ, ?_⟩
  refine (θ_run Cert.Reference4Ideal.defs _ _).mono (fun _ h c => ⟨(h c).1.trans ?_, (h c).2⟩) (Cert.Reference4Ideal.Value.run (F := Ideal) m' ρ')
  obtain ⟨e0, e1, e2, e3⟩ := hagree c
  rw [e0, e1, e2, e3]
  funext x
  idx_vars x
  unfold Cert.Kernel4Ideal.Val.out ln Cert.LayerNorm.mean
  clean_types
  pointwise

end Cert.Proof.Residual

end
-- ==== Proof.InProjBody.lean ====
/- The frame of the input projection over the idealized program: what the body leaves in the three outputs'
   buffers, its two cases (the first column block of a row block, which also writes the gate columns and the
   cast copy of the rows, and the other three, which leave those two buffers alone), and the run. -/
module

public import proofs.«01_k».proof.Proof.Gen.Kernel5Ideal.Skeleton
public import proofs.«01_k».proof.Proof.Gen.Kernel5Ideal.Frame
public import Idealize.ShloMosaic.Lib.Claim

@[expose] public section

set_option maxRecDepth 16384

noncomputable section

namespace Cert.Kernel5Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of rows, the block of the wide product, the block of the gate product, whole. -/
abbrev rX : Rect S512x2048 := Rect.unit (s := S512x2048) ![0, 0] S512x2048.size inb_S512x2048_S512x2048_0_0
abbrev rW : Rect S1664x2048 := Rect.unit (s := S1664x2048) ![0, 0] S1664x2048.size inb_S1664x2048_S1664x2048_0_0
abbrev rG : Rect S128x2048 := Rect.unit (s := S128x2048) ![0, 0] S128x2048.size inb_S128x2048_S128x2048_0_0
abbrev rA : Rect S512x1664 := Rect.unit (s := S512x1664) ![0, 0] S512x1664.size inb_S512x1664_S512x1664_0_0
abbrev rO : Rect S512x128 := Rect.unit (s := S512x128) ![0, 0] S512x128.size inb_S512x128_S512x128_0_0

/-- What the body stores into each output's buffer. -/
def outA (x0 : Vec F S512x2048 .f32) (x1 : Vec F S1664x2048 .bf16) : Vec F S512x1664 .bf16 :=
  View.canon [⟨rA, k0_pay2 (View.ld x0 rX) (View.ld x1 rW)⟩]
def outG (x0 : Vec F S512x2048 .f32) (x2 : Vec F S128x2048 .bf16) : Vec F S512x128 .f32 :=
  View.canon [⟨rO, k0_pay3 (View.ld x0 rX) (View.ld x2 rG)⟩]
def outX (x0 : Vec F S512x2048 .f32) : Vec F S512x2048 .bf16 :=
  View.canon [⟨rX, k0_pay1 (View.ld x0 rX)⟩]

theorem coverA (p : Vec F S512x1664 .bf16) (y : S512x1664.Idx) :
    ∃ pc ∈ ([⟨rA, p⟩] : List (View.Piece (Elt F) S512x1664 .bf16)), y ∈ pc.1.set :=
  View.cover_of_tiled [⟨rA, p⟩] S512x1664.size (by rfl) y
theorem coverG (p : Vec F S512x128 .f32) (y : S512x128.Idx) :
    ∃ pc ∈ ([⟨rO, p⟩] : List (View.Piece (Elt F) S512x128 .f32)), y ∈ pc.1.set :=
  View.cover_of_tiled [⟨rO, p⟩] S512x128.size (by rfl) y
theorem coverX (p : Vec F S512x2048 .bf16) (y : S512x2048.Idx) :
    ∃ pc ∈ ([⟨rX, p⟩] : List (View.Piece (Elt F) S512x2048 .bf16)), y ∈ pc.1.set :=
  View.cover_of_tiled [⟨rX, p⟩] S512x2048.size (by rfl) y

/-- The branch is taken at the first column block of a row block. -/
theorem hcond : ∀ t : Fin cfg0.N, k0_cond1 (grid0.coords t) = 1#1 ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

set_option maxHeartbeats 1000000 in
/-- The body where the branch is taken: all three outputs are stored. -/
theorem runA (c : Dev nD) (E : Set ℕ) (i : grid0.Coords)
    (a2 : Memref sig .tc .vmem S512x2048 .f32) (h2 : a2.IsWhole) (a3 : Memref sig .tc .vmem S1664x2048 .bf16) (h3 : a3.IsWhole)
    (a4 : Memref sig .tc .vmem S128x2048 .bf16) (h4 : a4.IsWhole) (a5 : Memref sig .tc .vmem S512x1664 .bf16) (h5 : a5.IsWhole)
    (a6 : Memref sig .tc .vmem S512x128 .f32) (h6 : a6.IsWhole) (a7 : Memref sig .tc .vmem S512x2048 .bf16) (h7 : a7.IsWhole)
    (hc : k0_cond1 i = 1#1)
    (x0 : Vec F S512x2048 .f32) (x1 : Vec F S1664x2048 .bf16) (x2 : Vec F S128x2048 .bf16) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ (∃ d, owns (c : Thread nD τ) a6 fullShare d) ∗ (∃ d, owns (c : Thread nD τ) a7 fullShare d)
        ∗ (iprop(owns (c : Thread nD τ) a2 fullShare x0 ∗ owns (c : Thread nD τ) a3 fullShare x1 ∗ owns (c : Thread nD τ) a4 fullShare x2
            ∗ owns (c : Thread nD τ) a5 fullShare (outA x0 x1) ∗ owns (c : Thread nD τ) a6 fullShare (outG x0 x2) ∗ owns (c : Thread nD τ) a7 fullShare (outX x0)) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (coverA _)).trans rfl
  isplitl [H4]
  · iexists _; isplitr
    swap; · iexact H4
    ipureintro
    exact (View.read_writes_eq_canon _ _ _ (coverG _)).trans rfl
  iexists _; isplitr
  swap; · iexact H5
  ipureintro
  exact (View.read_writes_eq_canon _ _ _ (coverX _)).trans rfl

set_option maxHeartbeats 1000000 in
/-- The body where it is not: only the wide product is stored. -/
theorem runB (c : Dev nD) (E : Set ℕ) (i : grid0.Coords)
    (a2 : Memref sig .tc .vmem S512x2048 .f32) (h2 : a2.IsWhole) (a3 : Memref sig .tc .vmem S1664x2048 .bf16) (h3 : a3.IsWhole)
    (a4 : Memref sig .tc .vmem S128x2048 .bf16) (h4 : a4.IsWhole) (a5 : Memref sig .tc .vmem S512x1664 .bf16) (h5 : a5.IsWhole)
    (a6 : Memref sig .tc .vmem S512x128 .f32) (h6 : a6.IsWhole) (a7 : Memref sig .tc .vmem S512x2048 .bf16) (h7 : a7.IsWhole)
    (hc : ¬k0_cond1 i = 1#1)
    (x0 : Vec F S512x2048 .f32) (x1 : Vec F S1664x2048 .bf16) (K : PUnit → sProp 𝕄) :
    iprop(owns (c : Thread nD τ) a2 fullShare x0 ∗ owns (c : Thread nD τ) a3 fullShare x1
        ∗ (∃ d, owns (c : Thread nD τ) a5 fullShare d)
        ∗ (iprop(owns (c : Thread nD τ) a2 fullShare x0 ∗ owns (c : Thread nD τ) a3 fullShare x1
            ∗ owns (c : Thread nD τ) a5 fullShare (outA x0 x1)) -∗ K ⟨⟩))
      ⊢ wp frame (wpE (defs₀ (F := F)) Variants.none c none) E (cc0_in_proj i a2 h2 a3 h3 a4 h4 a5 h5 a6 h6 a7 h7) K := by
  simp only [cc0_in_proj_eq_skeleton]; unfold cc0_in_proj_skel
  unfold owns
  iintro ⟨⟨%f0, %hf0, H0⟩, ⟨%f1, %hf1, H1⟩, ⟨%d3, %f3, -, H3⟩, Hk⟩
  subst hf0 hf1
  sl_exec (disch := first | sl_exact hc)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  exact (View.read_writes_eq_canon _ _ _ (coverA _)).trans rfl

/-- The proof data: each output's buffer holds, after every point, what the body makes of the point's blocks; for
    the two outputs stored once per row block that is the same at the row block's four points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outA (iblk m c 0 t) (iblk m c 1 t)
    | ⟨4, _⟩ => outG (iblk m c 0 t) (iblk m c 2 t)
    | ⟨5, _⟩ => outX (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outA (iblk m c 0 t) (iblk m c 1 t) := by dsimp only [dats]
theorem after0_4 (c : Dev nD) (t : Fin cfg0.N) : (dats m 0 c).after 4 t = outG (iblk m c 0 t) (iblk m c 2 t) := by dsimp only [dats]
theorem after0_5 (c : Dev nD) (t : Fin cfg0.N) : (dats m 0 c).after 5 t = outX (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The point before `t`. -/
abbrev prev (t : Fin cfg0.N) : Fin cfg0.N := ⟨t.val - 1, Nat.lt_of_le_of_lt (Nat.sub_le _ _) t.isLt⟩

/-- Where an input is not fetched its block is the one of the point before. -/
theorem iblk0_prev (c : Dev nD) (t : Fin cfg0.N) (h : t.val % 4 ≠ 0) : iblk m c 0 t = iblk m c 0 (prev t) := by
  have hf : (cfg0.win 0).fetch t = false := by
    rw [Bool.eq_false_iff]; exact fun e => h ((fetch0_0 t).mp e)
  have hb := (dats m 0 c).before_of_pos 0 t (by rintro e; rw [e] at h; exact h rfl) hf (fun _ => Classical.arbitrary _)
  rw [before0_0, (cfg0.win 0).flush_in rfl, if_neg Bool.false_ne_true] at hb
  exact hb.trans (after0_0 m c (prev t))
theorem iblk2_prev (c : Dev nD) (t : Fin cfg0.N) (h : t.val % 4 ≠ 0) : iblk m c 2 t = iblk m c 2 (prev t) := by
  have hf : (cfg0.win 2).fetch t = false := by
    rw [Bool.eq_false_iff]; exact fun e => by have := (fetch0_2 t).mp e; omega
  have hb := (dats m 0 c).before_of_pos 2 t (by rintro e; rw [e] at h; exact h rfl) hf (fun _ => Classical.arbitrary _)
  rw [before0_2, (cfg0.win 2).flush_in rfl, if_neg Bool.false_ne_true] at hb
  exact hb.trans (after0_2 m c (prev t))

theorem after4_prev (c : Dev nD) (t : Fin cfg0.N) (h : t.val % 4 ≠ 0) : (dats m 0 c).after 4 (prev t) = (dats m 0 c).after 4 t := by
  rw [after0_4, after0_4, iblk0_prev m c t h, iblk2_prev m c t h]
theorem after5_prev (c : Dev nD) (t : Fin cfg0.N) (h : t.val % 4 ≠ 0) : (dats m 0 c).after 5 (prev t) = (dats m 0 c).after 5 t := by
  rw [after0_5, after0_5, iblk0_prev m c t h]

/-- Where the branch is not taken the two buffers hold what the row block's first point stored. -/
theorem held4 (c : Dev nD) : ∀ (n : ℕ) (hn : n < cfg0.N) (h : n % 4 ≠ 0) (d), (dats m 0 c).before 4 ⟨n, hn⟩ d = (dats m 0 c).after 4 ⟨n, hn⟩ := by
  intro n
  induction n with
  | zero => exact fun _ h => absurd rfl h
  | succ k ih =>
    intro hn h d
    have hfl : (cfg0.win 4).flush (prev ⟨k + 1, hn⟩) = false := by
      rw [Bool.eq_false_iff]; exact fun e => by have := (flush0_4 _).mp e; dsimp only [prev] at this; omega
    rw [(dats m 0 c).before_of_pos 4 ⟨k + 1, hn⟩ (Nat.succ_ne_zero k) ((cfg0.win 4).fetch_out rfl _), hfl, if_neg Bool.false_ne_true,
      ← after4_prev m c ⟨k + 1, hn⟩ h]
    have hk : k < cfg0.N := Nat.lt_of_succ_lt hn
    by_cases h0 : k % 4 = 0
    · have hi : cfg0.idle 4 (grid0.coords ⟨k, hk⟩) = false := by
        show (!(k0_cond1 (grid0.coords ⟨k, hk⟩) == 1#1)) = false
        rw [(hcond ⟨k, hk⟩).mpr h0]; rfl
      show (dats m 0 c).left 4 ⟨k, hk⟩ d = _
      unfold Dat.left
      rw [show cfg0.idle 4 (cfg0.grid.coords ⟨k, hk⟩) = false from hi]
      rfl
    · have hi : cfg0.idle 4 (grid0.coords ⟨k, hk⟩) = true := by
        show (!(k0_cond1 (grid0.coords ⟨k, hk⟩) == 1#1)) = true
        rw [beq_false_of_ne (fun e => h0 ((hcond ⟨k, hk⟩).mp e))]; rfl
      show (dats m 0 c).left 4 ⟨k, hk⟩ d = _
      unfold Dat.left
      rw [show cfg0.idle 4 (cfg0.grid.coords ⟨k, hk⟩) = true from hi]
      exact ih hk h0 d
theorem held5 (c : Dev nD) : ∀ (n : ℕ) (hn : n < cfg0.N) (h : n % 4 ≠ 0) (d), (dats m 0 c).before 5 ⟨n, hn⟩ d = (dats m 0 c).after 5 ⟨n, hn⟩ := by
  intro n
  induction n with
  | zero => exact fun _ h => absurd rfl h
  | succ k ih =>
    intro hn h d
    have hfl : (cfg0.win 5).flush (prev ⟨k + 1, hn⟩) = false := by
      rw [Bool.eq_false_iff]; exact fun e => by have := (flush0_5 _).mp e; dsimp only [prev] at this; omega
    rw [(dats m 0 c).before_of_pos 5 ⟨k + 1, hn⟩ (Nat.succ_ne_zero k) ((cfg0.win 5).fetch_out rfl _), hfl, if_neg Bool.false_ne_true,
      ← after5_prev m c ⟨k + 1, hn⟩ h]
    have hk : k < cfg0.N := Nat.lt_of_succ_lt hn
    by_cases h0 : k % 4 = 0
    · have hi : cfg0.idle 5 (grid0.coords ⟨k, hk⟩) = false := by
        show (!(k0_cond1 (grid0.coords ⟨k, hk⟩) == 1#1)) = false
        rw [(hcond ⟨k, hk⟩).mpr h0]; rfl
      show (dats m 0 c).left 5 ⟨k, hk⟩ d = _
      unfold Dat.left
      rw [show cfg0.idle 5 (cfg0.grid.coords ⟨k, hk⟩) = false from hi]
      rfl
    · have hi : cfg0.idle 5 (grid0.coords ⟨k, hk⟩) = true := by
        show (!(k0_cond1 (grid0.coords ⟨k, hk⟩) == 1#1)) = true
        rw [beq_false_of_ne (fun e => h0 ((hcond ⟨k, hk⟩).mp e))]; rfl
      show (dats m 0 c).left 5 ⟨k, hk⟩ d = _
      unfold Dat.left
      rw [show cfg0.idle 5 (cfg0.grid.coords ⟨k, hk⟩) = true from hi]
      exact ih hk h0 d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  by_cases h0 : t.val % 4 = 0
  · rw [show (dats m 0 c).Φ t.succ = (dats m 0 c).Φ t.castSucc from rfl,
      show (dats m 0 c).owesAt () t.succ = (dats m 0 c).owesAt () t.castSucc from rfl,
      after0_0, after0_1, after0_2, after0_3, after0_4, after0_5]
    iintro ⟨HΦ, Ho, ⟨%d0, H0⟩, ⟨%d1, H1⟩, ⟨%d2, H2⟩, ⟨%d3, H3⟩, ⟨%d4, H4⟩, ⟨%d5, H5⟩⟩
    iapply (runA c Set.univ (grid0.coords t) _ _ _ _ _ _ _ _ _ _ _ _ ((hcond t).mpr h0) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have e4 := held4 m c t.val t.isLt h0
    have e5 := held5 m c t.val t.isLt h0
    simp only [Fin.eta] at e4 e5
    simp only [e4, e5]
    rw [show (dats m 0 c).Φ t.succ = (dats m 0 c).Φ t.castSucc from rfl,
      show (dats m 0 c).owesAt () t.succ = (dats m 0 c).owesAt () t.castSucc from rfl,
      after0_0, after0_1, after0_2, after0_3]
    iintro ⟨HΦ, Ho, ⟨%d0, H0⟩, ⟨%d1, H1⟩, ⟨%d2, H2⟩, ⟨%d3, H3⟩, ⟨%d4, H4⟩, ⟨%d5, H5⟩⟩
    iapply (runB c Set.univ (grid0.coords t) _ _ _ _ _ _ _ _ _ _ _ _ (fun e => h0 ((hcond t).mp e)) (iblk m c 0 t) (iblk m c 1 t) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- What a point hands back of one of the two outputs: where it stores nothing and nothing is written back, what it
    found, which is what it would have left. -/
theorem leave4 (c : Dev nD) (t : Fin cfg0.N) :
    owns (c : Thread nD τ) (st0_4 t) fullShare ((dats m 0 c).after 4 t) ⊢
      (match cfg0.idle 4 (cfg0.grid.coords t) with
        | true => match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t) : sProp 𝕄) := by
  have key : t.val % 4 ≠ 0 → owns (c : Thread nD τ) (st0_4 t) fullShare ((dats m 0 c).after 4 t) ⊢
      (iprop(∃ d, owns (c : Thread nD τ) (st0_4 t) fullShare ((dats m 0 c).before 4 t d)) : sProp 𝕄) := fun h => by
    have e := held4 m c t.val t.isLt h
    simp only [Fin.eta] at e
    simp only [e]
    iintro H; iexists (fun _ => Classical.arbitrary _); iexact H
  cases hi : cfg0.idle 4 (cfg0.grid.coords t) with
  | false => exact .rfl
  | true =>
    cases hf : (cfg0.win 4).flush t with
    | true => exact .rfl
    | false =>
      refine key fun h0 => ?_
      have hi' : (!(k0_cond1 (grid0.coords t) == 1#1)) = true := hi
      rw [(hcond t).mpr h0] at hi'
      exact absurd hi' (by decide)
theorem leave5 (c : Dev nD) (t : Fin cfg0.N) :
    owns (c : Thread nD τ) (st0_5 t) fullShare ((dats m 0 c).after 5 t) ⊢
      (match cfg0.idle 5 (cfg0.grid.coords t) with
        | true => match (cfg0.win 5).flush t with
          | false => iprop(∃ d, owns (c : Thread nD τ) (st0_5 t) fullShare ((dats m 0 c).before 5 t d))
          | true => owns (c : Thread nD τ) (st0_5 t) fullShare ((dats m 0 c).after 5 t)
        | false => owns (c : Thread nD τ) (st0_5 t) fullShare ((dats m 0 c).after 5 t) : sProp 𝕄) := by
  have key : t.val % 4 ≠ 0 → owns (c : Thread nD τ) (st0_5 t) fullShare ((dats m 0 c).after 5 t) ⊢
      (iprop(∃ d, owns (c : Thread nD τ) (st0_5 t) fullShare ((dats m 0 c).before 5 t d)) : sProp 𝕄) := fun h => by
    have e := held5 m c t.val t.isLt h
    simp only [Fin.eta] at e
    simp only [e]
    iintro H; iexists (fun _ => Classical.arbitrary _); iexact H
  cases hi : cfg0.idle 5 (cfg0.grid.coords t) with
  | false => exact .rfl
  | true =>
    cases hf : (cfg0.win 5).flush t with
    | true => exact .rfl
    | false =>
      refine key fun h0 => ?_
      have hi' : (!(k0_cond1 (grid0.coords t) == 1#1)) = true := hi
      rw [(hcond t).mpr h0] at hi'
      exact absurd hi' (by decide)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iapply (leave4 m c t); iexact H4
  iapply (leave5 m c t); iexact H5

set_option backward.isDefEq.respectTransparency.types false in
set_option maxHeartbeats 800000 in
/-- The run, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the program ends without fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel5Ideal.Body

end
-- ==== Proof.InProj.lean ====
module

public import proofs.«01_k».proof.Proof.InProjBody
public import proofs.«01_k».proof.Proof.Bucket
public import Idealize.ShloMosaic.Lib.Pipeline.ValueKit
public import Idealize.ShloMosaic.Lib.StableHlo.RunRead
public import Idealize.ShloMosaic.Lib.Pointwise
public import Idealize.ShloMosaic.Lib.Tactic.CleanTypes

@[expose] public section

set_option maxRecDepth 16384

noncomputable section

/-! # The input projection: what the kernel's three arrays hold -/

namespace Cert.InProj

open Idealize.ShloMosaic

/-- The scales of the two kinds of query columns. -/
abbrev cM : EReal := Ideal.div (Ideal.ofBits .f32 0x3D800000#32) (Ideal.log (Ideal.ofBits .f32 0x40000000#32))
abbrev cA : EReal := Ideal.div (Ideal.ofBits .f32 0x3E000000#32) (Ideal.log (Ideal.ofBits .f32 0x40000000#32))

theorem lit_mem : Ideal.ofBits .f32 0x3D800000#32 = ((1 / 16 : ℝ) : EReal) := by
  simp [Ideal.ofBits, Ideal.ieee]
  norm_num [← EReal.coe_mul]

theorem cM_eq : cM = ((1 / 16 * (Real.log 2)⁻¹ : ℝ) : EReal) := by
  have h : Real.log 2 ≠ 0 := (Real.log_pos (by norm_num)).ne'
  unfold cM
  rw [lit_mem, Cert.Bucket.lit_two, Ideal.log_coe, if_neg (by norm_num), Ideal.div_coe h, ← EReal.coe_mul, one_div (Real.log 2)]

theorem cA_eq : cA = ((1 / 8 * (Real.log 2)⁻¹ : ℝ) : EReal) := by
  have h : Real.log 2 ≠ 0 := (Real.log_pos (by norm_num)).ne'
  unfold cA
  rw [Cert.Bucket.lit_eighth, Cert.Bucket.lit_two, Ideal.log_coe, if_neg (by norm_num), Ideal.div_coe h, ← EReal.coe_mul, one_div (Real.log 2)]

/-- Column `q` of the first result, of the columns `f` of the plain product: some columns scaled, all in another order. -/
def sel (f : Fin 12848 → EReal) (q : Fin 6656) : EReal :=
  if h : q.val < 1024 then f ⟨5680 + q.val, by omega⟩ * cM
  else if h : q.val - 1024 < 1024 then f ⟨q.val - 1024, by omega⟩ * cA
  else if h : q.val - 1024 - 1024 < 2048 then f ⟨1024 + (q.val - 1024 - 1024), by omega⟩
  else if h : q.val - 1024 - 1024 - 2048 < 1024 then f ⟨3072 + (q.val - 1024 - 1024 - 2048), by omega⟩ * cA
  else f ⟨4096 + ((q.val - 1024 - 1024 - 2048 - 1024) / 512 * 512 + (q.val - 1024 - 1024 - 2048 - 1024) / 64 % 2 * 256
    + (q.val - 1024 - 1024 - 2048 - 1024) / 128 % 4 * 64 + (q.val - 1024 - 1024 - 2048 - 1024) % 64), by omega⟩

/-- Column `q` of the second result: the gate columns, then zeros. -/
def gat (f : Fin 12848 → EReal) (q : Fin 128) : EReal := if h : q.val < 48 then f ⟨5632 + q.val, by omega⟩ else 0

theorem sum_scale (r : ℝ) (hr : 0 ≤ r) (u v : Fin 2048 → EReal) :
    ∑ k : Fin 2048, u k * (v k * (r : EReal)) = (∑ k : Fin 2048, u k * v k) * (r : EReal) := by
  have step : ∀ s : Finset (Fin 2048), ∑ k ∈ s, u k * (v k * (r : EReal)) = (∑ k ∈ s, u k * v k) * (r : EReal) := fun s => by
    induction s using Finset.induction_on with
    | empty => rw [Finset.sum_empty, Finset.sum_empty, zero_mul]
    | insert a s ha ih =>
      rw [Finset.sum_insert ha, Finset.sum_insert ha, ih,
        EReal.right_distrib_of_nonneg_of_ne_top (EReal.coe_nonneg.2 hr) (EReal.coe_ne_top r), mul_assoc]
  exact step Finset.univ

theorem nn (a : ℝ) (ha : 0 ≤ a) : 0 ≤ a * (Real.log 2)⁻¹ := mul_nonneg ha (inv_nonneg.2 (Real.log_pos (by norm_num)).le)

/-- Scaling and ordering the columns of the weights scales and orders the columns of the product. -/
theorem sum_sel (u : Fin 2048 → EReal) (w : Fin 2048 → Fin 12848 → EReal) (q : Fin 6656) :
    ∑ k : Fin 2048, u k * sel (w k) q = sel (fun j => ∑ k : Fin 2048, u k * w k j) q := by
  unfold sel
  by_cases h0 : q.val < 1024
  · simp only [dif_pos h0]
    rw [cM_eq]
    exact sum_scale _ (nn _ (by norm_num)) _ _
  simp only [dif_neg h0]
  by_cases h1 : q.val - 1024 < 1024
  · simp only [dif_pos h1]
    rw [cA_eq]
    exact sum_scale _ (nn _ (by norm_num)) _ _
  simp only [dif_neg h1]
  by_cases h2 : q.val - 1024 - 1024 < 2048
  · simp only [dif_pos h2]
  simp only [dif_neg h2]
  by_cases h3 : q.val - 1024 - 1024 - 2048 < 1024
  · simp only [dif_pos h3]
    rw [cA_eq]
    exact sum_scale _ (nn _ (by norm_num)) _ _
  simp only [dif_neg h3]

theorem sum_gat (u : Fin 2048 → EReal) (w : Fin 2048 → Fin 12848 → EReal) (q : Fin 128) :
    ∑ k : Fin 2048, u k * gat (w k) q = gat (fun j => ∑ k : Fin 2048, u k * w k j) q := by
  unfold gat
  by_cases h0 : q.val < 48
  · simp only [dif_pos h0]
  · simp only [dif_neg h0, mul_zero, Finset.sum_const_zero]

end Cert.InProj

namespace Cert.Kernel5Ideal.Val

open Idealize.ShloMosaic Idealize.ShloMosaic.TcCoe Idealize.SL.Sem Cert.Kernel5Ideal Cert.Kernel5Ideal.Gen Cert.Kernel5Ideal.Body
open Cert.InProj (sel gat sum_sel sum_gat)

/-- The batch entry and the position of a row of the flattened arrays. -/
abbrev bt (i : Fin 8192) : Fin 2 := ⟨i.val / 4096, by omega⟩
abbrev ps (i : Fin 8192) : Fin 4096 := ⟨i.val % 4096, by omega⟩

variable (m : (ℓ : Loc nD τ sig) → Buf (Elt Ideal) ℓ) (c : Dev nD)

abbrev a0 : Vec Ideal S2x4096x2048 .f32 := m ((c : Thread nD τ).loc main_arg0)
abbrev a1 : Vec Ideal S2048x12848 .f32 := m ((c : Thread nD τ).loc main_arg1)

theorem regroup_at (A : Vec Ideal S1536x2048 .f32) (r : Fin 1536) (x : Fin 2048) :
    (shapeCast S1536x2048 (transpose S3x4x2x64x2048 [0, 2, 1, 3, 4]
                (shapeCast S3x2x4x64x2048 A shapeCasts_S1536x2048_S3x2x4x64x2048)
                transposes_S3x2x4x64x2048_S3x4x2x64x2048_0_2_1_3_4)
              shapeCasts_S3x4x2x64x2048_S1536x2048 (ix2 r x)) = (A (ix2 ⟨r.val / 512 * 512 + r.val / 64 % 2 * 256 + r.val / 128 % 4 * 64 + r.val % 64, by omega⟩ x) : EReal) := by
  clean_types
  set_option maxRecDepth 200000 in pointwise

theorem v20_at (q : Fin 6656) (x : Fin 2048) :
    (V m c main_v20 : Vec Ideal S6656x2048 .bf16) (ix2 q x) = sel (fun j => a1 m c (ix2 x j)) q := by
  unfold V hostOps0
  after_reads_simp
  clean_types
  pointwise
  set_option maxRecDepth 100000 in after_reads_simp
  clean_types
  unfold sel
  by_cases h0 : q.val < 1024
  · rw [dif_pos h0, dif_pos h0]
    pointwise
  rw [dif_neg h0, dif_neg h0]
  by_cases h1 : q.val - 1024 < 1024
  · rw [dif_pos h1, dif_pos h1]
    pointwise
  rw [dif_neg h1, dif_neg h1]
  by_cases h2 : q.val - 1024 - 1024 < 2048
  · rw [dif_pos h2, dif_pos h2]
    pointwise
  rw [dif_neg h2, dif_neg h2]
  by_cases h3 : q.val - 1024 - 1024 - 2048 < 1024
  · rw [dif_pos h3, dif_pos h3]
    pointwise
  rw [dif_neg h3, dif_neg h3]
  refine (regroup_at _ _ _).trans ?_
  pointwise

theorem v24_at (q : Fin 128) (x : Fin 2048) :
    (V m c main_v24 : Vec Ideal S128x2048 .bf16) (ix2 q x) = gat (fun j => a1 m c (ix2 x j)) q := by
  unfold gat
  unfold V hostOps0
  after_reads_simp
  clean_types
  pointwise
  after_reads_simp
  clean_types
  pointwise

theorem v25_at (i : Fin 8192) (x : Fin 2048) :
    (V m c main_v25 : Vec Ideal S8192x2048 .f32) (ix2 i x) = a0 m c (ix3 (bt i) (ps i) x) := by
  unfold V hostOps0
  after_reads_simp
  clean_types
  pointwise

theorem idx0 : ∀ t : Fin grid0.N, win0_0.index t = ![t.val / 4, 0] ∧ win0_1.index t = ![t.val % 4, 0] ∧ win0_2.index t = ![0, 0]
    ∧ win0_3.index t = ![t.val / 4, t.val % 4] ∧ win0_4.index t = ![t.val / 4, 0] ∧ win0_5.index t = ![t.val / 4, 0] := by decide +kernel

theorem lt0 (t : Fin cfg0.N) : t.val < 64 := t.isLt

theorem pay1_at (X : Vec Ideal S512x2048 .f32) (r : Fin 512) (x : Fin 2048) :
    ((k0_pay1 X : Vec Ideal S512x2048 .bf16) (ix2 r x) : EReal) = X (ix2 r x) := by pointwise [k0_pay1]

theorem pay2_at (X : Vec Ideal S512x2048 .f32) (W : Vec Ideal S1664x2048 .bf16) (r : Fin 512) (x : Fin 1664) :
    (k0_pay2 X W (ix2 r x) : EReal) = ∑ k : Fin 2048, @HMul.hMul EReal EReal EReal _ (X (ix2 r k)) (W (ix2 x k)) := by
  pointwise [k0_pay2, k0_pay1]

theorem pay3_at (X : Vec Ideal S512x2048 .f32) (W : Vec Ideal S128x2048 .bf16) (r : Fin 512) (x : Fin 128) :
    (k0_pay3 X W (ix2 r x) : EReal) = ∑ k : Fin 2048, @HMul.hMul EReal EReal EReal _ (X (ix2 r k)) (W (ix2 x k)) := by
  pointwise [k0_pay3, k0_pay1]

/-- The plain product. -/
def Y (X : Vec Ideal S2x4096x2048 .f32) (W : Vec Ideal S2048x12848 .f32) (i : Fin 8192) (j : Fin 12848) : EReal :=
  ∑ k : Fin 2048, @HMul.hMul EReal EReal EReal _ (X (ix3 (bt i) (ps i) k)) (W (ix2 k j))

/-- The three results. -/
def res0 (X : Vec Ideal S2x4096x2048 .f32) (W : Vec Ideal S2048x12848 .f32) : Vec Ideal S8192x6656 .bf16 := fun i => sel (Y X W (i 0)) (i 1)
def res1 (X : Vec Ideal S2x4096x2048 .f32) (W : Vec Ideal S2048x12848 .f32) : Vec Ideal S8192x128 .f32 := fun i => gat (Y X W (i 0)) (i 1)
def res2 (X : Vec Ideal S2x4096x2048 .f32) : Vec Ideal S8192x2048 .bf16 := fun i => X (ix3 (bt (i 0)) (ps (i 0)) (i 1))

variable (t : Fin cfg0.N)

theorem blk0 (r : Fin 512) (x : Fin 2048) : (iblk m c 0 t : Vec Ideal S512x2048 .f32) (ix2 r x)
    = (V m c main_v25 : Vec Ideal S8192x2048 .f32) (ix2 ⟨512 * (t.val / 4) + r.val, by have := lt0 t; omega⟩ x) := by
  have e := (idx0 t).1
  have := lt0 t
  blk_ext [iblk, e]

theorem blk1 (r : Fin 1664) (x : Fin 2048) : (iblk m c 1 t : Vec Ideal S1664x2048 .bf16) (ix2 r x)
    = (V m c main_v20 : Vec Ideal S6656x2048 .bf16) (ix2 ⟨1664 * (t.val % 4) + r.val, by have := lt0 t; omega⟩ x) := by
  have e := (idx0 t).2.1
  have := lt0 t
  blk_ext [iblk, e]

theorem blk2 (r : Fin 128) (x : Fin 2048) : (iblk m c 2 t : Vec Ideal S128x2048 .bf16) (ix2 r x)
    = (V m c main_v24 : Vec Ideal S128x2048 .bf16) (ix2 r x) := by
  have e := (idx0 t).2.2.1
  blk_ext [iblk, e]

theorem emb3 (r : Fin 512) (x : Fin 1664) : ((View.whole main_v26_0).slice (win0_3.rect t)).emb (ix2 r x)
    = ix2 (⟨512 * (t.val / 4) + r.val, by have := lt0 t; omega⟩ : Fin 8192) (⟨1664 * (t.val % 4) + x.val, by have := lt0 t; omega⟩ : Fin 6656) := by
  have e := (idx0 t).2.2.2.1
  have := lt0 t
  blk_ext [e]

theorem emb4 (r : Fin 512) (x : Fin 128) : ((View.whole main_v26_1).slice (win0_4.rect t)).emb (ix2 r x)
    = ix2 (⟨512 * (t.val / 4) + r.val, by have := lt0 t; omega⟩ : Fin 8192) x := by
  have e := (idx0 t).2.2.2.2.1
  have := lt0 t
  blk_ext [e]

theorem emb5 (r : Fin 512) (x : Fin 2048) : ((View.whole main_v26_2).slice (win0_5.rect t)).emb (ix2 r x)
    = ix2 (⟨512 * (t.val / 4) + r.val, by have := lt0 t; omega⟩ : Fin 8192) x := by
  have e := (idx0 t).2.2.2.2.2
  have := lt0 t
  blk_ext [e]

theorem result0 : (dats m 0 c).arrAt 3 cfg0.N = res0 (a0 m c) (a1 m c) := by
  refine (dats m 0 c).arrAt_eq_of_covers 3 _ (by decide +kernel) fun t hf y => ?_
  blk_simp
  rw [after0_3]
  idx_vars y
  refine Eq.trans ?_ (congrArg (res0 (a0 m c) (a1 m c)) (emb3 t y0 y1)).symm
  unfold outA
  rw [View.canon_cons_unit_lit _ _ _ (by decide), View.ld_unit_lit _ _ (by decide), View.ld_unit_lit _ _ (by decide)]
  refine (pay2_at _ _ y0 y1).trans ?_
  refine Eq.trans (Finset.sum_congr rfl fun k _ => ?_) (sum_sel (fun k => a0 m c (ix3 (bt _) (ps _) k)) (fun k j => a1 m c (ix2 k j)) _)
  exact congrArg₂ (fun a b : EReal => a * b) ((blk0 m c t y0 k).trans (v25_at m c _ k)) ((blk1 m c t y1 k).trans (v20_at m c _ k))

theorem result1 : (dats m 0 c).arrAt 4 cfg0.N = res1 (a0 m c) (a1 m c) := by
  refine (dats m 0 c).arrAt_eq_of_covers 4 _ (by decide +kernel) fun t hf y => ?_
  blk_simp
  rw [after0_4]
  idx_vars y
  refine Eq.trans ?_ (congrArg (res1 (a0 m c) (a1 m c)) (emb4 t y0 y1)).symm
  unfold outG
  rw [View.canon_cons_unit_lit _ _ _ (by decide), View.ld_unit_lit _ _ (by decide), View.ld_unit_lit _ _ (by decide)]
  refine (pay3_at _ _ y0 y1).trans ?_
  refine Eq.trans (Finset.sum_congr rfl fun k _ => ?_) (sum_gat (fun k => a0 m c (ix3 (bt _) (ps _) k)) (fun k j => a1 m c (ix2 k j)) _)
  exact congrArg₂ (fun a b : EReal => a * b) ((blk0 m c t y0 k).trans (v25_at m c _ k)) ((blk2 m c t y1 k).trans (v24_at m c _ k))

theorem result2 : (dats m 0 c).arrAt 5 cfg0.N = res2 (a0 m c) := by
  refine (dats m 0 c).arrAt_eq_of_covers 5 _ (by decide +kernel) fun t hf y => ?_
  blk_simp
  rw [after0_5]
  idx_vars y
  refine Eq.trans ?_ (congrArg (res2 (a0 m c)) (emb5 t y0 y1)).symm
  unfold outX
  rw [View.canon_cons_unit_lit _ _ _ (by decide), View.ld_unit_lit _ _ (by decide)]
  exact (pay1_at _ y0 y1).trans ((blk0 m c t y0 y1).trans (v25_at m c _ y1))

/-- After the kernel's run the three result arrays are the scaled and ordered columns of the product, its gate columns,
    and the argument itself; the arguments are as before. -/
theorem run (ρ : Dev nD → PrngReg) : θ_run defs (onTc (τ := τ) (main (F := Ideal))) ⟨m, fun _ => 0, ρ⟩ fun r => ∀ c : Dev nD,
      r.2.mem ((c : Thread nD τ).loc main_v26_0) = res0 (a0 m c) (a1 m c)
      ∧ r.2.mem ((c : Thread nD τ).loc main_v26_1) = res1 (a0 m c) (a1 m c)
      ∧ r.2.mem ((c : Thread nD τ).loc main_v26_2) = res2 (a0 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (result0 m c), ((h c).1 4).trans (result1 m c), ((h c).1 5).trans (result2 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

end Cert.Kernel5Ideal.Val

end
-- ==== Proof.InProjRef.lean ====
module

public import proofs.«01_k».proof.Defs
public import proofs.«01_k».proof.Proof.InProj
public import proofs.«01_k».proof.Proof.Gen.Reference5Ideal.Run

@[expose] public section

set_option maxRecDepth 16384

noncomputable section

/-! # The input projection: the kernel computes the reference -/

namespace Cert.Proof.InProj

open Idealize.ShloMosaic Idealize.ShloMosaic.TcCoe Idealize.SL.Sem Cert.Reference5Ideal Cert.Reference5Ideal.Gen
open Cert.InProj (sel gat)
open Cert.Kernel5Ideal.Val (Y bt ps res0 res1 res2)

theorem prod_at (a : Vec Ideal S2x4096x2048 .f32) (w : Vec Ideal S2048x12848 .f32) (i : Fin 8192) (j : Fin 12848) :
    (shapeCast S8192x12848 (Host.dotGeneral (F := Ideal) (φ₁ := .f32) (φ₂ := .f32) dot_S2x4096x2048_S2048x12848_S2x4096x12848_2_0_01_1_n_n none a w)
      shapeCasts_S2x4096x12848_S8192x12848 (ix2 i j) : EReal) = Y a w i j := by
  unfold Y
  pointwise

/-- The bucket columns in their order. -/
theorem regroup_at (A : Vec Ideal S8192x1536 .f32) (i : Fin 8192) (r : Fin 1536) :
    (shapeCast S8192x1536 (transpose S8192x3x4x2x64 [0, 1, 3, 2, 4]
                (shapeCast S8192x3x2x4x64 A shapeCasts_S8192x1536_S8192x3x2x4x64)
                transposes_S8192x3x2x4x64_S8192x3x4x2x64_0_1_3_2_4)
              shapeCasts_S8192x3x4x2x64_S8192x1536 (ix2 i r)) = (A (ix2 i ⟨r.val / 512 * 512 + r.val / 64 % 2 * 256 + r.val / 128 % 4 * 64 + r.val % 64, by omega⟩) : EReal) := by
  clean_types
  set_option maxRecDepth 200000 in pointwise

theorem slice_at (Z : Vec Ideal S8192x12848 .f32) (i : Fin 8192) (r : Fin 1536) :
    (extractStridedSlice S8192x1536 ![0, 4096] Z slices_S8192x12848_S8192x1536_0_4096 (ix2 i r) : EReal) = Z (ix2 i ⟨4096 + r.val, by omega⟩) := by
  pointwise

set_option maxHeartbeats 400000 in
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨_, _, _, Cert.Kernel5Ideal.Val.run m ρ, ?_⟩
  refine (θ_run Cert.Reference5Ideal.defs _ _).mono (fun r h c => ?_) (Cert.Reference5Ideal.Value.run (F := Ideal) m' ρ')
  obtain ⟨h0, h1, h2, hk⟩ := h c
  obtain ⟨e0, e1⟩ := hagree c
  simp only [Cert.Kernel5Ideal.Val.a0, Cert.Kernel5Ideal.Val.a1]
  rw [← e0, ← e1]
  generalize m' ((c.tc : Thread nD τ).loc main_arg0) = p0 at *
  generalize m' ((c.tc : Thread nD τ).loc main_arg1) = p1 at *
  have hp : ∀ (i : Fin 8192) (j : Fin 12848), (shapeCast S8192x12848 (Host.dotGeneral (F := Ideal) (φ₁ := .f32) (φ₂ := .f32) dot_S2x4096x2048_S2048x12848_S2x4096x12848_2_0_01_1_n_n none p0 p1)
      shapeCasts_S2x4096x12848_S8192x12848 (ix2 i j) : EReal) = Y p0 p1 i j := prod_at p0 p1
  refine ⟨h0.trans ?_, h1.trans ?_, h2.trans ?_, hk⟩
  · clear h0 h1 h2 hk e0 e1 hagree h
    funext x
    idx_vars x
    show _ = sel (Y p0 p1 x0) x1
    rw [← funext (hp x0)]
    clear hp
    clean_types
    generalize shapeCast S8192x12848 (Host.dotGeneral (F := Ideal) (φ₁ := .f32) (φ₂ := .f32) dot_S2x4096x2048_S2048x12848_S2x4096x12848_2_0_01_1_n_n none p0 p1)
      shapeCasts_S2x4096x12848_S8192x12848 = Z
    unfold sel
    generalize hR : shapeCast S8192x1536 (transpose S8192x3x4x2x64 [0, 1, 3, 2, 4]
                (shapeCast S8192x3x2x4x64 (extractStridedSlice S8192x1536 ![0, 4096] Z slices_S8192x12848_S8192x1536_0_4096) shapeCasts_S8192x1536_S8192x3x2x4x64)
                transposes_S8192x3x2x4x64_S8192x3x4x2x64_0_1_3_2_4)
              shapeCasts_S8192x3x4x2x64_S8192x1536 = R
    pointwise
    by_cases g0 : x1.val < 1024
    · rw [dif_pos g0, dif_pos g0]
    rw [dif_neg g0, dif_neg g0]
    by_cases g1 : x1.val - 1024 < 1024
    · rw [dif_pos g1, dif_pos g1]
    rw [dif_neg g1, dif_neg g1]
    by_cases g2 : x1.val - 1024 - 1024 < 2048
    · rw [dif_pos g2]
      by_cases g3 : x1.val - 1024 - 1024 < 1024
      · rw [dif_pos g3]
      rw [dif_neg g3, dif_pos (by omega)]
      have e : 2048 + (x1.val - 1024 - 1024 - 1024) = 1024 + (x1.val - 1024 - 1024) := by omega
      simp only [e]
    rw [dif_neg g2, dif_neg (by omega), dif_neg (by omega)]
    by_cases g4 : x1.val - 1024 - 1024 - 2048 < 1024
    · rw [dif_pos g4, dif_pos (by omega)]
      have e : x1.val - 1024 - 1024 - 1024 - 1024 = x1.val - 1024 - 1024 - 2048 := by omega
      simp only [e]
    rw [dif_neg g4, dif_neg (by omega)]
    refine (congrFun hR.symm _).trans ((regroup_at _ x0 _).trans ((slice_at Z x0 _).trans ?_))
    refine congrArg Z (congrArg (ix2 x0) (Fin.ext ?_))
    have e : x1.val - 1024 - 1024 - 1024 - 1024 = x1.val - 1024 - 1024 - 2048 := by omega
    dsimp only
    rw [e]
  · clear h0 h1 h2 hk e0 e1 hagree h
    funext x
    idx_vars x
    show _ = gat (Y p0 p1 x0) x1
    rw [← funext (hp x0)]
    clear hp
    clean_types
    generalize shapeCast S8192x12848 (Host.dotGeneral (F := Ideal) (φ₁ := .f32) (φ₂ := .f32) dot_S2x4096x2048_S2048x12848_S2x4096x12848_2_0_01_1_n_n none p0 p1)
      shapeCasts_S2x4096x12848_S8192x12848 = Z
    unfold gat
    pointwise
  · clear h0 h1 h2 hk e0 e1 hagree h hp
    funext x
    idx_vars x
    unfold res2
    clean_types
    pointwise

end Cert.Proof.InProj

end
-- ==== Proof.MemKv.lean ====
module

public import proofs.«01_k».proof.Proof.Gen.Kernel7Ideal.Value
public import proofs.«01_k».proof.Defs
public import proofs.«01_k».proof.Proof.Gen.Reference7Ideal.Run
public import Idealize.ShloMosaic.Lib.Pipeline.ValueKit
public import Idealize.ShloMosaic.Lib.StableHlo.RunRead
public import Idealize.ShloMosaic.Lib.Pointwise
public import Idealize.ShloMosaic.Lib.Tactic.CleanTypes

@[expose] public section

set_option maxRecDepth 16384

noncomputable section

/-! # The memory's keys and values: the kernel computes the reference -/

namespace Cert.Kernel7Ideal.Val

open Idealize.ShloMosaic Idealize.ShloMosaic.TcCoe Idealize.SL.Sem Cert.Kernel7Ideal Cert.Kernel7Ideal.Gen

/-- The batch entry and the position of a row of the flattened memory. -/
abbrev bt (i : Fin 512) : Fin 2 := ⟨i.val / 256, by omega⟩
abbrev ps (i : Fin 512) : Fin 256 := ⟨i.val % 256, by omega⟩

theorem pay_at (X : Vec Ideal S512x2048 .bf16) (W : Vec Ideal S2048x1024 .bf16) (r : Fin 512) (j : Fin 1024) :
    (k0_pay1 X W (ix2 r j) : EReal) = ∑ k : Fin 2048, @HMul.hMul EReal EReal EReal _ (X (ix2 r k)) (W (ix2 k j)) := by
  pointwise [k0_pay1]

variable (m : (ℓ : Loc nD τ sig) → Buf (Elt Ideal) ℓ) (c : Dev nD)

abbrev a0 : Vec Ideal S2x256x2048 .f32 := m ((c : Thread nD τ).loc main_arg0)
abbrev a1 : Vec Ideal S2048x2048 .f32 := m ((c : Thread nD τ).loc main_arg1)

theorem x_at (i : Fin 512) (x : Fin 2048) :
    (V m c main_v1 : Vec Ideal S512x2048 .bf16) (ix2 i x) = a0 m c (ix3 (bt i) (ps i) x) := by
  unfold V hostOps0
  after_reads_simp
  clean_types
  pointwise

theorem w_at (i j : Fin 2048) : (V m c main_v2 : Vec Ideal S2048x2048 .bf16) (ix2 i j) = a1 m c (ix2 i j) := by
  unfold V hostOps0
  after_reads_simp
  clean_types
  pointwise

theorem idx0 : ∀ t : Fin grid0.N, win0_0.index t = ![0, 0] ∧ win0_1.index t = ![0, t.val] ∧ win0_2.index t = ![0, t.val] := by decide +kernel

theorem lt0 (t : Fin cfg0.N) : t.val < 2 := t.isLt

variable (t : Fin cfg0.N)

theorem blk0 (r : Fin 512) (x : Fin 2048) : (iblk m c 0 t : Vec Ideal S512x2048 .bf16) (ix2 r x)
    = (V m c main_v1 : Vec Ideal S512x2048 .bf16) (ix2 r x) := by
  have e := (idx0 t).1
  blk_ext [iblk, e]

theorem blk1 (x : Fin 2048) (j : Fin 1024) : (iblk m c 1 t : Vec Ideal S2048x1024 .bf16) (ix2 x j)
    = (V m c main_v2 : Vec Ideal S2048x2048 .bf16) (ix2 x ⟨1024 * t.val + j.val, by have := lt0 t; omega⟩) := by
  have e := (idx0 t).2.1
  have := lt0 t
  blk_ext [iblk, e]

theorem emb_at (r : Fin 512) (x : Fin 1024) : ((View.whole main_v3).slice (win0_2.rect t)).emb (ix2 r x)
    = ix2 r (⟨1024 * t.val + x.val, by have := lt0 t; omega⟩ : Fin 2048) := by
  have e := (idx0 t).2.2
  have := lt0 t
  blk_ext [e]

/-- The product of the memory with the weights. -/
def out (X : Vec Ideal S2x256x2048 .f32) (W : Vec Ideal S2048x2048 .f32) : Vec Ideal S512x2048 .bf16 := fun i =>
  (∑ k : Fin 2048, @HMul.hMul EReal EReal EReal _ (X (ix3 (bt (i 0)) (ps (i 0)) k)) (W (ix2 k (i 1))) : EReal)

theorem result : (dats m 0 c).arrAt 2 cfg0.N = out (a0 m c) (a1 m c) := by
  refine (dats m 0 c).arrAt_eq_of_covers 2 _ (by decide +kernel) fun t hf y => ?_
  blk_simp
  rw [after0_2]
  idx_vars y
  refine Eq.trans ?_ (congrArg (out (a0 m c) (a1 m c)) (emb_at t y0 y1)).symm
  rw [out0_2, View.canon_cons_unit_lit _ _ _ (by decide), View.ld_unit_lit _ _ (by decide), View.ld_unit_lit _ _ (by decide)]
  refine (pay_at _ _ y0 y1).trans (Finset.sum_congr rfl fun k _ => ?_)
  exact congrArg₂ (fun a b : EReal => a * b) ((blk0 m c t y0 k).trans (x_at m c _ k)) ((blk1 m c t k y1).trans (w_at m c k _))

/-- After the kernel's run the result array is the product, and the arguments are as before. -/
theorem run (ρ : Dev nD → PrngReg) : θ_run defs (onTc (τ := τ) (main (F := Ideal))) ⟨m, fun _ => 0, ρ⟩ fun r => ∀ c : Dev nD,
      r.2.mem ((c : Thread nD τ).loc main_v3) = out (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result m c), (h c).2⟩) (Value.run_blocks m ρ)

end Cert.Kernel7Ideal.Val

namespace Cert.Proof.MemKv

open Idealize.ShloMosaic Idealize.ShloMosaic.TcCoe Idealize.SL.Sem Cert.Reference7Ideal Cert.Reference7Ideal.Gen

theorem algebraic : Cert.algebraic_Kernel7Ideal_Reference7Ideal (hKernel7Ideal := Cert.Kernel7Ideal.Gen.facts)
    (hReference7Ideal := Cert.Reference7Ideal.Gen.facts) := by
  intro m ρ m' ρ' _ hagree
  refine ⟨_, Cert.Kernel7Ideal.Val.run m ρ, ?_⟩
  refine (θ_run Cert.Reference7Ideal.defs _ _).mono (fun _ h c => ⟨(h c).1.trans ?_, (h c).2⟩) (Cert.Reference7Ideal.Value.run (F := Ideal) m' ρ')
  obtain ⟨e0, e1⟩ := hagree c
  rw [e0, e1]
  funext x
  idx_vars x
  unfold Cert.Kernel7Ideal.Val.out
  clean_types
  pointwise

end Cert.Proof.MemKv

end
-- ==== Proof.Mem.lean ====
module

public import proofs.«01_k».proof.Proof.Gen.Kernel6Ideal.Value
public import proofs.«01_k».proof.Proof.InProj
public import Idealize.ShloMosaic.Lib.Pipeline.ValueKit
public import Idealize.ShloMosaic.Lib.StableHlo.RunRead
public import Idealize.ShloMosaic.Lib.Pointwise
public import Idealize.ShloMosaic.Lib.Tactic.CleanTypes

@[expose] public section

set_option maxRecDepth 16384

noncomputable section

/-! # The memory attention: what the kernel's array holds -/

namespace Cert.Mem

open Idealize.ShloMosaic

/-- A row's softmax over the memory in powers of two, times the values of one column. -/
def hd (s v : Fin 256 → EReal) : EReal :=
  ∑ k : Fin 256, Ideal.div (Ideal.exp2 (s k - Finset.univ.fold max (Ideal.ofBits .f32 0xFF800000#32) s))
    (∑ l : Fin 256, Ideal.exp2 (s l - Finset.univ.fold max (Ideal.ofBits .f32 0xFF800000#32) s)) * v k

theorem hd_congr {s s' v v' : Fin 256 → EReal} (hs : ∀ k, s k = s' k) (hv : ∀ k, v k = v' k) : hd s v = hd s' v' := by
  rw [funext hs, funext hv]

end Cert.Mem

namespace Cert.Kernel6Ideal.Val

open Idealize.ShloMosaic Idealize.ShloMosaic.TcCoe Idealize.SL.Sem Cert.Kernel6Ideal Cert.Kernel6Ideal.Gen
open Cert.Mem (hd)

/-! ## The body's result at an index -/

theorem head0 (X : Vec Ideal S1x512x1024 .bf16) (K W : Vec Ideal S256x256 .bf16) (r : Fin 512) (d : Fin 256) :
    (k0_pay3 X K W (ix2 r d) : EReal)
      = hd (fun k => ∑ x : Fin 256, @HMul.hMul EReal EReal EReal _ (X (ix3 0 r ⟨x.val, by omega⟩)) (K (ix2 k x))) (fun k => W (ix2 k d)) := by
  unfold hd
  pointwise [k0_pay3, k0_pay2]
  rfl

theorem head1 (X : Vec Ideal S1x512x1024 .bf16) (K W : Vec Ideal S256x256 .bf16) (r : Fin 512) (d : Fin 256) :
    (k0_pay4 X K W (ix2 r d) : EReal)
      = hd (fun k => ∑ x : Fin 256, @HMul.hMul EReal EReal EReal _ (X (ix3 0 r ⟨256 + x.val, by omega⟩)) (K (ix2 k x))) (fun k => W (ix2 k d)) := by
  unfold hd
  pointwise [k0_pay4, k0_pay2]
  rfl

theorem pay_at (X : Vec Ideal S1x512x1024 .bf16) (A B : FVec Ideal S512x256 .f32) (K2 W2 K3 W3 : Vec Ideal S256x256 .bf16) (r : Fin 512) (j : Fin 1024) :
    (k0_pay1 (k0_pay2 X) A B (k0_pay5 X) K2 W2 K3 W3 (ix3 0 r j) : EReal)
      = if h : j.val < 256 then A (ix2 r ⟨j.val, h⟩)
        else if h : j.val - 256 < 256 then B (ix2 r ⟨j.val - 256, h⟩)
        else if h : j.val - 256 - 256 < 256 then
          hd (fun k => ∑ x : Fin 256, @HMul.hMul EReal EReal EReal _ (X (ix3 0 r ⟨512 + x.val, by omega⟩)) (K2 (ix2 k x))) (fun k => W2 (ix2 k ⟨j.val - 256 - 256, h⟩))
        else
          hd (fun k => ∑ x : Fin 256, @HMul.hMul EReal EReal EReal _ (X (ix3 0 r ⟨768 + x.val, by omega⟩)) (K3 (ix2 k x))) (fun k => W3 (ix2 k ⟨j.val - 256 - 256 - 256, by omega⟩)) := by
  unfold hd
  pointwise [k0_pay1, k0_pay2, k0_pay5]
  rfl

/-- A load of 256 columns of a block of keys or values. -/
theorem ld_at (Z : Vec Ideal S256x1024 .bf16) (o : ℕ) (ho : o + 256 ≤ 1024) (inb) (k x : Fin 256) :
    View.ld (Val := Elt Ideal) (e' := .bf16) Z (Rect.unit (s := S256x1024) ![0, o] ![256, 256] inb) (ix2 k x) = Z (ix2 k ⟨o + x.val, by omega⟩) := by
  refine View.ld_unit_apply_of _ _ _ _ _ _ fun a => ?_
  fin_cases a
  · exact (Nat.zero_add _).symm
  · rfl

/-- A block's result, of its queries, keys and values. -/
def blkOut (X : Vec Ideal S1x512x1024 .bf16) (K W : Vec Ideal S256x1024 .bf16) (r : Fin 512) (j : Fin 1024) : EReal :=
  hd (fun k => ∑ x : Fin 256, @HMul.hMul EReal EReal EReal _ (X (ix3 0 r ⟨256 * (j.val / 256) + x.val, by omega⟩)) (K (ix2 k ⟨256 * (j.val / 256) + x.val, by omega⟩)))
    (fun k => W (ix2 k j))

section Cases

variable (c : Dev nD) (i : grid0.Coords) (p2 : Memref sig .tc .vmem S1x512x1024 .bf16) (h2 : p2.IsWhole) (p3 : Memref sig .tc .vmem S256x1024 .bf16) (h3 : p3.IsWhole)
  (p4 : Memref sig .tc .vmem S256x1024 .bf16) (h4 : p4.IsWhole) (p5 : Memref sig .tc .vmem S1x512x1024 .bf16) (h5 : p5.IsWhole)
  (x0 : Vec Ideal S1x512x1024 .bf16) (x1 x2 : Vec Ideal S256x1024 .bf16)

theorem outA (r : Fin 512) (j : Fin 1024) : (out0_A_3 c i p2 h2 p3 h3 p4 h4 p5 h5 x0 x1 x2 (ix3 0 r j) : EReal) = blkOut x0 x1 x2 r j := by
  unfold out0_A_3
  rw [View.read_writes_eq_canon _ _ _ (cover0_A_3 c i p2 h2 p3 h3 p4 h4 p5 h5 x0 x1 x2)]
  unfold kernelRun0_A
  dsimp only
  sl_unfold_words
  rw [View.canon_cons_unit_lit _ _ _ (by decide)]
  simp only [View.readAt_eq_ld, h2.read_unread, h3.read_unread, h4.read_unread]
  rw [View.ld_unit_lit _ _ (by decide)]
  refine (pay_at _ _ _ _ _ _ _ r j).trans ?_
  unfold blkOut
  by_cases g0 : j.val < 256
  · rw [dif_pos g0]
    refine (head0 _ _ _ _ _).trans (Cert.Mem.hd_congr (fun k => Finset.sum_congr rfl fun x _ => ?_) fun k => ?_)
    · refine congrArg₂ (fun a b : EReal => a * b) (congrArg x0 (congrArg (ix3 0 r) (Fin.ext ?_))) ((ld_at x1 0 (by omega) _ k x).trans (congrArg x1 (congrArg (ix2 k) (Fin.ext ?_))))
      all_goals (dsimp only; omega)
    · refine (ld_at x2 0 (by omega) _ k _).trans (congrArg x2 (congrArg (ix2 k) (Fin.ext ?_)))
      dsimp only; omega
  rw [dif_neg g0]
  by_cases g1 : j.val - 256 < 256
  · rw [dif_pos g1]
    refine (head1 _ _ _ _ _).trans (Cert.Mem.hd_congr (fun k => Finset.sum_congr rfl fun x _ => ?_) fun k => ?_)
    · refine congrArg₂ (fun a b : EReal => a * b) (congrArg x0 (congrArg (ix3 0 r) (Fin.ext ?_))) ((ld_at x1 256 (by omega) _ k x).trans (congrArg x1 (congrArg (ix2 k) (Fin.ext ?_))))
      all_goals (dsimp only; omega)
    · refine (ld_at x2 256 (by omega) _ k _).trans (congrArg x2 (congrArg (ix2 k) (Fin.ext ?_)))
      dsimp only; omega
  rw [dif_neg g1]
  by_cases g2 : j.val - 256 - 256 < 256
  · rw [dif_pos g2]
    refine Cert.Mem.hd_congr (fun k => Finset.sum_congr rfl fun x _ => ?_) fun k => ?_
    · refine congrArg₂ (fun a b : EReal => a * b) (congrArg x0 (congrArg (ix3 0 r) (Fin.ext ?_))) ((ld_at x1 512 (by omega) _ k x).trans (congrArg x1 (congrArg (ix2 k) (Fin.ext ?_))))
      all_goals (dsimp only; omega)
    · refine (ld_at x2 512 (by omega) _ k _).trans (congrArg x2 (congrArg (ix2 k) (Fin.ext ?_)))
      dsimp only; omega
  rw [dif_neg g2]
  refine Cert.Mem.hd_congr (fun k => Finset.sum_congr rfl fun x _ => ?_) fun k => ?_
  · refine congrArg₂ (fun a b : EReal => a * b) (congrArg x0 (congrArg (ix3 0 r) (Fin.ext ?_))) ((ld_at x1 768 (by omega) _ k x).trans (congrArg x1 (congrArg (ix2 k) (Fin.ext ?_))))
    all_goals (dsimp only; omega)
  · refine (ld_at x2 768 (by omega) _ k _).trans (congrArg x2 (congrArg (ix2 k) (Fin.ext ?_)))
    dsimp only; omega

end Cases

/-! ## The arrays -/

variable (m : (ℓ : Loc nD τ sig) → Buf (Elt Ideal) ℓ) (c : Dev nD)

abbrev a0 : Vec Ideal S2x4096x1024 .f32 := m ((c : Thread nD τ).loc main_arg0)
abbrev a1 : Vec Ideal S2x256x2048 .f32 := m ((c : Thread nD τ).loc main_arg1)

theorem q_at (b : Fin 2) (p : Fin 4096) (x : Fin 1024) : (V m c main_v6 : Vec Ideal S2x4096x6656 .bf16) (ix3 b p ⟨x.val, by omega⟩)
    = @HMul.hMul EReal EReal EReal _ (a0 m c (ix3 b p x)) Cert.InProj.cM := by
  unfold V hostOps0
  after_reads_simp
  clean_types
  pointwise

theorem kv_at (i : Fin 512) (x : Fin 2048) : (V m c main_v8 : Vec Ideal S512x2048 .bf16) (ix2 i x)
    = a1 m c (ix3 (⟨i.val / 256, by omega⟩ : Fin 2) (⟨i.val % 256, by omega⟩ : Fin 256) x) := by
  unfold V hostOps0
  after_reads_simp
  clean_types
  pointwise

theorem idx0 : ∀ t : Fin grid0.N, win0_0.index t = ![t.val / 8, t.val % 8, 0] ∧ win0_1.index t = ![t.val / 8, 0] ∧ win0_2.index t = ![t.val / 8, 1]
    ∧ win0_3.index t = ![t.val / 8, t.val % 8, 0] := by decide +kernel

theorem lt0 (t : Fin cfg0.N) : t.val < 16 := t.isLt

variable (t : Fin cfg0.N)

/-- The batch entry of a grid point, and the position of a row of its block. -/
abbrev tb : Fin 2 := ⟨t.val / 8, by have := lt0 t; omega⟩
abbrev tp (r : Fin 512) : Fin 4096 := ⟨512 * (t.val % 8) + r.val, by omega⟩

theorem blk0 (r : Fin 512) (x : Fin 1024) : (X0_0 m c t : Vec Ideal S1x512x1024 .bf16) (ix3 0 r x)
    = (V m c main_v6 : Vec Ideal S2x4096x6656 .bf16) (ix3 (tb t) (tp t r) (⟨x.val, by omega⟩ : Fin 6656)) := by
  have e := (idx0 t).1
  have := lt0 t
  unfold X0_0 Pipeline.Window.fill
  rw [dif_pos (moved0_0 t _)]
  blk_ext [iblk, e]

theorem blk1 (k : Fin 256) (x : Fin 1024) : (iblk m c 1 t : Vec Ideal S256x1024 .bf16) (ix2 k x)
    = (V m c main_v8 : Vec Ideal S512x2048 .bf16) (ix2 (⟨256 * (t.val / 8) + k.val, by have := lt0 t; omega⟩ : Fin 512) (⟨x.val, by omega⟩ : Fin 2048)) := by
  have e := (idx0 t).2.1
  have := lt0 t
  blk_ext [iblk, e]

theorem blk2 (k : Fin 256) (x : Fin 1024) : (iblk m c 2 t : Vec Ideal S256x1024 .bf16) (ix2 k x)
    = (V m c main_v8 : Vec Ideal S512x2048 .bf16) (ix2 (⟨256 * (t.val / 8) + k.val, by have := lt0 t; omega⟩ : Fin 512) (⟨1024 + x.val, by omega⟩ : Fin 2048)) := by
  have e := (idx0 t).2.2.1
  have := lt0 t
  blk_ext [iblk, e]

theorem kvrow (k : Fin 256) (x : Fin 2048) : (V m c main_v8 : Vec Ideal S512x2048 .bf16) (ix2 (⟨256 * (t.val / 8) + k.val, by have := lt0 t; omega⟩ : Fin 512) x)
    = a1 m c (ix3 (tb t) k x) := by
  refine (kv_at m c _ x).trans ?_
  have e1 : (⟨(256 * (t.val / 8) + k.val) / 256, by have := lt0 t; omega⟩ : Fin 2) = tb t := Fin.ext (by dsimp only; omega)
  have e2 : (⟨(256 * (t.val / 8) + k.val) % 256, by omega⟩ : Fin 256) = k := Fin.ext (by dsimp only; omega)
  exact congrArg₂ (fun b k => a1 m c (ix3 b k x)) e1 e2

theorem emb_at (r : Fin 512) (x : Fin 1024) : ((View.whole main_v9).slice (win0_3.rect t)).emb (ix3 0 r x)
    = ix3 (tb t) (tp t r) x := by
  have e := (idx0 t).2.2.2
  have := lt0 t
  blk_ext [e]

/-- The memory attention, in powers of two, at one position and column. -/
def outAt (Q : Vec Ideal S2x4096x1024 .f32) (M : Vec Ideal S2x256x2048 .f32) (b : Fin 2) (p : Fin 4096) (j : Fin 1024) : EReal :=
  hd (fun k => ∑ x : Fin 256, @HMul.hMul EReal EReal EReal _
      (@HMul.hMul EReal EReal EReal _ (Q (ix3 b p ⟨256 * (j.val / 256) + x.val, by omega⟩)) Cert.InProj.cM)
      (M (ix3 b k ⟨256 * (j.val / 256) + x.val, by omega⟩)))
    (fun k => M (ix3 b k ⟨1024 + j.val, by omega⟩))

/-- The memory attention, in powers of two. -/
def out (Q : Vec Ideal S2x4096x1024 .f32) (M : Vec Ideal S2x256x2048 .f32) : Vec Ideal S2x4096x1024 .bf16 := fun i =>
  outAt Q M (i 0) (i 1) (i 2)

theorem result : (dats m 0 c).arrAt 3 cfg0.N = out (a0 m c) (a1 m c) := by
  refine (dats m 0 c).arrAt_eq_of_covers 3 _ (by decide +kernel) fun t hf y => ?_
  blk_simp
  rw [after0_3]
  idx_vars y
  obtain rfl : y0 = 0 := Subsingleton.elim _ _
  refine Eq.trans ?_ (congrArg (out (a0 m c) (a1 m c)) (emb_at t y1 y2)).symm
  change _ = outAt (a0 m c) (a1 m c) (tb t) (tp t y1) y2
  unfold outsAt0
  refine (outA c _ _ _ _ _ _ _ _ _ _ _ _ y1 y2).trans ?_
  unfold blkOut outAt
  refine Cert.Mem.hd_congr (fun k => Finset.sum_congr rfl fun x _ => ?_) fun k => ?_
  · exact congrArg₂ (fun a b : EReal => a * b) ((blk0 m c t y1 _).trans (q_at m c (tb t) (tp t y1) _)) ((blk1 m c t k _).trans (kvrow m c t k _))
  · exact (blk2 m c t k y2).trans (kvrow m c t k _)

/-- After the kernel's run the result array is the memory attention, and the arguments are as before. -/
theorem run (ρ : Dev nD → PrngReg) : θ_run defs (onTc (τ := τ) (main (F := Ideal))) ⟨m, fun _ => 0, ρ⟩ fun r => ∀ c : Dev nD,
      r.2.mem ((c : Thread nD τ).loc main_v9) = out (a0 m c) (a1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result m c), (h c).2⟩) (Value.run_blocks m ρ)

end Cert.Kernel6Ideal.Val

end
-- ==== Proof.MemRef.lean ====
module

public import proofs.«01_k».proof.Proof.Gen.Reference6Ideal.Run
public import proofs.«01_k».proof.Proof.Mem
public import proofs.«01_k».proof.Defs
public import Idealize.ShloMosaic.Lib.Pointwise
public import Idealize.ShloMosaic.Lib.Tactic.CleanTypes

@[expose] public section

set_option maxRecDepth 16384

noncomputable section

/-! # The memory attention: the reference, and the claim -/

namespace Cert.Mem

open Idealize.ShloMosaic

/-- The factor between powers of two and exponentials. -/
def kap : ℝ := (Real.log 2)⁻¹

theorem kap_pos : 0 < kap := inv_pos.mpr (Real.log_pos one_lt_two)

theorem exp2_scale (u : EReal) : Ideal.exp2 (u * (kap : EReal)) = Ideal.exp u := by
  induction u using EReal.rec with
  | bot => rw [EReal.bot_mul_coe_of_pos kap_pos]; rfl
  | top => rw [EReal.top_mul_coe_of_pos kap_pos]; rfl
  | coe u =>
    rw [← EReal.coe_mul]
    change (((2 : ℝ) ^ (u * kap) : ℝ) : EReal) = ((Real.exp u : ℝ) : EReal)
    rw [Real.rpow_def_of_pos two_pos]
    have h : Real.log 2 ≠ 0 := (Real.log_pos one_lt_two).ne'
    congr 2
    unfold kap
    field_simp

theorem mono_scale : Monotone fun u : EReal => u * (kap : EReal) := fun a b h =>
  mul_le_mul_of_nonneg_right h (EReal.coe_nonneg.mpr kap_pos.le)

theorem fold_scale (s : Finset (Fin 256)) (u : Fin 256 → EReal) :
    s.fold max (⊥ : EReal) (fun k => u k * (kap : EReal)) = s.fold max ⊥ u * (kap : EReal) := by
  induction s using Finset.induction_on with
  | empty => simp only [Finset.fold_empty]; exact (EReal.bot_mul_coe_of_pos kap_pos).symm
  | insert a s ha ih =>
    rw [Finset.fold_insert ha, Finset.fold_insert ha, ih]
    exact (mono_scale.map_max (a := u a) (b := s.fold max ⊥ u)).symm

theorem sub_scale (a b : EReal) : a * (kap : EReal) - b * (kap : EReal) = (a - b) * (kap : EReal) := by
  rw [sub_eq_add_neg, sub_eq_add_neg, ← EReal.neg_mul]
  exact (EReal.right_distrib_of_nonneg_of_ne_top (EReal.coe_nonneg.2 kap_pos.le) (EReal.coe_ne_top kap) a (-b)).symm

/-- A row's softmax over the memory, times the values of one column. -/
def hr (s v : Fin 256 → EReal) : EReal :=
  ∑ k : Fin 256, v k * Ideal.div (Ideal.exp (s k - max (Ideal.ofBits .f32 0xFF800000#32) (Finset.univ.fold max (Ideal.ofBits .f32 0xFF800000#32) s)))
    (∑ l : Fin 256, Ideal.exp (s l - max (Ideal.ofBits .f32 0xFF800000#32) (Finset.univ.fold max (Ideal.ofBits .f32 0xFF800000#32) s)))

theorem hd_eq (s v : Fin 256 → EReal) : hd (fun k => s k * (kap : EReal)) v = hr s v := by
  unfold hd hr
  rw [Cert.Bucket.lit_bot, fold_scale]
  have e : ∀ k, Ideal.exp2 (s k * (kap : EReal) - Finset.univ.fold max ⊥ s * (kap : EReal)) = Ideal.exp (s k - max ⊥ (Finset.univ.fold max ⊥ s)) := fun k => by
    rw [sub_scale, exp2_scale, max_eq_right bot_le]
  refine Finset.sum_congr rfl fun k _ => ?_
  rw [mul_comm]
  simp only [e]

/-- The head's score of a query and a memory, scaled for powers of two. -/
theorem score_scale (q k : Fin 256 → EReal) : ∑ x : Fin 256, q x * Cert.InProj.cM * k x = (∑ x : Fin 256, q x * k x) * Ideal.ofBits .f32 0x3D800000#32 * (kap : EReal) := by
  have hc : Cert.InProj.cM = ((1 / 16 : ℝ) : EReal) * (kap : EReal) := by
    rw [Cert.InProj.cM_eq, ← EReal.coe_mul]
    rfl
  have h0 : 0 ≤ 1 / 16 * kap := mul_nonneg (by norm_num) kap_pos.le
  rw [Cert.InProj.lit_mem, mul_assoc (∑ x : Fin 256, q x * k x), hc, ← EReal.coe_mul]
  have step : ∀ s : Finset (Fin 256), ∑ x ∈ s, q x * ((1 / 16 * kap : ℝ) : EReal) * k x = (∑ x ∈ s, q x * k x) * ((1 / 16 * kap : ℝ) : EReal) := fun s => by
    induction s using Finset.induction_on with
    | empty => rw [Finset.sum_empty, Finset.sum_empty, zero_mul]
    | insert a s ha ih =>
      rw [Finset.sum_insert ha, Finset.sum_insert ha, ih,
        EReal.right_distrib_of_nonneg_of_ne_top (EReal.coe_nonneg.2 h0) (EReal.coe_ne_top _), mul_right_comm]
  exact step Finset.univ

end Cert.Mem

namespace Cert.Reference6Ideal.Val

open Idealize.ShloMosaic Idealize.ShloMosaic.TcCoe Idealize.SL.Sem Cert.Reference6Ideal Cert.Reference6Ideal.Gen

theorem keys_at (M : Vec Ideal S2x256x2048 .f32) (b : Fin 2) (k : Fin 256) (h : Fin 4) (x : Fin 256) :
    (shapeCast S2x256x4x256 (extractStridedSlice S2x256x1x4x256 ![0, 0, 0, 0, 0] (shapeCast S2x256x2x4x256 M shapeCasts_S2x256x2048_S2x256x2x4x256) slices_S2x256x2x4x256_S2x256x1x4x256_0_0_0_0_0) shapeCasts_S2x256x1x4x256_S2x256x4x256) (ix4 b k h x)
      = M (ix3 b k ⟨h.val * 256 + x.val, by omega⟩) := by
  set_option maxRecDepth 200000 in pointwise

theorem vals_at (M : Vec Ideal S2x256x2048 .f32) (b : Fin 2) (k : Fin 256) (h : Fin 4) (x : Fin 256) :
    (shapeCast S2x256x4x256 (extractStridedSlice S2x256x1x4x256 ![0, 0, 1, 0, 0] (shapeCast S2x256x2x4x256 M shapeCasts_S2x256x2048_S2x256x2x4x256) slices_S2x256x2x4x256_S2x256x1x4x256_0_0_1_0_0) shapeCasts_S2x256x1x4x256_S2x256x4x256) (ix4 b k h x)
      = M (ix3 b k ⟨1024 + h.val * 256 + x.val, by omega⟩) := by
  set_option maxRecDepth 200000 in pointwise

theorem score_at (Q : FVec Ideal S2x4096x1024 .f32) (K : FVec Ideal S2x256x4x256 .f32) (b : Fin 2) (h : Fin 4) (p : Fin 4096) (k : Fin 256) :
    (mulf (Host.dotGeneral dot_S2x4096x4x256_S2x256x4x256_S2x4x4096x256_3_3_1_1_02_02 (φ₁ := .f32) none (shapeCast S2x4096x4x256 Q shapeCasts_S2x4096x1024_S2x4096x4x256) K) (broadcastInDim S2x4x4096x256 ![] bcast_S_S2x4x4096x256 (constant (F := Ideal) S_ .f32 0x3D800000#32)) : FVec Ideal S2x4x4096x256 .f32) (ix4 b h p k)
      = @HMul.hMul EReal EReal EReal _ (∑ x : Fin 256, @HMul.hMul EReal EReal EReal _ (Q (ix3 b p ⟨h.val * 256 + x.val, by omega⟩)) (K (ix4 b k h x))) (Ideal.ofBits .f32 0x3D800000#32) := by
  pointwise

theorem red_at (S : FVec Ideal S2x4x4096x256 .f32) (b : Fin 2) (h : Fin 4) (p : Fin 4096) :
    (Host.reduce FloatOps.maximumf S (constant (F := Ideal) S_ .f32 0xFF800000#32) reducesTo_S2x4x4096x256_S2x4x4096_d3 h_S_ : FVec Ideal S2x4x4096 .f32) (ix3 b h p)
      = Finset.univ.fold max (Ideal.ofBits .f32 0xFF800000#32) fun k : Fin 256 => (S (ix4 b h p k) : EReal) := by
  pointwise

theorem spread_at (T : FVec Ideal S2x4x4096 .f32) (b : Fin 2) (h : Fin 4) (p : Fin 4096) (k : Fin 256) :
    (broadcastInDim S2x4x4096x256 ![0, 1, 2, 3] bcast_S2x4x4096x1_S2x4x4096x256_0_1_2_3 (broadcastInDim S2x4x4096x1 ![0, 1, 2] bcast_S2x4x4096_S2x4x4096x1_0_1_2 T) : FVec Ideal S2x4x4096x256 .f32) (ix4 b h p k)
      = T (ix3 b h p) := by
  pointwise

theorem max_at (T : FVec Ideal S2x4x4096 .f32) (b : Fin 2) (h : Fin 4) (p : Fin 4096) :
    (maximumf (broadcastInDim S2x4x4096 ![] bcast_S_S2x4x4096 (constant (F := Ideal) S_ .f32 0xFF800000#32)) T : FVec Ideal S2x4x4096 .f32) (ix3 b h p)
      = @max EReal _ (Ideal.ofBits .f32 0xFF800000#32) (T (ix3 b h p)) := rfl

theorem share_at (W : FVec Ideal S2x4x4096x256 .f32) (b : Fin 2) (h : Fin 4) (p : Fin 4096) (k : Fin 256) :
    (Host.divf W (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd W (constant (F := Ideal) S_ .f32 0x00000000#32) reducesTo_S2x4x4096x256_S2x4x4096_d3 h_S_))) : FVec Ideal S2x4x4096x256 .f32) (ix4 b h p k)
      = Ideal.div (W (ix4 b h p k)) (∑ l : Fin 256, (W (ix4 b h p l) : EReal)) := by
  pointwise

theorem mix_at (U : FVec Ideal S2x256x4x256 .f32) (P : FVec Ideal S2x4x4096x256 .f32) (b : Fin 2) (p : Fin 4096) (j : Fin 1024) :
    (truncf .bf16 (shapeCast S2x4096x1024 (transpose S2x4096x4x256 [0, 3, 1, 2] (Host.dotGeneral dot_S2x256x4x256_S2x4x4096x256_S2x4x256x4096_1_3_3_2_02_01 none U P : FVec Ideal S2x4x256x4096 .f32) transposes_S2x4x256x4096_S2x4096x4x256_0_3_1_2) shapeCasts_S2x4096x4x256_S2x4096x1024) bitsLt_bf16_f32 : FVec Ideal S2x4096x1024 .bf16) (ix3 b p j)
      = ∑ k : Fin 256, @HMul.hMul EReal EReal EReal _ (U (ix4 b k (⟨j.val / 256, by omega⟩ : Fin 4) (⟨j.val % 256, by omega⟩ : Fin 256)))
          (P (ix4 b (⟨j.val / 256, by omega⟩ : Fin 4) p k)) := by
  pointwise

theorem exp_at (S T : FVec Ideal S2x4x4096x256 .f32) (i : S2x4x4096x256.Idx) : (Host.exp (subf S T) i : EReal) = Ideal.exp (@HSub.hSub EReal EReal EReal _ (S i) (T i)) := rfl

/-- The weights of a row of scores. -/
theorem weight_at (S : FVec Ideal S2x4x4096x256 .f32) (b : Fin 2) (h : Fin 4) (p : Fin 4096) (s : Fin 256 → EReal)
    (hs : ∀ k, (S (ix4 b h p k) : EReal) = s k) (k : Fin 256) :
    ((Host.exp (subf S (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant (F := Ideal) S_ .f32 0xFF800000#32)) (Host.reduce FloatOps.maximumf S (constant (F := Ideal) S_ .f32 0xFF800000#32) reducesTo_S2x4x4096x256_S2x4x4096_d3 h_S_)))))) : FVec Ideal S2x4x4096x256 .f32) (ix4 b h p k)
      = Ideal.exp (s k - max (Ideal.ofBits .f32 0xFF800000#32) (Finset.univ.fold max (Ideal.ofBits .f32 0xFF800000#32) s)) := by
  refine (exp_at _ _ _).trans (congrArg Ideal.exp (congrArg₂ (fun a b : EReal => a - b) (hs k) ?_))
  refine (spread_at _ b h p k).trans ((max_at _ b h p).trans (congrArg (max (Ideal.ofBits .f32 0xFF800000#32)) ((red_at S b h p).trans ?_)))
  exact congrArg (Finset.univ.fold max (Ideal.ofBits .f32 0xFF800000#32)) (funext hs)

/-- The shares of a row of scores. -/
theorem soft_at (S : FVec Ideal S2x4x4096x256 .f32) (b : Fin 2) (h : Fin 4) (p : Fin 4096) (s : Fin 256 → EReal)
    (hs : ∀ k, (S (ix4 b h p k) : EReal) = s k) (k : Fin 256) :
    ((Host.divf (Host.exp (subf S (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant (F := Ideal) S_ .f32 0xFF800000#32)) (Host.reduce FloatOps.maximumf S (constant (F := Ideal) S_ .f32 0xFF800000#32) reducesTo_S2x4x4096x256_S2x4x4096_d3 h_S_)))))) (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd (Host.exp (subf S (broadcastInDim S2x4x4096x256 ![0, 1, 2, 3] bcast_S2x4x4096x1_S2x4x4096x256_0_1_2_3 (broadcastInDim S2x4x4096x1 ![0, 1, 2] bcast_S2x4x4096_S2x4x4096x1_0_1_2 (maximumf (broadcastInDim S2x4x4096 ![] bcast_S_S2x4x4096 (constant (F := Ideal) S_ .f32 0xFF800000#32)) (Host.reduce FloatOps.maximumf S (constant (F := Ideal) S_ .f32 0xFF800000#32) reducesTo_S2x4x4096x256_S2x4x4096_d3 h_S_)))))) (constant (F := Ideal) S_ .f32 0x00000000#32) reducesTo_S2x4x4096x256_S2x4x4096_d3 h_S_)))) : FVec Ideal S2x4x4096x256 .f32) (ix4 b h p k)
      = Ideal.div (Ideal.exp (s k - max (Ideal.ofBits .f32 0xFF800000#32) (Finset.univ.fold max (Ideal.ofBits .f32 0xFF800000#32) s)))
        (∑ l : Fin 256, Ideal.exp (s l - max (Ideal.ofBits .f32 0xFF800000#32) (Finset.univ.fold max (Ideal.ofBits .f32 0xFF800000#32) s))) :=
  (share_at _ b h p k).trans (congrArg₂ Ideal.div (weight_at S b h p s hs k) (Finset.sum_congr rfl fun l _ => weight_at S b h p s hs l))

end Cert.Reference6Ideal.Val

namespace Cert.Proof.Mem

open Idealize.ShloMosaic Idealize.ShloMosaic.TcCoe Idealize.SL.Sem

theorem algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨_, Cert.Kernel6Ideal.Val.run m ρ, ?_⟩
  refine (θ_run Cert.Reference6Ideal.defs _ _).mono (fun _ h c => ⟨(h c).1.trans ?_, (h c).2⟩) (Cert.Reference6Ideal.Value.run (F := Ideal) m' ρ')
  obtain ⟨e0, e1⟩ := hagree c
  rw [e0, e1]
  funext y
  idx_vars y
  refine (Cert.Reference6Ideal.Val.mix_at _ _ y0 y1 y2).trans ?_
  change _ = Cert.Kernel6Ideal.Val.outAt _ _ y0 y1 y2
  unfold Cert.Kernel6Ideal.Val.outAt
  simp only [Cert.Mem.score_scale]
  rw [Cert.Mem.hd_eq]
  unfold Cert.Mem.hr
  refine Finset.sum_congr rfl fun k _ => ?_
  refine congrArg₂ (fun a b : EReal => a * b) ((Cert.Reference6Ideal.Val.vals_at _ _ _ _ _).trans ?_)
    (Cert.Reference6Ideal.Val.soft_at _ y0 (⟨y2.val / 256, by omega⟩ : Fin 4) y1 _ (fun l => (Cert.Reference6Ideal.Val.score_at _ _ y0 _ y1 l).trans ?_) k)
  · refine congrArg _ (congrArg (ix3 y0 k) (Fin.ext ?_))
    dsimp only; omega
  · refine congrArg (fun a : EReal => a * Ideal.ofBits .f32 0x3D800000#32) (Finset.sum_congr rfl fun x _ => ?_)
    refine congrArg₂ (fun a b : EReal => a * b) (congrArg _ (congrArg (ix3 y0 y1) (Fin.ext ?_)))
      ((Cert.Reference6Ideal.Val.keys_at _ _ _ _ _).trans (congrArg _ (congrArg (ix3 y0 l) (Fin.ext ?_))))
    all_goals (dsimp only; omega)

end Cert.Proof.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Frames
public import proofs.«01_k».proof.Proof.Algebraic
public import proofs.«01_k».proof.Proof.MergeRef
public import proofs.«01_k».proof.Proof.OutProjRef
public import proofs.«01_k».proof.Proof.ResidualRef
public import proofs.«01_k».proof.Proof.InProjFrame
public import proofs.«01_k».proof.Proof.InProjRef
public import proofs.«01_k».proof.Proof.MemKv
public import proofs.«01_k».proof.Proof.MemRef
public import Idealize.ShloMosaic.Adequacy
public import Idealize.ShloMosaic.Init

@[expose] public section

noncomputable section

namespace Cert.Proof

open Idealize.ShloMosaic Idealize.SL.Sem Cert.Kernel

/-- The references of the further programs run and leave their arguments. -/
theorem frame_r2 : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_r3 : Cert.quiescent_Reference3Ideal (hReference3Ideal := Cert.Reference3Ideal.Gen.facts) := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

theorem frame_r4 : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frame_r5 : Cert.quiescent_Reference5Ideal (hReference5Ideal := Cert.Reference5Ideal.Gen.facts) := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

theorem frame_r6 : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem frame_r7 : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- Every claim of the certificate: the side conditions, the frames, the ideal forms, the value claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Proof.Claims.pre_facts,
    Cert.Proof.Claims.frame_p, Cert.Proof.Claims.frame_pi, Cert.Proof.Claims.frame_pi', Cert.Proof.Claims.frame_ri,
    Cert.Proof.Claims.frame_ri',
    fun m ρ _ => Cert.Kernel2.Gen.frame (F := Bits) m ρ, fun m ρ _ => Cert.Kernel2Ideal.Gen.frame (F := Ideal) m ρ, frame_r2,
    fun m ρ _ => Cert.Kernel3.Gen.frame (F := Bits) m ρ, fun m ρ _ => Cert.Kernel3Ideal.Gen.frame (F := Ideal) m ρ, frame_r3,
    fun m ρ _ => Cert.Kernel4.Gen.frame (F := Bits) m ρ, fun m ρ _ => Cert.Kernel4Ideal.Gen.frame (F := Ideal) m ρ, frame_r4,
    fun m ρ _ => Cert.Kernel5.Body.frame (F := Bits) m ρ, fun m ρ _ => Cert.Kernel5Ideal.Body.frame (F := Ideal) m ρ, frame_r5,
    fun m ρ _ => Cert.Kernel6.Gen.frame (F := Bits) m ρ, fun m ρ _ => Cert.Kernel6Ideal.Gen.frame (F := Ideal) m ρ, frame_r6,
    fun m ρ _ => Cert.Kernel7.Gen.frame (F := Bits) m ρ, fun m ρ _ => Cert.Kernel7Ideal.Gen.frame (F := Ideal) m ρ, frame_r7,
    Cert.Proof.Claims.preserves, Cert.Proof.Claims.algebraic,
    trivial, Cert.Proof.Merge.algebraic, trivial, Cert.Proof.OutProj.algebraic, trivial, Cert.Proof.Residual.algebraic,
    trivial, Cert.Proof.InProj.algebraic, trivial, Cert.Proof.Mem.algebraic, trivial, Cert.Proof.MemKv.algebraic⟩

end Cert.Proof

end
